-- ==== Defs.lean ====
def Pre_KernelDq (m : (ℓ : Loc Cert.KernelDq.nD Cert.KernelDq.τ Cert.KernelDq.sig) → Buf (Elt Bits) ℓ) : Prop :=
  True

def Pre_KernelDqIdeal (m : (ℓ : Loc Cert.KernelDqIdeal.nD Cert.KernelDqIdeal.τ Cert.KernelDqIdeal.sig) → Buf (Elt Ideal) ℓ) : Prop :=
  True

def Pre_KernelDqIdeal_finite [hPre_finite : Cert.Pre_finite.Facts] (m : (ℓ : Loc Cert.KernelDqIdeal.nD Cert.KernelDqIdeal.τ Cert.KernelDqIdeal.sig) → Buf (Elt Ideal) ℓ) : Prop :=
  ∀ c : Dev Cert.KernelDqIdeal.nD,
    (Cert.Pre_finite.fn (F := Ideal) (m ((c.tc : Thread Cert.KernelDqIdeal.nD Cert.KernelDqIdeal.τ).loc Cert.KernelDqIdeal.main_arg0)) (m ((c.tc : Thread Cert.KernelDqIdeal.nD Cert.KernelDqIdeal.τ).loc Cert.KernelDqIdeal.main_arg1)) (m ((c.tc : Thread Cert.KernelDqIdeal.nD Cert.KernelDqIdeal.τ).loc Cert.KernelDqIdeal.main_arg2)) (m ((c.tc : Thread Cert.KernelDqIdeal.nD Cert.KernelDqIdeal.τ).loc Cert.KernelDqIdeal.main_arg3)) (m ((c.tc : Thread Cert.KernelDqIdeal.nD Cert.KernelDqIdeal.τ).loc Cert.KernelDqIdeal.main_arg4)) (m ((c.tc : Thread Cert.KernelDqIdeal.nD Cert.KernelDqIdeal.τ).loc Cert.KernelDqIdeal.main_arg5))) = (fun _ => 1#1)

def Pre_ReferenceDqIdeal (m : (ℓ : Loc Cert.ReferenceDqIdeal.nD Cert.ReferenceDqIdeal.τ Cert.ReferenceDqIdeal.sig) → Buf (Elt Ideal) ℓ) : Prop :=
  True

def Pre_ReferenceDqIdeal_finite [hPre_finite : Cert.Pre_finite.Facts] (m : (ℓ : Loc Cert.ReferenceDqIdeal.nD Cert.ReferenceDqIdeal.τ Cert.ReferenceDqIdeal.sig) → Buf (Elt Ideal) ℓ) : Prop :=
  ∀ c : Dev Cert.ReferenceDqIdeal.nD,
    (Cert.Pre_finite.fn (F := Ideal) (m ((c.tc : Thread Cert.ReferenceDqIdeal.nD Cert.ReferenceDqIdeal.τ).loc Cert.ReferenceDqIdeal.main_arg0)) (m ((c.tc : Thread Cert.ReferenceDqIdeal.nD Cert.ReferenceDqIdeal.τ).loc Cert.ReferenceDqIdeal.main_arg1)) (m ((c.tc : Thread Cert.ReferenceDqIdeal.nD Cert.ReferenceDqIdeal.τ).loc Cert.ReferenceDqIdeal.main_arg2)) (m ((c.tc : Thread Cert.ReferenceDqIdeal.nD Cert.ReferenceDqIdeal.τ).loc Cert.ReferenceDqIdeal.main_arg3)) (m ((c.tc : Thread Cert.ReferenceDqIdeal.nD Cert.ReferenceDqIdeal.τ).loc Cert.ReferenceDqIdeal.main_arg4)) (m ((c.tc : Thread Cert.ReferenceDqIdeal.nD Cert.ReferenceDqIdeal.τ).loc Cert.ReferenceDqIdeal.main_arg5))) = (fun _ => 1#1)

def Pre_KernelDkv (m : (ℓ : Loc Cert.KernelDkv.nD Cert.KernelDkv.τ Cert.KernelDkv.sig) → Buf (Elt Bits) ℓ) : Prop :=
  True

def Pre_KernelDkvIdeal (m : (ℓ : Loc Cert.KernelDkvIdeal.nD Cert.KernelDkvIdeal.τ Cert.KernelDkvIdeal.sig) → Buf (Elt Ideal) ℓ) : Prop :=
  True

def Pre_KernelDkvIdeal_finite [hPre_finite : Cert.Pre_finite.Facts] (m : (ℓ : Loc Cert.KernelDkvIdeal.nD Cert.KernelDkvIdeal.τ Cert.KernelDkvIdeal.sig) → Buf (Elt Ideal) ℓ) : Prop :=
  ∀ c : Dev Cert.KernelDkvIdeal.nD,
    (Cert.Pre_finite.fn (F := Ideal) (m ((c.tc : Thread Cert.KernelDkvIdeal.nD Cert.KernelDkvIdeal.τ).loc Cert.KernelDkvIdeal.main_arg0)) (m ((c.tc : Thread Cert.KernelDkvIdeal.nD Cert.KernelDkvIdeal.τ).loc Cert.KernelDkvIdeal.main_arg1)) (m ((c.tc : Thread Cert.KernelDkvIdeal.nD Cert.KernelDkvIdeal.τ).loc Cert.KernelDkvIdeal.main_arg2)) (m ((c.tc : Thread Cert.KernelDkvIdeal.nD Cert.KernelDkvIdeal.τ).loc Cert.KernelDkvIdeal.main_arg3)) (m ((c.tc : Thread Cert.KernelDkvIdeal.nD Cert.KernelDkvIdeal.τ).loc Cert.KernelDkvIdeal.main_arg4)) (m ((c.tc : Thread Cert.KernelDkvIdeal.nD Cert.KernelDkvIdeal.τ).loc Cert.KernelDkvIdeal.main_arg5))) = (fun _ => 1#1)

def Pre_ReferenceDkvIdeal (m : (ℓ : Loc Cert.ReferenceDkvIdeal.nD Cert.ReferenceDkvIdeal.τ Cert.ReferenceDkvIdeal.sig) → Buf (Elt Ideal) ℓ) : Prop :=
  True

def Pre_ReferenceDkvIdeal_finite [hPre_finite : Cert.Pre_finite.Facts] (m : (ℓ : Loc Cert.ReferenceDkvIdeal.nD Cert.ReferenceDkvIdeal.τ Cert.ReferenceDkvIdeal.sig) → Buf (Elt Ideal) ℓ) : Prop :=
  ∀ c : Dev Cert.ReferenceDkvIdeal.nD,
    (Cert.Pre_finite.fn (F := Ideal) (m ((c.tc : Thread Cert.ReferenceDkvIdeal.nD Cert.ReferenceDkvIdeal.τ).loc Cert.ReferenceDkvIdeal.main_arg0)) (m ((c.tc : Thread Cert.ReferenceDkvIdeal.nD Cert.ReferenceDkvIdeal.τ).loc Cert.ReferenceDkvIdeal.main_arg1)) (m ((c.tc : Thread Cert.ReferenceDkvIdeal.nD Cert.ReferenceDkvIdeal.τ).loc Cert.ReferenceDkvIdeal.main_arg2)) (m ((c.tc : Thread Cert.ReferenceDkvIdeal.nD Cert.ReferenceDkvIdeal.τ).loc Cert.ReferenceDkvIdeal.main_arg3)) (m ((c.tc : Thread Cert.ReferenceDkvIdeal.nD Cert.ReferenceDkvIdeal.τ).loc Cert.ReferenceDkvIdeal.main_arg4)) (m ((c.tc : Thread Cert.ReferenceDkvIdeal.nD Cert.ReferenceDkvIdeal.τ).loc Cert.ReferenceDkvIdeal.main_arg5))) = (fun _ => 1#1)

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelGluDx (m : (ℓ : Loc Cert.KernelGluDx.nD Cert.KernelGluDx.τ Cert.KernelGluDx.sig) → Buf (Elt Bits) ℓ) : Prop :=
  True

def Pre_KernelGluDxIdeal (m : (ℓ : Loc Cert.KernelGluDxIdeal.nD Cert.KernelGluDxIdeal.τ Cert.KernelGluDxIdeal.sig) → Buf (Elt Ideal) ℓ) : Prop :=
  True

def Pre_ReferenceGluDxIdeal (m : (ℓ : Loc Cert.ReferenceGluDxIdeal.nD Cert.ReferenceGluDxIdeal.τ Cert.ReferenceGluDxIdeal.sig) → Buf (Elt Ideal) ℓ) : Prop :=
  True

def Pre_KernelGluDw (m : (ℓ : Loc Cert.KernelGluDw.nD Cert.KernelGluDw.τ Cert.KernelGluDw.sig) → Buf (Elt Bits) ℓ) : Prop :=
  True

def Pre_KernelGluDwIdeal (m : (ℓ : Loc Cert.KernelGluDwIdeal.nD Cert.KernelGluDwIdeal.τ Cert.KernelGluDwIdeal.sig) → Buf (Elt Ideal) ℓ) : Prop :=
  True

def Pre_ReferenceGluDwIdeal (m : (ℓ : Loc Cert.ReferenceGluDwIdeal.nD Cert.ReferenceGluDwIdeal.τ Cert.ReferenceGluDwIdeal.sig) → Buf (Elt Ideal) ℓ) : Prop :=
  True

def Pre_KernelUqDx (m : (ℓ : Loc Cert.KernelUqDx.nD Cert.KernelUqDx.τ Cert.KernelUqDx.sig) → Buf (Elt Bits) ℓ) : Prop :=
  True

def Pre_KernelUqDxIdeal (m : (ℓ : Loc Cert.KernelUqDxIdeal.nD Cert.KernelUqDxIdeal.τ Cert.KernelUqDxIdeal.sig) → Buf (Elt Ideal) ℓ) : Prop :=
  True

def Pre_ReferenceUqDxIdeal (m : (ℓ : Loc Cert.ReferenceUqDxIdeal.nD Cert.ReferenceUqDxIdeal.τ Cert.ReferenceUqDxIdeal.sig) → Buf (Elt Ideal) ℓ) : Prop :=
  True

def Pre_KernelUqDw (m : (ℓ : Loc Cert.KernelUqDw.nD Cert.KernelUqDw.τ Cert.KernelUqDw.sig) → Buf (Elt Bits) ℓ) : Prop :=
  True

def Pre_KernelUqDwIdeal (m : (ℓ : Loc Cert.KernelUqDwIdeal.nD Cert.KernelUqDwIdeal.τ Cert.KernelUqDwIdeal.sig) → Buf (Elt Ideal) ℓ) : Prop :=
  True

def Pre_ReferenceUqDwIdeal (m : (ℓ : Loc Cert.ReferenceUqDwIdeal.nD Cert.ReferenceUqDwIdeal.τ Cert.ReferenceUqDwIdeal.sig) → Buf (Elt Ideal) ℓ) : Prop :=
  True

def Pre_KernelUkvDx (m : (ℓ : Loc Cert.KernelUkvDx.nD Cert.KernelUkvDx.τ Cert.KernelUkvDx.sig) → Buf (Elt Bits) ℓ) : Prop :=
  True

def Pre_KernelUkvDxIdeal (m : (ℓ : Loc Cert.KernelUkvDxIdeal.nD Cert.KernelUkvDxIdeal.τ Cert.KernelUkvDxIdeal.sig) → Buf (Elt Ideal) ℓ) : Prop :=
  True

def Pre_ReferenceUkvDxIdeal (m : (ℓ : Loc Cert.ReferenceUkvDxIdeal.nD Cert.ReferenceUkvDxIdeal.τ Cert.ReferenceUkvDxIdeal.sig) → Buf (Elt Ideal) ℓ) : Prop :=
  True

def Pre_KernelUkvDw (m : (ℓ : Loc Cert.KernelUkvDw.nD Cert.KernelUkvDw.τ Cert.KernelUkvDw.sig) → Buf (Elt Bits) ℓ) : Prop :=
  True

def Pre_KernelUkvDwIdeal (m : (ℓ : Loc Cert.KernelUkvDwIdeal.nD Cert.KernelUkvDwIdeal.τ Cert.KernelUkvDwIdeal.sig) → Buf (Elt Ideal) ℓ) : Prop :=
  True

def Pre_ReferenceUkvDwIdeal (m : (ℓ : Loc Cert.ReferenceUkvDwIdeal.nD Cert.ReferenceUkvDwIdeal.τ Cert.ReferenceUkvDwIdeal.sig) → Buf (Elt Ideal) ℓ) : Prop :=
  True

def Pre_KernelAdaDw (m : (ℓ : Loc Cert.KernelAdaDw.nD Cert.KernelAdaDw.τ Cert.KernelAdaDw.sig) → Buf (Elt Bits) ℓ) : Prop :=
  True

def Pre_KernelAdaDwIdeal (m : (ℓ : Loc Cert.KernelAdaDwIdeal.nD Cert.KernelAdaDwIdeal.τ Cert.KernelAdaDwIdeal.sig) → Buf (Elt Ideal) ℓ) : Prop :=
  True

def Pre_ReferenceAdaDwIdeal (m : (ℓ : Loc Cert.ReferenceAdaDwIdeal.nD Cert.ReferenceAdaDwIdeal.τ Cert.ReferenceAdaDwIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def Pre_KernelUkv (m : (ℓ : Loc Cert.KernelUkv.nD Cert.KernelUkv.τ Cert.KernelUkv.sig) → Buf (Elt Bits) ℓ) : Prop :=
  True

def Pre_KernelUkvIdeal (m : (ℓ : Loc Cert.KernelUkvIdeal.nD Cert.KernelUkvIdeal.τ Cert.KernelUkvIdeal.sig) → Buf (Elt Ideal) ℓ) : Prop :=
  True

def Pre_ReferenceUkvIdeal (m : (ℓ : Loc Cert.ReferenceUkvIdeal.nD Cert.ReferenceUkvIdeal.τ Cert.ReferenceUkvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelQn (m : (ℓ : Loc Cert.KernelQn.nD Cert.KernelQn.τ Cert.KernelQn.sig) → Buf (Elt Bits) ℓ) : Prop :=
  True

def Pre_KernelQnIdeal (m : (ℓ : Loc Cert.KernelQnIdeal.nD Cert.KernelQnIdeal.τ Cert.KernelQnIdeal.sig) → Buf (Elt Ideal) ℓ) : Prop :=
  True

def Pre_ReferenceQnIdeal (m : (ℓ : Loc Cert.ReferenceQnIdeal.nD Cert.ReferenceQnIdeal.τ Cert.ReferenceQnIdeal.sig) → Buf (Elt Ideal) ℓ) : Prop :=
  True

def Pre_KernelKvn (m : (ℓ : Loc Cert.KernelKvn.nD Cert.KernelKvn.τ Cert.KernelKvn.sig) → Buf (Elt Bits) ℓ) : Prop :=
  True

def Pre_KernelKvnIdeal (m : (ℓ : Loc Cert.KernelKvnIdeal.nD Cert.KernelKvnIdeal.τ Cert.KernelKvnIdeal.sig) → Buf (Elt Ideal) ℓ) : Prop :=
  True

def Pre_ReferenceKvnIdeal (m : (ℓ : Loc Cert.ReferenceKvnIdeal.nD Cert.ReferenceKvnIdeal.τ Cert.ReferenceKvnIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelSig (m : (ℓ : Loc Cert.KernelSig.nD Cert.KernelSig.τ Cert.KernelSig.sig) → Buf (Elt Bits) ℓ) : Prop :=
  True

def Pre_KernelSigIdeal (m : (ℓ : Loc Cert.KernelSigIdeal.nD Cert.KernelSigIdeal.τ Cert.KernelSigIdeal.sig) → Buf (Elt Ideal) ℓ) : Prop :=
  True

def Pre_ReferenceSigIdeal (m : (ℓ : Loc Cert.ReferenceSigIdeal.nD Cert.ReferenceSigIdeal.τ Cert.ReferenceSigIdeal.sig) → Buf (Elt Ideal) ℓ) : Prop :=
  True

def Pre_KernelGelu (m : (ℓ : Loc Cert.KernelGelu.nD Cert.KernelGelu.τ Cert.KernelGelu.sig) → Buf (Elt Bits) ℓ) : Prop :=
  True

def Pre_KernelGeluIdeal (m : (ℓ : Loc Cert.KernelGeluIdeal.nD Cert.KernelGeluIdeal.τ Cert.KernelGeluIdeal.sig) → Buf (Elt Ideal) ℓ) : Prop :=
  True

def Pre_ReferenceGeluIdeal (m : (ℓ : Loc Cert.ReferenceGeluIdeal.nD Cert.ReferenceGeluIdeal.τ Cert.ReferenceGeluIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4))) = (fun _ => 1#1)

def quiescent_KernelDq [hKernelDq : Cert.KernelDq.Facts] : Prop :=
  ∀ (m : (ℓ : Loc Cert.KernelDq.nD Cert.KernelDq.τ Cert.KernelDq.sig) → Buf (Elt Bits) ℓ) (g : Dev Cert.KernelDq.nD → PrngReg), Pre_KernelDq m →
    θ_run (Cert.KernelDq.defs (F := Bits)) (onTc (τ := Cert.KernelDq.τ) (Cert.KernelDq.main (F := Bits))) ⟨m, fun _ => 0, g⟩ (fun r => (∀ c : Dev Cert.KernelDq.nD,
      r.2.mem ((c.tc : Thread Cert.KernelDq.nD Cert.KernelDq.τ).loc Cert.KernelDq.main_arg0) = m ((c.tc : Thread Cert.KernelDq.nD Cert.KernelDq.τ).loc Cert.KernelDq.main_arg0)
      ∧ r.2.mem ((c.tc : Thread Cert.KernelDq.nD Cert.KernelDq.τ).loc Cert.KernelDq.main_arg1) = m ((c.tc : Thread Cert.KernelDq.nD Cert.KernelDq.τ).loc Cert.KernelDq.main_arg1)
      ∧ r.2.mem ((c.tc : Thread Cert.KernelDq.nD Cert.KernelDq.τ).loc Cert.KernelDq.main_arg2) = m ((c.tc : Thread Cert.KernelDq.nD Cert.KernelDq.τ).loc Cert.KernelDq.main_arg2)
      ∧ r.2.mem ((c.tc : Thread Cert.KernelDq.nD Cert.KernelDq.τ).loc Cert.KernelDq.main_arg3) = m ((c.tc : Thread Cert.KernelDq.nD Cert.KernelDq.τ).loc Cert.KernelDq.main_arg3)
      ∧ r.2.mem ((c.tc : Thread Cert.KernelDq.nD Cert.KernelDq.τ).loc Cert.KernelDq.main_arg4) = m ((c.tc : Thread Cert.KernelDq.nD Cert.KernelDq.τ).loc Cert.KernelDq.main_arg4)
      ∧ r.2.mem ((c.tc : Thread Cert.KernelDq.nD Cert.KernelDq.τ).loc Cert.KernelDq.main_arg5) = m ((c.tc : Thread Cert.KernelDq.nD Cert.KernelDq.τ).loc Cert.KernelDq.main_arg5))
      ∧ r.2.sem = fun _ => 0)

def quiescent_KernelDqIdeal [hKernelDqIdeal : Cert.KernelDqIdeal.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
      ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
      ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5))
      ∧ r.2.sem = fun _ => 0)

def quiescent_KernelDqIdeal_pre_finite [hKernelDqIdeal : Cert.KernelDqIdeal.Facts] [hPre_finite : Cert.Pre_finite.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal_finite m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
      ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
      ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5))
      ∧ r.2.sem = fun _ => 0)

def quiescent_ReferenceDqIdeal [hReferenceDqIdeal : Cert.ReferenceDqIdeal.Facts] : Prop :=
  ∀ (m : (ℓ : Loc Cert.ReferenceDqIdeal.nD Cert.ReferenceDqIdeal.τ Cert.ReferenceDqIdeal.sig) → Buf (Elt Ideal) ℓ) (g : Dev Cert.ReferenceDqIdeal.nD → PrngReg), Pre_ReferenceDqIdeal m →
    θ_run (Cert.ReferenceDqIdeal.defs (F := Ideal)) (onTc (τ := Cert.ReferenceDqIdeal.τ) (Cert.ReferenceDqIdeal.main (F := Ideal))) ⟨m, fun _ => 0, g⟩ (fun r => (∀ c : Dev Cert.ReferenceDqIdeal.nD,
      r.2.mem ((c.tc : Thread Cert.ReferenceDqIdeal.nD Cert.ReferenceDqIdeal.τ).loc Cert.ReferenceDqIdeal.main_arg0) = m ((c.tc : Thread Cert.ReferenceDqIdeal.nD Cert.ReferenceDqIdeal.τ).loc Cert.ReferenceDqIdeal.main_arg0)
      ∧ r.2.mem ((c.tc : Thread Cert.ReferenceDqIdeal.nD Cert.ReferenceDqIdeal.τ).loc Cert.ReferenceDqIdeal.main_arg1) = m ((c.tc : Thread Cert.ReferenceDqIdeal.nD Cert.ReferenceDqIdeal.τ).loc Cert.ReferenceDqIdeal.main_arg1)
      ∧ r.2.mem ((c.tc : Thread Cert.ReferenceDqIdeal.nD Cert.ReferenceDqIdeal.τ).loc Cert.ReferenceDqIdeal.main_arg2) = m ((c.tc : Thread Cert.ReferenceDqIdeal.nD Cert.ReferenceDqIdeal.τ).loc Cert.ReferenceDqIdeal.main_arg2)
      ∧ r.2.mem ((c.tc : Thread Cert.ReferenceDqIdeal.nD Cert.ReferenceDqIdeal.τ).loc Cert.ReferenceDqIdeal.main_arg3) = m ((c.tc : Thread Cert.ReferenceDqIdeal.nD Cert.ReferenceDqIdeal.τ).loc Cert.ReferenceDqIdeal.main_arg3)
      ∧ r.2.mem ((c.tc : Thread Cert.ReferenceDqIdeal.nD Cert.ReferenceDqIdeal.τ).loc Cert.ReferenceDqIdeal.main_arg4) = m ((c.tc : Thread Cert.ReferenceDqIdeal.nD Cert.ReferenceDqIdeal.τ).loc Cert.ReferenceDqIdeal.main_arg4)
      ∧ r.2.mem ((c.tc : Thread Cert.ReferenceDqIdeal.nD Cert.ReferenceDqIdeal.τ).loc Cert.ReferenceDqIdeal.main_arg5) = m ((c.tc : Thread Cert.ReferenceDqIdeal.nD Cert.ReferenceDqIdeal.τ).loc Cert.ReferenceDqIdeal.main_arg5))
      ∧ r.2.sem = fun _ => 0)

def quiescent_ReferenceDqIdeal_pre_finite [hReferenceDqIdeal : Cert.ReferenceDqIdeal.Facts] [hPre_finite : Cert.Pre_finite.Facts] : Prop :=
  ∀ (m : (ℓ : Loc Cert.ReferenceDqIdeal.nD Cert.ReferenceDqIdeal.τ Cert.ReferenceDqIdeal.sig) → Buf (Elt Ideal) ℓ) (g : Dev Cert.ReferenceDqIdeal.nD → PrngReg), Pre_ReferenceDqIdeal_finite m →
    θ_run (Cert.ReferenceDqIdeal.defs (F := Ideal)) (onTc (τ := Cert.ReferenceDqIdeal.τ) (Cert.ReferenceDqIdeal.main (F := Ideal))) ⟨m, fun _ => 0, g⟩ (fun r => (∀ c : Dev Cert.ReferenceDqIdeal.nD,
      r.2.mem ((c.tc : Thread Cert.ReferenceDqIdeal.nD Cert.ReferenceDqIdeal.τ).loc Cert.ReferenceDqIdeal.main_arg0) = m ((c.tc : Thread Cert.ReferenceDqIdeal.nD Cert.ReferenceDqIdeal.τ).loc Cert.ReferenceDqIdeal.main_arg0)
      ∧ r.2.mem ((c.tc : Thread Cert.ReferenceDqIdeal.nD Cert.ReferenceDqIdeal.τ).loc Cert.ReferenceDqIdeal.main_arg1) = m ((c.tc : Thread Cert.ReferenceDqIdeal.nD Cert.ReferenceDqIdeal.τ).loc Cert.ReferenceDqIdeal.main_arg1)
      ∧ r.2.mem ((c.tc : Thread Cert.ReferenceDqIdeal.nD Cert.ReferenceDqIdeal.τ).loc Cert.ReferenceDqIdeal.main_arg2) = m ((c.tc : Thread Cert.ReferenceDqIdeal.nD Cert.ReferenceDqIdeal.τ).loc Cert.ReferenceDqIdeal.main_arg2)
      ∧ r.2.mem ((c.tc : Thread Cert.ReferenceDqIdeal.nD Cert.ReferenceDqIdeal.τ).loc Cert.ReferenceDqIdeal.main_arg3) = m ((c.tc : Thread Cert.ReferenceDqIdeal.nD Cert.ReferenceDqIdeal.τ).loc Cert.ReferenceDqIdeal.main_arg3)
      ∧ r.2.mem ((c.tc : Thread Cert.ReferenceDqIdeal.nD Cert.ReferenceDqIdeal.τ).loc Cert.ReferenceDqIdeal.main_arg4) = m ((c.tc : Thread Cert.ReferenceDqIdeal.nD Cert.ReferenceDqIdeal.τ).loc Cert.ReferenceDqIdeal.main_arg4)
      ∧ r.2.mem ((c.tc : Thread Cert.ReferenceDqIdeal.nD Cert.ReferenceDqIdeal.τ).loc Cert.ReferenceDqIdeal.main_arg5) = m ((c.tc : Thread Cert.ReferenceDqIdeal.nD Cert.ReferenceDqIdeal.τ).loc Cert.ReferenceDqIdeal.main_arg5))
      ∧ r.2.sem = fun _ => 0)

def quiescent_KernelDkv [hKernelDkv : Cert.KernelDkv.Facts] : Prop :=
  ∀ (m : (ℓ : Loc Cert.KernelDkv.nD Cert.KernelDkv.τ Cert.KernelDkv.sig) → Buf (Elt Bits) ℓ) (g : Dev Cert.KernelDkv.nD → PrngReg), Pre_KernelDkv m →
    θ_run (Cert.KernelDkv.defs (F := Bits)) (onTc (τ := Cert.KernelDkv.τ) (Cert.KernelDkv.main (F := Bits))) ⟨m, fun _ => 0, g⟩ (fun r => (∀ c : Dev Cert.KernelDkv.nD,
      r.2.mem ((c.tc : Thread Cert.KernelDkv.nD Cert.KernelDkv.τ).loc Cert.KernelDkv.main_arg0) = m ((c.tc : Thread Cert.KernelDkv.nD Cert.KernelDkv.τ).loc Cert.KernelDkv.main_arg0)
      ∧ r.2.mem ((c.tc : Thread Cert.KernelDkv.nD Cert.KernelDkv.τ).loc Cert.KernelDkv.main_arg1) = m ((c.tc : Thread Cert.KernelDkv.nD Cert.KernelDkv.τ).loc Cert.KernelDkv.main_arg1)
      ∧ r.2.mem ((c.tc : Thread Cert.KernelDkv.nD Cert.KernelDkv.τ).loc Cert.KernelDkv.main_arg2) = m ((c.tc : Thread Cert.KernelDkv.nD Cert.KernelDkv.τ).loc Cert.KernelDkv.main_arg2)
      ∧ r.2.mem ((c.tc : Thread Cert.KernelDkv.nD Cert.KernelDkv.τ).loc Cert.KernelDkv.main_arg3) = m ((c.tc : Thread Cert.KernelDkv.nD Cert.KernelDkv.τ).loc Cert.KernelDkv.main_arg3)
      ∧ r.2.mem ((c.tc : Thread Cert.KernelDkv.nD Cert.KernelDkv.τ).loc Cert.KernelDkv.main_arg4) = m ((c.tc : Thread Cert.KernelDkv.nD Cert.KernelDkv.τ).loc Cert.KernelDkv.main_arg4)
      ∧ r.2.mem ((c.tc : Thread Cert.KernelDkv.nD Cert.KernelDkv.τ).loc Cert.KernelDkv.main_arg5) = m ((c.tc : Thread Cert.KernelDkv.nD Cert.KernelDkv.τ).loc Cert.KernelDkv.main_arg5))
      ∧ r.2.sem = fun _ => 0)

def quiescent_KernelDkvIdeal [hKernelDkvIdeal : Cert.KernelDkvIdeal.Facts] : Prop :=
  ∀ (m : (ℓ : Loc Cert.KernelDkvIdeal.nD Cert.KernelDkvIdeal.τ Cert.KernelDkvIdeal.sig) → Buf (Elt Ideal) ℓ) (g : Dev Cert.KernelDkvIdeal.nD → PrngReg), Pre_KernelDkvIdeal m →
    θ_run (Cert.KernelDkvIdeal.defs (F := Ideal)) (onTc (τ := Cert.KernelDkvIdeal.τ) (Cert.KernelDkvIdeal.main (F := Ideal))) ⟨m, fun _ => 0, g⟩ (fun r => (∀ c : Dev Cert.KernelDkvIdeal.nD,
      r.2.mem ((c.tc : Thread Cert.KernelDkvIdeal.nD Cert.KernelDkvIdeal.τ).loc Cert.KernelDkvIdeal.main_arg0) = m ((c.tc : Thread Cert.KernelDkvIdeal.nD Cert.KernelDkvIdeal.τ).loc Cert.KernelDkvIdeal.main_arg0)
      ∧ r.2.mem ((c.tc : Thread Cert.KernelDkvIdeal.nD Cert.KernelDkvIdeal.τ).loc Cert.KernelDkvIdeal.main_arg1) = m ((c.tc : Thread Cert.KernelDkvIdeal.nD Cert.KernelDkvIdeal.τ).loc Cert.KernelDkvIdeal.main_arg1)
      ∧ r.2.mem ((c.tc : Thread Cert.KernelDkvIdeal.nD Cert.KernelDkvIdeal.τ).loc Cert.KernelDkvIdeal.main_arg2) = m ((c.tc : Thread Cert.KernelDkvIdeal.nD Cert.KernelDkvIdeal.τ).loc Cert.KernelDkvIdeal.main_arg2)
      ∧ r.2.mem ((c.tc : Thread Cert.KernelDkvIdeal.nD Cert.KernelDkvIdeal.τ).loc Cert.KernelDkvIdeal.main_arg3) = m ((c.tc : Thread Cert.KernelDkvIdeal.nD Cert.KernelDkvIdeal.τ).loc Cert.KernelDkvIdeal.main_arg3)
      ∧ r.2.mem ((c.tc : Thread Cert.KernelDkvIdeal.nD Cert.KernelDkvIdeal.τ).loc Cert.KernelDkvIdeal.main_arg4) = m ((c.tc : Thread Cert.KernelDkvIdeal.nD Cert.KernelDkvIdeal.τ).loc Cert.KernelDkvIdeal.main_arg4)
      ∧ r.2.mem ((c.tc : Thread Cert.KernelDkvIdeal.nD Cert.KernelDkvIdeal.τ).loc Cert.KernelDkvIdeal.main_arg5) = m ((c.tc : Thread Cert.KernelDkvIdeal.nD Cert.KernelDkvIdeal.τ).loc Cert.KernelDkvIdeal.main_arg5))
      ∧ r.2.sem = fun _ => 0)

def quiescent_KernelDkvIdeal_pre_finite [hKernelDkvIdeal : Cert.KernelDkvIdeal.Facts] [hPre_finite : Cert.Pre_finite.Facts] : Prop :=
  ∀ (m : (ℓ : Loc Cert.KernelDkvIdeal.nD Cert.KernelDkvIdeal.τ Cert.KernelDkvIdeal.sig) → Buf (Elt Ideal) ℓ) (g : Dev Cert.KernelDkvIdeal.nD → PrngReg), Pre_KernelDkvIdeal_finite m →
    θ_run (Cert.KernelDkvIdeal.defs (F := Ideal)) (onTc (τ := Cert.KernelDkvIdeal.τ) (Cert.KernelDkvIdeal.main (F := Ideal))) ⟨m, fun _ => 0, g⟩ (fun r => (∀ c : Dev Cert.KernelDkvIdeal.nD,
      r.2.mem ((c.tc : Thread Cert.KernelDkvIdeal.nD Cert.KernelDkvIdeal.τ).loc Cert.KernelDkvIdeal.main_arg0) = m ((c.tc : Thread Cert.KernelDkvIdeal.nD Cert.KernelDkvIdeal.τ).loc Cert.KernelDkvIdeal.main_arg0)
      ∧ r.2.mem ((c.tc : Thread Cert.KernelDkvIdeal.nD Cert.KernelDkvIdeal.τ).loc Cert.KernelDkvIdeal.main_arg1) = m ((c.tc : Thread Cert.KernelDkvIdeal.nD Cert.KernelDkvIdeal.τ).loc Cert.KernelDkvIdeal.main_arg1)
      ∧ r.2.mem ((c.tc : Thread Cert.KernelDkvIdeal.nD Cert.KernelDkvIdeal.τ).loc Cert.KernelDkvIdeal.main_arg2) = m ((c.tc : Thread Cert.KernelDkvIdeal.nD Cert.KernelDkvIdeal.τ).loc Cert.KernelDkvIdeal.main_arg2)
      ∧ r.2.mem ((c.tc : Thread Cert.KernelDkvIdeal.nD Cert.KernelDkvIdeal.τ).loc Cert.KernelDkvIdeal.main_arg3) = m ((c.tc : Thread Cert.KernelDkvIdeal.nD Cert.KernelDkvIdeal.τ).loc Cert.KernelDkvIdeal.main_arg3)
      ∧ r.2.mem ((c.tc : Thread Cert.KernelDkvIdeal.nD Cert.KernelDkvIdeal.τ).loc Cert.KernelDkvIdeal.main_arg4) = m ((c.tc : Thread Cert.KernelDkvIdeal.nD Cert.KernelDkvIdeal.τ).loc Cert.KernelDkvIdeal.main_arg4)
      ∧ r.2.mem ((c.tc : Thread Cert.KernelDkvIdeal.nD Cert.KernelDkvIdeal.τ).loc Cert.KernelDkvIdeal.main_arg5) = m ((c.tc : Thread Cert.KernelDkvIdeal.nD Cert.KernelDkvIdeal.τ).loc Cert.KernelDkvIdeal.main_arg5))
      ∧ r.2.sem = fun _ => 0)

def quiescent_ReferenceDkvIdeal [hReferenceDkvIdeal : Cert.ReferenceDkvIdeal.Facts] : Prop :=
  ∀ (m : (ℓ : Loc Cert.ReferenceDkvIdeal.nD Cert.ReferenceDkvIdeal.τ Cert.ReferenceDkvIdeal.sig) → Buf (Elt Ideal) ℓ) (g : Dev Cert.ReferenceDkvIdeal.nD → PrngReg), Pre_ReferenceDkvIdeal m →
    θ_run (Cert.ReferenceDkvIdeal.defs (F := Ideal)) (onTc (τ := Cert.ReferenceDkvIdeal.τ) (Cert.ReferenceDkvIdeal.main (F := Ideal))) ⟨m, fun _ => 0, g⟩ (fun r => (∀ c : Dev Cert.ReferenceDkvIdeal.nD,
      r.2.mem ((c.tc : Thread Cert.ReferenceDkvIdeal.nD Cert.ReferenceDkvIdeal.τ).loc Cert.ReferenceDkvIdeal.main_arg0) = m ((c.tc : Thread Cert.ReferenceDkvIdeal.nD Cert.ReferenceDkvIdeal.τ).loc Cert.ReferenceDkvIdeal.main_arg0)
      ∧ r.2.mem ((c.tc : Thread Cert.ReferenceDkvIdeal.nD Cert.ReferenceDkvIdeal.τ).loc Cert.ReferenceDkvIdeal.main_arg1) = m ((c.tc : Thread Cert.ReferenceDkvIdeal.nD Cert.ReferenceDkvIdeal.τ).loc Cert.ReferenceDkvIdeal.main_arg1)
      ∧ r.2.mem ((c.tc : Thread Cert.ReferenceDkvIdeal.nD Cert.ReferenceDkvIdeal.τ).loc Cert.ReferenceDkvIdeal.main_arg2) = m ((c.tc : Thread Cert.ReferenceDkvIdeal.nD Cert.ReferenceDkvIdeal.τ).loc Cert.ReferenceDkvIdeal.main_arg2)
      ∧ r.2.mem ((c.tc : Thread Cert.ReferenceDkvIdeal.nD Cert.ReferenceDkvIdeal.τ).loc Cert.ReferenceDkvIdeal.main_arg3) = m ((c.tc : Thread Cert.ReferenceDkvIdeal.nD Cert.ReferenceDkvIdeal.τ).loc Cert.ReferenceDkvIdeal.main_arg3)
      ∧ r.2.mem ((c.tc : Thread Cert.ReferenceDkvIdeal.nD Cert.ReferenceDkvIdeal.τ).loc Cert.ReferenceDkvIdeal.main_arg4) = m ((c.tc : Thread Cert.ReferenceDkvIdeal.nD Cert.ReferenceDkvIdeal.τ).loc Cert.ReferenceDkvIdeal.main_arg4)
      ∧ r.2.mem ((c.tc : Thread Cert.ReferenceDkvIdeal.nD Cert.ReferenceDkvIdeal.τ).loc Cert.ReferenceDkvIdeal.main_arg5) = m ((c.tc : Thread Cert.ReferenceDkvIdeal.nD Cert.ReferenceDkvIdeal.τ).loc Cert.ReferenceDkvIdeal.main_arg5))
      ∧ r.2.sem = fun _ => 0)

def quiescent_ReferenceDkvIdeal_pre_finite [hReferenceDkvIdeal : Cert.ReferenceDkvIdeal.Facts] [hPre_finite : Cert.Pre_finite.Facts] : Prop :=
  ∀ (m : (ℓ : Loc Cert.ReferenceDkvIdeal.nD Cert.ReferenceDkvIdeal.τ Cert.ReferenceDkvIdeal.sig) → Buf (Elt Ideal) ℓ) (g : Dev Cert.ReferenceDkvIdeal.nD → PrngReg), Pre_ReferenceDkvIdeal_finite m →
    θ_run (Cert.ReferenceDkvIdeal.defs (F := Ideal)) (onTc (τ := Cert.ReferenceDkvIdeal.τ) (Cert.ReferenceDkvIdeal.main (F := Ideal))) ⟨m, fun _ => 0, g⟩ (fun r => (∀ c : Dev Cert.ReferenceDkvIdeal.nD,
      r.2.mem ((c.tc : Thread Cert.ReferenceDkvIdeal.nD Cert.ReferenceDkvIdeal.τ).loc Cert.ReferenceDkvIdeal.main_arg0) = m ((c.tc : Thread Cert.ReferenceDkvIdeal.nD Cert.ReferenceDkvIdeal.τ).loc Cert.ReferenceDkvIdeal.main_arg0)
      ∧ r.2.mem ((c.tc : Thread Cert.ReferenceDkvIdeal.nD Cert.ReferenceDkvIdeal.τ).loc Cert.ReferenceDkvIdeal.main_arg1) = m ((c.tc : Thread Cert.ReferenceDkvIdeal.nD Cert.ReferenceDkvIdeal.τ).loc Cert.ReferenceDkvIdeal.main_arg1)
      ∧ r.2.mem ((c.tc : Thread Cert.ReferenceDkvIdeal.nD Cert.ReferenceDkvIdeal.τ).loc Cert.ReferenceDkvIdeal.main_arg2) = m ((c.tc : Thread Cert.ReferenceDkvIdeal.nD Cert.ReferenceDkvIdeal.τ).loc Cert.ReferenceDkvIdeal.main_arg2)
      ∧ r.2.mem ((c.tc : Thread Cert.ReferenceDkvIdeal.nD Cert.ReferenceDkvIdeal.τ).loc Cert.ReferenceDkvIdeal.main_arg3) = m ((c.tc : Thread Cert.ReferenceDkvIdeal.nD Cert.ReferenceDkvIdeal.τ).loc Cert.ReferenceDkvIdeal.main_arg3)
      ∧ r.2.mem ((c.tc : Thread Cert.ReferenceDkvIdeal.nD Cert.ReferenceDkvIdeal.τ).loc Cert.ReferenceDkvIdeal.main_arg4) = m ((c.tc : Thread Cert.ReferenceDkvIdeal.nD Cert.ReferenceDkvIdeal.τ).loc Cert.ReferenceDkvIdeal.main_arg4)
      ∧ r.2.mem ((c.tc : Thread Cert.ReferenceDkvIdeal.nD Cert.ReferenceDkvIdeal.τ).loc Cert.ReferenceDkvIdeal.main_arg5) = m ((c.tc : Thread Cert.ReferenceDkvIdeal.nD Cert.ReferenceDkvIdeal.τ).loc Cert.ReferenceDkvIdeal.main_arg5))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelGluDx [hKernelGluDx : Cert.KernelGluDx.Facts] : Prop :=
  ∀ (m : (ℓ : Loc Cert.KernelGluDx.nD Cert.KernelGluDx.τ Cert.KernelGluDx.sig) → Buf (Elt Bits) ℓ) (g : Dev Cert.KernelGluDx.nD → PrngReg), Pre_KernelGluDx m →
    θ_run (Cert.KernelGluDx.defs (F := Bits)) (onTc (τ := Cert.KernelGluDx.τ) (Cert.KernelGluDx.main (F := Bits))) ⟨m, fun _ => 0, g⟩ (fun r => (∀ c : Dev Cert.KernelGluDx.nD,
      r.2.mem ((c.tc : Thread Cert.KernelGluDx.nD Cert.KernelGluDx.τ).loc Cert.KernelGluDx.main_arg0) = m ((c.tc : Thread Cert.KernelGluDx.nD Cert.KernelGluDx.τ).loc Cert.KernelGluDx.main_arg0)
      ∧ r.2.mem ((c.tc : Thread Cert.KernelGluDx.nD Cert.KernelGluDx.τ).loc Cert.KernelGluDx.main_arg1) = m ((c.tc : Thread Cert.KernelGluDx.nD Cert.KernelGluDx.τ).loc Cert.KernelGluDx.main_arg1))
      ∧ r.2.sem = fun _ => 0)

def quiescent_KernelGluDxIdeal [hKernelGluDxIdeal : Cert.KernelGluDxIdeal.Facts] : Prop :=
  ∀ (m : (ℓ : Loc Cert.KernelGluDxIdeal.nD Cert.KernelGluDxIdeal.τ Cert.KernelGluDxIdeal.sig) → Buf (Elt Ideal) ℓ) (g : Dev Cert.KernelGluDxIdeal.nD → PrngReg), Pre_KernelGluDxIdeal m →
    θ_run (Cert.KernelGluDxIdeal.defs (F := Ideal)) (onTc (τ := Cert.KernelGluDxIdeal.τ) (Cert.KernelGluDxIdeal.main (F := Ideal))) ⟨m, fun _ => 0, g⟩ (fun r => (∀ c : Dev Cert.KernelGluDxIdeal.nD,
      r.2.mem ((c.tc : Thread Cert.KernelGluDxIdeal.nD Cert.KernelGluDxIdeal.τ).loc Cert.KernelGluDxIdeal.main_arg0) = m ((c.tc : Thread Cert.KernelGluDxIdeal.nD Cert.KernelGluDxIdeal.τ).loc Cert.KernelGluDxIdeal.main_arg0)
      ∧ r.2.mem ((c.tc : Thread Cert.KernelGluDxIdeal.nD Cert.KernelGluDxIdeal.τ).loc Cert.KernelGluDxIdeal.main_arg1) = m ((c.tc : Thread Cert.KernelGluDxIdeal.nD Cert.KernelGluDxIdeal.τ).loc Cert.KernelGluDxIdeal.main_arg1))
      ∧ r.2.sem = fun _ => 0)

def quiescent_ReferenceGluDxIdeal [hReferenceGluDxIdeal : Cert.ReferenceGluDxIdeal.Facts] : Prop :=
  ∀ (m : (ℓ : Loc Cert.ReferenceGluDxIdeal.nD Cert.ReferenceGluDxIdeal.τ Cert.ReferenceGluDxIdeal.sig) → Buf (Elt Ideal) ℓ) (g : Dev Cert.ReferenceGluDxIdeal.nD → PrngReg), Pre_ReferenceGluDxIdeal m →
    θ_run (Cert.ReferenceGluDxIdeal.defs (F := Ideal)) (onTc (τ := Cert.ReferenceGluDxIdeal.τ) (Cert.ReferenceGluDxIdeal.main (F := Ideal))) ⟨m, fun _ => 0, g⟩ (fun r => (∀ c : Dev Cert.ReferenceGluDxIdeal.nD,
      r.2.mem ((c.tc : Thread Cert.ReferenceGluDxIdeal.nD Cert.ReferenceGluDxIdeal.τ).loc Cert.ReferenceGluDxIdeal.main_arg0) = m ((c.tc : Thread Cert.ReferenceGluDxIdeal.nD Cert.ReferenceGluDxIdeal.τ).loc Cert.ReferenceGluDxIdeal.main_arg0)
      ∧ r.2.mem ((c.tc : Thread Cert.ReferenceGluDxIdeal.nD Cert.ReferenceGluDxIdeal.τ).loc Cert.ReferenceGluDxIdeal.main_arg1) = m ((c.tc : Thread Cert.ReferenceGluDxIdeal.nD Cert.ReferenceGluDxIdeal.τ).loc Cert.ReferenceGluDxIdeal.main_arg1))
      ∧ r.2.sem = fun _ => 0)

def quiescent_KernelGluDw [hKernelGluDw : Cert.KernelGluDw.Facts] : Prop :=
  ∀ (m : (ℓ : Loc Cert.KernelGluDw.nD Cert.KernelGluDw.τ Cert.KernelGluDw.sig) → Buf (Elt Bits) ℓ) (g : Dev Cert.KernelGluDw.nD → PrngReg), Pre_KernelGluDw m →
    θ_run (Cert.KernelGluDw.defs (F := Bits)) (onTc (τ := Cert.KernelGluDw.τ) (Cert.KernelGluDw.main (F := Bits))) ⟨m, fun _ => 0, g⟩ (fun r => (∀ c : Dev Cert.KernelGluDw.nD,
      r.2.mem ((c.tc : Thread Cert.KernelGluDw.nD Cert.KernelGluDw.τ).loc Cert.KernelGluDw.main_arg0) = m ((c.tc : Thread Cert.KernelGluDw.nD Cert.KernelGluDw.τ).loc Cert.KernelGluDw.main_arg0)
      ∧ r.2.mem ((c.tc : Thread Cert.KernelGluDw.nD Cert.KernelGluDw.τ).loc Cert.KernelGluDw.main_arg1) = m ((c.tc : Thread Cert.KernelGluDw.nD Cert.KernelGluDw.τ).loc Cert.KernelGluDw.main_arg1))
      ∧ r.2.sem = fun _ => 0)

def quiescent_KernelGluDwIdeal [hKernelGluDwIdeal : Cert.KernelGluDwIdeal.Facts] : Prop :=
  ∀ (m : (ℓ : Loc Cert.KernelGluDwIdeal.nD Cert.KernelGluDwIdeal.τ Cert.KernelGluDwIdeal.sig) → Buf (Elt Ideal) ℓ) (g : Dev Cert.KernelGluDwIdeal.nD → PrngReg), Pre_KernelGluDwIdeal m →
    θ_run (Cert.KernelGluDwIdeal.defs (F := Ideal)) (onTc (τ := Cert.KernelGluDwIdeal.τ) (Cert.KernelGluDwIdeal.main (F := Ideal))) ⟨m, fun _ => 0, g⟩ (fun r => (∀ c : Dev Cert.KernelGluDwIdeal.nD,
      r.2.mem ((c.tc : Thread Cert.KernelGluDwIdeal.nD Cert.KernelGluDwIdeal.τ).loc Cert.KernelGluDwIdeal.main_arg0) = m ((c.tc : Thread Cert.KernelGluDwIdeal.nD Cert.KernelGluDwIdeal.τ).loc Cert.KernelGluDwIdeal.main_arg0)
      ∧ r.2.mem ((c.tc : Thread Cert.KernelGluDwIdeal.nD Cert.KernelGluDwIdeal.τ).loc Cert.KernelGluDwIdeal.main_arg1) = m ((c.tc : Thread Cert.KernelGluDwIdeal.nD Cert.KernelGluDwIdeal.τ).loc Cert.KernelGluDwIdeal.main_arg1))
      ∧ r.2.sem = fun _ => 0)

def quiescent_ReferenceGluDwIdeal [hReferenceGluDwIdeal : Cert.ReferenceGluDwIdeal.Facts] : Prop :=
  ∀ (m : (ℓ : Loc Cert.ReferenceGluDwIdeal.nD Cert.ReferenceGluDwIdeal.τ Cert.ReferenceGluDwIdeal.sig) → Buf (Elt Ideal) ℓ) (g : Dev Cert.ReferenceGluDwIdeal.nD → PrngReg), Pre_ReferenceGluDwIdeal m →
    θ_run (Cert.ReferenceGluDwIdeal.defs (F := Ideal)) (onTc (τ := Cert.ReferenceGluDwIdeal.τ) (Cert.ReferenceGluDwIdeal.main (F := Ideal))) ⟨m, fun _ => 0, g⟩ (fun r => (∀ c : Dev Cert.ReferenceGluDwIdeal.nD,
      r.2.mem ((c.tc : Thread Cert.ReferenceGluDwIdeal.nD Cert.ReferenceGluDwIdeal.τ).loc Cert.ReferenceGluDwIdeal.main_arg0) = m ((c.tc : Thread Cert.ReferenceGluDwIdeal.nD Cert.ReferenceGluDwIdeal.τ).loc Cert.ReferenceGluDwIdeal.main_arg0)
      ∧ r.2.mem ((c.tc : Thread Cert.ReferenceGluDwIdeal.nD Cert.ReferenceGluDwIdeal.τ).loc Cert.ReferenceGluDwIdeal.main_arg1) = m ((c.tc : Thread Cert.ReferenceGluDwIdeal.nD Cert.ReferenceGluDwIdeal.τ).loc Cert.ReferenceGluDwIdeal.main_arg1))
      ∧ r.2.sem = fun _ => 0)

def quiescent_KernelUqDx [hKernelUqDx : Cert.KernelUqDx.Facts] : Prop :=
  ∀ (m : (ℓ : Loc Cert.KernelUqDx.nD Cert.KernelUqDx.τ Cert.KernelUqDx.sig) → Buf (Elt Bits) ℓ) (g : Dev Cert.KernelUqDx.nD → PrngReg), Pre_KernelUqDx m →
    θ_run (Cert.KernelUqDx.defs (F := Bits)) (onTc (τ := Cert.KernelUqDx.τ) (Cert.KernelUqDx.main (F := Bits))) ⟨m, fun _ => 0, g⟩ (fun r => (∀ c : Dev Cert.KernelUqDx.nD,
      r.2.mem ((c.tc : Thread Cert.KernelUqDx.nD Cert.KernelUqDx.τ).loc Cert.KernelUqDx.main_arg0) = m ((c.tc : Thread Cert.KernelUqDx.nD Cert.KernelUqDx.τ).loc Cert.KernelUqDx.main_arg0)
      ∧ r.2.mem ((c.tc : Thread Cert.KernelUqDx.nD Cert.KernelUqDx.τ).loc Cert.KernelUqDx.main_arg1) = m ((c.tc : Thread Cert.KernelUqDx.nD Cert.KernelUqDx.τ).loc Cert.KernelUqDx.main_arg1))
      ∧ r.2.sem = fun _ => 0)

def quiescent_KernelUqDxIdeal [hKernelUqDxIdeal : Cert.KernelUqDxIdeal.Facts] : Prop :=
  ∀ (m : (ℓ : Loc Cert.KernelUqDxIdeal.nD Cert.KernelUqDxIdeal.τ Cert.KernelUqDxIdeal.sig) → Buf (Elt Ideal) ℓ) (g : Dev Cert.KernelUqDxIdeal.nD → PrngReg), Pre_KernelUqDxIdeal m →
    θ_run (Cert.KernelUqDxIdeal.defs (F := Ideal)) (onTc (τ := Cert.KernelUqDxIdeal.τ) (Cert.KernelUqDxIdeal.main (F := Ideal))) ⟨m, fun _ => 0, g⟩ (fun r => (∀ c : Dev Cert.KernelUqDxIdeal.nD,
      r.2.mem ((c.tc : Thread Cert.KernelUqDxIdeal.nD Cert.KernelUqDxIdeal.τ).loc Cert.KernelUqDxIdeal.main_arg0) = m ((c.tc : Thread Cert.KernelUqDxIdeal.nD Cert.KernelUqDxIdeal.τ).loc Cert.KernelUqDxIdeal.main_arg0)
      ∧ r.2.mem ((c.tc : Thread Cert.KernelUqDxIdeal.nD Cert.KernelUqDxIdeal.τ).loc Cert.KernelUqDxIdeal.main_arg1) = m ((c.tc : Thread Cert.KernelUqDxIdeal.nD Cert.KernelUqDxIdeal.τ).loc Cert.KernelUqDxIdeal.main_arg1))
      ∧ r.2.sem = fun _ => 0)

def quiescent_ReferenceUqDxIdeal [hReferenceUqDxIdeal : Cert.ReferenceUqDxIdeal.Facts] : Prop :=
  ∀ (m : (ℓ : Loc Cert.ReferenceUqDxIdeal.nD Cert.ReferenceUqDxIdeal.τ Cert.ReferenceUqDxIdeal.sig) → Buf (Elt Ideal) ℓ) (g : Dev Cert.ReferenceUqDxIdeal.nD → PrngReg), Pre_ReferenceUqDxIdeal m →
    θ_run (Cert.ReferenceUqDxIdeal.defs (F := Ideal)) (onTc (τ := Cert.ReferenceUqDxIdeal.τ) (Cert.ReferenceUqDxIdeal.main (F := Ideal))) ⟨m, fun _ => 0, g⟩ (fun r => (∀ c : Dev Cert.ReferenceUqDxIdeal.nD,
      r.2.mem ((c.tc : Thread Cert.ReferenceUqDxIdeal.nD Cert.ReferenceUqDxIdeal.τ).loc Cert.ReferenceUqDxIdeal.main_arg0) = m ((c.tc : Thread Cert.ReferenceUqDxIdeal.nD Cert.ReferenceUqDxIdeal.τ).loc Cert.ReferenceUqDxIdeal.main_arg0)
      ∧ r.2.mem ((c.tc : Thread Cert.ReferenceUqDxIdeal.nD Cert.ReferenceUqDxIdeal.τ).loc Cert.ReferenceUqDxIdeal.main_arg1) = m ((c.tc : Thread Cert.ReferenceUqDxIdeal.nD Cert.ReferenceUqDxIdeal.τ).loc Cert.ReferenceUqDxIdeal.main_arg1))
      ∧ r.2.sem = fun _ => 0)

def quiescent_KernelUqDw [hKernelUqDw : Cert.KernelUqDw.Facts] : Prop :=
  ∀ (m : (ℓ : Loc Cert.KernelUqDw.nD Cert.KernelUqDw.τ Cert.KernelUqDw.sig) → Buf (Elt Bits) ℓ) (g : Dev Cert.KernelUqDw.nD → PrngReg), Pre_KernelUqDw m →
    θ_run (Cert.KernelUqDw.defs (F := Bits)) (onTc (τ := Cert.KernelUqDw.τ) (Cert.KernelUqDw.main (F := Bits))) ⟨m, fun _ => 0, g⟩ (fun r => (∀ c : Dev Cert.KernelUqDw.nD,
      r.2.mem ((c.tc : Thread Cert.KernelUqDw.nD Cert.KernelUqDw.τ).loc Cert.KernelUqDw.main_arg0) = m ((c.tc : Thread Cert.KernelUqDw.nD Cert.KernelUqDw.τ).loc Cert.KernelUqDw.main_arg0)
      ∧ r.2.mem ((c.tc : Thread Cert.KernelUqDw.nD Cert.KernelUqDw.τ).loc Cert.KernelUqDw.main_arg1) = m ((c.tc : Thread Cert.KernelUqDw.nD Cert.KernelUqDw.τ).loc Cert.KernelUqDw.main_arg1))
      ∧ r.2.sem = fun _ => 0)

def quiescent_KernelUqDwIdeal [hKernelUqDwIdeal : Cert.KernelUqDwIdeal.Facts] : Prop :=
  ∀ (m : (ℓ : Loc Cert.KernelUqDwIdeal.nD Cert.KernelUqDwIdeal.τ Cert.KernelUqDwIdeal.sig) → Buf (Elt Ideal) ℓ) (g : Dev Cert.KernelUqDwIdeal.nD → PrngReg), Pre_KernelUqDwIdeal m →
    θ_run (Cert.KernelUqDwIdeal.defs (F := Ideal)) (onTc (τ := Cert.KernelUqDwIdeal.τ) (Cert.KernelUqDwIdeal.main (F := Ideal))) ⟨m, fun _ => 0, g⟩ (fun r => (∀ c : Dev Cert.KernelUqDwIdeal.nD,
      r.2.mem ((c.tc : Thread Cert.KernelUqDwIdeal.nD Cert.KernelUqDwIdeal.τ).loc Cert.KernelUqDwIdeal.main_arg0) = m ((c.tc : Thread Cert.KernelUqDwIdeal.nD Cert.KernelUqDwIdeal.τ).loc Cert.KernelUqDwIdeal.main_arg0)
      ∧ r.2.mem ((c.tc : Thread Cert.KernelUqDwIdeal.nD Cert.KernelUqDwIdeal.τ).loc Cert.KernelUqDwIdeal.main_arg1) = m ((c.tc : Thread Cert.KernelUqDwIdeal.nD Cert.KernelUqDwIdeal.τ).loc Cert.KernelUqDwIdeal.main_arg1))
      ∧ r.2.sem = fun _ => 0)

def quiescent_ReferenceUqDwIdeal [hReferenceUqDwIdeal : Cert.ReferenceUqDwIdeal.Facts] : Prop :=
  ∀ (m : (ℓ : Loc Cert.ReferenceUqDwIdeal.nD Cert.ReferenceUqDwIdeal.τ Cert.ReferenceUqDwIdeal.sig) → Buf (Elt Ideal) ℓ) (g : Dev Cert.ReferenceUqDwIdeal.nD → PrngReg), Pre_ReferenceUqDwIdeal m →
    θ_run (Cert.ReferenceUqDwIdeal.defs (F := Ideal)) (onTc (τ := Cert.ReferenceUqDwIdeal.τ) (Cert.ReferenceUqDwIdeal.main (F := Ideal))) ⟨m, fun _ => 0, g⟩ (fun r => (∀ c : Dev Cert.ReferenceUqDwIdeal.nD,
      r.2.mem ((c.tc : Thread Cert.ReferenceUqDwIdeal.nD Cert.ReferenceUqDwIdeal.τ).loc Cert.ReferenceUqDwIdeal.main_arg0) = m ((c.tc : Thread Cert.ReferenceUqDwIdeal.nD Cert.ReferenceUqDwIdeal.τ).loc Cert.ReferenceUqDwIdeal.main_arg0)
      ∧ r.2.mem ((c.tc : Thread Cert.ReferenceUqDwIdeal.nD Cert.ReferenceUqDwIdeal.τ).loc Cert.ReferenceUqDwIdeal.main_arg1) = m ((c.tc : Thread Cert.ReferenceUqDwIdeal.nD Cert.ReferenceUqDwIdeal.τ).loc Cert.ReferenceUqDwIdeal.main_arg1))
      ∧ r.2.sem = fun _ => 0)

def quiescent_KernelUkvDx [hKernelUkvDx : Cert.KernelUkvDx.Facts] : Prop :=
  ∀ (m : (ℓ : Loc Cert.KernelUkvDx.nD Cert.KernelUkvDx.τ Cert.KernelUkvDx.sig) → Buf (Elt Bits) ℓ) (g : Dev Cert.KernelUkvDx.nD → PrngReg), Pre_KernelUkvDx m →
    θ_run (Cert.KernelUkvDx.defs (F := Bits)) (onTc (τ := Cert.KernelUkvDx.τ) (Cert.KernelUkvDx.main (F := Bits))) ⟨m, fun _ => 0, g⟩ (fun r => (∀ c : Dev Cert.KernelUkvDx.nD,
      r.2.mem ((c.tc : Thread Cert.KernelUkvDx.nD Cert.KernelUkvDx.τ).loc Cert.KernelUkvDx.main_arg0) = m ((c.tc : Thread Cert.KernelUkvDx.nD Cert.KernelUkvDx.τ).loc Cert.KernelUkvDx.main_arg0)
      ∧ r.2.mem ((c.tc : Thread Cert.KernelUkvDx.nD Cert.KernelUkvDx.τ).loc Cert.KernelUkvDx.main_arg1) = m ((c.tc : Thread Cert.KernelUkvDx.nD Cert.KernelUkvDx.τ).loc Cert.KernelUkvDx.main_arg1))
      ∧ r.2.sem = fun _ => 0)

def quiescent_KernelUkvDxIdeal [hKernelUkvDxIdeal : Cert.KernelUkvDxIdeal.Facts] : Prop :=
  ∀ (m : (ℓ : Loc Cert.KernelUkvDxIdeal.nD Cert.KernelUkvDxIdeal.τ Cert.KernelUkvDxIdeal.sig) → Buf (Elt Ideal) ℓ) (g : Dev Cert.KernelUkvDxIdeal.nD → PrngReg), Pre_KernelUkvDxIdeal m →
    θ_run (Cert.KernelUkvDxIdeal.defs (F := Ideal)) (onTc (τ := Cert.KernelUkvDxIdeal.τ) (Cert.KernelUkvDxIdeal.main (F := Ideal))) ⟨m, fun _ => 0, g⟩ (fun r => (∀ c : Dev Cert.KernelUkvDxIdeal.nD,
      r.2.mem ((c.tc : Thread Cert.KernelUkvDxIdeal.nD Cert.KernelUkvDxIdeal.τ).loc Cert.KernelUkvDxIdeal.main_arg0) = m ((c.tc : Thread Cert.KernelUkvDxIdeal.nD Cert.KernelUkvDxIdeal.τ).loc Cert.KernelUkvDxIdeal.main_arg0)
      ∧ r.2.mem ((c.tc : Thread Cert.KernelUkvDxIdeal.nD Cert.KernelUkvDxIdeal.τ).loc Cert.KernelUkvDxIdeal.main_arg1) = m ((c.tc : Thread Cert.KernelUkvDxIdeal.nD Cert.KernelUkvDxIdeal.τ).loc Cert.KernelUkvDxIdeal.main_arg1))
      ∧ r.2.sem = fun _ => 0)

def quiescent_ReferenceUkvDxIdeal [hReferenceUkvDxIdeal : Cert.ReferenceUkvDxIdeal.Facts] : Prop :=
  ∀ (m : (ℓ : Loc Cert.ReferenceUkvDxIdeal.nD Cert.ReferenceUkvDxIdeal.τ Cert.ReferenceUkvDxIdeal.sig) → Buf (Elt Ideal) ℓ) (g : Dev Cert.ReferenceUkvDxIdeal.nD → PrngReg), Pre_ReferenceUkvDxIdeal m →
    θ_run (Cert.ReferenceUkvDxIdeal.defs (F := Ideal)) (onTc (τ := Cert.ReferenceUkvDxIdeal.τ) (Cert.ReferenceUkvDxIdeal.main (F := Ideal))) ⟨m, fun _ => 0, g⟩ (fun r => (∀ c : Dev Cert.ReferenceUkvDxIdeal.nD,
      r.2.mem ((c.tc : Thread Cert.ReferenceUkvDxIdeal.nD Cert.ReferenceUkvDxIdeal.τ).loc Cert.ReferenceUkvDxIdeal.main_arg0) = m ((c.tc : Thread Cert.ReferenceUkvDxIdeal.nD Cert.ReferenceUkvDxIdeal.τ).loc Cert.ReferenceUkvDxIdeal.main_arg0)
      ∧ r.2.mem ((c.tc : Thread Cert.ReferenceUkvDxIdeal.nD Cert.ReferenceUkvDxIdeal.τ).loc Cert.ReferenceUkvDxIdeal.main_arg1) = m ((c.tc : Thread Cert.ReferenceUkvDxIdeal.nD Cert.ReferenceUkvDxIdeal.τ).loc Cert.ReferenceUkvDxIdeal.main_arg1))
      ∧ r.2.sem = fun _ => 0)

def quiescent_KernelUkvDw [hKernelUkvDw : Cert.KernelUkvDw.Facts] : Prop :=
  ∀ (m : (ℓ : Loc Cert.KernelUkvDw.nD Cert.KernelUkvDw.τ Cert.KernelUkvDw.sig) → Buf (Elt Bits) ℓ) (g : Dev Cert.KernelUkvDw.nD → PrngReg), Pre_KernelUkvDw m →
    θ_run (Cert.KernelUkvDw.defs (F := Bits)) (onTc (τ := Cert.KernelUkvDw.τ) (Cert.KernelUkvDw.main (F := Bits))) ⟨m, fun _ => 0, g⟩ (fun r => (∀ c : Dev Cert.KernelUkvDw.nD,
      r.2.mem ((c.tc : Thread Cert.KernelUkvDw.nD Cert.KernelUkvDw.τ).loc Cert.KernelUkvDw.main_arg0) = m ((c.tc : Thread Cert.KernelUkvDw.nD Cert.KernelUkvDw.τ).loc Cert.KernelUkvDw.main_arg0)
      ∧ r.2.mem ((c.tc : Thread Cert.KernelUkvDw.nD Cert.KernelUkvDw.τ).loc Cert.KernelUkvDw.main_arg1) = m ((c.tc : Thread Cert.KernelUkvDw.nD Cert.KernelUkvDw.τ).loc Cert.KernelUkvDw.main_arg1))
      ∧ r.2.sem = fun _ => 0)

def quiescent_KernelUkvDwIdeal [hKernelUkvDwIdeal : Cert.KernelUkvDwIdeal.Facts] : Prop :=
  ∀ (m : (ℓ : Loc Cert.KernelUkvDwIdeal.nD Cert.KernelUkvDwIdeal.τ Cert.KernelUkvDwIdeal.sig) → Buf (Elt Ideal) ℓ) (g : Dev Cert.KernelUkvDwIdeal.nD → PrngReg), Pre_KernelUkvDwIdeal m →
    θ_run (Cert.KernelUkvDwIdeal.defs (F := Ideal)) (onTc (τ := Cert.KernelUkvDwIdeal.τ) (Cert.KernelUkvDwIdeal.main (F := Ideal))) ⟨m, fun _ => 0, g⟩ (fun r => (∀ c : Dev Cert.KernelUkvDwIdeal.nD,
      r.2.mem ((c.tc : Thread Cert.KernelUkvDwIdeal.nD Cert.KernelUkvDwIdeal.τ).loc Cert.KernelUkvDwIdeal.main_arg0) = m ((c.tc : Thread Cert.KernelUkvDwIdeal.nD Cert.KernelUkvDwIdeal.τ).loc Cert.KernelUkvDwIdeal.main_arg0)
      ∧ r.2.mem ((c.tc : Thread Cert.KernelUkvDwIdeal.nD Cert.KernelUkvDwIdeal.τ).loc Cert.KernelUkvDwIdeal.main_arg1) = m ((c.tc : Thread Cert.KernelUkvDwIdeal.nD Cert.KernelUkvDwIdeal.τ).loc Cert.KernelUkvDwIdeal.main_arg1))
      ∧ r.2.sem = fun _ => 0)

def quiescent_ReferenceUkvDwIdeal [hReferenceUkvDwIdeal : Cert.ReferenceUkvDwIdeal.Facts] : Prop :=
  ∀ (m : (ℓ : Loc Cert.ReferenceUkvDwIdeal.nD Cert.ReferenceUkvDwIdeal.τ Cert.ReferenceUkvDwIdeal.sig) → Buf (Elt Ideal) ℓ) (g : Dev Cert.ReferenceUkvDwIdeal.nD → PrngReg), Pre_ReferenceUkvDwIdeal m →
    θ_run (Cert.ReferenceUkvDwIdeal.defs (F := Ideal)) (onTc (τ := Cert.ReferenceUkvDwIdeal.τ) (Cert.ReferenceUkvDwIdeal.main (F := Ideal))) ⟨m, fun _ => 0, g⟩ (fun r => (∀ c : Dev Cert.ReferenceUkvDwIdeal.nD,
      r.2.mem ((c.tc : Thread Cert.ReferenceUkvDwIdeal.nD Cert.ReferenceUkvDwIdeal.τ).loc Cert.ReferenceUkvDwIdeal.main_arg0) = m ((c.tc : Thread Cert.ReferenceUkvDwIdeal.nD Cert.ReferenceUkvDwIdeal.τ).loc Cert.ReferenceUkvDwIdeal.main_arg0)
      ∧ r.2.mem ((c.tc : Thread Cert.ReferenceUkvDwIdeal.nD Cert.ReferenceUkvDwIdeal.τ).loc Cert.ReferenceUkvDwIdeal.main_arg1) = m ((c.tc : Thread Cert.ReferenceUkvDwIdeal.nD Cert.ReferenceUkvDwIdeal.τ).loc Cert.ReferenceUkvDwIdeal.main_arg1))
      ∧ r.2.sem = fun _ => 0)

def quiescent_KernelAdaDw [hKernelAdaDw : Cert.KernelAdaDw.Facts] : Prop :=
  ∀ (m : (ℓ : Loc Cert.KernelAdaDw.nD Cert.KernelAdaDw.τ Cert.KernelAdaDw.sig) → Buf (Elt Bits) ℓ) (g : Dev Cert.KernelAdaDw.nD → PrngReg), Pre_KernelAdaDw m →
    θ_run (Cert.KernelAdaDw.defs (F := Bits)) (onTc (τ := Cert.KernelAdaDw.τ) (Cert.KernelAdaDw.main (F := Bits))) ⟨m, fun _ => 0, g⟩ (fun r => (∀ c : Dev Cert.KernelAdaDw.nD,
      r.2.mem ((c.tc : Thread Cert.KernelAdaDw.nD Cert.KernelAdaDw.τ).loc Cert.KernelAdaDw.main_arg0) = m ((c.tc : Thread Cert.KernelAdaDw.nD Cert.KernelAdaDw.τ).loc Cert.KernelAdaDw.main_arg0)
      ∧ r.2.mem ((c.tc : Thread Cert.KernelAdaDw.nD Cert.KernelAdaDw.τ).loc Cert.KernelAdaDw.main_arg1) = m ((c.tc : Thread Cert.KernelAdaDw.nD Cert.KernelAdaDw.τ).loc Cert.KernelAdaDw.main_arg1))
      ∧ r.2.sem = fun _ => 0)

def quiescent_KernelAdaDwIdeal [hKernelAdaDwIdeal : Cert.KernelAdaDwIdeal.Facts] : Prop :=
  ∀ (m : (ℓ : Loc Cert.KernelAdaDwIdeal.nD Cert.KernelAdaDwIdeal.τ Cert.KernelAdaDwIdeal.sig) → Buf (Elt Ideal) ℓ) (g : Dev Cert.KernelAdaDwIdeal.nD → PrngReg), Pre_KernelAdaDwIdeal m →
    θ_run (Cert.KernelAdaDwIdeal.defs (F := Ideal)) (onTc (τ := Cert.KernelAdaDwIdeal.τ) (Cert.KernelAdaDwIdeal.main (F := Ideal))) ⟨m, fun _ => 0, g⟩ (fun r => (∀ c : Dev Cert.KernelAdaDwIdeal.nD,
      r.2.mem ((c.tc : Thread Cert.KernelAdaDwIdeal.nD Cert.KernelAdaDwIdeal.τ).loc Cert.KernelAdaDwIdeal.main_arg0) = m ((c.tc : Thread Cert.KernelAdaDwIdeal.nD Cert.KernelAdaDwIdeal.τ).loc Cert.KernelAdaDwIdeal.main_arg0)
      ∧ r.2.mem ((c.tc : Thread Cert.KernelAdaDwIdeal.nD Cert.KernelAdaDwIdeal.τ).loc Cert.KernelAdaDwIdeal.main_arg1) = m ((c.tc : Thread Cert.KernelAdaDwIdeal.nD Cert.KernelAdaDwIdeal.τ).loc Cert.KernelAdaDwIdeal.main_arg1))
      ∧ r.2.sem = fun _ => 0)

def quiescent_ReferenceAdaDwIdeal [hReferenceAdaDwIdeal : Cert.ReferenceAdaDwIdeal.Facts] : Prop :=
  ∀ (m : (ℓ : Loc Cert.ReferenceAdaDwIdeal.nD Cert.ReferenceAdaDwIdeal.τ Cert.ReferenceAdaDwIdeal.sig) → Buf (Elt Ideal) ℓ) (g : Dev Cert.ReferenceAdaDwIdeal.nD → PrngReg), Pre_ReferenceAdaDwIdeal m →
    θ_run (Cert.ReferenceAdaDwIdeal.defs (F := Ideal)) (onTc (τ := Cert.ReferenceAdaDwIdeal.τ) (Cert.ReferenceAdaDwIdeal.main (F := Ideal))) ⟨m, fun _ => 0, g⟩ (fun r => (∀ c : Dev Cert.ReferenceAdaDwIdeal.nD,
      r.2.mem ((c.tc : Thread Cert.ReferenceAdaDwIdeal.nD Cert.ReferenceAdaDwIdeal.τ).loc Cert.ReferenceAdaDwIdeal.main_arg0) = m ((c.tc : Thread Cert.ReferenceAdaDwIdeal.nD Cert.ReferenceAdaDwIdeal.τ).loc Cert.ReferenceAdaDwIdeal.main_arg0)
      ∧ r.2.mem ((c.tc : Thread Cert.ReferenceAdaDwIdeal.nD Cert.ReferenceAdaDwIdeal.τ).loc Cert.ReferenceAdaDwIdeal.main_arg1) = m ((c.tc : Thread Cert.ReferenceAdaDwIdeal.nD Cert.ReferenceAdaDwIdeal.τ).loc Cert.ReferenceAdaDwIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1))
      ∧ r.2.sem = fun _ => 0)

def quiescent_KernelUkv [hKernelUkv : Cert.KernelUkv.Facts] : Prop :=
  ∀ (m : (ℓ : Loc Cert.KernelUkv.nD Cert.KernelUkv.τ Cert.KernelUkv.sig) → Buf (Elt Bits) ℓ) (g : Dev Cert.KernelUkv.nD → PrngReg), Pre_KernelUkv m →
    θ_run (Cert.KernelUkv.defs (F := Bits)) (onTc (τ := Cert.KernelUkv.τ) (Cert.KernelUkv.main (F := Bits))) ⟨m, fun _ => 0, g⟩ (fun r => (∀ c : Dev Cert.KernelUkv.nD,
      r.2.mem ((c.tc : Thread Cert.KernelUkv.nD Cert.KernelUkv.τ).loc Cert.KernelUkv.main_arg0) = m ((c.tc : Thread Cert.KernelUkv.nD Cert.KernelUkv.τ).loc Cert.KernelUkv.main_arg0)
      ∧ r.2.mem ((c.tc : Thread Cert.KernelUkv.nD Cert.KernelUkv.τ).loc Cert.KernelUkv.main_arg1) = m ((c.tc : Thread Cert.KernelUkv.nD Cert.KernelUkv.τ).loc Cert.KernelUkv.main_arg1))
      ∧ r.2.sem = fun _ => 0)

def quiescent_KernelUkvIdeal [hKernelUkvIdeal : Cert.KernelUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg), Pre_KernelUkvIdeal m →
    θ_run (Cert.KernelUkvIdeal.defs (F := Ideal)) (onTc (τ := Cert.KernelUkvIdeal.τ) (Cert.KernelUkvIdeal.main (F := Ideal))) ⟨m, fun _ => 0, g⟩ (fun r => (∀ c : Dev Cert.KernelUkvIdeal.nD,
      r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
      ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ r.2.sem = fun _ => 0)

def quiescent_ReferenceUkvIdeal [hReferenceUkvIdeal : Cert.ReferenceUkvIdeal.Facts] : Prop :=
  ∀ (m : (ℓ : Loc Cert.ReferenceUkvIdeal.nD Cert.ReferenceUkvIdeal.τ Cert.ReferenceUkvIdeal.sig) → Buf (Elt Ideal) ℓ) (g : Dev Cert.ReferenceUkvIdeal.nD → PrngReg), Pre_ReferenceUkvIdeal m →
    θ_run (Cert.ReferenceUkvIdeal.defs (F := Ideal)) (onTc (τ := Cert.ReferenceUkvIdeal.τ) (Cert.ReferenceUkvIdeal.main (F := Ideal))) ⟨m, fun _ => 0, g⟩ (fun r => (∀ c : Dev Cert.ReferenceUkvIdeal.nD,
      r.2.mem ((c.tc : Thread Cert.ReferenceUkvIdeal.nD Cert.ReferenceUkvIdeal.τ).loc Cert.ReferenceUkvIdeal.main_arg0) = m ((c.tc : Thread Cert.ReferenceUkvIdeal.nD Cert.ReferenceUkvIdeal.τ).loc Cert.ReferenceUkvIdeal.main_arg0)
      ∧ r.2.mem ((c.tc : Thread Cert.ReferenceUkvIdeal.nD Cert.ReferenceUkvIdeal.τ).loc Cert.ReferenceUkvIdeal.main_arg1) = m ((c.tc : Thread Cert.ReferenceUkvIdeal.nD Cert.ReferenceUkvIdeal.τ).loc Cert.ReferenceUkvIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelQn [hKernelQn : Cert.KernelQn.Facts] : Prop :=
  ∀ (m : (ℓ : Loc Cert.KernelQn.nD Cert.KernelQn.τ Cert.KernelQn.sig) → Buf (Elt Bits) ℓ) (g : Dev Cert.KernelQn.nD → PrngReg), Pre_KernelQn m →
    θ_run (Cert.KernelQn.defs (F := Bits)) (onTc (τ := Cert.KernelQn.τ) (Cert.KernelQn.main (F := Bits))) ⟨m, fun _ => 0, g⟩ (fun r => (∀ c : Dev Cert.KernelQn.nD,
      r.2.mem ((c.tc : Thread Cert.KernelQn.nD Cert.KernelQn.τ).loc Cert.KernelQn.main_arg0) = m ((c.tc : Thread Cert.KernelQn.nD Cert.KernelQn.τ).loc Cert.KernelQn.main_arg0)
      ∧ r.2.mem ((c.tc : Thread Cert.KernelQn.nD Cert.KernelQn.τ).loc Cert.KernelQn.main_arg1) = m ((c.tc : Thread Cert.KernelQn.nD Cert.KernelQn.τ).loc Cert.KernelQn.main_arg1)
      ∧ r.2.mem ((c.tc : Thread Cert.KernelQn.nD Cert.KernelQn.τ).loc Cert.KernelQn.main_arg2) = m ((c.tc : Thread Cert.KernelQn.nD Cert.KernelQn.τ).loc Cert.KernelQn.main_arg2))
      ∧ r.2.sem = fun _ => 0)

def quiescent_KernelQnIdeal [hKernelQnIdeal : Cert.KernelQnIdeal.Facts] : Prop :=
  ∀ (m : (ℓ : Loc Cert.KernelQnIdeal.nD Cert.KernelQnIdeal.τ Cert.KernelQnIdeal.sig) → Buf (Elt Ideal) ℓ) (g : Dev Cert.KernelQnIdeal.nD → PrngReg), Pre_KernelQnIdeal m →
    θ_run (Cert.KernelQnIdeal.defs (F := Ideal)) (onTc (τ := Cert.KernelQnIdeal.τ) (Cert.KernelQnIdeal.main (F := Ideal))) ⟨m, fun _ => 0, g⟩ (fun r => (∀ c : Dev Cert.KernelQnIdeal.nD,
      r.2.mem ((c.tc : Thread Cert.KernelQnIdeal.nD Cert.KernelQnIdeal.τ).loc Cert.KernelQnIdeal.main_arg0) = m ((c.tc : Thread Cert.KernelQnIdeal.nD Cert.KernelQnIdeal.τ).loc Cert.KernelQnIdeal.main_arg0)
      ∧ r.2.mem ((c.tc : Thread Cert.KernelQnIdeal.nD Cert.KernelQnIdeal.τ).loc Cert.KernelQnIdeal.main_arg1) = m ((c.tc : Thread Cert.KernelQnIdeal.nD Cert.KernelQnIdeal.τ).loc Cert.KernelQnIdeal.main_arg1)
      ∧ r.2.mem ((c.tc : Thread Cert.KernelQnIdeal.nD Cert.KernelQnIdeal.τ).loc Cert.KernelQnIdeal.main_arg2) = m ((c.tc : Thread Cert.KernelQnIdeal.nD Cert.KernelQnIdeal.τ).loc Cert.KernelQnIdeal.main_arg2))
      ∧ r.2.sem = fun _ => 0)

def quiescent_ReferenceQnIdeal [hReferenceQnIdeal : Cert.ReferenceQnIdeal.Facts] : Prop :=
  ∀ (m : (ℓ : Loc Cert.ReferenceQnIdeal.nD Cert.ReferenceQnIdeal.τ Cert.ReferenceQnIdeal.sig) → Buf (Elt Ideal) ℓ) (g : Dev Cert.ReferenceQnIdeal.nD → PrngReg), Pre_ReferenceQnIdeal m →
    θ_run (Cert.ReferenceQnIdeal.defs (F := Ideal)) (onTc (τ := Cert.ReferenceQnIdeal.τ) (Cert.ReferenceQnIdeal.main (F := Ideal))) ⟨m, fun _ => 0, g⟩ (fun r => (∀ c : Dev Cert.ReferenceQnIdeal.nD,
      r.2.mem ((c.tc : Thread Cert.ReferenceQnIdeal.nD Cert.ReferenceQnIdeal.τ).loc Cert.ReferenceQnIdeal.main_arg0) = m ((c.tc : Thread Cert.ReferenceQnIdeal.nD Cert.ReferenceQnIdeal.τ).loc Cert.ReferenceQnIdeal.main_arg0)
      ∧ r.2.mem ((c.tc : Thread Cert.ReferenceQnIdeal.nD Cert.ReferenceQnIdeal.τ).loc Cert.ReferenceQnIdeal.main_arg1) = m ((c.tc : Thread Cert.ReferenceQnIdeal.nD Cert.ReferenceQnIdeal.τ).loc Cert.ReferenceQnIdeal.main_arg1)
      ∧ r.2.mem ((c.tc : Thread Cert.ReferenceQnIdeal.nD Cert.ReferenceQnIdeal.τ).loc Cert.ReferenceQnIdeal.main_arg2) = m ((c.tc : Thread Cert.ReferenceQnIdeal.nD Cert.ReferenceQnIdeal.τ).loc Cert.ReferenceQnIdeal.main_arg2))
      ∧ r.2.sem = fun _ => 0)

def quiescent_KernelKvn [hKernelKvn : Cert.KernelKvn.Facts] : Prop :=
  ∀ (m : (ℓ : Loc Cert.KernelKvn.nD Cert.KernelKvn.τ Cert.KernelKvn.sig) → Buf (Elt Bits) ℓ) (g : Dev Cert.KernelKvn.nD → PrngReg), Pre_KernelKvn m →
    θ_run (Cert.KernelKvn.defs (F := Bits)) (onTc (τ := Cert.KernelKvn.τ) (Cert.KernelKvn.main (F := Bits))) ⟨m, fun _ => 0, g⟩ (fun r => (∀ c : Dev Cert.KernelKvn.nD,
      r.2.mem ((c.tc : Thread Cert.KernelKvn.nD Cert.KernelKvn.τ).loc Cert.KernelKvn.main_arg0) = m ((c.tc : Thread Cert.KernelKvn.nD Cert.KernelKvn.τ).loc Cert.KernelKvn.main_arg0)
      ∧ r.2.mem ((c.tc : Thread Cert.KernelKvn.nD Cert.KernelKvn.τ).loc Cert.KernelKvn.main_arg1) = m ((c.tc : Thread Cert.KernelKvn.nD Cert.KernelKvn.τ).loc Cert.KernelKvn.main_arg1)
      ∧ r.2.mem ((c.tc : Thread Cert.KernelKvn.nD Cert.KernelKvn.τ).loc Cert.KernelKvn.main_arg2) = m ((c.tc : Thread Cert.KernelKvn.nD Cert.KernelKvn.τ).loc Cert.KernelKvn.main_arg2))
      ∧ r.2.sem = fun _ => 0)

def quiescent_KernelKvnIdeal [hKernelKvnIdeal : Cert.KernelKvnIdeal.Facts] : Prop :=
  ∀ (m : (ℓ : Loc Cert.KernelKvnIdeal.nD Cert.KernelKvnIdeal.τ Cert.KernelKvnIdeal.sig) → Buf (Elt Ideal) ℓ) (g : Dev Cert.KernelKvnIdeal.nD → PrngReg), Pre_KernelKvnIdeal m →
    θ_run (Cert.KernelKvnIdeal.defs (F := Ideal)) (onTc (τ := Cert.KernelKvnIdeal.τ) (Cert.KernelKvnIdeal.main (F := Ideal))) ⟨m, fun _ => 0, g⟩ (fun r => (∀ c : Dev Cert.KernelKvnIdeal.nD,
      r.2.mem ((c.tc : Thread Cert.KernelKvnIdeal.nD Cert.KernelKvnIdeal.τ).loc Cert.KernelKvnIdeal.main_arg0) = m ((c.tc : Thread Cert.KernelKvnIdeal.nD Cert.KernelKvnIdeal.τ).loc Cert.KernelKvnIdeal.main_arg0)
      ∧ r.2.mem ((c.tc : Thread Cert.KernelKvnIdeal.nD Cert.KernelKvnIdeal.τ).loc Cert.KernelKvnIdeal.main_arg1) = m ((c.tc : Thread Cert.KernelKvnIdeal.nD Cert.KernelKvnIdeal.τ).loc Cert.KernelKvnIdeal.main_arg1)
      ∧ r.2.mem ((c.tc : Thread Cert.KernelKvnIdeal.nD Cert.KernelKvnIdeal.τ).loc Cert.KernelKvnIdeal.main_arg2) = m ((c.tc : Thread Cert.KernelKvnIdeal.nD Cert.KernelKvnIdeal.τ).loc Cert.KernelKvnIdeal.main_arg2))
      ∧ r.2.sem = fun _ => 0)

def quiescent_ReferenceKvnIdeal [hReferenceKvnIdeal : Cert.ReferenceKvnIdeal.Facts] : Prop :=
  ∀ (m : (ℓ : Loc Cert.ReferenceKvnIdeal.nD Cert.ReferenceKvnIdeal.τ Cert.ReferenceKvnIdeal.sig) → Buf (Elt Ideal) ℓ) (g : Dev Cert.ReferenceKvnIdeal.nD → PrngReg), Pre_ReferenceKvnIdeal m →
    θ_run (Cert.ReferenceKvnIdeal.defs (F := Ideal)) (onTc (τ := Cert.ReferenceKvnIdeal.τ) (Cert.ReferenceKvnIdeal.main (F := Ideal))) ⟨m, fun _ => 0, g⟩ (fun r => (∀ c : Dev Cert.ReferenceKvnIdeal.nD,
      r.2.mem ((c.tc : Thread Cert.ReferenceKvnIdeal.nD Cert.ReferenceKvnIdeal.τ).loc Cert.ReferenceKvnIdeal.main_arg0) = m ((c.tc : Thread Cert.ReferenceKvnIdeal.nD Cert.ReferenceKvnIdeal.τ).loc Cert.ReferenceKvnIdeal.main_arg0)
      ∧ r.2.mem ((c.tc : Thread Cert.ReferenceKvnIdeal.nD Cert.ReferenceKvnIdeal.τ).loc Cert.ReferenceKvnIdeal.main_arg1) = m ((c.tc : Thread Cert.ReferenceKvnIdeal.nD Cert.ReferenceKvnIdeal.τ).loc Cert.ReferenceKvnIdeal.main_arg1)
      ∧ r.2.mem ((c.tc : Thread Cert.ReferenceKvnIdeal.nD Cert.ReferenceKvnIdeal.τ).loc Cert.ReferenceKvnIdeal.main_arg2) = m ((c.tc : Thread Cert.ReferenceKvnIdeal.nD Cert.ReferenceKvnIdeal.τ).loc Cert.ReferenceKvnIdeal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5))
      ∧ r.2.sem = fun _ => 0)

def quiescent_KernelSig [hKernelSig : Cert.KernelSig.Facts] : Prop :=
  ∀ (m : (ℓ : Loc Cert.KernelSig.nD Cert.KernelSig.τ Cert.KernelSig.sig) → Buf (Elt Bits) ℓ) (g : Dev Cert.KernelSig.nD → PrngReg), Pre_KernelSig m →
    θ_run (Cert.KernelSig.defs (F := Bits)) (onTc (τ := Cert.KernelSig.τ) (Cert.KernelSig.main (F := Bits))) ⟨m, fun _ => 0, g⟩ (fun r => (∀ c : Dev Cert.KernelSig.nD,
      r.2.mem ((c.tc : Thread Cert.KernelSig.nD Cert.KernelSig.τ).loc Cert.KernelSig.main_arg0) = m ((c.tc : Thread Cert.KernelSig.nD Cert.KernelSig.τ).loc Cert.KernelSig.main_arg0)
      ∧ r.2.mem ((c.tc : Thread Cert.KernelSig.nD Cert.KernelSig.τ).loc Cert.KernelSig.main_arg1) = m ((c.tc : Thread Cert.KernelSig.nD Cert.KernelSig.τ).loc Cert.KernelSig.main_arg1)
      ∧ r.2.mem ((c.tc : Thread Cert.KernelSig.nD Cert.KernelSig.τ).loc Cert.KernelSig.main_arg2) = m ((c.tc : Thread Cert.KernelSig.nD Cert.KernelSig.τ).loc Cert.KernelSig.main_arg2))
      ∧ r.2.sem = fun _ => 0)

def quiescent_KernelSigIdeal [hKernelSigIdeal : Cert.KernelSigIdeal.Facts] : Prop :=
  ∀ (m : (ℓ : Loc Cert.KernelSigIdeal.nD Cert.KernelSigIdeal.τ Cert.KernelSigIdeal.sig) → Buf (Elt Ideal) ℓ) (g : Dev Cert.KernelSigIdeal.nD → PrngReg), Pre_KernelSigIdeal m →
    θ_run (Cert.KernelSigIdeal.defs (F := Ideal)) (onTc (τ := Cert.KernelSigIdeal.τ) (Cert.KernelSigIdeal.main (F := Ideal))) ⟨m, fun _ => 0, g⟩ (fun r => (∀ c : Dev Cert.KernelSigIdeal.nD,
      r.2.mem ((c.tc : Thread Cert.KernelSigIdeal.nD Cert.KernelSigIdeal.τ).loc Cert.KernelSigIdeal.main_arg0) = m ((c.tc : Thread Cert.KernelSigIdeal.nD Cert.KernelSigIdeal.τ).loc Cert.KernelSigIdeal.main_arg0)
      ∧ r.2.mem ((c.tc : Thread Cert.KernelSigIdeal.nD Cert.KernelSigIdeal.τ).loc Cert.KernelSigIdeal.main_arg1) = m ((c.tc : Thread Cert.KernelSigIdeal.nD Cert.KernelSigIdeal.τ).loc Cert.KernelSigIdeal.main_arg1)
      ∧ r.2.mem ((c.tc : Thread Cert.KernelSigIdeal.nD Cert.KernelSigIdeal.τ).loc Cert.KernelSigIdeal.main_arg2) = m ((c.tc : Thread Cert.KernelSigIdeal.nD Cert.KernelSigIdeal.τ).loc Cert.KernelSigIdeal.main_arg2))
      ∧ r.2.sem = fun _ => 0)

def quiescent_ReferenceSigIdeal [hReferenceSigIdeal : Cert.ReferenceSigIdeal.Facts] : Prop :=
  ∀ (m : (ℓ : Loc Cert.ReferenceSigIdeal.nD Cert.ReferenceSigIdeal.τ Cert.ReferenceSigIdeal.sig) → Buf (Elt Ideal) ℓ) (g : Dev Cert.ReferenceSigIdeal.nD → PrngReg), Pre_ReferenceSigIdeal m →
    θ_run (Cert.ReferenceSigIdeal.defs (F := Ideal)) (onTc (τ := Cert.ReferenceSigIdeal.τ) (Cert.ReferenceSigIdeal.main (F := Ideal))) ⟨m, fun _ => 0, g⟩ (fun r => (∀ c : Dev Cert.ReferenceSigIdeal.nD,
      r.2.mem ((c.tc : Thread Cert.ReferenceSigIdeal.nD Cert.ReferenceSigIdeal.τ).loc Cert.ReferenceSigIdeal.main_arg0) = m ((c.tc : Thread Cert.ReferenceSigIdeal.nD Cert.ReferenceSigIdeal.τ).loc Cert.ReferenceSigIdeal.main_arg0)
      ∧ r.2.mem ((c.tc : Thread Cert.ReferenceSigIdeal.nD Cert.ReferenceSigIdeal.τ).loc Cert.ReferenceSigIdeal.main_arg1) = m ((c.tc : Thread Cert.ReferenceSigIdeal.nD Cert.ReferenceSigIdeal.τ).loc Cert.ReferenceSigIdeal.main_arg1)
      ∧ r.2.mem ((c.tc : Thread Cert.ReferenceSigIdeal.nD Cert.ReferenceSigIdeal.τ).loc Cert.ReferenceSigIdeal.main_arg2) = m ((c.tc : Thread Cert.ReferenceSigIdeal.nD Cert.ReferenceSigIdeal.τ).loc Cert.ReferenceSigIdeal.main_arg2))
      ∧ r.2.sem = fun _ => 0)

def quiescent_KernelGelu [hKernelGelu : Cert.KernelGelu.Facts] : Prop :=
  ∀ (m : (ℓ : Loc Cert.KernelGelu.nD Cert.KernelGelu.τ Cert.KernelGelu.sig) → Buf (Elt Bits) ℓ) (g : Dev Cert.KernelGelu.nD → PrngReg), Pre_KernelGelu m →
    θ_run (Cert.KernelGelu.defs (F := Bits)) (onTc (τ := Cert.KernelGelu.τ) (Cert.KernelGelu.main (F := Bits))) ⟨m, fun _ => 0, g⟩ (fun r => (∀ c : Dev Cert.KernelGelu.nD,
      r.2.mem ((c.tc : Thread Cert.KernelGelu.nD Cert.KernelGelu.τ).loc Cert.KernelGelu.main_arg0) = m ((c.tc : Thread Cert.KernelGelu.nD Cert.KernelGelu.τ).loc Cert.KernelGelu.main_arg0)
      ∧ r.2.mem ((c.tc : Thread Cert.KernelGelu.nD Cert.KernelGelu.τ).loc Cert.KernelGelu.main_arg1) = m ((c.tc : Thread Cert.KernelGelu.nD Cert.KernelGelu.τ).loc Cert.KernelGelu.main_arg1)
      ∧ r.2.mem ((c.tc : Thread Cert.KernelGelu.nD Cert.KernelGelu.τ).loc Cert.KernelGelu.main_arg2) = m ((c.tc : Thread Cert.KernelGelu.nD Cert.KernelGelu.τ).loc Cert.KernelGelu.main_arg2)
      ∧ r.2.mem ((c.tc : Thread Cert.KernelGelu.nD Cert.KernelGelu.τ).loc Cert.KernelGelu.main_arg3) = m ((c.tc : Thread Cert.KernelGelu.nD Cert.KernelGelu.τ).loc Cert.KernelGelu.main_arg3)
      ∧ r.2.mem ((c.tc : Thread Cert.KernelGelu.nD Cert.KernelGelu.τ).loc Cert.KernelGelu.main_arg4) = m ((c.tc : Thread Cert.KernelGelu.nD Cert.KernelGelu.τ).loc Cert.KernelGelu.main_arg4))
      ∧ r.2.sem = fun _ => 0)

def quiescent_KernelGeluIdeal [hKernelGeluIdeal : Cert.KernelGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg), Pre_KernelGeluIdeal m →
    θ_run (Cert.KernelGeluIdeal.defs (F := Ideal)) (onTc (τ := Cert.KernelGeluIdeal.τ) (Cert.KernelGeluIdeal.main (F := Ideal))) ⟨m, fun _ => 0, g⟩ (fun r => (∀ c : Dev Cert.KernelGeluIdeal.nD,
      r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
      ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1)
      ∧ r.2.mem ((c.tc : Thread Cert.KernelGeluIdeal.nD Cert.KernelGeluIdeal.τ).loc Cert.KernelGeluIdeal.main_arg2) = m ((c.tc : Thread Cert.KernelGeluIdeal.nD Cert.KernelGeluIdeal.τ).loc Cert.KernelGeluIdeal.main_arg2)
      ∧ r.2.mem ((c.tc : Thread Cert.KernelGeluIdeal.nD Cert.KernelGeluIdeal.τ).loc Cert.KernelGeluIdeal.main_arg3) = m ((c.tc : Thread Cert.KernelGeluIdeal.nD Cert.KernelGeluIdeal.τ).loc Cert.KernelGeluIdeal.main_arg3)
      ∧ r.2.mem ((c.tc : Thread Cert.KernelGeluIdeal.nD Cert.KernelGeluIdeal.τ).loc Cert.KernelGeluIdeal.main_arg4) = m ((c.tc : Thread Cert.KernelGeluIdeal.nD Cert.KernelGeluIdeal.τ).loc Cert.KernelGeluIdeal.main_arg4))
      ∧ r.2.sem = fun _ => 0)

def quiescent_ReferenceGeluIdeal [hReferenceGeluIdeal : Cert.ReferenceGeluIdeal.Facts] : Prop :=
  ∀ (m : (ℓ : Loc Cert.ReferenceGeluIdeal.nD Cert.ReferenceGeluIdeal.τ Cert.ReferenceGeluIdeal.sig) → Buf (Elt Ideal) ℓ) (g : Dev Cert.ReferenceGeluIdeal.nD → PrngReg), Pre_ReferenceGeluIdeal m →
    θ_run (Cert.ReferenceGeluIdeal.defs (F := Ideal)) (onTc (τ := Cert.ReferenceGeluIdeal.τ) (Cert.ReferenceGeluIdeal.main (F := Ideal))) ⟨m, fun _ => 0, g⟩ (fun r => (∀ c : Dev Cert.ReferenceGeluIdeal.nD,
      r.2.mem ((c.tc : Thread Cert.ReferenceGeluIdeal.nD Cert.ReferenceGeluIdeal.τ).loc Cert.ReferenceGeluIdeal.main_arg0) = m ((c.tc : Thread Cert.ReferenceGeluIdeal.nD Cert.ReferenceGeluIdeal.τ).loc Cert.ReferenceGeluIdeal.main_arg0)
      ∧ r.2.mem ((c.tc : Thread Cert.ReferenceGeluIdeal.nD Cert.ReferenceGeluIdeal.τ).loc Cert.ReferenceGeluIdeal.main_arg1) = m ((c.tc : Thread Cert.ReferenceGeluIdeal.nD Cert.ReferenceGeluIdeal.τ).loc Cert.ReferenceGeluIdeal.main_arg1)
      ∧ r.2.mem ((c.tc : Thread Cert.ReferenceGeluIdeal.nD Cert.ReferenceGeluIdeal.τ).loc Cert.ReferenceGeluIdeal.main_arg2) = m ((c.tc : Thread Cert.ReferenceGeluIdeal.nD Cert.ReferenceGeluIdeal.τ).loc Cert.ReferenceGeluIdeal.main_arg2)
      ∧ r.2.mem ((c.tc : Thread Cert.ReferenceGeluIdeal.nD Cert.ReferenceGeluIdeal.τ).loc Cert.ReferenceGeluIdeal.main_arg3) = m ((c.tc : Thread Cert.ReferenceGeluIdeal.nD Cert.ReferenceGeluIdeal.τ).loc Cert.ReferenceGeluIdeal.main_arg3)
      ∧ r.2.mem ((c.tc : Thread Cert.ReferenceGeluIdeal.nD Cert.ReferenceGeluIdeal.τ).loc Cert.ReferenceGeluIdeal.main_arg4) = m ((c.tc : Thread Cert.ReferenceGeluIdeal.nD Cert.ReferenceGeluIdeal.τ).loc Cert.ReferenceGeluIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def preserves_KernelDq_KernelDqIdeal : Prop :=
  True

def algebraic_KernelDqIdeal_ReferenceDqIdeal_pre_finite [hKernelDqIdeal : Cert.KernelDqIdeal.Facts] [hReferenceDqIdeal : Cert.ReferenceDqIdeal.Facts] [hPre_finite : Cert.Pre_finite.Facts] : Prop :=
  ∀ (m : (ℓ : Loc Cert.KernelDqIdeal.nD Cert.KernelDqIdeal.τ Cert.KernelDqIdeal.sig) → Buf (Elt Ideal) ℓ) (g : Dev Cert.KernelDqIdeal.nD → PrngReg)
    (m' : (ℓ : Loc Cert.ReferenceDqIdeal.nD Cert.ReferenceDqIdeal.τ Cert.ReferenceDqIdeal.sig) → Buf (Elt Ideal) ℓ) (g' : Dev Cert.ReferenceDqIdeal.nD → PrngReg), Pre_KernelDqIdeal_finite m →
    (∀ c : Dev Cert.KernelDqIdeal.nD,
      m' ((c.tc : Thread Cert.ReferenceDqIdeal.nD Cert.ReferenceDqIdeal.τ).loc Cert.ReferenceDqIdeal.main_arg0) = m ((c.tc : Thread Cert.KernelDqIdeal.nD Cert.KernelDqIdeal.τ).loc Cert.KernelDqIdeal.main_arg0)
      ∧ m' ((c.tc : Thread Cert.ReferenceDqIdeal.nD Cert.ReferenceDqIdeal.τ).loc Cert.ReferenceDqIdeal.main_arg1) = m ((c.tc : Thread Cert.KernelDqIdeal.nD Cert.KernelDqIdeal.τ).loc Cert.KernelDqIdeal.main_arg1)
      ∧ m' ((c.tc : Thread Cert.ReferenceDqIdeal.nD Cert.ReferenceDqIdeal.τ).loc Cert.ReferenceDqIdeal.main_arg2) = m ((c.tc : Thread Cert.KernelDqIdeal.nD Cert.KernelDqIdeal.τ).loc Cert.KernelDqIdeal.main_arg2)
      ∧ m' ((c.tc : Thread Cert.ReferenceDqIdeal.nD Cert.ReferenceDqIdeal.τ).loc Cert.ReferenceDqIdeal.main_arg3) = m ((c.tc : Thread Cert.KernelDqIdeal.nD Cert.KernelDqIdeal.τ).loc Cert.KernelDqIdeal.main_arg3)
      ∧ m' ((c.tc : Thread Cert.ReferenceDqIdeal.nD Cert.ReferenceDqIdeal.τ).loc Cert.ReferenceDqIdeal.main_arg4) = m ((c.tc : Thread Cert.KernelDqIdeal.nD Cert.KernelDqIdeal.τ).loc Cert.KernelDqIdeal.main_arg4)
      ∧ m' ((c.tc : Thread Cert.ReferenceDqIdeal.nD Cert.ReferenceDqIdeal.τ).loc Cert.ReferenceDqIdeal.main_arg5) = m ((c.tc : Thread Cert.KernelDqIdeal.nD Cert.KernelDqIdeal.τ).loc Cert.KernelDqIdeal.main_arg5)) →
    ∃ (v0 : (c : Dev Cert.KernelDqIdeal.nD) → Buf (Elt Ideal) ((c.tc : Thread Cert.KernelDqIdeal.nD Cert.KernelDqIdeal.τ).loc Cert.KernelDqIdeal.main_v51)),
      θ_run (Cert.KernelDqIdeal.defs (F := Ideal)) (onTc (τ := Cert.KernelDqIdeal.τ) (Cert.KernelDqIdeal.main (F := Ideal))) ⟨m, fun _ => 0, g⟩ (fun r => ∀ c : Dev Cert.KernelDqIdeal.nD,
          r.2.mem ((c.tc : Thread Cert.KernelDqIdeal.nD Cert.KernelDqIdeal.τ).loc Cert.KernelDqIdeal.main_v51) = v0 c
          ∧ r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
          ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
          ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
          ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
          ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
          ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5))
      ∧ θ_run (Cert.ReferenceDqIdeal.defs (F := Ideal)) (onTc (τ := Cert.ReferenceDqIdeal.τ) (Cert.ReferenceDqIdeal.main (F := Ideal))) ⟨m', fun _ => 0, g'⟩ (fun r => ∀ c : Dev Cert.ReferenceDqIdeal.nD,
          r.2.mem ((c.tc : Thread Cert.ReferenceDqIdeal.nD Cert.ReferenceDqIdeal.τ).loc Cert.ReferenceDqIdeal.main_v69) = v0 c
          ∧ r.2.mem ((c.tc : Thread Cert.ReferenceDqIdeal.nD Cert.ReferenceDqIdeal.τ).loc Cert.ReferenceDqIdeal.main_arg0) = m' ((c.tc : Thread Cert.ReferenceDqIdeal.nD Cert.ReferenceDqIdeal.τ).loc Cert.ReferenceDqIdeal.main_arg0)
          ∧ r.2.mem ((c.tc : Thread Cert.ReferenceDqIdeal.nD Cert.ReferenceDqIdeal.τ).loc Cert.ReferenceDqIdeal.main_arg1) = m' ((c.tc : Thread Cert.ReferenceDqIdeal.nD Cert.ReferenceDqIdeal.τ).loc Cert.ReferenceDqIdeal.main_arg1)
          ∧ r.2.mem ((c.tc : Thread Cert.ReferenceDqIdeal.nD Cert.ReferenceDqIdeal.τ).loc Cert.ReferenceDqIdeal.main_arg2) = m' ((c.tc : Thread Cert.ReferenceDqIdeal.nD Cert.ReferenceDqIdeal.τ).loc Cert.ReferenceDqIdeal.main_arg2)
          ∧ r.2.mem ((c.tc : Thread Cert.ReferenceDqIdeal.nD Cert.ReferenceDqIdeal.τ).loc Cert.ReferenceDqIdeal.main_arg3) = m' ((c.tc : Thread Cert.ReferenceDqIdeal.nD Cert.ReferenceDqIdeal.τ).loc Cert.ReferenceDqIdeal.main_arg3)
          ∧ r.2.mem ((c.tc : Thread Cert.ReferenceDqIdeal.nD Cert.ReferenceDqIdeal.τ).loc Cert.ReferenceDqIdeal.main_arg4) = m' ((c.tc : Thread Cert.ReferenceDqIdeal.nD Cert.ReferenceDqIdeal.τ).loc Cert.ReferenceDqIdeal.main_arg4)
          ∧ r.2.mem ((c.tc : Thread Cert.ReferenceDqIdeal.nD Cert.ReferenceDqIdeal.τ).loc Cert.ReferenceDqIdeal.main_arg5) = m' ((c.tc : Thread Cert.ReferenceDqIdeal.nD Cert.ReferenceDqIdeal.τ).loc Cert.ReferenceDqIdeal.main_arg5))

def preserves_KernelDkv_KernelDkvIdeal : Prop :=
  True

def algebraic_KernelDkvIdeal_ReferenceDkvIdeal_pre_finite [hKernelDkvIdeal : Cert.KernelDkvIdeal.Facts] [hReferenceDkvIdeal : Cert.ReferenceDkvIdeal.Facts] [hPre_finite : Cert.Pre_finite.Facts] : Prop :=
  ∀ (m : (ℓ : Loc Cert.KernelDkvIdeal.nD Cert.KernelDkvIdeal.τ Cert.KernelDkvIdeal.sig) → Buf (Elt Ideal) ℓ) (g : Dev Cert.KernelDkvIdeal.nD → PrngReg)
    (m' : (ℓ : Loc Cert.ReferenceDkvIdeal.nD Cert.ReferenceDkvIdeal.τ Cert.ReferenceDkvIdeal.sig) → Buf (Elt Ideal) ℓ) (g' : Dev Cert.ReferenceDkvIdeal.nD → PrngReg), Pre_KernelDkvIdeal_finite m →
    (∀ c : Dev Cert.KernelDkvIdeal.nD,
      m' ((c.tc : Thread Cert.ReferenceDkvIdeal.nD Cert.ReferenceDkvIdeal.τ).loc Cert.ReferenceDkvIdeal.main_arg0) = m ((c.tc : Thread Cert.KernelDkvIdeal.nD Cert.KernelDkvIdeal.τ).loc Cert.KernelDkvIdeal.main_arg0)
      ∧ m' ((c.tc : Thread Cert.ReferenceDkvIdeal.nD Cert.ReferenceDkvIdeal.τ).loc Cert.ReferenceDkvIdeal.main_arg1) = m ((c.tc : Thread Cert.KernelDkvIdeal.nD Cert.KernelDkvIdeal.τ).loc Cert.KernelDkvIdeal.main_arg1)
      ∧ m' ((c.tc : Thread Cert.ReferenceDkvIdeal.nD Cert.ReferenceDkvIdeal.τ).loc Cert.ReferenceDkvIdeal.main_arg2) = m ((c.tc : Thread Cert.KernelDkvIdeal.nD Cert.KernelDkvIdeal.τ).loc Cert.KernelDkvIdeal.main_arg2)
      ∧ m' ((c.tc : Thread Cert.ReferenceDkvIdeal.nD Cert.ReferenceDkvIdeal.τ).loc Cert.ReferenceDkvIdeal.main_arg3) = m ((c.tc : Thread Cert.KernelDkvIdeal.nD Cert.KernelDkvIdeal.τ).loc Cert.KernelDkvIdeal.main_arg3)
      ∧ m' ((c.tc : Thread Cert.ReferenceDkvIdeal.nD Cert.ReferenceDkvIdeal.τ).loc Cert.ReferenceDkvIdeal.main_arg4) = m ((c.tc : Thread Cert.KernelDkvIdeal.nD Cert.KernelDkvIdeal.τ).loc Cert.KernelDkvIdeal.main_arg4)
      ∧ m' ((c.tc : Thread Cert.ReferenceDkvIdeal.nD Cert.ReferenceDkvIdeal.τ).loc Cert.ReferenceDkvIdeal.main_arg5) = m ((c.tc : Thread Cert.KernelDkvIdeal.nD Cert.KernelDkvIdeal.τ).loc Cert.KernelDkvIdeal.main_arg5)) →
    ∃ (v0 : (c : Dev Cert.KernelDkvIdeal.nD) → Buf (Elt Ideal) ((c.tc : Thread Cert.KernelDkvIdeal.nD Cert.KernelDkvIdeal.τ).loc Cert.KernelDkvIdeal.main_v51_0)) (v1 : (c : Dev Cert.KernelDkvIdeal.nD) → Buf (Elt Ideal) ((c.tc : Thread Cert.KernelDkvIdeal.nD Cert.KernelDkvIdeal.τ).loc Cert.KernelDkvIdeal.main_v51_1)),
      θ_run (Cert.KernelDkvIdeal.defs (F := Ideal)) (onTc (τ := Cert.KernelDkvIdeal.τ) (Cert.KernelDkvIdeal.main (F := Ideal))) ⟨m, fun _ => 0, g⟩ (fun r => ∀ c : Dev Cert.KernelDkvIdeal.nD,
          r.2.mem ((c.tc : Thread Cert.KernelDkvIdeal.nD Cert.KernelDkvIdeal.τ).loc Cert.KernelDkvIdeal.main_v51_0) = v0 c
          ∧ r.2.mem ((c.tc : Thread Cert.KernelDkvIdeal.nD Cert.KernelDkvIdeal.τ).loc Cert.KernelDkvIdeal.main_v51_1) = v1 c
          ∧ r.2.mem ((c.tc : Thread Cert.KernelDkvIdeal.nD Cert.KernelDkvIdeal.τ).loc Cert.KernelDkvIdeal.main_arg0) = m ((c.tc : Thread Cert.KernelDkvIdeal.nD Cert.KernelDkvIdeal.τ).loc Cert.KernelDkvIdeal.main_arg0)
          ∧ r.2.mem ((c.tc : Thread Cert.KernelDkvIdeal.nD Cert.KernelDkvIdeal.τ).loc Cert.KernelDkvIdeal.main_arg1) = m ((c.tc : Thread Cert.KernelDkvIdeal.nD Cert.KernelDkvIdeal.τ).loc Cert.KernelDkvIdeal.main_arg1)
          ∧ r.2.mem ((c.tc : Thread Cert.KernelDkvIdeal.nD Cert.KernelDkvIdeal.τ).loc Cert.KernelDkvIdeal.main_arg2) = m ((c.tc : Thread Cert.KernelDkvIdeal.nD Cert.KernelDkvIdeal.τ).loc Cert.KernelDkvIdeal.main_arg2)
          ∧ r.2.mem ((c.tc : Thread Cert.KernelDkvIdeal.nD Cert.KernelDkvIdeal.τ).loc Cert.KernelDkvIdeal.main_arg3) = m ((c.tc : Thread Cert.KernelDkvIdeal.nD Cert.KernelDkvIdeal.τ).loc Cert.KernelDkvIdeal.main_arg3)
          ∧ r.2.mem ((c.tc : Thread Cert.KernelDkvIdeal.nD Cert.KernelDkvIdeal.τ).loc Cert.KernelDkvIdeal.main_arg4) = m ((c.tc : Thread Cert.KernelDkvIdeal.nD Cert.KernelDkvIdeal.τ).loc Cert.KernelDkvIdeal.main_arg4)
          ∧ r.2.mem ((c.tc : Thread Cert.KernelDkvIdeal.nD Cert.KernelDkvIdeal.τ).loc Cert.KernelDkvIdeal.main_arg5) = m ((c.tc : Thread Cert.KernelDkvIdeal.nD Cert.KernelDkvIdeal.τ).loc Cert.KernelDkvIdeal.main_arg5))
      ∧ θ_run (Cert.ReferenceDkvIdeal.defs (F := Ideal)) (onTc (τ := Cert.ReferenceDkvIdeal.τ) (Cert.ReferenceDkvIdeal.main (F := Ideal))) ⟨m', fun _ => 0, g'⟩ (fun r => ∀ c : Dev Cert.ReferenceDkvIdeal.nD,
          r.2.mem ((c.tc : Thread Cert.ReferenceDkvIdeal.nD Cert.ReferenceDkvIdeal.τ).loc Cert.ReferenceDkvIdeal.main_v72) = v0 c
          ∧ r.2.mem ((c.tc : Thread Cert.ReferenceDkvIdeal.nD Cert.ReferenceDkvIdeal.τ).loc Cert.ReferenceDkvIdeal.main_v73) = v1 c
          ∧ r.2.mem ((c.tc : Thread Cert.ReferenceDkvIdeal.nD Cert.ReferenceDkvIdeal.τ).loc Cert.ReferenceDkvIdeal.main_arg0) = m' ((c.tc : Thread Cert.ReferenceDkvIdeal.nD Cert.ReferenceDkvIdeal.τ).loc Cert.ReferenceDkvIdeal.main_arg0)
          ∧ r.2.mem ((c.tc : Thread Cert.ReferenceDkvIdeal.nD Cert.ReferenceDkvIdeal.τ).loc Cert.ReferenceDkvIdeal.main_arg1) = m' ((c.tc : Thread Cert.ReferenceDkvIdeal.nD Cert.ReferenceDkvIdeal.τ).loc Cert.ReferenceDkvIdeal.main_arg1)
          ∧ r.2.mem ((c.tc : Thread Cert.ReferenceDkvIdeal.nD Cert.ReferenceDkvIdeal.τ).loc Cert.ReferenceDkvIdeal.main_arg2) = m' ((c.tc : Thread Cert.ReferenceDkvIdeal.nD Cert.ReferenceDkvIdeal.τ).loc Cert.ReferenceDkvIdeal.main_arg2)
          ∧ r.2.mem ((c.tc : Thread Cert.ReferenceDkvIdeal.nD Cert.ReferenceDkvIdeal.τ).loc Cert.ReferenceDkvIdeal.main_arg3) = m' ((c.tc : Thread Cert.ReferenceDkvIdeal.nD Cert.ReferenceDkvIdeal.τ).loc Cert.ReferenceDkvIdeal.main_arg3)
          ∧ r.2.mem ((c.tc : Thread Cert.ReferenceDkvIdeal.nD Cert.ReferenceDkvIdeal.τ).loc Cert.ReferenceDkvIdeal.main_arg4) = m' ((c.tc : Thread Cert.ReferenceDkvIdeal.nD Cert.ReferenceDkvIdeal.τ).loc Cert.ReferenceDkvIdeal.main_arg4)
          ∧ r.2.mem ((c.tc : Thread Cert.ReferenceDkvIdeal.nD Cert.ReferenceDkvIdeal.τ).loc Cert.ReferenceDkvIdeal.main_arg5) = m' ((c.tc : Thread Cert.ReferenceDkvIdeal.nD Cert.ReferenceDkvIdeal.τ).loc Cert.ReferenceDkvIdeal.main_arg5))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v1)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v1) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v2) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v1)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v1) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v4) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)) →
    ∃ (v0 : (c : Dev Cert.KernelUpDxIdeal.nD) → Buf (Elt Ideal) ((c.tc : Thread Cert.KernelUpDxIdeal.nD Cert.KernelUpDxIdeal.τ).loc Cert.KernelUpDxIdeal.main_v1)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v1) = v0 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v2) = v0 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v1)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v1) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v4) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v1)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v1) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v2) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v1)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v1) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v4) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v2)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v2) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v2) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v2)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v2) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v4) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelGluDx_KernelGluDxIdeal : Prop :=
  True

def algebraic_KernelGluDxIdeal_ReferenceGluDxIdeal [hKernelGluDxIdeal : Cert.KernelGluDxIdeal.Facts] [hReferenceGluDxIdeal : Cert.ReferenceGluDxIdeal.Facts] : Prop :=
  ∀ (m : (ℓ : Loc Cert.KernelGluDxIdeal.nD Cert.KernelGluDxIdeal.τ Cert.KernelGluDxIdeal.sig) → Buf (Elt Ideal) ℓ) (g : Dev Cert.KernelGluDxIdeal.nD → PrngReg)
    (m' : (ℓ : Loc Cert.ReferenceGluDxIdeal.nD Cert.ReferenceGluDxIdeal.τ Cert.ReferenceGluDxIdeal.sig) → Buf (Elt Ideal) ℓ) (g' : Dev Cert.ReferenceGluDxIdeal.nD → PrngReg), Pre_KernelGluDxIdeal m →
    (∀ c : Dev Cert.KernelGluDxIdeal.nD,
      m' ((c.tc : Thread Cert.ReferenceGluDxIdeal.nD Cert.ReferenceGluDxIdeal.τ).loc Cert.ReferenceGluDxIdeal.main_arg0) = m ((c.tc : Thread Cert.KernelGluDxIdeal.nD Cert.KernelGluDxIdeal.τ).loc Cert.KernelGluDxIdeal.main_arg0)
      ∧ m' ((c.tc : Thread Cert.ReferenceGluDxIdeal.nD Cert.ReferenceGluDxIdeal.τ).loc Cert.ReferenceGluDxIdeal.main_arg1) = m ((c.tc : Thread Cert.KernelGluDxIdeal.nD Cert.KernelGluDxIdeal.τ).loc Cert.KernelGluDxIdeal.main_arg1)) →
    ∃ (v0 : (c : Dev Cert.KernelGluDxIdeal.nD) → Buf (Elt Ideal) ((c.tc : Thread Cert.KernelGluDxIdeal.nD Cert.KernelGluDxIdeal.τ).loc Cert.KernelGluDxIdeal.main_v1)),
      θ_run (Cert.KernelGluDxIdeal.defs (F := Ideal)) (onTc (τ := Cert.KernelGluDxIdeal.τ) (Cert.KernelGluDxIdeal.main (F := Ideal))) ⟨m, fun _ => 0, g⟩ (fun r => ∀ c : Dev Cert.KernelGluDxIdeal.nD,
          r.2.mem ((c.tc : Thread Cert.KernelGluDxIdeal.nD Cert.KernelGluDxIdeal.τ).loc Cert.KernelGluDxIdeal.main_v1) = v0 c
          ∧ r.2.mem ((c.tc : Thread Cert.KernelGluDxIdeal.nD Cert.KernelGluDxIdeal.τ).loc Cert.KernelGluDxIdeal.main_arg0) = m ((c.tc : Thread Cert.KernelGluDxIdeal.nD Cert.KernelGluDxIdeal.τ).loc Cert.KernelGluDxIdeal.main_arg0)
          ∧ r.2.mem ((c.tc : Thread Cert.KernelGluDxIdeal.nD Cert.KernelGluDxIdeal.τ).loc Cert.KernelGluDxIdeal.main_arg1) = m ((c.tc : Thread Cert.KernelGluDxIdeal.nD Cert.KernelGluDxIdeal.τ).loc Cert.KernelGluDxIdeal.main_arg1))
      ∧ θ_run (Cert.ReferenceGluDxIdeal.defs (F := Ideal)) (onTc (τ := Cert.ReferenceGluDxIdeal.τ) (Cert.ReferenceGluDxIdeal.main (F := Ideal))) ⟨m', fun _ => 0, g'⟩ (fun r => ∀ c : Dev Cert.ReferenceGluDxIdeal.nD,
          r.2.mem ((c.tc : Thread Cert.ReferenceGluDxIdeal.nD Cert.ReferenceGluDxIdeal.τ).loc Cert.ReferenceGluDxIdeal.main_v2) = v0 c
          ∧ r.2.mem ((c.tc : Thread Cert.ReferenceGluDxIdeal.nD Cert.ReferenceGluDxIdeal.τ).loc Cert.ReferenceGluDxIdeal.main_arg0) = m' ((c.tc : Thread Cert.ReferenceGluDxIdeal.nD Cert.ReferenceGluDxIdeal.τ).loc Cert.ReferenceGluDxIdeal.main_arg0)
          ∧ r.2.mem ((c.tc : Thread Cert.ReferenceGluDxIdeal.nD Cert.ReferenceGluDxIdeal.τ).loc Cert.ReferenceGluDxIdeal.main_arg1) = m' ((c.tc : Thread Cert.ReferenceGluDxIdeal.nD Cert.ReferenceGluDxIdeal.τ).loc Cert.ReferenceGluDxIdeal.main_arg1))

def preserves_KernelGluDw_KernelGluDwIdeal : Prop :=
  True

def algebraic_KernelGluDwIdeal_ReferenceGluDwIdeal [hKernelGluDwIdeal : Cert.KernelGluDwIdeal.Facts] [hReferenceGluDwIdeal : Cert.ReferenceGluDwIdeal.Facts] : Prop :=
  ∀ (m : (ℓ : Loc Cert.KernelGluDwIdeal.nD Cert.KernelGluDwIdeal.τ Cert.KernelGluDwIdeal.sig) → Buf (Elt Ideal) ℓ) (g : Dev Cert.KernelGluDwIdeal.nD → PrngReg)
    (m' : (ℓ : Loc Cert.ReferenceGluDwIdeal.nD Cert.ReferenceGluDwIdeal.τ Cert.ReferenceGluDwIdeal.sig) → Buf (Elt Ideal) ℓ) (g' : Dev Cert.ReferenceGluDwIdeal.nD → PrngReg), Pre_KernelGluDwIdeal m →
    (∀ c : Dev Cert.KernelGluDwIdeal.nD,
      m' ((c.tc : Thread Cert.ReferenceGluDwIdeal.nD Cert.ReferenceGluDwIdeal.τ).loc Cert.ReferenceGluDwIdeal.main_arg0) = m ((c.tc : Thread Cert.KernelGluDwIdeal.nD Cert.KernelGluDwIdeal.τ).loc Cert.KernelGluDwIdeal.main_arg0)
      ∧ m' ((c.tc : Thread Cert.ReferenceGluDwIdeal.nD Cert.ReferenceGluDwIdeal.τ).loc Cert.ReferenceGluDwIdeal.main_arg1) = m ((c.tc : Thread Cert.KernelGluDwIdeal.nD Cert.KernelGluDwIdeal.τ).loc Cert.KernelGluDwIdeal.main_arg1)) →
    ∃ (v0 : (c : Dev Cert.KernelGluDwIdeal.nD) → Buf (Elt Ideal) ((c.tc : Thread Cert.KernelGluDwIdeal.nD Cert.KernelGluDwIdeal.τ).loc Cert.KernelGluDwIdeal.main_v0)),
      θ_run (Cert.KernelGluDwIdeal.defs (F := Ideal)) (onTc (τ := Cert.KernelGluDwIdeal.τ) (Cert.KernelGluDwIdeal.main (F := Ideal))) ⟨m, fun _ => 0, g⟩ (fun r => ∀ c : Dev Cert.KernelGluDwIdeal.nD,
          r.2.mem ((c.tc : Thread Cert.KernelGluDwIdeal.nD Cert.KernelGluDwIdeal.τ).loc Cert.KernelGluDwIdeal.main_v0) = v0 c
          ∧ r.2.mem ((c.tc : Thread Cert.KernelGluDwIdeal.nD Cert.KernelGluDwIdeal.τ).loc Cert.KernelGluDwIdeal.main_arg0) = m ((c.tc : Thread Cert.KernelGluDwIdeal.nD Cert.KernelGluDwIdeal.τ).loc Cert.KernelGluDwIdeal.main_arg0)
          ∧ r.2.mem ((c.tc : Thread Cert.KernelGluDwIdeal.nD Cert.KernelGluDwIdeal.τ).loc Cert.KernelGluDwIdeal.main_arg1) = m ((c.tc : Thread Cert.KernelGluDwIdeal.nD Cert.KernelGluDwIdeal.τ).loc Cert.KernelGluDwIdeal.main_arg1))
      ∧ θ_run (Cert.ReferenceGluDwIdeal.defs (F := Ideal)) (onTc (τ := Cert.ReferenceGluDwIdeal.τ) (Cert.ReferenceGluDwIdeal.main (F := Ideal))) ⟨m', fun _ => 0, g'⟩ (fun r => ∀ c : Dev Cert.ReferenceGluDwIdeal.nD,
          r.2.mem ((c.tc : Thread Cert.ReferenceGluDwIdeal.nD Cert.ReferenceGluDwIdeal.τ).loc Cert.ReferenceGluDwIdeal.main_v4) = v0 c
          ∧ r.2.mem ((c.tc : Thread Cert.ReferenceGluDwIdeal.nD Cert.ReferenceGluDwIdeal.τ).loc Cert.ReferenceGluDwIdeal.main_arg0) = m' ((c.tc : Thread Cert.ReferenceGluDwIdeal.nD Cert.ReferenceGluDwIdeal.τ).loc Cert.ReferenceGluDwIdeal.main_arg0)
          ∧ r.2.mem ((c.tc : Thread Cert.ReferenceGluDwIdeal.nD Cert.ReferenceGluDwIdeal.τ).loc Cert.ReferenceGluDwIdeal.main_arg1) = m' ((c.tc : Thread Cert.ReferenceGluDwIdeal.nD Cert.ReferenceGluDwIdeal.τ).loc Cert.ReferenceGluDwIdeal.main_arg1))

def preserves_KernelUqDx_KernelUqDxIdeal : Prop :=
  True

def algebraic_KernelUqDxIdeal_ReferenceUqDxIdeal [hKernelUqDxIdeal : Cert.KernelUqDxIdeal.Facts] [hReferenceUqDxIdeal : Cert.ReferenceUqDxIdeal.Facts] : Prop :=
  ∀ (m : (ℓ : Loc Cert.KernelUqDxIdeal.nD Cert.KernelUqDxIdeal.τ Cert.KernelUqDxIdeal.sig) → Buf (Elt Ideal) ℓ) (g : Dev Cert.KernelUqDxIdeal.nD → PrngReg)
    (m' : (ℓ : Loc Cert.ReferenceUqDxIdeal.nD Cert.ReferenceUqDxIdeal.τ Cert.ReferenceUqDxIdeal.sig) → Buf (Elt Ideal) ℓ) (g' : Dev Cert.ReferenceUqDxIdeal.nD → PrngReg), Pre_KernelUqDxIdeal m →
    (∀ c : Dev Cert.KernelUqDxIdeal.nD,
      m' ((c.tc : Thread Cert.ReferenceUqDxIdeal.nD Cert.ReferenceUqDxIdeal.τ).loc Cert.ReferenceUqDxIdeal.main_arg0) = m ((c.tc : Thread Cert.KernelUqDxIdeal.nD Cert.KernelUqDxIdeal.τ).loc Cert.KernelUqDxIdeal.main_arg0)
      ∧ m' ((c.tc : Thread Cert.ReferenceUqDxIdeal.nD Cert.ReferenceUqDxIdeal.τ).loc Cert.ReferenceUqDxIdeal.main_arg1) = m ((c.tc : Thread Cert.KernelUqDxIdeal.nD Cert.KernelUqDxIdeal.τ).loc Cert.KernelUqDxIdeal.main_arg1)) →
    ∃ (v0 : (c : Dev Cert.KernelUqDxIdeal.nD) → Buf (Elt Ideal) ((c.tc : Thread Cert.KernelUqDxIdeal.nD Cert.KernelUqDxIdeal.τ).loc Cert.KernelUqDxIdeal.main_v1)),
      θ_run (Cert.KernelUqDxIdeal.defs (F := Ideal)) (onTc (τ := Cert.KernelUqDxIdeal.τ) (Cert.KernelUqDxIdeal.main (F := Ideal))) ⟨m, fun _ => 0, g⟩ (fun r => ∀ c : Dev Cert.KernelUqDxIdeal.nD,
          r.2.mem ((c.tc : Thread Cert.KernelUqDxIdeal.nD Cert.KernelUqDxIdeal.τ).loc Cert.KernelUqDxIdeal.main_v1) = v0 c
          ∧ r.2.mem ((c.tc : Thread Cert.KernelUqDxIdeal.nD Cert.KernelUqDxIdeal.τ).loc Cert.KernelUqDxIdeal.main_arg0) = m ((c.tc : Thread Cert.KernelUqDxIdeal.nD Cert.KernelUqDxIdeal.τ).loc Cert.KernelUqDxIdeal.main_arg0)
          ∧ r.2.mem ((c.tc : Thread Cert.KernelUqDxIdeal.nD Cert.KernelUqDxIdeal.τ).loc Cert.KernelUqDxIdeal.main_arg1) = m ((c.tc : Thread Cert.KernelUqDxIdeal.nD Cert.KernelUqDxIdeal.τ).loc Cert.KernelUqDxIdeal.main_arg1))
      ∧ θ_run (Cert.ReferenceUqDxIdeal.defs (F := Ideal)) (onTc (τ := Cert.ReferenceUqDxIdeal.τ) (Cert.ReferenceUqDxIdeal.main (F := Ideal))) ⟨m', fun _ => 0, g'⟩ (fun r => ∀ c : Dev Cert.ReferenceUqDxIdeal.nD,
          r.2.mem ((c.tc : Thread Cert.ReferenceUqDxIdeal.nD Cert.ReferenceUqDxIdeal.τ).loc Cert.ReferenceUqDxIdeal.main_v2) = v0 c
          ∧ r.2.mem ((c.tc : Thread Cert.ReferenceUqDxIdeal.nD Cert.ReferenceUqDxIdeal.τ).loc Cert.ReferenceUqDxIdeal.main_arg0) = m' ((c.tc : Thread Cert.ReferenceUqDxIdeal.nD Cert.ReferenceUqDxIdeal.τ).loc Cert.ReferenceUqDxIdeal.main_arg0)
          ∧ r.2.mem ((c.tc : Thread Cert.ReferenceUqDxIdeal.nD Cert.ReferenceUqDxIdeal.τ).loc Cert.ReferenceUqDxIdeal.main_arg1) = m' ((c.tc : Thread Cert.ReferenceUqDxIdeal.nD Cert.ReferenceUqDxIdeal.τ).loc Cert.ReferenceUqDxIdeal.main_arg1))

def preserves_KernelUqDw_KernelUqDwIdeal : Prop :=
  True

def algebraic_KernelUqDwIdeal_ReferenceUqDwIdeal [hKernelUqDwIdeal : Cert.KernelUqDwIdeal.Facts] [hReferenceUqDwIdeal : Cert.ReferenceUqDwIdeal.Facts] : Prop :=
  ∀ (m : (ℓ : Loc Cert.KernelUqDwIdeal.nD Cert.KernelUqDwIdeal.τ Cert.KernelUqDwIdeal.sig) → Buf (Elt Ideal) ℓ) (g : Dev Cert.KernelUqDwIdeal.nD → PrngReg)
    (m' : (ℓ : Loc Cert.ReferenceUqDwIdeal.nD Cert.ReferenceUqDwIdeal.τ Cert.ReferenceUqDwIdeal.sig) → Buf (Elt Ideal) ℓ) (g' : Dev Cert.ReferenceUqDwIdeal.nD → PrngReg), Pre_KernelUqDwIdeal m →
    (∀ c : Dev Cert.KernelUqDwIdeal.nD,
      m' ((c.tc : Thread Cert.ReferenceUqDwIdeal.nD Cert.ReferenceUqDwIdeal.τ).loc Cert.ReferenceUqDwIdeal.main_arg0) = m ((c.tc : Thread Cert.KernelUqDwIdeal.nD Cert.KernelUqDwIdeal.τ).loc Cert.KernelUqDwIdeal.main_arg0)
      ∧ m' ((c.tc : Thread Cert.ReferenceUqDwIdeal.nD Cert.ReferenceUqDwIdeal.τ).loc Cert.ReferenceUqDwIdeal.main_arg1) = m ((c.tc : Thread Cert.KernelUqDwIdeal.nD Cert.KernelUqDwIdeal.τ).loc Cert.KernelUqDwIdeal.main_arg1)) →
    ∃ (v0 : (c : Dev Cert.KernelUqDwIdeal.nD) → Buf (Elt Ideal) ((c.tc : Thread Cert.KernelUqDwIdeal.nD Cert.KernelUqDwIdeal.τ).loc Cert.KernelUqDwIdeal.main_v1)),
      θ_run (Cert.KernelUqDwIdeal.defs (F := Ideal)) (onTc (τ := Cert.KernelUqDwIdeal.τ) (Cert.KernelUqDwIdeal.main (F := Ideal))) ⟨m, fun _ => 0, g⟩ (fun r => ∀ c : Dev Cert.KernelUqDwIdeal.nD,
          r.2.mem ((c.tc : Thread Cert.KernelUqDwIdeal.nD Cert.KernelUqDwIdeal.τ).loc Cert.KernelUqDwIdeal.main_v1) = v0 c
          ∧ r.2.mem ((c.tc : Thread Cert.KernelUqDwIdeal.nD Cert.KernelUqDwIdeal.τ).loc Cert.KernelUqDwIdeal.main_arg0) = m ((c.tc : Thread Cert.KernelUqDwIdeal.nD Cert.KernelUqDwIdeal.τ).loc Cert.KernelUqDwIdeal.main_arg0)
          ∧ r.2.mem ((c.tc : Thread Cert.KernelUqDwIdeal.nD Cert.KernelUqDwIdeal.τ).loc Cert.KernelUqDwIdeal.main_arg1) = m ((c.tc : Thread Cert.KernelUqDwIdeal.nD Cert.KernelUqDwIdeal.τ).loc Cert.KernelUqDwIdeal.main_arg1))
      ∧ θ_run (Cert.ReferenceUqDwIdeal.defs (F := Ideal)) (onTc (τ := Cert.ReferenceUqDwIdeal.τ) (Cert.ReferenceUqDwIdeal.main (F := Ideal))) ⟨m', fun _ => 0, g'⟩ (fun r => ∀ c : Dev Cert.ReferenceUqDwIdeal.nD,
          r.2.mem ((c.tc : Thread Cert.ReferenceUqDwIdeal.nD Cert.ReferenceUqDwIdeal.τ).loc Cert.ReferenceUqDwIdeal.main_v4) = v0 c
          ∧ r.2.mem ((c.tc : Thread Cert.ReferenceUqDwIdeal.nD Cert.ReferenceUqDwIdeal.τ).loc Cert.ReferenceUqDwIdeal.main_arg0) = m' ((c.tc : Thread Cert.ReferenceUqDwIdeal.nD Cert.ReferenceUqDwIdeal.τ).loc Cert.ReferenceUqDwIdeal.main_arg0)
          ∧ r.2.mem ((c.tc : Thread Cert.ReferenceUqDwIdeal.nD Cert.ReferenceUqDwIdeal.τ).loc Cert.ReferenceUqDwIdeal.main_arg1) = m' ((c.tc : Thread Cert.ReferenceUqDwIdeal.nD Cert.ReferenceUqDwIdeal.τ).loc Cert.ReferenceUqDwIdeal.main_arg1))

def preserves_KernelUkvDx_KernelUkvDxIdeal : Prop :=
  True

def algebraic_KernelUkvDxIdeal_ReferenceUkvDxIdeal [hKernelUkvDxIdeal : Cert.KernelUkvDxIdeal.Facts] [hReferenceUkvDxIdeal : Cert.ReferenceUkvDxIdeal.Facts] : Prop :=
  ∀ (m : (ℓ : Loc Cert.KernelUkvDxIdeal.nD Cert.KernelUkvDxIdeal.τ Cert.KernelUkvDxIdeal.sig) → Buf (Elt Ideal) ℓ) (g : Dev Cert.KernelUkvDxIdeal.nD → PrngReg)
    (m' : (ℓ : Loc Cert.ReferenceUkvDxIdeal.nD Cert.ReferenceUkvDxIdeal.τ Cert.ReferenceUkvDxIdeal.sig) → Buf (Elt Ideal) ℓ) (g' : Dev Cert.ReferenceUkvDxIdeal.nD → PrngReg), Pre_KernelUkvDxIdeal m →
    (∀ c : Dev Cert.KernelUkvDxIdeal.nD,
      m' ((c.tc : Thread Cert.ReferenceUkvDxIdeal.nD Cert.ReferenceUkvDxIdeal.τ).loc Cert.ReferenceUkvDxIdeal.main_arg0) = m ((c.tc : Thread Cert.KernelUkvDxIdeal.nD Cert.KernelUkvDxIdeal.τ).loc Cert.KernelUkvDxIdeal.main_arg0)
      ∧ m' ((c.tc : Thread Cert.ReferenceUkvDxIdeal.nD Cert.ReferenceUkvDxIdeal.τ).loc Cert.ReferenceUkvDxIdeal.main_arg1) = m ((c.tc : Thread Cert.KernelUkvDxIdeal.nD Cert.KernelUkvDxIdeal.τ).loc Cert.KernelUkvDxIdeal.main_arg1)) →
    ∃ (v0 : (c : Dev Cert.KernelUkvDxIdeal.nD) → Buf (Elt Ideal) ((c.tc : Thread Cert.KernelUkvDxIdeal.nD Cert.KernelUkvDxIdeal.τ).loc Cert.KernelUkvDxIdeal.main_v1)),
      θ_run (Cert.KernelUkvDxIdeal.defs (F := Ideal)) (onTc (τ := Cert.KernelUkvDxIdeal.τ) (Cert.KernelUkvDxIdeal.main (F := Ideal))) ⟨m, fun _ => 0, g⟩ (fun r => ∀ c : Dev Cert.KernelUkvDxIdeal.nD,
          r.2.mem ((c.tc : Thread Cert.KernelUkvDxIdeal.nD Cert.KernelUkvDxIdeal.τ).loc Cert.KernelUkvDxIdeal.main_v1) = v0 c
          ∧ r.2.mem ((c.tc : Thread Cert.KernelUkvDxIdeal.nD Cert.KernelUkvDxIdeal.τ).loc Cert.KernelUkvDxIdeal.main_arg0) = m ((c.tc : Thread Cert.KernelUkvDxIdeal.nD Cert.KernelUkvDxIdeal.τ).loc Cert.KernelUkvDxIdeal.main_arg0)
          ∧ r.2.mem ((c.tc : Thread Cert.KernelUkvDxIdeal.nD Cert.KernelUkvDxIdeal.τ).loc Cert.KernelUkvDxIdeal.main_arg1) = m ((c.tc : Thread Cert.KernelUkvDxIdeal.nD Cert.KernelUkvDxIdeal.τ).loc Cert.KernelUkvDxIdeal.main_arg1))
      ∧ θ_run (Cert.ReferenceUkvDxIdeal.defs (F := Ideal)) (onTc (τ := Cert.ReferenceUkvDxIdeal.τ) (Cert.ReferenceUkvDxIdeal.main (F := Ideal))) ⟨m', fun _ => 0, g'⟩ (fun r => ∀ c : Dev Cert.ReferenceUkvDxIdeal.nD,
          r.2.mem ((c.tc : Thread Cert.ReferenceUkvDxIdeal.nD Cert.ReferenceUkvDxIdeal.τ).loc Cert.ReferenceUkvDxIdeal.main_v2) = v0 c
          ∧ r.2.mem ((c.tc : Thread Cert.ReferenceUkvDxIdeal.nD Cert.ReferenceUkvDxIdeal.τ).loc Cert.ReferenceUkvDxIdeal.main_arg0) = m' ((c.tc : Thread Cert.ReferenceUkvDxIdeal.nD Cert.ReferenceUkvDxIdeal.τ).loc Cert.ReferenceUkvDxIdeal.main_arg0)
          ∧ r.2.mem ((c.tc : Thread Cert.ReferenceUkvDxIdeal.nD Cert.ReferenceUkvDxIdeal.τ).loc Cert.ReferenceUkvDxIdeal.main_arg1) = m' ((c.tc : Thread Cert.ReferenceUkvDxIdeal.nD Cert.ReferenceUkvDxIdeal.τ).loc Cert.ReferenceUkvDxIdeal.main_arg1))

def preserves_KernelUkvDw_KernelUkvDwIdeal : Prop :=
  True

def algebraic_KernelUkvDwIdeal_ReferenceUkvDwIdeal [hKernelUkvDwIdeal : Cert.KernelUkvDwIdeal.Facts] [hReferenceUkvDwIdeal : Cert.ReferenceUkvDwIdeal.Facts] : Prop :=
  ∀ (m : (ℓ : Loc Cert.KernelUkvDwIdeal.nD Cert.KernelUkvDwIdeal.τ Cert.KernelUkvDwIdeal.sig) → Buf (Elt Ideal) ℓ) (g : Dev Cert.KernelUkvDwIdeal.nD → PrngReg)
    (m' : (ℓ : Loc Cert.ReferenceUkvDwIdeal.nD Cert.ReferenceUkvDwIdeal.τ Cert.ReferenceUkvDwIdeal.sig) → Buf (Elt Ideal) ℓ) (g' : Dev Cert.ReferenceUkvDwIdeal.nD → PrngReg), Pre_KernelUkvDwIdeal m →
    (∀ c : Dev Cert.KernelUkvDwIdeal.nD,
      m' ((c.tc : Thread Cert.ReferenceUkvDwIdeal.nD Cert.ReferenceUkvDwIdeal.τ).loc Cert.ReferenceUkvDwIdeal.main_arg0) = m ((c.tc : Thread Cert.KernelUkvDwIdeal.nD Cert.KernelUkvDwIdeal.τ).loc Cert.KernelUkvDwIdeal.main_arg0)
      ∧ m' ((c.tc : Thread Cert.ReferenceUkvDwIdeal.nD Cert.ReferenceUkvDwIdeal.τ).loc Cert.ReferenceUkvDwIdeal.main_arg1) = m ((c.tc : Thread Cert.KernelUkvDwIdeal.nD Cert.KernelUkvDwIdeal.τ).loc Cert.KernelUkvDwIdeal.main_arg1)) →
    ∃ (v0 : (c : Dev Cert.KernelUkvDwIdeal.nD) → Buf (Elt Ideal) ((c.tc : Thread Cert.KernelUkvDwIdeal.nD Cert.KernelUkvDwIdeal.τ).loc Cert.KernelUkvDwIdeal.main_v1)),
      θ_run (Cert.KernelUkvDwIdeal.defs (F := Ideal)) (onTc (τ := Cert.KernelUkvDwIdeal.τ) (Cert.KernelUkvDwIdeal.main (F := Ideal))) ⟨m, fun _ => 0, g⟩ (fun r => ∀ c : Dev Cert.KernelUkvDwIdeal.nD,
          r.2.mem ((c.tc : Thread Cert.KernelUkvDwIdeal.nD Cert.KernelUkvDwIdeal.τ).loc Cert.KernelUkvDwIdeal.main_v1) = v0 c
          ∧ r.2.mem ((c.tc : Thread Cert.KernelUkvDwIdeal.nD Cert.KernelUkvDwIdeal.τ).loc Cert.KernelUkvDwIdeal.main_arg0) = m ((c.tc : Thread Cert.KernelUkvDwIdeal.nD Cert.KernelUkvDwIdeal.τ).loc Cert.KernelUkvDwIdeal.main_arg0)
          ∧ r.2.mem ((c.tc : Thread Cert.KernelUkvDwIdeal.nD Cert.KernelUkvDwIdeal.τ).loc Cert.KernelUkvDwIdeal.main_arg1) = m ((c.tc : Thread Cert.KernelUkvDwIdeal.nD Cert.KernelUkvDwIdeal.τ).loc Cert.KernelUkvDwIdeal.main_arg1))
      ∧ θ_run (Cert.ReferenceUkvDwIdeal.defs (F := Ideal)) (onTc (τ := Cert.ReferenceUkvDwIdeal.τ) (Cert.ReferenceUkvDwIdeal.main (F := Ideal))) ⟨m', fun _ => 0, g'⟩ (fun r => ∀ c : Dev Cert.ReferenceUkvDwIdeal.nD,
          r.2.mem ((c.tc : Thread Cert.ReferenceUkvDwIdeal.nD Cert.ReferenceUkvDwIdeal.τ).loc Cert.ReferenceUkvDwIdeal.main_v4) = v0 c
          ∧ r.2.mem ((c.tc : Thread Cert.ReferenceUkvDwIdeal.nD Cert.ReferenceUkvDwIdeal.τ).loc Cert.ReferenceUkvDwIdeal.main_arg0) = m' ((c.tc : Thread Cert.ReferenceUkvDwIdeal.nD Cert.ReferenceUkvDwIdeal.τ).loc Cert.ReferenceUkvDwIdeal.main_arg0)
          ∧ r.2.mem ((c.tc : Thread Cert.ReferenceUkvDwIdeal.nD Cert.ReferenceUkvDwIdeal.τ).loc Cert.ReferenceUkvDwIdeal.main_arg1) = m' ((c.tc : Thread Cert.ReferenceUkvDwIdeal.nD Cert.ReferenceUkvDwIdeal.τ).loc Cert.ReferenceUkvDwIdeal.main_arg1))

def preserves_KernelAdaDw_KernelAdaDwIdeal : Prop :=
  True

def algebraic_KernelAdaDwIdeal_ReferenceAdaDwIdeal [hKernelAdaDwIdeal : Cert.KernelAdaDwIdeal.Facts] [hReferenceAdaDwIdeal : Cert.ReferenceAdaDwIdeal.Facts] : Prop :=
  ∀ (m : (ℓ : Loc Cert.KernelAdaDwIdeal.nD Cert.KernelAdaDwIdeal.τ Cert.KernelAdaDwIdeal.sig) → Buf (Elt Ideal) ℓ) (g : Dev Cert.KernelAdaDwIdeal.nD → PrngReg)
    (m' : (ℓ : Loc Cert.ReferenceAdaDwIdeal.nD Cert.ReferenceAdaDwIdeal.τ Cert.ReferenceAdaDwIdeal.sig) → Buf (Elt Ideal) ℓ) (g' : Dev Cert.ReferenceAdaDwIdeal.nD → PrngReg), Pre_KernelAdaDwIdeal m →
    (∀ c : Dev Cert.KernelAdaDwIdeal.nD,
      m' ((c.tc : Thread Cert.ReferenceAdaDwIdeal.nD Cert.ReferenceAdaDwIdeal.τ).loc Cert.ReferenceAdaDwIdeal.main_arg0) = m ((c.tc : Thread Cert.KernelAdaDwIdeal.nD Cert.KernelAdaDwIdeal.τ).loc Cert.KernelAdaDwIdeal.main_arg0)
      ∧ m' ((c.tc : Thread Cert.ReferenceAdaDwIdeal.nD Cert.ReferenceAdaDwIdeal.τ).loc Cert.ReferenceAdaDwIdeal.main_arg1) = m ((c.tc : Thread Cert.KernelAdaDwIdeal.nD Cert.KernelAdaDwIdeal.τ).loc Cert.KernelAdaDwIdeal.main_arg1)) →
    ∃ (v0 : (c : Dev Cert.KernelAdaDwIdeal.nD) → Buf (Elt Ideal) ((c.tc : Thread Cert.KernelAdaDwIdeal.nD Cert.KernelAdaDwIdeal.τ).loc Cert.KernelAdaDwIdeal.main_v0)),
      θ_run (Cert.KernelAdaDwIdeal.defs (F := Ideal)) (onTc (τ := Cert.KernelAdaDwIdeal.τ) (Cert.KernelAdaDwIdeal.main (F := Ideal))) ⟨m, fun _ => 0, g⟩ (fun r => ∀ c : Dev Cert.KernelAdaDwIdeal.nD,
          r.2.mem ((c.tc : Thread Cert.KernelAdaDwIdeal.nD Cert.KernelAdaDwIdeal.τ).loc Cert.KernelAdaDwIdeal.main_v0) = v0 c
          ∧ r.2.mem ((c.tc : Thread Cert.KernelAdaDwIdeal.nD Cert.KernelAdaDwIdeal.τ).loc Cert.KernelAdaDwIdeal.main_arg0) = m ((c.tc : Thread Cert.KernelAdaDwIdeal.nD Cert.KernelAdaDwIdeal.τ).loc Cert.KernelAdaDwIdeal.main_arg0)
          ∧ r.2.mem ((c.tc : Thread Cert.KernelAdaDwIdeal.nD Cert.KernelAdaDwIdeal.τ).loc Cert.KernelAdaDwIdeal.main_arg1) = m ((c.tc : Thread Cert.KernelAdaDwIdeal.nD Cert.KernelAdaDwIdeal.τ).loc Cert.KernelAdaDwIdeal.main_arg1))
      ∧ θ_run (Cert.ReferenceAdaDwIdeal.defs (F := Ideal)) (onTc (τ := Cert.ReferenceAdaDwIdeal.τ) (Cert.ReferenceAdaDwIdeal.main (F := Ideal))) ⟨m', fun _ => 0, g'⟩ (fun r => ∀ c : Dev Cert.ReferenceAdaDwIdeal.nD,
          r.2.mem ((c.tc : Thread Cert.ReferenceAdaDwIdeal.nD Cert.ReferenceAdaDwIdeal.τ).loc Cert.ReferenceAdaDwIdeal.main_v3) = v0 c
          ∧ r.2.mem ((c.tc : Thread Cert.ReferenceAdaDwIdeal.nD Cert.ReferenceAdaDwIdeal.τ).loc Cert.ReferenceAdaDwIdeal.main_arg0) = m' ((c.tc : Thread Cert.ReferenceAdaDwIdeal.nD Cert.ReferenceAdaDwIdeal.τ).loc Cert.ReferenceAdaDwIdeal.main_arg0)
          ∧ r.2.mem ((c.tc : Thread Cert.ReferenceAdaDwIdeal.nD Cert.ReferenceAdaDwIdeal.τ).loc Cert.ReferenceAdaDwIdeal.main_arg1) = m' ((c.tc : Thread Cert.ReferenceAdaDwIdeal.nD Cert.ReferenceAdaDwIdeal.τ).loc Cert.ReferenceAdaDwIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v0) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v1) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v0) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)) →
    ∃ (v0 : (c : Dev Cert.KernelUqIdeal.nD) → Buf (Elt Ideal) ((c.tc : Thread Cert.KernelUqIdeal.nD Cert.KernelUqIdeal.τ).loc Cert.KernelUqIdeal.main_v2)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v2) = v0 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v0) = v0 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1))

def preserves_KernelUkv_KernelUkvIdeal : Prop :=
  True

def algebraic_KernelUkvIdeal_ReferenceUkvIdeal [hKernelUkvIdeal : Cert.KernelUkvIdeal.Facts] [hReferenceUkvIdeal : Cert.ReferenceUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg)
    (m' : (ℓ : Loc Cert.ReferenceUkvIdeal.nD Cert.ReferenceUkvIdeal.τ Cert.ReferenceUkvIdeal.sig) → Buf (Elt Ideal) ℓ) (g' : Dev Cert.ReferenceUkvIdeal.nD → PrngReg), Pre_KernelUkvIdeal m →
    (∀ c : Dev Cert.KernelUkvIdeal.nD,
      m' ((c.tc : Thread Cert.ReferenceUkvIdeal.nD Cert.ReferenceUkvIdeal.τ).loc Cert.ReferenceUkvIdeal.main_arg0) = m ((c.tc : Thread Cert.KernelUkvIdeal.nD Cert.KernelUkvIdeal.τ).loc Cert.KernelUkvIdeal.main_arg0)
      ∧ m' ((c.tc : Thread Cert.ReferenceUkvIdeal.nD Cert.ReferenceUkvIdeal.τ).loc Cert.ReferenceUkvIdeal.main_arg1) = m ((c.tc : Thread Cert.KernelUkvIdeal.nD Cert.KernelUkvIdeal.τ).loc Cert.KernelUkvIdeal.main_arg1)) →
    ∃ (v0 : (c : Dev Cert.KernelUkvIdeal.nD) → Buf (Elt Ideal) ((c.tc : Thread Cert.KernelUkvIdeal.nD Cert.KernelUkvIdeal.τ).loc Cert.KernelUkvIdeal.main_v2)),
      θ_run (Cert.KernelUkvIdeal.defs (F := Ideal)) (onTc (τ := Cert.KernelUkvIdeal.τ) (Cert.KernelUkvIdeal.main (F := Ideal))) ⟨m, fun _ => 0, g⟩ (fun r => ∀ c : Dev Cert.KernelUkvIdeal.nD,
          r.2.mem ((c.tc : Thread Cert.KernelUkvIdeal.nD Cert.KernelUkvIdeal.τ).loc Cert.KernelUkvIdeal.main_v2) = v0 c
          ∧ r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
          ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ θ_run (Cert.ReferenceUkvIdeal.defs (F := Ideal)) (onTc (τ := Cert.ReferenceUkvIdeal.τ) (Cert.ReferenceUkvIdeal.main (F := Ideal))) ⟨m', fun _ => 0, g'⟩ (fun r => ∀ c : Dev Cert.ReferenceUkvIdeal.nD,
          r.2.mem ((c.tc : Thread Cert.ReferenceUkvIdeal.nD Cert.ReferenceUkvIdeal.τ).loc Cert.ReferenceUkvIdeal.main_v0) = v0 c
          ∧ r.2.mem ((c.tc : Thread Cert.ReferenceUkvIdeal.nD Cert.ReferenceUkvIdeal.τ).loc Cert.ReferenceUkvIdeal.main_arg0) = m' ((c.tc : Thread Cert.ReferenceUkvIdeal.nD Cert.ReferenceUkvIdeal.τ).loc Cert.ReferenceUkvIdeal.main_arg0)
          ∧ r.2.mem ((c.tc : Thread Cert.ReferenceUkvIdeal.nD Cert.ReferenceUkvIdeal.τ).loc Cert.ReferenceUkvIdeal.main_arg1) = m' ((c.tc : Thread Cert.ReferenceUkvIdeal.nD Cert.ReferenceUkvIdeal.τ).loc Cert.ReferenceUkvIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v0) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v0) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v0)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v0) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v0_0)) (v1 : (c : Dev Cert.KernelConvIdeal.nD) → Buf (Elt Ideal) ((c.tc : Thread Cert.KernelConvIdeal.nD Cert.KernelConvIdeal.τ).loc Cert.KernelConvIdeal.main_v0_1)) (v2 : (c : Dev Cert.KernelConvIdeal.nD) → Buf (Elt Ideal) ((c.tc : Thread Cert.KernelConvIdeal.nD Cert.KernelConvIdeal.τ).loc Cert.KernelConvIdeal.main_v0_2)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0_0) = v0 c
          ∧ r.2.mem ((c.tc : Thread Cert.KernelConvIdeal.nD Cert.KernelConvIdeal.τ).loc Cert.KernelConvIdeal.main_v0_1) = v1 c
          ∧ r.2.mem ((c.tc : Thread Cert.KernelConvIdeal.nD Cert.KernelConvIdeal.τ).loc Cert.KernelConvIdeal.main_v0_2) = v2 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v109) = v0 c
          ∧ r.2.mem ((c.tc : Thread Cert.ReferenceConvIdeal.nD Cert.ReferenceConvIdeal.τ).loc Cert.ReferenceConvIdeal.main_v104) = v1 c
          ∧ r.2.mem ((c.tc : Thread Cert.ReferenceConvIdeal.nD Cert.ReferenceConvIdeal.τ).loc Cert.ReferenceConvIdeal.main_v95) = v2 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v44) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelQn_KernelQnIdeal : Prop :=
  True

def algebraic_KernelQnIdeal_ReferenceQnIdeal [hKernelQnIdeal : Cert.KernelQnIdeal.Facts] [hReferenceQnIdeal : Cert.ReferenceQnIdeal.Facts] : Prop :=
  ∀ (m : (ℓ : Loc Cert.KernelQnIdeal.nD Cert.KernelQnIdeal.τ Cert.KernelQnIdeal.sig) → Buf (Elt Ideal) ℓ) (g : Dev Cert.KernelQnIdeal.nD → PrngReg)
    (m' : (ℓ : Loc Cert.ReferenceQnIdeal.nD Cert.ReferenceQnIdeal.τ Cert.ReferenceQnIdeal.sig) → Buf (Elt Ideal) ℓ) (g' : Dev Cert.ReferenceQnIdeal.nD → PrngReg), Pre_KernelQnIdeal m →
    (∀ c : Dev Cert.KernelQnIdeal.nD,
      m' ((c.tc : Thread Cert.ReferenceQnIdeal.nD Cert.ReferenceQnIdeal.τ).loc Cert.ReferenceQnIdeal.main_arg0) = m ((c.tc : Thread Cert.KernelQnIdeal.nD Cert.KernelQnIdeal.τ).loc Cert.KernelQnIdeal.main_arg0)
      ∧ m' ((c.tc : Thread Cert.ReferenceQnIdeal.nD Cert.ReferenceQnIdeal.τ).loc Cert.ReferenceQnIdeal.main_arg1) = m ((c.tc : Thread Cert.KernelQnIdeal.nD Cert.KernelQnIdeal.τ).loc Cert.KernelQnIdeal.main_arg1)
      ∧ m' ((c.tc : Thread Cert.ReferenceQnIdeal.nD Cert.ReferenceQnIdeal.τ).loc Cert.ReferenceQnIdeal.main_arg2) = m ((c.tc : Thread Cert.KernelQnIdeal.nD Cert.KernelQnIdeal.τ).loc Cert.KernelQnIdeal.main_arg2)) →
    ∃ (v0 : (c : Dev Cert.KernelQnIdeal.nD) → Buf (Elt Ideal) ((c.tc : Thread Cert.KernelQnIdeal.nD Cert.KernelQnIdeal.τ).loc Cert.KernelQnIdeal.main_v0_0)) (v1 : (c : Dev Cert.KernelQnIdeal.nD) → Buf (Elt Ideal) ((c.tc : Thread Cert.KernelQnIdeal.nD Cert.KernelQnIdeal.τ).loc Cert.KernelQnIdeal.main_v0_1)),
      θ_run (Cert.KernelQnIdeal.defs (F := Ideal)) (onTc (τ := Cert.KernelQnIdeal.τ) (Cert.KernelQnIdeal.main (F := Ideal))) ⟨m, fun _ => 0, g⟩ (fun r => ∀ c : Dev Cert.KernelQnIdeal.nD,
          r.2.mem ((c.tc : Thread Cert.KernelQnIdeal.nD Cert.KernelQnIdeal.τ).loc Cert.KernelQnIdeal.main_v0_0) = v0 c
          ∧ r.2.mem ((c.tc : Thread Cert.KernelQnIdeal.nD Cert.KernelQnIdeal.τ).loc Cert.KernelQnIdeal.main_v0_1) = v1 c
          ∧ r.2.mem ((c.tc : Thread Cert.KernelQnIdeal.nD Cert.KernelQnIdeal.τ).loc Cert.KernelQnIdeal.main_arg0) = m ((c.tc : Thread Cert.KernelQnIdeal.nD Cert.KernelQnIdeal.τ).loc Cert.KernelQnIdeal.main_arg0)
          ∧ r.2.mem ((c.tc : Thread Cert.KernelQnIdeal.nD Cert.KernelQnIdeal.τ).loc Cert.KernelQnIdeal.main_arg1) = m ((c.tc : Thread Cert.KernelQnIdeal.nD Cert.KernelQnIdeal.τ).loc Cert.KernelQnIdeal.main_arg1)
          ∧ r.2.mem ((c.tc : Thread Cert.KernelQnIdeal.nD Cert.KernelQnIdeal.τ).loc Cert.KernelQnIdeal.main_arg2) = m ((c.tc : Thread Cert.KernelQnIdeal.nD Cert.KernelQnIdeal.τ).loc Cert.KernelQnIdeal.main_arg2))
      ∧ θ_run (Cert.ReferenceQnIdeal.defs (F := Ideal)) (onTc (τ := Cert.ReferenceQnIdeal.τ) (Cert.ReferenceQnIdeal.main (F := Ideal))) ⟨m', fun _ => 0, g'⟩ (fun r => ∀ c : Dev Cert.ReferenceQnIdeal.nD,
          r.2.mem ((c.tc : Thread Cert.ReferenceQnIdeal.nD Cert.ReferenceQnIdeal.τ).loc Cert.ReferenceQnIdeal.main_v34) = v0 c
          ∧ r.2.mem ((c.tc : Thread Cert.ReferenceQnIdeal.nD Cert.ReferenceQnIdeal.τ).loc Cert.ReferenceQnIdeal.main_v18) = v1 c
          ∧ r.2.mem ((c.tc : Thread Cert.ReferenceQnIdeal.nD Cert.ReferenceQnIdeal.τ).loc Cert.ReferenceQnIdeal.main_arg0) = m' ((c.tc : Thread Cert.ReferenceQnIdeal.nD Cert.ReferenceQnIdeal.τ).loc Cert.ReferenceQnIdeal.main_arg0)
          ∧ r.2.mem ((c.tc : Thread Cert.ReferenceQnIdeal.nD Cert.ReferenceQnIdeal.τ).loc Cert.ReferenceQnIdeal.main_arg1) = m' ((c.tc : Thread Cert.ReferenceQnIdeal.nD Cert.ReferenceQnIdeal.τ).loc Cert.ReferenceQnIdeal.main_arg1)
          ∧ r.2.mem ((c.tc : Thread Cert.ReferenceQnIdeal.nD Cert.ReferenceQnIdeal.τ).loc Cert.ReferenceQnIdeal.main_arg2) = m' ((c.tc : Thread Cert.ReferenceQnIdeal.nD Cert.ReferenceQnIdeal.τ).loc Cert.ReferenceQnIdeal.main_arg2))

def preserves_KernelKvn_KernelKvnIdeal : Prop :=
  True

def algebraic_KernelKvnIdeal_ReferenceKvnIdeal [hKernelKvnIdeal : Cert.KernelKvnIdeal.Facts] [hReferenceKvnIdeal : Cert.ReferenceKvnIdeal.Facts] : Prop :=
  ∀ (m : (ℓ : Loc Cert.KernelKvnIdeal.nD Cert.KernelKvnIdeal.τ Cert.KernelKvnIdeal.sig) → Buf (Elt Ideal) ℓ) (g : Dev Cert.KernelKvnIdeal.nD → PrngReg)
    (m' : (ℓ : Loc Cert.ReferenceKvnIdeal.nD Cert.ReferenceKvnIdeal.τ Cert.ReferenceKvnIdeal.sig) → Buf (Elt Ideal) ℓ) (g' : Dev Cert.ReferenceKvnIdeal.nD → PrngReg), Pre_KernelKvnIdeal m →
    (∀ c : Dev Cert.KernelKvnIdeal.nD,
      m' ((c.tc : Thread Cert.ReferenceKvnIdeal.nD Cert.ReferenceKvnIdeal.τ).loc Cert.ReferenceKvnIdeal.main_arg0) = m ((c.tc : Thread Cert.KernelKvnIdeal.nD Cert.KernelKvnIdeal.τ).loc Cert.KernelKvnIdeal.main_arg0)
      ∧ m' ((c.tc : Thread Cert.ReferenceKvnIdeal.nD Cert.ReferenceKvnIdeal.τ).loc Cert.ReferenceKvnIdeal.main_arg1) = m ((c.tc : Thread Cert.KernelKvnIdeal.nD Cert.KernelKvnIdeal.τ).loc Cert.KernelKvnIdeal.main_arg1)
      ∧ m' ((c.tc : Thread Cert.ReferenceKvnIdeal.nD Cert.ReferenceKvnIdeal.τ).loc Cert.ReferenceKvnIdeal.main_arg2) = m ((c.tc : Thread Cert.KernelKvnIdeal.nD Cert.KernelKvnIdeal.τ).loc Cert.KernelKvnIdeal.main_arg2)) →
    ∃ (v0 : (c : Dev Cert.KernelKvnIdeal.nD) → Buf (Elt Ideal) ((c.tc : Thread Cert.KernelKvnIdeal.nD Cert.KernelKvnIdeal.τ).loc Cert.KernelKvnIdeal.main_v0_0)) (v1 : (c : Dev Cert.KernelKvnIdeal.nD) → Buf (Elt Ideal) ((c.tc : Thread Cert.KernelKvnIdeal.nD Cert.KernelKvnIdeal.τ).loc Cert.KernelKvnIdeal.main_v0_1)),
      θ_run (Cert.KernelKvnIdeal.defs (F := Ideal)) (onTc (τ := Cert.KernelKvnIdeal.τ) (Cert.KernelKvnIdeal.main (F := Ideal))) ⟨m, fun _ => 0, g⟩ (fun r => ∀ c : Dev Cert.KernelKvnIdeal.nD,
          r.2.mem ((c.tc : Thread Cert.KernelKvnIdeal.nD Cert.KernelKvnIdeal.τ).loc Cert.KernelKvnIdeal.main_v0_0) = v0 c
          ∧ r.2.mem ((c.tc : Thread Cert.KernelKvnIdeal.nD Cert.KernelKvnIdeal.τ).loc Cert.KernelKvnIdeal.main_v0_1) = v1 c
          ∧ r.2.mem ((c.tc : Thread Cert.KernelKvnIdeal.nD Cert.KernelKvnIdeal.τ).loc Cert.KernelKvnIdeal.main_arg0) = m ((c.tc : Thread Cert.KernelKvnIdeal.nD Cert.KernelKvnIdeal.τ).loc Cert.KernelKvnIdeal.main_arg0)
          ∧ r.2.mem ((c.tc : Thread Cert.KernelKvnIdeal.nD Cert.KernelKvnIdeal.τ).loc Cert.KernelKvnIdeal.main_arg1) = m ((c.tc : Thread Cert.KernelKvnIdeal.nD Cert.KernelKvnIdeal.τ).loc Cert.KernelKvnIdeal.main_arg1)
          ∧ r.2.mem ((c.tc : Thread Cert.KernelKvnIdeal.nD Cert.KernelKvnIdeal.τ).loc Cert.KernelKvnIdeal.main_arg2) = m ((c.tc : Thread Cert.KernelKvnIdeal.nD Cert.KernelKvnIdeal.τ).loc Cert.KernelKvnIdeal.main_arg2))
      ∧ θ_run (Cert.ReferenceKvnIdeal.defs (F := Ideal)) (onTc (τ := Cert.ReferenceKvnIdeal.τ) (Cert.ReferenceKvnIdeal.main (F := Ideal))) ⟨m', fun _ => 0, g'⟩ (fun r => ∀ c : Dev Cert.ReferenceKvnIdeal.nD,
          r.2.mem ((c.tc : Thread Cert.ReferenceKvnIdeal.nD Cert.ReferenceKvnIdeal.τ).loc Cert.ReferenceKvnIdeal.main_v34) = v0 c
          ∧ r.2.mem ((c.tc : Thread Cert.ReferenceKvnIdeal.nD Cert.ReferenceKvnIdeal.τ).loc Cert.ReferenceKvnIdeal.main_v18) = v1 c
          ∧ r.2.mem ((c.tc : Thread Cert.ReferenceKvnIdeal.nD Cert.ReferenceKvnIdeal.τ).loc Cert.ReferenceKvnIdeal.main_arg0) = m' ((c.tc : Thread Cert.ReferenceKvnIdeal.nD Cert.ReferenceKvnIdeal.τ).loc Cert.ReferenceKvnIdeal.main_arg0)
          ∧ r.2.mem ((c.tc : Thread Cert.ReferenceKvnIdeal.nD Cert.ReferenceKvnIdeal.τ).loc Cert.ReferenceKvnIdeal.main_arg1) = m' ((c.tc : Thread Cert.ReferenceKvnIdeal.nD Cert.ReferenceKvnIdeal.τ).loc Cert.ReferenceKvnIdeal.main_arg1)
          ∧ r.2.mem ((c.tc : Thread Cert.ReferenceKvnIdeal.nD Cert.ReferenceKvnIdeal.τ).loc Cert.ReferenceKvnIdeal.main_arg2) = m' ((c.tc : Thread Cert.ReferenceKvnIdeal.nD Cert.ReferenceKvnIdeal.τ).loc Cert.ReferenceKvnIdeal.main_arg2))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)) →
    ∃ (v0 : (c : Dev Cert.KernelPostIdeal.nD) → Buf (Elt Ideal) ((c.tc : Thread Cert.KernelPostIdeal.nD Cert.KernelPostIdeal.τ).loc Cert.KernelPostIdeal.main_v0_0)) (v1 : (c : Dev Cert.KernelPostIdeal.nD) → Buf (Elt Ideal) ((c.tc : Thread Cert.KernelPostIdeal.nD Cert.KernelPostIdeal.τ).loc Cert.KernelPostIdeal.main_v0_1)) (v2 : (c : Dev Cert.KernelPostIdeal.nD) → Buf (Elt Ideal) ((c.tc : Thread Cert.KernelPostIdeal.nD Cert.KernelPostIdeal.τ).loc Cert.KernelPostIdeal.main_v0_2)) (v3 : (c : Dev Cert.KernelPostIdeal.nD) → Buf (Elt Ideal) ((c.tc : Thread Cert.KernelPostIdeal.nD Cert.KernelPostIdeal.τ).loc Cert.KernelPostIdeal.main_v0_3)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0_0) = v0 c
          ∧ r.2.mem ((c.tc : Thread Cert.KernelPostIdeal.nD Cert.KernelPostIdeal.τ).loc Cert.KernelPostIdeal.main_v0_1) = v1 c
          ∧ r.2.mem ((c.tc : Thread Cert.KernelPostIdeal.nD Cert.KernelPostIdeal.τ).loc Cert.KernelPostIdeal.main_v0_2) = v2 c
          ∧ r.2.mem ((c.tc : Thread Cert.KernelPostIdeal.nD Cert.KernelPostIdeal.τ).loc Cert.KernelPostIdeal.main_v0_3) = v3 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_arg4) = v0 c
          ∧ r.2.mem ((c.tc : Thread Cert.ReferencePostIdeal.nD Cert.ReferencePostIdeal.τ).loc Cert.ReferencePostIdeal.main_v42) = v1 c
          ∧ r.2.mem ((c.tc : Thread Cert.ReferencePostIdeal.nD Cert.ReferencePostIdeal.τ).loc Cert.ReferencePostIdeal.main_v26) = v2 c
          ∧ r.2.mem ((c.tc : Thread Cert.ReferencePostIdeal.nD Cert.ReferencePostIdeal.τ).loc Cert.ReferencePostIdeal.main_v23) = v3 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)
      ∧ m' ((c.tc : Thread Cert.ReferencePreIdeal.nD Cert.ReferencePreIdeal.τ).loc Cert.ReferencePreIdeal.main_arg4) = m ((c.tc : Thread Cert.KernelPreIdeal.nD Cert.KernelPreIdeal.τ).loc Cert.KernelPreIdeal.main_arg4)
      ∧ m' ((c.tc : Thread Cert.ReferencePreIdeal.nD Cert.ReferencePreIdeal.τ).loc Cert.ReferencePreIdeal.main_arg5) = m ((c.tc : Thread Cert.KernelPreIdeal.nD Cert.KernelPreIdeal.τ).loc Cert.KernelPreIdeal.main_arg5)) →
    ∃ (v0 : (c : Dev Cert.KernelPreIdeal.nD) → Buf (Elt Ideal) ((c.tc : Thread Cert.KernelPreIdeal.nD Cert.KernelPreIdeal.τ).loc Cert.KernelPreIdeal.main_v0_0)) (v1 : (c : Dev Cert.KernelPreIdeal.nD) → Buf (Elt Ideal) ((c.tc : Thread Cert.KernelPreIdeal.nD Cert.KernelPreIdeal.τ).loc Cert.KernelPreIdeal.main_v0_1)) (v2 : (c : Dev Cert.KernelPreIdeal.nD) → Buf (Elt Ideal) ((c.tc : Thread Cert.KernelPreIdeal.nD Cert.KernelPreIdeal.τ).loc Cert.KernelPreIdeal.main_v0_2)) (v3 : (c : Dev Cert.KernelPreIdeal.nD) → Buf (Elt Ideal) ((c.tc : Thread Cert.KernelPreIdeal.nD Cert.KernelPreIdeal.τ).loc Cert.KernelPreIdeal.main_v0_3)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0_0) = v0 c
          ∧ r.2.mem ((c.tc : Thread Cert.KernelPreIdeal.nD Cert.KernelPreIdeal.τ).loc Cert.KernelPreIdeal.main_v0_1) = v1 c
          ∧ r.2.mem ((c.tc : Thread Cert.KernelPreIdeal.nD Cert.KernelPreIdeal.τ).loc Cert.KernelPreIdeal.main_v0_2) = v2 c
          ∧ r.2.mem ((c.tc : Thread Cert.KernelPreIdeal.nD Cert.KernelPreIdeal.τ).loc Cert.KernelPreIdeal.main_v0_3) = v3 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
          ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
          ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v48) = v0 c
          ∧ r.2.mem ((c.tc : Thread Cert.ReferencePreIdeal.nD Cert.ReferencePreIdeal.τ).loc Cert.ReferencePreIdeal.main_v31) = v1 c
          ∧ r.2.mem ((c.tc : Thread Cert.ReferencePreIdeal.nD Cert.ReferencePreIdeal.τ).loc Cert.ReferencePreIdeal.main_v26) = v2 c
          ∧ r.2.mem ((c.tc : Thread Cert.ReferencePreIdeal.nD Cert.ReferencePreIdeal.τ).loc Cert.ReferencePreIdeal.main_v23) = v3 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4)
          ∧ r.2.mem ((c.tc : Thread Cert.ReferencePreIdeal.nD Cert.ReferencePreIdeal.τ).loc Cert.ReferencePreIdeal.main_arg5) = m' ((c.tc : Thread Cert.ReferencePreIdeal.nD Cert.ReferencePreIdeal.τ).loc Cert.ReferencePreIdeal.main_arg5))

def preserves_KernelSig_KernelSigIdeal : Prop :=
  True

def algebraic_KernelSigIdeal_ReferenceSigIdeal [hKernelSigIdeal : Cert.KernelSigIdeal.Facts] [hReferenceSigIdeal : Cert.ReferenceSigIdeal.Facts] : Prop :=
  ∀ (m : (ℓ : Loc Cert.KernelSigIdeal.nD Cert.KernelSigIdeal.τ Cert.KernelSigIdeal.sig) → Buf (Elt Ideal) ℓ) (g : Dev Cert.KernelSigIdeal.nD → PrngReg)
    (m' : (ℓ : Loc Cert.ReferenceSigIdeal.nD Cert.ReferenceSigIdeal.τ Cert.ReferenceSigIdeal.sig) → Buf (Elt Ideal) ℓ) (g' : Dev Cert.ReferenceSigIdeal.nD → PrngReg), Pre_KernelSigIdeal m →
    (∀ c : Dev Cert.KernelSigIdeal.nD,
      m' ((c.tc : Thread Cert.ReferenceSigIdeal.nD Cert.ReferenceSigIdeal.τ).loc Cert.ReferenceSigIdeal.main_arg0) = m ((c.tc : Thread Cert.KernelSigIdeal.nD Cert.KernelSigIdeal.τ).loc Cert.KernelSigIdeal.main_arg0)
      ∧ m' ((c.tc : Thread Cert.ReferenceSigIdeal.nD Cert.ReferenceSigIdeal.τ).loc Cert.ReferenceSigIdeal.main_arg1) = m ((c.tc : Thread Cert.KernelSigIdeal.nD Cert.KernelSigIdeal.τ).loc Cert.KernelSigIdeal.main_arg1)
      ∧ m' ((c.tc : Thread Cert.ReferenceSigIdeal.nD Cert.ReferenceSigIdeal.τ).loc Cert.ReferenceSigIdeal.main_arg2) = m ((c.tc : Thread Cert.KernelSigIdeal.nD Cert.KernelSigIdeal.τ).loc Cert.KernelSigIdeal.main_arg2)) →
    ∃ (v0 : (c : Dev Cert.KernelSigIdeal.nD) → Buf (Elt Ideal) ((c.tc : Thread Cert.KernelSigIdeal.nD Cert.KernelSigIdeal.τ).loc Cert.KernelSigIdeal.main_v0_0)) (v1 : (c : Dev Cert.KernelSigIdeal.nD) → Buf (Elt Ideal) ((c.tc : Thread Cert.KernelSigIdeal.nD Cert.KernelSigIdeal.τ).loc Cert.KernelSigIdeal.main_v0_1)),
      θ_run (Cert.KernelSigIdeal.defs (F := Ideal)) (onTc (τ := Cert.KernelSigIdeal.τ) (Cert.KernelSigIdeal.main (F := Ideal))) ⟨m, fun _ => 0, g⟩ (fun r => ∀ c : Dev Cert.KernelSigIdeal.nD,
          r.2.mem ((c.tc : Thread Cert.KernelSigIdeal.nD Cert.KernelSigIdeal.τ).loc Cert.KernelSigIdeal.main_v0_0) = v0 c
          ∧ r.2.mem ((c.tc : Thread Cert.KernelSigIdeal.nD Cert.KernelSigIdeal.τ).loc Cert.KernelSigIdeal.main_v0_1) = v1 c
          ∧ r.2.mem ((c.tc : Thread Cert.KernelSigIdeal.nD Cert.KernelSigIdeal.τ).loc Cert.KernelSigIdeal.main_arg0) = m ((c.tc : Thread Cert.KernelSigIdeal.nD Cert.KernelSigIdeal.τ).loc Cert.KernelSigIdeal.main_arg0)
          ∧ r.2.mem ((c.tc : Thread Cert.KernelSigIdeal.nD Cert.KernelSigIdeal.τ).loc Cert.KernelSigIdeal.main_arg1) = m ((c.tc : Thread Cert.KernelSigIdeal.nD Cert.KernelSigIdeal.τ).loc Cert.KernelSigIdeal.main_arg1)
          ∧ r.2.mem ((c.tc : Thread Cert.KernelSigIdeal.nD Cert.KernelSigIdeal.τ).loc Cert.KernelSigIdeal.main_arg2) = m ((c.tc : Thread Cert.KernelSigIdeal.nD Cert.KernelSigIdeal.τ).loc Cert.KernelSigIdeal.main_arg2))
      ∧ θ_run (Cert.ReferenceSigIdeal.defs (F := Ideal)) (onTc (τ := Cert.ReferenceSigIdeal.τ) (Cert.ReferenceSigIdeal.main (F := Ideal))) ⟨m', fun _ => 0, g'⟩ (fun r => ∀ c : Dev Cert.ReferenceSigIdeal.nD,
          r.2.mem ((c.tc : Thread Cert.ReferenceSigIdeal.nD Cert.ReferenceSigIdeal.τ).loc Cert.ReferenceSigIdeal.main_v12) = v0 c
          ∧ r.2.mem ((c.tc : Thread Cert.ReferenceSigIdeal.nD Cert.ReferenceSigIdeal.τ).loc Cert.ReferenceSigIdeal.main_v13) = v1 c
          ∧ r.2.mem ((c.tc : Thread Cert.ReferenceSigIdeal.nD Cert.ReferenceSigIdeal.τ).loc Cert.ReferenceSigIdeal.main_arg0) = m' ((c.tc : Thread Cert.ReferenceSigIdeal.nD Cert.ReferenceSigIdeal.τ).loc Cert.ReferenceSigIdeal.main_arg0)
          ∧ r.2.mem ((c.tc : Thread Cert.ReferenceSigIdeal.nD Cert.ReferenceSigIdeal.τ).loc Cert.ReferenceSigIdeal.main_arg1) = m' ((c.tc : Thread Cert.ReferenceSigIdeal.nD Cert.ReferenceSigIdeal.τ).loc Cert.ReferenceSigIdeal.main_arg1)
          ∧ r.2.mem ((c.tc : Thread Cert.ReferenceSigIdeal.nD Cert.ReferenceSigIdeal.τ).loc Cert.ReferenceSigIdeal.main_arg2) = m' ((c.tc : Thread Cert.ReferenceSigIdeal.nD Cert.ReferenceSigIdeal.τ).loc Cert.ReferenceSigIdeal.main_arg2))

def preserves_KernelGelu_KernelGeluIdeal : Prop :=
  True

def algebraic_KernelGeluIdeal_ReferenceGeluIdeal [hKernelGeluIdeal : Cert.KernelGeluIdeal.Facts] [hReferenceGeluIdeal : Cert.ReferenceGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg)
    (m' : (ℓ : Loc Cert.ReferenceGeluIdeal.nD Cert.ReferenceGeluIdeal.τ Cert.ReferenceGeluIdeal.sig) → Buf (Elt Ideal) ℓ) (g' : Dev Cert.ReferenceGeluIdeal.nD → PrngReg), Pre_KernelGeluIdeal m →
    (∀ c : Dev Cert.KernelGeluIdeal.nD,
      m' ((c.tc : Thread Cert.ReferenceGeluIdeal.nD Cert.ReferenceGeluIdeal.τ).loc Cert.ReferenceGeluIdeal.main_arg0) = m ((c.tc : Thread Cert.KernelGeluIdeal.nD Cert.KernelGeluIdeal.τ).loc Cert.KernelGeluIdeal.main_arg0)
      ∧ m' ((c.tc : Thread Cert.ReferenceGeluIdeal.nD Cert.ReferenceGeluIdeal.τ).loc Cert.ReferenceGeluIdeal.main_arg1) = m ((c.tc : Thread Cert.KernelGeluIdeal.nD Cert.KernelGeluIdeal.τ).loc Cert.KernelGeluIdeal.main_arg1)
      ∧ m' ((c.tc : Thread Cert.ReferenceGeluIdeal.nD Cert.ReferenceGeluIdeal.τ).loc Cert.ReferenceGeluIdeal.main_arg2) = m ((c.tc : Thread Cert.KernelGeluIdeal.nD Cert.KernelGeluIdeal.τ).loc Cert.KernelGeluIdeal.main_arg2)
      ∧ m' ((c.tc : Thread Cert.ReferenceGeluIdeal.nD Cert.ReferenceGeluIdeal.τ).loc Cert.ReferenceGeluIdeal.main_arg3) = m ((c.tc : Thread Cert.KernelGeluIdeal.nD Cert.KernelGeluIdeal.τ).loc Cert.KernelGeluIdeal.main_arg3)
      ∧ m' ((c.tc : Thread Cert.ReferenceGeluIdeal.nD Cert.ReferenceGeluIdeal.τ).loc Cert.ReferenceGeluIdeal.main_arg4) = m ((c.tc : Thread Cert.KernelGeluIdeal.nD Cert.KernelGeluIdeal.τ).loc Cert.KernelGeluIdeal.main_arg4)) →
    ∃ (v0 : (c : Dev Cert.KernelGeluIdeal.nD) → Buf (Elt Ideal) ((c.tc : Thread Cert.KernelGeluIdeal.nD Cert.KernelGeluIdeal.τ).loc Cert.KernelGeluIdeal.main_v0_0)) (v1 : (c : Dev Cert.KernelGeluIdeal.nD) → Buf (Elt Ideal) ((c.tc : Thread Cert.KernelGeluIdeal.nD Cert.KernelGeluIdeal.τ).loc Cert.KernelGeluIdeal.main_v0_1)) (v2 : (c : Dev Cert.KernelGeluIdeal.nD) → Buf (Elt Ideal) ((c.tc : Thread Cert.KernelGeluIdeal.nD Cert.KernelGeluIdeal.τ).loc Cert.KernelGeluIdeal.main_v0_2)),
      θ_run (Cert.KernelGeluIdeal.defs (F := Ideal)) (onTc (τ := Cert.KernelGeluIdeal.τ) (Cert.KernelGeluIdeal.main (F := Ideal))) ⟨m, fun _ => 0, g⟩ (fun r => ∀ c : Dev Cert.KernelGeluIdeal.nD,
          r.2.mem ((c.tc : Thread Cert.KernelGeluIdeal.nD Cert.KernelGeluIdeal.τ).loc Cert.KernelGeluIdeal.main_v0_0) = v0 c
          ∧ r.2.mem ((c.tc : Thread Cert.KernelGeluIdeal.nD Cert.KernelGeluIdeal.τ).loc Cert.KernelGeluIdeal.main_v0_1) = v1 c
          ∧ r.2.mem ((c.tc : Thread Cert.KernelGeluIdeal.nD Cert.KernelGeluIdeal.τ).loc Cert.KernelGeluIdeal.main_v0_2) = v2 c
          ∧ r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
          ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1)
          ∧ r.2.mem ((c.tc : Thread Cert.KernelGeluIdeal.nD Cert.KernelGeluIdeal.τ).loc Cert.KernelGeluIdeal.main_arg2) = m ((c.tc : Thread Cert.KernelGeluIdeal.nD Cert.KernelGeluIdeal.τ).loc Cert.KernelGeluIdeal.main_arg2)
          ∧ r.2.mem ((c.tc : Thread Cert.KernelGeluIdeal.nD Cert.KernelGeluIdeal.τ).loc Cert.KernelGeluIdeal.main_arg3) = m ((c.tc : Thread Cert.KernelGeluIdeal.nD Cert.KernelGeluIdeal.τ).loc Cert.KernelGeluIdeal.main_arg3)
          ∧ r.2.mem ((c.tc : Thread Cert.KernelGeluIdeal.nD Cert.KernelGeluIdeal.τ).loc Cert.KernelGeluIdeal.main_arg4) = m ((c.tc : Thread Cert.KernelGeluIdeal.nD Cert.KernelGeluIdeal.τ).loc Cert.KernelGeluIdeal.main_arg4))
      ∧ θ_run (Cert.ReferenceGeluIdeal.defs (F := Ideal)) (onTc (τ := Cert.ReferenceGeluIdeal.τ) (Cert.ReferenceGeluIdeal.main (F := Ideal))) ⟨m', fun _ => 0, g'⟩ (fun r => ∀ c : Dev Cert.ReferenceGeluIdeal.nD,
          r.2.mem ((c.tc : Thread Cert.ReferenceGeluIdeal.nD Cert.ReferenceGeluIdeal.τ).loc Cert.ReferenceGeluIdeal.main_v37) = v0 c
          ∧ r.2.mem ((c.tc : Thread Cert.ReferenceGeluIdeal.nD Cert.ReferenceGeluIdeal.τ).loc Cert.ReferenceGeluIdeal.main_v39) = v1 c
          ∧ r.2.mem ((c.tc : Thread Cert.ReferenceGeluIdeal.nD Cert.ReferenceGeluIdeal.τ).loc Cert.ReferenceGeluIdeal.main_v42) = v2 c
          ∧ r.2.mem ((c.tc : Thread Cert.ReferenceGeluIdeal.nD Cert.ReferenceGeluIdeal.τ).loc Cert.ReferenceGeluIdeal.main_arg0) = m' ((c.tc : Thread Cert.ReferenceGeluIdeal.nD Cert.ReferenceGeluIdeal.τ).loc Cert.ReferenceGeluIdeal.main_arg0)
          ∧ r.2.mem ((c.tc : Thread Cert.ReferenceGeluIdeal.nD Cert.ReferenceGeluIdeal.τ).loc Cert.ReferenceGeluIdeal.main_arg1) = m' ((c.tc : Thread Cert.ReferenceGeluIdeal.nD Cert.ReferenceGeluIdeal.τ).loc Cert.ReferenceGeluIdeal.main_arg1)
          ∧ r.2.mem ((c.tc : Thread Cert.ReferenceGeluIdeal.nD Cert.ReferenceGeluIdeal.τ).loc Cert.ReferenceGeluIdeal.main_arg2) = m' ((c.tc : Thread Cert.ReferenceGeluIdeal.nD Cert.ReferenceGeluIdeal.τ).loc Cert.ReferenceGeluIdeal.main_arg2)
          ∧ r.2.mem ((c.tc : Thread Cert.ReferenceGeluIdeal.nD Cert.ReferenceGeluIdeal.τ).loc Cert.ReferenceGeluIdeal.main_arg3) = m' ((c.tc : Thread Cert.ReferenceGeluIdeal.nD Cert.ReferenceGeluIdeal.τ).loc Cert.ReferenceGeluIdeal.main_arg3)
          ∧ r.2.mem ((c.tc : Thread Cert.ReferenceGeluIdeal.nD Cert.ReferenceGeluIdeal.τ).loc Cert.ReferenceGeluIdeal.main_arg4) = m' ((c.tc : Thread Cert.ReferenceGeluIdeal.nD Cert.ReferenceGeluIdeal.τ).loc Cert.ReferenceGeluIdeal.main_arg4))

def preserves_KernelFwd_KernelFwdIdeal : Prop :=
  IdealRules.named_const.Statement Cert.KernelFwdIdeal.κ "mask" .f32 0xF149F2CA#32 ⊥

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v11_0)) (v1 : (c : Dev Cert.KernelFwdIdeal.nD) → Buf (Elt Ideal) ((c.tc : Thread Cert.KernelFwdIdeal.nD Cert.KernelFwdIdeal.τ).loc Cert.KernelFwdIdeal.main_v11_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v11_0) = v0 c
          ∧ r.2.mem ((c.tc : Thread Cert.KernelFwdIdeal.nD Cert.KernelFwdIdeal.τ).loc Cert.KernelFwdIdeal.main_v11_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v27) = v0 c
          ∧ r.2.mem ((c.tc : Thread Cert.ReferenceFwdIdeal.nD Cert.ReferenceFwdIdeal.τ).loc Cert.ReferenceFwdIdeal.main_v53) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def Claim : Prop :=
  ∃ (hKernelDq : Cert.KernelDq.Facts) (hKernelDqIdeal : Cert.KernelDqIdeal.Facts) (hReferenceDqIdeal : Cert.ReferenceDqIdeal.Facts) (hKernelDkv : Cert.KernelDkv.Facts) (hKernelDkvIdeal : Cert.KernelDkvIdeal.Facts) (hReferenceDkvIdeal : Cert.ReferenceDkvIdeal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelUpDx : Cert.KernelUpDx.Facts) (hKernelUpDxIdeal : Cert.KernelUpDxIdeal.Facts) (hReferenceUpDxIdeal : Cert.ReferenceUpDxIdeal.Facts) (hKernelUpDw : Cert.KernelUpDw.Facts) (hKernelUpDwIdeal : Cert.KernelUpDwIdeal.Facts) (hReferenceUpDwIdeal : Cert.ReferenceUpDwIdeal.Facts) (hKernelOutDx : Cert.KernelOutDx.Facts) (hKernelOutDxIdeal : Cert.KernelOutDxIdeal.Facts) (hReferenceOutDxIdeal : Cert.ReferenceOutDxIdeal.Facts) (hKernelOutDw : Cert.KernelOutDw.Facts) (hKernelOutDwIdeal : Cert.KernelOutDwIdeal.Facts) (hReferenceOutDwIdeal : Cert.ReferenceOutDwIdeal.Facts) (hKernelInDx : Cert.KernelInDx.Facts) (hKernelInDxIdeal : Cert.KernelInDxIdeal.Facts) (hReferenceInDxIdeal : Cert.ReferenceInDxIdeal.Facts) (hKernelInDw : Cert.KernelInDw.Facts) (hKernelInDwIdeal : Cert.KernelInDwIdeal.Facts) (hReferenceInDwIdeal : Cert.ReferenceInDwIdeal.Facts) (hKernelGluDx : Cert.KernelGluDx.Facts) (hKernelGluDxIdeal : Cert.KernelGluDxIdeal.Facts) (hReferenceGluDxIdeal : Cert.ReferenceGluDxIdeal.Facts) (hKernelGluDw : Cert.KernelGluDw.Facts) (hKernelGluDwIdeal : Cert.KernelGluDwIdeal.Facts) (hReferenceGluDwIdeal : Cert.ReferenceGluDwIdeal.Facts) (hKernelUqDx : Cert.KernelUqDx.Facts) (hKernelUqDxIdeal : Cert.KernelUqDxIdeal.Facts) (hReferenceUqDxIdeal : Cert.ReferenceUqDxIdeal.Facts) (hKernelUqDw : Cert.KernelUqDw.Facts) (hKernelUqDwIdeal : Cert.KernelUqDwIdeal.Facts) (hReferenceUqDwIdeal : Cert.ReferenceUqDwIdeal.Facts) (hKernelUkvDx : Cert.KernelUkvDx.Facts) (hKernelUkvDxIdeal : Cert.KernelUkvDxIdeal.Facts) (hReferenceUkvDxIdeal : Cert.ReferenceUkvDxIdeal.Facts) (hKernelUkvDw : Cert.KernelUkvDw.Facts) (hKernelUkvDwIdeal : Cert.KernelUkvDwIdeal.Facts) (hReferenceUkvDwIdeal : Cert.ReferenceUkvDwIdeal.Facts) (hKernelAdaDw : Cert.KernelAdaDw.Facts) (hKernelAdaDwIdeal : Cert.KernelAdaDwIdeal.Facts) (hReferenceAdaDwIdeal : Cert.ReferenceAdaDwIdeal.Facts) (hKernelIn : Cert.KernelIn.Facts) (hKernelInIdeal : Cert.KernelInIdeal.Facts) (hReferenceInIdeal : Cert.ReferenceInIdeal.Facts) (hKernelGlu : Cert.KernelGlu.Facts) (hKernelGluIdeal : Cert.KernelGluIdeal.Facts) (hReferenceGluIdeal : Cert.ReferenceGluIdeal.Facts) (hKernelUq : Cert.KernelUq.Facts) (hKernelUqIdeal : Cert.KernelUqIdeal.Facts) (hReferenceUqIdeal : Cert.ReferenceUqIdeal.Facts) (hKernelUkv : Cert.KernelUkv.Facts) (hKernelUkvIdeal : Cert.KernelUkvIdeal.Facts) (hReferenceUkvIdeal : Cert.ReferenceUkvIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelAda : Cert.KernelAda.Facts) (hKernelAdaIdeal : Cert.KernelAdaIdeal.Facts) (hReferenceAdaIdeal : Cert.ReferenceAdaIdeal.Facts) (hKernelConv : Cert.KernelConv.Facts) (hKernelConvIdeal : Cert.KernelConvIdeal.Facts) (hReferenceConvIdeal : Cert.ReferenceConvIdeal.Facts) (hKernelGate : Cert.KernelGate.Facts) (hKernelGateIdeal : Cert.KernelGateIdeal.Facts) (hReferenceGateIdeal : Cert.ReferenceGateIdeal.Facts) (hKernelQn : Cert.KernelQn.Facts) (hKernelQnIdeal : Cert.KernelQnIdeal.Facts) (hReferenceQnIdeal : Cert.ReferenceQnIdeal.Facts) (hKernelKvn : Cert.KernelKvn.Facts) (hKernelKvnIdeal : Cert.KernelKvnIdeal.Facts) (hReferenceKvnIdeal : Cert.ReferenceKvnIdeal.Facts) (hKernelPost : Cert.KernelPost.Facts) (hKernelPostIdeal : Cert.KernelPostIdeal.Facts) (hReferencePostIdeal : Cert.ReferencePostIdeal.Facts) (hKernelPre : Cert.KernelPre.Facts) (hKernelPreIdeal : Cert.KernelPreIdeal.Facts) (hReferencePreIdeal : Cert.ReferencePreIdeal.Facts) (hKernelSig : Cert.KernelSig.Facts) (hKernelSigIdeal : Cert.KernelSigIdeal.Facts) (hReferenceSigIdeal : Cert.ReferenceSigIdeal.Facts) (hKernelGelu : Cert.KernelGelu.Facts) (hKernelGeluIdeal : Cert.KernelGeluIdeal.Facts) (hReferenceGeluIdeal : Cert.ReferenceGeluIdeal.Facts) (hKernelFwd : Cert.KernelFwd.Facts) (hKernelFwdIdeal : Cert.KernelFwdIdeal.Facts) (hReferenceFwdIdeal : Cert.ReferenceFwdIdeal.Facts) (hPre_finite : Cert.Pre_finite.Facts) (hPre_finite_fwd : Cert.Pre_finite_fwd.Facts),
    quiescent_KernelDq (hKernelDq := hKernelDq)
    ∧ quiescent_KernelDqIdeal (hKernelDqIdeal := hKernelDqIdeal)
    ∧ quiescent_KernelDqIdeal_pre_finite (hKernelDqIdeal := hKernelDqIdeal) (hPre_finite := hPre_finite)
    ∧ quiescent_ReferenceDqIdeal (hReferenceDqIdeal := hReferenceDqIdeal)
    ∧ quiescent_ReferenceDqIdeal_pre_finite (hReferenceDqIdeal := hReferenceDqIdeal) (hPre_finite := hPre_finite)
    ∧ quiescent_KernelDkv (hKernelDkv := hKernelDkv)
    ∧ quiescent_KernelDkvIdeal (hKernelDkvIdeal := hKernelDkvIdeal)
    ∧ quiescent_KernelDkvIdeal_pre_finite (hKernelDkvIdeal := hKernelDkvIdeal) (hPre_finite := hPre_finite)
    ∧ quiescent_ReferenceDkvIdeal (hReferenceDkvIdeal := hReferenceDkvIdeal)
    ∧ quiescent_ReferenceDkvIdeal_pre_finite (hReferenceDkvIdeal := hReferenceDkvIdeal) (hPre_finite := hPre_finite)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelGluDx (hKernelGluDx := hKernelGluDx)
    ∧ quiescent_KernelGluDxIdeal (hKernelGluDxIdeal := hKernelGluDxIdeal)
    ∧ quiescent_ReferenceGluDxIdeal (hReferenceGluDxIdeal := hReferenceGluDxIdeal)
    ∧ quiescent_KernelGluDw (hKernelGluDw := hKernelGluDw)
    ∧ quiescent_KernelGluDwIdeal (hKernelGluDwIdeal := hKernelGluDwIdeal)
    ∧ quiescent_ReferenceGluDwIdeal (hReferenceGluDwIdeal := hReferenceGluDwIdeal)
    ∧ quiescent_KernelUqDx (hKernelUqDx := hKernelUqDx)
    ∧ quiescent_KernelUqDxIdeal (hKernelUqDxIdeal := hKernelUqDxIdeal)
    ∧ quiescent_ReferenceUqDxIdeal (hReferenceUqDxIdeal := hReferenceUqDxIdeal)
    ∧ quiescent_KernelUqDw (hKernelUqDw := hKernelUqDw)
    ∧ quiescent_KernelUqDwIdeal (hKernelUqDwIdeal := hKernelUqDwIdeal)
    ∧ quiescent_ReferenceUqDwIdeal (hReferenceUqDwIdeal := hReferenceUqDwIdeal)
    ∧ quiescent_KernelUkvDx (hKernelUkvDx := hKernelUkvDx)
    ∧ quiescent_KernelUkvDxIdeal (hKernelUkvDxIdeal := hKernelUkvDxIdeal)
    ∧ quiescent_ReferenceUkvDxIdeal (hReferenceUkvDxIdeal := hReferenceUkvDxIdeal)
    ∧ quiescent_KernelUkvDw (hKernelUkvDw := hKernelUkvDw)
    ∧ quiescent_KernelUkvDwIdeal (hKernelUkvDwIdeal := hKernelUkvDwIdeal)
    ∧ quiescent_ReferenceUkvDwIdeal (hReferenceUkvDwIdeal := hReferenceUkvDwIdeal)
    ∧ quiescent_KernelAdaDw (hKernelAdaDw := hKernelAdaDw)
    ∧ quiescent_KernelAdaDwIdeal (hKernelAdaDwIdeal := hKernelAdaDwIdeal)
    ∧ quiescent_ReferenceAdaDwIdeal (hReferenceAdaDwIdeal := hReferenceAdaDwIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ quiescent_KernelUkv (hKernelUkv := hKernelUkv)
    ∧ quiescent_KernelUkvIdeal (hKernelUkvIdeal := hKernelUkvIdeal)
    ∧ quiescent_ReferenceUkvIdeal (hReferenceUkvIdeal := hReferenceUkvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelQn (hKernelQn := hKernelQn)
    ∧ quiescent_KernelQnIdeal (hKernelQnIdeal := hKernelQnIdeal)
    ∧ quiescent_ReferenceQnIdeal (hReferenceQnIdeal := hReferenceQnIdeal)
    ∧ quiescent_KernelKvn (hKernelKvn := hKernelKvn)
    ∧ quiescent_KernelKvnIdeal (hKernelKvnIdeal := hKernelKvnIdeal)
    ∧ quiescent_ReferenceKvnIdeal (hReferenceKvnIdeal := hReferenceKvnIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelSig (hKernelSig := hKernelSig)
    ∧ quiescent_KernelSigIdeal (hKernelSigIdeal := hKernelSigIdeal)
    ∧ quiescent_ReferenceSigIdeal (hReferenceSigIdeal := hReferenceSigIdeal)
    ∧ quiescent_KernelGelu (hKernelGelu := hKernelGelu)
    ∧ quiescent_KernelGeluIdeal (hKernelGeluIdeal := hKernelGeluIdeal)
    ∧ quiescent_ReferenceGeluIdeal (hReferenceGeluIdeal := hReferenceGeluIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ preserves_KernelDq_KernelDqIdeal
    ∧ algebraic_KernelDqIdeal_ReferenceDqIdeal_pre_finite (hKernelDqIdeal := hKernelDqIdeal) (hReferenceDqIdeal := hReferenceDqIdeal) (hPre_finite := hPre_finite)
    ∧ preserves_KernelDkv_KernelDkvIdeal
    ∧ algebraic_KernelDkvIdeal_ReferenceDkvIdeal_pre_finite (hKernelDkvIdeal := hKernelDkvIdeal) (hReferenceDkvIdeal := hReferenceDkvIdeal) (hPre_finite := hPre_finite)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelGluDx_KernelGluDxIdeal
    ∧ algebraic_KernelGluDxIdeal_ReferenceGluDxIdeal (hKernelGluDxIdeal := hKernelGluDxIdeal) (hReferenceGluDxIdeal := hReferenceGluDxIdeal)
    ∧ preserves_KernelGluDw_KernelGluDwIdeal
    ∧ algebraic_KernelGluDwIdeal_ReferenceGluDwIdeal (hKernelGluDwIdeal := hKernelGluDwIdeal) (hReferenceGluDwIdeal := hReferenceGluDwIdeal)
    ∧ preserves_KernelUqDx_KernelUqDxIdeal
    ∧ algebraic_KernelUqDxIdeal_ReferenceUqDxIdeal (hKernelUqDxIdeal := hKernelUqDxIdeal) (hReferenceUqDxIdeal := hReferenceUqDxIdeal)
    ∧ preserves_KernelUqDw_KernelUqDwIdeal
    ∧ algebraic_KernelUqDwIdeal_ReferenceUqDwIdeal (hKernelUqDwIdeal := hKernelUqDwIdeal) (hReferenceUqDwIdeal := hReferenceUqDwIdeal)
    ∧ preserves_KernelUkvDx_KernelUkvDxIdeal
    ∧ algebraic_KernelUkvDxIdeal_ReferenceUkvDxIdeal (hKernelUkvDxIdeal := hKernelUkvDxIdeal) (hReferenceUkvDxIdeal := hReferenceUkvDxIdeal)
    ∧ preserves_KernelUkvDw_KernelUkvDwIdeal
    ∧ algebraic_KernelUkvDwIdeal_ReferenceUkvDwIdeal (hKernelUkvDwIdeal := hKernelUkvDwIdeal) (hReferenceUkvDwIdeal := hReferenceUkvDwIdeal)
    ∧ preserves_KernelAdaDw_KernelAdaDwIdeal
    ∧ algebraic_KernelAdaDwIdeal_ReferenceAdaDwIdeal (hKernelAdaDwIdeal := hKernelAdaDwIdeal) (hReferenceAdaDwIdeal := hReferenceAdaDwIdeal)
    ∧ preserves_KernelIn_KernelInIdeal
    ∧ algebraic_KernelInIdeal_ReferenceInIdeal (hKernelInIdeal := hKernelInIdeal) (hReferenceInIdeal := hReferenceInIdeal)
    ∧ preserves_KernelGlu_KernelGluIdeal
    ∧ algebraic_KernelGluIdeal_ReferenceGluIdeal (hKernelGluIdeal := hKernelGluIdeal) (hReferenceGluIdeal := hReferenceGluIdeal)
    ∧ preserves_KernelUq_KernelUqIdeal
    ∧ algebraic_KernelUqIdeal_ReferenceUqIdeal (hKernelUqIdeal := hKernelUqIdeal) (hReferenceUqIdeal := hReferenceUqIdeal)
    ∧ preserves_KernelUkv_KernelUkvIdeal
    ∧ algebraic_KernelUkvIdeal_ReferenceUkvIdeal (hKernelUkvIdeal := hKernelUkvIdeal) (hReferenceUkvIdeal := hReferenceUkvIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelConv_KernelConvIdeal
    ∧ algebraic_KernelConvIdeal_ReferenceConvIdeal (hKernelConvIdeal := hKernelConvIdeal) (hReferenceConvIdeal := hReferenceConvIdeal)
    ∧ preserves_KernelGate_KernelGateIdeal
    ∧ algebraic_KernelGateIdeal_ReferenceGateIdeal (hKernelGateIdeal := hKernelGateIdeal) (hReferenceGateIdeal := hReferenceGateIdeal)
    ∧ preserves_KernelQn_KernelQnIdeal
    ∧ algebraic_KernelQnIdeal_ReferenceQnIdeal (hKernelQnIdeal := hKernelQnIdeal) (hReferenceQnIdeal := hReferenceQnIdeal)
    ∧ preserves_KernelKvn_KernelKvnIdeal
    ∧ algebraic_KernelKvnIdeal_ReferenceKvnIdeal (hKernelKvnIdeal := hKernelKvnIdeal) (hReferenceKvnIdeal := hReferenceKvnIdeal)
    ∧ preserves_KernelPost_KernelPostIdeal
    ∧ algebraic_KernelPostIdeal_ReferencePostIdeal (hKernelPostIdeal := hKernelPostIdeal) (hReferencePostIdeal := hReferencePostIdeal)
    ∧ preserves_KernelPre_KernelPreIdeal
    ∧ algebraic_KernelPreIdeal_ReferencePreIdeal (hKernelPreIdeal := hKernelPreIdeal) (hReferencePreIdeal := hReferencePreIdeal)
    ∧ preserves_KernelSig_KernelSigIdeal
    ∧ algebraic_KernelSigIdeal_ReferenceSigIdeal (hKernelSigIdeal := hKernelSigIdeal) (hReferenceSigIdeal := hReferenceSigIdeal)
    ∧ preserves_KernelGelu_KernelGeluIdeal
    ∧ algebraic_KernelGeluIdeal_ReferenceGeluIdeal (hKernelGeluIdeal := hKernelGeluIdeal) (hReferenceGeluIdeal := hReferenceGeluIdeal)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
-- ==== Pre_finite.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x8x128 .f32) (main_arg5 : FVec F S4096x2048 .f32) (main_v3 : IVec S_ 1) (main_v7 : IVec S_ 1) (main_v11 : IVec S_ 1) (main_v15 : IVec S_ 1) : IVec S_ 1 :=
  let main_v16 : FVec F S4096x8x128 .f32 := Host.absf main_arg4
  let main_cst_6 : FVec F S_ .f32 := constant S_ .f32 0x7F800000#32
  let main_v17 : FVec F S4096x8x128 .f32 := broadcastInDim S4096x8x128 ![] bcast_S_S4096x8x128 main_cst_6
  let main_v18 : IVec S4096x8x128 1 := cmpf .olt main_v16 main_v17
  let main_c_7 : IVec S_ 1 := constantI S_ 1 1#1
  let main_v19 : IVec S_ 1 := (fun x v => Host.reduce IntOp.andi x v reducesTo_S4096x8x128_S_d0_1_2 h_S_) main_v18 main_c_7
  let main_v20 : FVec F S4096x2048 .f32 := Host.absf main_arg5
  let main_cst_8 : FVec F S_ .f32 := constant S_ .f32 0x7F800000#32
  let main_v21 : FVec F S4096x2048 .f32 := broadcastInDim S4096x2048 ![] bcast_S_S4096x2048 main_cst_8
  let main_v22 : IVec S4096x2048 1 := cmpf .olt main_v20 main_v21
  let main_c_9 : IVec S_ 1 := constantI S_ 1 1#1
  let main_v23 : IVec S_ 1 := (fun x v => Host.reduce IntOp.andi x v reducesTo_S4096x2048_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) (main_arg5 : FVec F S4096x2048 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x64 .f32 := Host.absf main_arg1
  let main_cst_0 : FVec F S_ .f32 := constant S_ .f32 0x7F800000#32
  let main_v5 : FVec F S4096x8x64 .f32 := broadcastInDim S4096x8x64 ![] bcast_S_S4096x8x64 main_cst_0
  let main_v6 : IVec S4096x8x64 1 := cmpf .olt main_v4 main_v5
  let main_c_1 : IVec S_ 1 := constantI S_ 1 1#1
  let main_v7 : IVec S_ 1 := (fun x v => Host.reduce IntOp.andi x v reducesTo_S4096x8x64_S_d0_1_2 h_S_) main_v6 main_c_1
  let main_v8 : FVec F S4096x8x128 .f32 := Host.absf main_arg2
  let main_cst_2 : FVec F S_ .f32 := constant S_ .f32 0x7F800000#32
  let main_v9 : FVec F S4096x8x128 .f32 := broadcastInDim S4096x8x128 ![] bcast_S_S4096x8x128 main_cst_2
  let main_v10 : IVec S4096x8x128 1 := cmpf .olt main_v8 main_v9
  let main_c_3 : IVec S_ 1 := constantI S_ 1 1#1
  let main_v11 : IVec S_ 1 := (fun x v => Host.reduce IntOp.andi x v reducesTo_S4096x8x128_S_d0_1_2 h_S_) main_v10 main_c_3
  let main_v12 : FVec F S4096x64 .f32 := Host.absf main_arg3
  let main_cst_4 : FVec F S_ .f32 := constant S_ .f32 0x7F800000#32
  let main_v13 : FVec F S4096x64 .f32 := broadcastInDim S4096x64 ![] bcast_S_S4096x64 main_cst_4
  let main_v14 : IVec S4096x64 1 := cmpf .olt main_v12 main_v13
  let main_c_5 : IVec S_ 1 := constantI S_ 1 1#1
  let main_v15 : IVec S_ 1 := (fun x v => Host.reduce IntOp.andi x v reducesTo_S4096x64_S_d0_1 h_S_) main_v14 main_c_5
  fn_part1 (F := F) main_arg4 main_arg5 main_v3 main_v7 main_v11 main_v15
-- ==== Pre_finite_fwd.lean ====
abbrev S4096x8x128 : Shape := ⟨3, ![4096, 8, 128]⟩
abbrev S4096x8x64 : Shape := ⟨3, ![4096, 8, 64]⟩
abbrev S4096x64 : Shape := ⟨2, ![4096, 64]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S4096x8x128 .f32) (main_v3 : IVec S_ 1) (main_v7 : IVec S_ 1) (main_v11 : IVec S_ 1) (main_v15 : IVec S_ 1) : IVec S_ 1 :=
  let main_v16 : FVec F S4096x8x128 .f32 := Host.absf main_arg4
  let main_cst_6 : FVec F S_ .f32 := constant S_ .f32 0x7F800000#32
  let main_v17 : FVec F S4096x8x128 .f32 := broadcastInDim S4096x8x128 ![] bcast_S_S4096x8x128 main_cst_6
  let main_v18 : IVec S4096x8x128 1 := cmpf .olt main_v16 main_v17
  let main_c_7 : IVec S_ 1 := constantI S_ 1 1#1
  let main_v19 : IVec S_ 1 := (fun x v => Host.reduce IntOp.andi x v reducesTo_S4096x8x128_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x64 .f32 := Host.absf main_arg1
  let main_cst_0 : FVec F S_ .f32 := constant S_ .f32 0x7F800000#32
  let main_v5 : FVec F S4096x8x64 .f32 := broadcastInDim S4096x8x64 ![] bcast_S_S4096x8x64 main_cst_0
  let main_v6 : IVec S4096x8x64 1 := cmpf .olt main_v4 main_v5
  let main_c_1 : IVec S_ 1 := constantI S_ 1 1#1
  let main_v7 : IVec S_ 1 := (fun x v => Host.reduce IntOp.andi x v reducesTo_S4096x8x64_S_d0_1_2 h_S_) main_v6 main_c_1
  let main_v8 : FVec F S4096x8x128 .f32 := Host.absf main_arg2
  let main_cst_2 : FVec F S_ .f32 := constant S_ .f32 0x7F800000#32
  let main_v9 : FVec F S4096x8x128 .f32 := broadcastInDim S4096x8x128 ![] bcast_S_S4096x8x128 main_cst_2
  let main_v10 : IVec S4096x8x128 1 := cmpf .olt main_v8 main_v9
  let main_c_3 : IVec S_ 1 := constantI S_ 1 1#1
  let main_v11 : IVec S_ 1 := (fun x v => Host.reduce IntOp.andi x v reducesTo_S4096x8x128_S_d0_1_2 h_S_) main_v10 main_c_3
  let main_v12 : FVec F S4096x64 .f32 := Host.absf main_arg3
  let main_cst_4 : FVec F S_ .f32 := constant S_ .f32 0x7F800000#32
  let main_v13 : FVec F S4096x64 .f32 := broadcastInDim S4096x64 ![] bcast_S_S4096x64 main_cst_4
  let main_v14 : IVec S4096x64 1 := cmpf .olt main_v12 main_v13
  let main_c_5 : IVec S_ 1 := constantI S_ 1 1#1
  let main_v15 : IVec S_ 1 := (fun x v => Host.reduce IntOp.andi x v reducesTo_S4096x64_S_d0_1 h_S_) main_v14 main_c_5
  fn_part1 (F := F) main_arg4 main_v3 main_v7 main_v11 main_v15
-- ==== KernelDq.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x8 : Shape := ⟨2, ![4096, 8]⟩
abbrev S4096x8x1 : Shape := ⟨3, ![4096, 8, 1]⟩
abbrev S4096x8x256 : Shape := ⟨3, ![4096, 8, 256]⟩
abbrev S4096x1x64 : Shape := ⟨3, ![4096, 1, 64]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 69
  | .vmem => 14
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S8x4096x4096, .f32⟩
  | .hbm, ⟨7, _⟩ => ⟨S4096x4096x8, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x128x4096, .f32⟩
  | .hbm, ⟨40, _⟩ => ⟨S4096x8x128, .f32⟩
  | .hbm, ⟨41, _⟩ => ⟨S4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S4096x8, .f32⟩
  | .hbm, ⟨53, _⟩ => ⟨S4096x8x1, .f32⟩
  | .hbm, ⟨54, _⟩ => ⟨S4096x8x128, .f32⟩
  | .hbm, ⟨55, _⟩ => ⟨S4096x1024, .f32⟩
  | .hbm, ⟨56, _⟩ => ⟨S_, .f32⟩
  | .hbm, ⟨57, _⟩ => ⟨S4096x8x64, .f32⟩
  | .hbm, ⟨58, _⟩ => ⟨S4096x8x256, .f32⟩
  | .hbm, ⟨59, _⟩ => ⟨S4096x2048, .f32⟩
  | .hbm, ⟨60, _⟩ => ⟨S4096x2048, .bf16⟩
  | .hbm, ⟨61, _⟩ => ⟨S4096x1x64, .f32⟩
  | .hbm, ⟨62, _⟩ => ⟨S4096x8x64, .f32⟩
  | .hbm, ⟨63, _⟩ => ⟨S4096x8x256, .f32⟩
  | .hbm, ⟨64, _⟩ => ⟨S4096x2048, .f32⟩
  | .hbm, ⟨65, _⟩ => ⟨S4096x2048, .bf16⟩
  | .hbm, ⟨66, _⟩ => ⟨S4096x1024, .f32⟩
  | .hbm, ⟨67, _⟩ => ⟨S4096x1024, .bf16⟩
  | .hbm, ⟨68, _⟩ => ⟨S4096x2048, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_9 : BitVec 32 := 1#32
  ⟨c0_i32, v18, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c512_i32_21 : BitVec 32 := 512#32
  let v50 : BitVec 32 := Scalar.muli arg9 c512_i32_21
  v50
def k0_off1 (i : grid0.Coords) (k0_t1 : Fin (k0_t1_loop i).trips) : Fin 2 → Nat :=
  let c0_i32 : BitVec 32 := 0#32
  let c1_i32_9 : BitVec 32 := 1#32
  let arg9 : BitVec 32 := Scf.iv c0_i32 c1_i32_9 k0_t1
  let c512_i32_21 : BitVec 32 := 512#32
  let v50 : BitVec 32 := Scalar.muli arg9 c512_i32_21
  let v51 : BitVec 32 := v50
  let v52 : Index := Scalar.indexCast v51
  let c0_22 : Index := 0#32
  ![v52.toNat, 0]
def k0_off2 (i : grid0.Coords) (k0_t1 : Fin (k0_t1_loop i).trips) : Fin 2 → Nat :=
  let c0_i32 : BitVec 32 := 0#32
  let c1_i32_9 : BitVec 32 := 1#32
  let arg9 : BitVec 32 := Scf.iv c0_i32 c1_i32_9 k0_t1
  let c512_i32_21 : BitVec 32 := 512#32
  let v50 : BitVec 32 := Scalar.muli arg9 c512_i32_21
  let v51 : BitVec 32 := v50
  let v61 : Index := Scalar.indexCast v51
  let c0_25 : Index := 0#32
  ![v61.toNat, 0]
@[reducible] def k0_t2_loop (i : grid0.Coords) : Scf.Loop 32 :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let v15 : BitVec 32 := Scalar.addi c0_i32 v14
  let c1_i32_10 : BitVec 32 := 1#32
  ⟨v18, v15, c1_i32_10⟩
def k0_mult2 (i : grid0.Coords) (k0_t2 : Fin (k0_t2_loop i).trips) : BitVec 32 :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg9 : BitVec 32 := Scf.iv v18 c1_i32_10 k0_t2
  let c512_i32_21 : BitVec 32 := 512#32
  let v50 : BitVec 32 := Scalar.muli arg9 c512_i32_21
  v50
def k0_off3 (i : grid0.Coords) (k0_t2 : Fin (k0_t2_loop i).trips) : Fin 2 → Nat :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg9 : BitVec 32 := Scf.iv v18 c1_i32_10 k0_t2
  let c512_i32_21 : BitVec 32 := 512#32
  let v50 : BitVec 32 := Scalar.muli arg9 c512_i32_21
  let v51 : BitVec 32 := v50
  let v52 : Index := Scalar.indexCast v51
  let c0_22 : Index := 0#32
  ![v52.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg9 : BitVec 32 := Scf.iv v18 c1_i32_10 k0_t2
  let c512_i32_21 : BitVec 32 := 512#32
  let v50 : BitVec 32 := Scalar.muli arg9 c512_i32_21
  let v51 : BitVec 32 := v50
  let v61 : Index := Scalar.indexCast v51
  let c0_25 : Index := 0#32
  ![v61.toNat, 0]
def k0_mult3 (i : grid0.Coords) : BitVec 32 :=
  let arg1 : BitVec 32 := BitVec.ofNat 32 (i 1).val
  let c512_i32 : BitVec 32 := 512#32
  let v21 : BitVec 32 := Scalar.muli arg1 c512_i32
  v21
def k0_off5 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  let c0_11 : Index := 0#32
  ![v23.toNat, 0]
def k0_off6 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v37 : Index := Scalar.indexCast v22
  let c0_15 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceDqIdeal.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S4096x1024 : Shape := ⟨2, ![4096, 1024]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩
abbrev S4096x8x256 : Shape := ⟨3, ![4096, 8, 256]⟩

abbrev nBuf : Space → Nat
  | .hbm => 99
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S4096x1024, .f32⟩
  | .hbm, ⟨7, _⟩ => ⟨S4096x8x128, .f32⟩
  | .hbm, ⟨8, _⟩ => ⟨S8x4096x4096, .f32⟩
  | .hbm, ⟨9, _⟩ => ⟨S4096x4096x8, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .i1⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x128x4096, .f32⟩
  | .hbm, ⟨68, _⟩ => ⟨S4096x8x128, .f32⟩
  | .hbm, ⟨69, _⟩ => ⟨S8x128x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S4096x4096x8, .f32⟩
  | .hbm, ⟨92, _⟩ => ⟨S4096x8x64, .f32⟩
  | .hbm, ⟨93, _⟩ => ⟨S8x4096x128, .f32⟩
  | .hbm, ⟨94, _⟩ => ⟨S4096x8x128, .f32⟩
  | .hbm, ⟨95, _⟩ => ⟨S_, .f32⟩
  | .hbm, ⟨96, _⟩ => ⟨S4096x8x64, .f32⟩
  | .hbm, ⟨97, _⟩ => ⟨S4096x8x256, .f32⟩
  | .hbm, ⟨98, _⟩ => ⟨S4096x2048, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== KernelDkv.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x8 : Shape := ⟨2, ![4096, 8]⟩
abbrev S4096x8x1 : Shape := ⟨3, ![4096, 8, 1]⟩
abbrev S4096x8x256 : Shape := ⟨3, ![4096, 8, 256]⟩
abbrev S4096x1x64 : Shape := ⟨3, ![4096, 1, 64]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S512 : Shape := ⟨1, ![512]⟩
abbrev S512x1 : Shape := ⟨2, ![512, 1]⟩
abbrev S512x512 : Shape := ⟨2, ![512, 512]⟩

abbrev nBuf : Space → Nat
  | .hbm => 70
  | .vmem => 16
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S8x4096x4096, .f32⟩
  | .hbm, ⟨7, _⟩ => ⟨S4096x4096x8, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x128x4096, .f32⟩
  | .hbm, ⟨40, _⟩ => ⟨S4096x8x128, .f32⟩
  | .hbm, ⟨41, _⟩ => ⟨S4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S4096x8, .f32⟩
  | .hbm, ⟨53, _⟩ => ⟨S4096x8x1, .f32⟩
  | .hbm, ⟨54, _⟩ => ⟨S4096x8x128, .f32⟩
  | .hbm, ⟨55, _⟩ => ⟨S4096x1024, .f32⟩
  | .hbm, ⟨56, _⟩ => ⟨S_, .f32⟩
  | .hbm, ⟨57, _⟩ => ⟨S4096x8x64, .f32⟩
  | .hbm, ⟨58, _⟩ => ⟨S4096x8x256, .f32⟩
  | .hbm, ⟨59, _⟩ => ⟨S4096x2048, .f32⟩
  | .hbm, ⟨60, _⟩ => ⟨S4096x2048, .bf16⟩
  | .hbm, ⟨61, _⟩ => ⟨S4096x1x64, .f32⟩
  | .hbm, ⟨62, _⟩ => ⟨S4096x8x64, .f32⟩
  | .hbm, ⟨63, _⟩ => ⟨S4096x8x256, .f32⟩
  | .hbm, ⟨64, _⟩ => ⟨S4096x2048, .f32⟩
  | .hbm, ⟨65, _⟩ => ⟨S4096x2048, .bf16⟩
  | .hbm, ⟨66, _⟩ => ⟨S4096x1024, .f32⟩
  | .hbm, ⟨67, _⟩ => ⟨S4096x1024, .bf16⟩
  | .hbm, ⟨68, _⟩ => ⟨S4096x2048, .f32⟩
  | .hbm, ⟨69, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_4 : Index := 0#32
  ![v8.toNat, 0]
def k0_off2 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v11 : Index := Scalar.indexCast v7
  let c0_5 : Index := 0#32
  ![v11.toNat, 0]
@[reducible] def k0_t1_loop (i : grid0.Coords) : Scf.Loop 32 :=
  let arg1 : BitVec 32 := BitVec.ofNat 32 (i 1).val
  let c1_i32 : BitVec 32 := 1#32
  let v48 : BitVec 32 := Scalar.addi arg1 c1_i32
  let c8_i32 : BitVec 32 := 8#32
  let v49 : BitVec 32 := Scalar.subi c8_i32 v48
  let c1_i32_17 : BitVec 32 := 1#32
  let v51 : BitVec 32 := Scalar.divsi v49 c1_i32_17
  let v52 : BitVec 32 := Scalar.muli v51 c1_i32_17
  let v53 : BitVec 32 := Scalar.addi v48 v52
  let c1_i32_18 : BitVec 32 := 1#32
  ⟨v48, v53, c1_i32_18⟩
def k0_mult2 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c1_i32_18 : BitVec 32 := 1#32
  let arg10 : BitVec 32 := Scf.iv v48 c1_i32_18 k0_t1
  let c512_i32_24 : BitVec 32 := 512#32
  let v58 : BitVec 32 := Scalar.muli arg10 c512_i32_24
  v58
def k0_off3 (i : grid0.Coords) (k0_t1 : Fin (k0_t1_loop i).trips) : Fin 2 → Nat :=
  let arg1 : BitVec 32 := BitVec.ofNat 32 (i 1).val
  let c1_i32 : BitVec 32 := 1#32
  let v48 : BitVec 32 := Scalar.addi arg1 c1_i32
  let c1_i32_18 : BitVec 32 := 1#32
  let arg10 : BitVec 32 := Scf.iv v48 c1_i32_18 k0_t1
  let c512_i32_24 : BitVec 32 := 512#32
  let v58 : BitVec 32 := Scalar.muli arg10 c512_i32_24
  let v59 : BitVec 32 := v58
  let v60 : Index := Scalar.indexCast v59
  let c0_25 : Index := 0#32
  ![v60.toNat, 0]
def k0_off4 (i : grid0.Coords) (k0_t1 : Fin (k0_t1_loop i).trips) : Fin 2 → Nat :=
  let arg1 : BitVec 32 := BitVec.ofNat 32 (i 1).val
  let c1_i32 : BitVec 32 := 1#32
  let v48 : BitVec 32 := Scalar.addi arg1 c1_i32
  let c1_i32_18 : BitVec 32 := 1#32
  let arg10 : BitVec 32 := Scf.iv v48 c1_i32_18 k0_t1
  let c512_i32_24 : BitVec 32 := 512#32
  let v58 : BitVec 32 := Scalar.muli arg10 c512_i32_24
  let v59 : BitVec 32 := v58
  let v63 : Index := Scalar.indexCast v59
  let c0_26 : Index := 0#32
  ![v63.toNat, 0]
@[reducible] def k0_t2_loop (i : grid0.Coords) : Scf.Loop 32 :=
  let arg1 : BitVec 32 := BitVec.ofNat 32 (i 1).val
  let c1_i32 : BitVec 32 := 1#32
  let v48 : BitVec 32 := Scalar.addi arg1 c1_i32
  let c8_i32 : BitVec 32 := 8#32
  let v49 : BitVec 32 := Scalar.subi c8_i32 v48
  let c1_i32_17 : BitVec 32 := 1#32
  let v51 : BitVec 32 := Scalar.divsi v49 c1_i32_17
  let v52 : BitVec 32 := Scalar.muli v51 c1_i32_17
  let v53 : BitVec 32 := Scalar.addi v48 v52
  let v50 : BitVec 32 := Scalar.addi v48 v49
  let c1_i32_19 : BitVec 32 := 1#32
  ⟨v53, v50, c1_i32_19⟩
def k0_mult3 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32 : BitVec 32 := 8#32
  let v49 : BitVec 32 := Scalar.subi c8_i32 v48
  let c1_i32_17 : BitVec 32 := 1#32
  let v51 : BitVec 32 := Scalar.divsi v49 c1_i32_17
  let v52 : BitVec 32 := Scalar.muli v51 c1_i32_17
  let v53 : BitVec 32 := Scalar.addi v48 v52
  let c1_i32_19 : BitVec 32 := 1#32
  let arg10 : BitVec 32 := Scf.iv v53 c1_i32_19 k0_t2
  let c512_i32_24 : BitVec 32 := 512#32
  let v58 : BitVec 32 := Scalar.muli arg10 c512_i32_24
  v58
def k0_off5 (i : grid0.Coords) (k0_t2 : Fin (k0_t2_loop i).trips) : Fin 2 → Nat :=
  let arg1 : BitVec 32 := BitVec.ofNat 32 (i 1).val
  let c1_i32 : BitVec 32 := 1#32
  let v48 : BitVec 32 := Scalar.addi arg1 c1_i32
  let c8_i32 : BitVec 32 := 8#32
  let v49 : BitVec 32 := Scalar.subi c8_i32 v48
  let c1_i32_17 : BitVec 32 := 1#32
  let v51 : BitVec 32 := Scalar.divsi v49 c1_i32_17
  let v52 : BitVec 32 := Scalar.muli v51 c1_i32_17
  let v53 : BitVec 32 := Scalar.addi v48 v52
  let c1_i32_19 : BitVec 32 := 1#32
  let arg10 : BitVec 32 := Scf.iv v53 c1_i32_19 k0_t2
  let c512_i32_24 : BitVec 32 := 512#32
  let v58 : BitVec 32 := Scalar.muli arg10 c512_i32_24
  let v59 : BitVec 32 := v58
  let v60 : Index := Scalar.indexCast v59
  let c0_25 : Index := 0#32
  ![v60.toNat, 0]
def k0_off6 (i : grid0.Coords) (k0_t2 : Fin (k0_t2_loop i).trips) : Fin 2 → Nat :=
  let arg1 : BitVec 32 := BitVec.ofNat 32 (i 1).val
  let c1_i32 : BitVec 32 := 1#32
  let v48 : BitVec 32 := Scalar.addi arg1 c1_i32
  let c8_i32 : BitVec 32 := 8#32
  let v49 : BitVec 32 := Scalar.subi c8_i32 v48
  let c1_i32_17 : BitVec 32 := 1#32
  let v51 : BitVec 32 := Scalar.divsi v49 c1_i32_17
  let v52 : BitVec 32 := Scalar.muli v51 c1_i32_17
  let v53 : BitVec 32 := Scalar.addi v48 v52
  let c1_i32_19 : BitVec 32 := 1#32
  let arg10 : BitVec 32 := Scf.iv v53 c1_i32_19 k0_t2
  let c512_i32_24 : BitVec 32 := 512#32
  let v58 : BitVec 32 := Scalar.muli arg10 c512_i32_24
  let v59 : BitVec 32 := v58
  let v63 : Index := Scalar.indexCast v59
  let c0_26 : Index := 0#32
  ![v63.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceDkvIdeal.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S4096x1024 : Shape := ⟨2, ![4096, 1024]⟩
abbrev S4096x1x64 : Shape := ⟨3, ![4096, 1, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩
abbrev S4096x8x256 : Shape := ⟨3, ![4096, 8, 256]⟩

abbrev nBuf : Space → Nat
  | .hbm => 103
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S4096x1024, .f32⟩
  | .hbm, ⟨7, _⟩ => ⟨S4096x8x128, .f32⟩
  | .hbm, ⟨8, _⟩ => ⟨S4096x1x64, .f32⟩
  | .hbm, ⟨9, _⟩ => ⟨S4096x8x64, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x128x4096, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x64, .f32⟩
  | .hbm, ⟨95, _⟩ => ⟨S4096x8x64, .f32⟩
  | .hbm, ⟨96, _⟩ => ⟨S8x4096x128, .f32⟩
  | .hbm, ⟨97, _⟩ => ⟨S4096x8x128, .f32⟩
  | .hbm, ⟨98, _⟩ => ⟨S_, .f32⟩
  | .hbm, ⟨99, _⟩ => ⟨S4096x8x64, .f32⟩
  | .hbm, ⟨100, _⟩ => ⟨S4096x8x256, .f32⟩
  | .hbm, ⟨101, _⟩ => ⟨S4096x2048, .f32⟩
  | .hbm, ⟨102, _⟩ => ⟨S4096x1024, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_v16_1 : Ref sig .tc := ⟨.hbm, 25, rfl⟩
abbrev main_call0_v2 : Ref sig .tc := ⟨.hbm, 26, rfl⟩
abbrev main_v16_0 : Ref sig .tc := ⟨.hbm, 27, rfl⟩
abbrev main_call0_cst : Ref sig .tc := ⟨.hbm, 28, rfl⟩
abbrev main_v16_2 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== KernelDownDx.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S5632x2048, .bf16⟩
  | .hbm, ⟨3, _⟩ => ⟨S4096x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDxIdeal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDownDw.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUpDx.lean ====
abbrev S2048x11264 : Shape := ⟨2, ![2048, 11264]⟩
abbrev S4096x11264 : Shape := ⟨2, ![4096, 11264]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S2048x11264, .bf16⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDxIdeal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUpDw.lean ====
abbrev S4096x2048 : Shape := ⟨2, ![4096, 2048]⟩
abbrev S4096x11264 : Shape := ⟨2, ![4096, 11264]⟩
abbrev S2048x11264 : Shape := ⟨2, ![2048, 11264]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x2048, .bf16⟩
  | .hbm, ⟨3, _⟩ => ⟨S2048x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x11264, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutDx.lean ====
abbrev S2048x2048 : Shape := ⟨2, ![2048, 2048]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S2048x2048, .bf16⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutDw.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelInDx.lean ====
abbrev S2048x3456 : Shape := ⟨2, ![2048, 3456]⟩
abbrev S4096x3456 : Shape := ⟨2, ![4096, 3456]⟩
abbrev S4096x2048 : Shape := ⟨2, ![4096, 2048]⟩
abbrev S1024x1152 : Shape := ⟨2, ![1024, 1152]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x3456, .f32⟩
  | .hbm, ⟨1, _⟩ => ⟨S4096x3456, .f32⟩
  | .hbm, ⟨2, _⟩ => ⟨S4096x3456, .bf16⟩
  | .hbm, ⟨3, _⟩ => ⟨S2048x3456, .bf16⟩
  | .hbm, ⟨4, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S2048x3456 : Shape := ⟨2, ![2048, 3456]⟩
abbrev S4096x3456 : Shape := ⟨2, ![4096, 3456]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3456, .f32⟩
  | .hbm, ⟨1, _⟩ => ⟨S4096x3456, .f32⟩
  | .hbm, ⟨2, _⟩ => ⟨S_, .f32⟩
  | .hbm, ⟨3, _⟩ => ⟨S4096x2048, .f32⟩
  | .hbm, ⟨4, _⟩ => ⟨S4096x3456, .f32⟩
  | .hbm, ⟨5, _⟩ => ⟨S4096x2048, .f32⟩
  | _, _ => ⟨S2048x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelInDw.lean ====
abbrev S4096x2048 : Shape := ⟨2, ![4096, 2048]⟩
abbrev S4096x3456 : Shape := ⟨2, ![4096, 3456]⟩
abbrev S2048x3456 : Shape := ⟨2, ![2048, 3456]⟩
abbrev S2048x1024 : Shape := ⟨2, ![2048, 1024]⟩
abbrev S2048x384 : Shape := ⟨2, ![2048, 384]⟩
abbrev S1024x384 : Shape := ⟨2, ![1024, 384]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x3456, .f32⟩
  | .hbm, ⟨2, _⟩ => ⟨S4096x2048, .bf16⟩
  | .hbm, ⟨3, _⟩ => ⟨S4096x3456, .bf16⟩
  | .hbm, ⟨4, _⟩ => ⟨S2048x3456, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S4096x2048 : Shape := ⟨2, ![4096, 2048]⟩
abbrev S4096x3456 : Shape := ⟨2, ![4096, 3456]⟩
abbrev S_ : Shape := ⟨0, ![]⟩
abbrev S2048x3456 : Shape := ⟨2, ![2048, 3456]⟩
abbrev S3456x2048 : Shape := ⟨2, ![3456, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3456, .f32⟩
  | .hbm, ⟨2, _⟩ => ⟨S_, .f32⟩
  | .hbm, ⟨3, _⟩ => ⟨S2048x3456, .f32⟩
  | .hbm, ⟨4, _⟩ => ⟨S4096x3456, .f32⟩
  | .hbm, ⟨5, _⟩ => ⟨S3456x2048, .f32⟩
  | .hbm, ⟨6, _⟩ => ⟨S2048x3456, .f32⟩
  | .hbm, ⟨7, _⟩ => ⟨S2048x3456, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGluDx.lean ====
abbrev S512x512 : Shape := ⟨2, ![512, 512]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S4096x512, .f32⟩
  | .hbm, ⟨2, _⟩ => ⟨S512x512, .bf16⟩
  | .hbm, ⟨3, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluDxIdeal.lean ====
abbrev S512x512 : Shape := ⟨2, ![512, 512]⟩
abbrev S4096x512 : Shape := ⟨2, ![4096, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S4096x512, .f32⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S4096x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGluDw.lean ====
abbrev S4096x512 : Shape := ⟨2, ![4096, 512]⟩
abbrev S512x512 : Shape := ⟨2, ![512, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x512, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGluDwIdeal.lean ====
abbrev S4096x512 : Shape := ⟨2, ![4096, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUqDx.lean ====
abbrev S512x2048 : Shape := ⟨2, ![512, 2048]⟩
abbrev S4096x2048 : Shape := ⟨2, ![4096, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S512x2048, .bf16⟩
  | .hbm, ⟨3, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUqDxIdeal.lean ====
abbrev S512x2048 : Shape := ⟨2, ![512, 2048]⟩
abbrev S4096x2048 : Shape := ⟨2, ![4096, 2048]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUqDw.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .bf16⟩
  | .hbm, ⟨3, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUqDwIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUkvDx.lean ====
abbrev S256x2048 : Shape := ⟨2, ![256, 2048]⟩
abbrev S4096x2048 : Shape := ⟨2, ![4096, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S4096x2048, .f32⟩
  | .hbm, ⟨2, _⟩ => ⟨S256x2048, .bf16⟩
  | .hbm, ⟨3, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUkvDxIdeal.lean ====
abbrev S256x2048 : Shape := ⟨2, ![256, 2048]⟩
abbrev S4096x2048 : Shape := ⟨2, ![4096, 2048]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4096x2048, .f32⟩
  | .hbm, ⟨2, _⟩ => ⟨S_, .f32⟩
  | .hbm, ⟨3, _⟩ => ⟨S4096x256, .f32⟩
  | .hbm, ⟨4, _⟩ => ⟨S4096x2048, .f32⟩
  | .hbm, ⟨5, _⟩ => ⟨S4096x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUkvDw.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x256, .bf16⟩
  | .hbm, ⟨3, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUkvDwIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAdaDw.lean ====
abbrev S8x2048 : Shape := ⟨2, ![8, 2048]⟩
abbrev S8x1536 : Shape := ⟨2, ![8, 1536]⟩
abbrev S2048x1536 : Shape := ⟨2, ![2048, 1536]⟩
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x1024, .f32⟩
  | .local _ .vmem, ⟨1, _⟩ => ⟨S8x1024, .f32⟩
  | .local _ .vmem, ⟨2, _⟩ => ⟨S8x768, .f32⟩
  | .local _ .vmem, ⟨3, _⟩ => ⟨S8x768, .f32⟩
  | .local _ .vmem, ⟨4, _⟩ => ⟨S1024x768, .f32⟩
  | .local _ .vmem, ⟨5, _⟩ => ⟨S1024x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAdaDwIdeal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x1536, .f32⟩
  | .hbm, ⟨5, _⟩ => ⟨S1536x2048, .f32⟩
  | .hbm, ⟨6, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelIn.lean ====
abbrev S4096x2048 : Shape := ⟨2, ![4096, 2048]⟩
abbrev S2048x3456 : Shape := ⟨2, ![2048, 3456]⟩
abbrev S4096x3456 : Shape := ⟨2, ![4096, 3456]⟩
abbrev S1024x2048 : Shape := ⟨2, ![1024, 2048]⟩
abbrev S2048x384 : Shape := ⟨2, ![2048, 384]⟩
abbrev S1024x384 : Shape := ⟨2, ![1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x3456, .f32⟩
  | .hbm, ⟨2, _⟩ => ⟨S4096x2048, .bf16⟩
  | .hbm, ⟨3, _⟩ => ⟨S2048x3456, .bf16⟩
  | .hbm, ⟨4, _⟩ => ⟨S4096x3456, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x2048 : Shape := ⟨2, ![4096, 2048]⟩
abbrev S2048x3456 : Shape := ⟨2, ![2048, 3456]⟩
abbrev S4096x3456 : Shape := ⟨2, ![4096, 3456]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3456, .f32⟩
  | .hbm, ⟨2, _⟩ => ⟨S4096x3456, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGlu.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512x512, .bf16⟩
  | .hbm, ⟨3, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluIdeal.lean ====
abbrev S4096x512 : Shape := ⟨2, ![4096, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUq.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S512x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUqIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUkv.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUkvIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUp.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x11264, .bf16⟩
  | .hbm, ⟨4, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelDown.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAda.lean ====
abbrev S8x2048 : Shape := ⟨2, ![8, 2048]⟩
abbrev S2048x1536 : Shape := ⟨2, ![2048, 1536]⟩
abbrev S8x1536 : Shape := ⟨2, ![8, 1536]⟩
abbrev S2048x768 : Shape := ⟨2, ![2048, 768]⟩
abbrev S8x768 : Shape := ⟨2, ![8, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S8x1536, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S8x768, .f32⟩
  | .local _ .vmem, ⟨4, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAdaIdeal.lean ====
abbrev S8x2048 : Shape := ⟨2, ![8, 2048]⟩
abbrev S2048x1536 : Shape := ⟨2, ![2048, 1536]⟩
abbrev S8x1536 : Shape := ⟨2, ![8, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelConv.lean ====
abbrev S4096x5632 : Shape := ⟨2, ![4096, 5632]⟩
abbrev S4096x11264 : Shape := ⟨2, ![4096, 11264]⟩
abbrev S3x11264 : Shape := ⟨2, ![3, 11264]⟩
abbrev S1x11264 : Shape := ⟨2, ![1, 11264]⟩
abbrev S256x2816 : Shape := ⟨2, ![256, 2816]⟩
abbrev S8x2816 : Shape := ⟨2, ![8, 2816]⟩
abbrev S3x2816 : Shape := ⟨2, ![3, 2816]⟩
abbrev S1x2816 : Shape := ⟨2, ![1, 2816]⟩
abbrev S256x1408 : Shape := ⟨2, ![256, 1408]⟩
abbrev S8x1408 : Shape := ⟨2, ![8, 1408]⟩
abbrev S264x2816 : Shape := ⟨2, ![264, 2816]⟩
abbrev S264x1408 : Shape := ⟨2, ![264, 1408]⟩
abbrev S2816 : Shape := ⟨1, ![2816]⟩

abbrev nBuf : Space → Nat
  | .hbm => 7
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S4096x11264, .f32⟩
  | .hbm, ⟨2, _⟩ => ⟨S3x11264, .f32⟩
  | .hbm, ⟨3, _⟩ => ⟨S1x11264, .f32⟩
  | .hbm, ⟨4, _⟩ => ⟨S4096x11264, .bf16⟩
  | .hbm, ⟨5, _⟩ => ⟨S3x11264, .f32⟩
  | .hbm, ⟨6, _⟩ => ⟨S1x11264, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S8x2816, .f32⟩
  | .local _ .vmem, ⟨5, _⟩ => ⟨S8x2816, .f32⟩
  | .local _ .vmem, ⟨6, _⟩ => ⟨S3x2816, .f32⟩
  | .local _ .vmem, ⟨7, _⟩ => ⟨S3x2816, .f32⟩
  | .local _ .vmem, ⟨8, _⟩ => ⟨S1x2816, .f32⟩
  | .local _ .vmem, ⟨9, _⟩ => ⟨S1x2816, .f32⟩
  | .local _ .vmem, ⟨10, _⟩ => ⟨S256x1408, .f32⟩
  | .local _ .vmem, ⟨11, _⟩ => ⟨S256x1408, .f32⟩
  | .local _ .vmem, ⟨12, _⟩ => ⟨S8x1408, .f32⟩
  | .local _ .vmem, ⟨13, _⟩ => ⟨S8x1408, .f32⟩
  | .local _ .vmem, ⟨14, _⟩ => ⟨S256x2816, .bf16⟩
  | .local _ .vmem, ⟨15, _⟩ => ⟨S256x2816, .bf16⟩
  | .local _ .vmem, ⟨16, _⟩ => ⟨S3x2816, .f32⟩
  | .local _ .vmem, ⟨17, _⟩ => ⟨S3x2816, .f32⟩
  | .local _ .vmem, ⟨18, _⟩ => ⟨S1x2816, .f32⟩
  | .local _ .vmem, ⟨19, _⟩ => ⟨S1x2816, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceConvIdeal.lean ====
abbrev S4096x5632 : Shape := ⟨2, ![4096, 5632]⟩
abbrev S4096x11264 : Shape := ⟨2, ![4096, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩

abbrev nBuf : Space → Nat
  | .hbm => 141
  | .vmem => 0
  | .smem => 0
  | _ => 0

abbrev hbmTy0_0 (i : Nat) : BufTy := match i % 128 with
  | 0 => ⟨S4096x5632, .f32⟩
  | 1 => ⟨S4096x11264, .f32⟩
  | 2 => ⟨S3x11264, .f32⟩
  | 3 => ⟨S1x11264, .f32⟩
  | 4 => ⟨S_, .f32⟩
  | 5 => ⟨S2x11264, .f32⟩
  | 6 => ⟨S4098x11264, .f32⟩
  | 7 => ⟨S_, .f32⟩
  | 8 => ⟨S2x11264, .f32⟩
  | 9 => ⟨S4096x11264, .f32⟩
  | 10 => ⟨S1x11264, .f32⟩
  | 11 => ⟨S11264, .f32⟩
  | 12 => ⟨S1x11264, .f32⟩
  | 13 => ⟨S4096x11264, .f32⟩
  | 14 => ⟨S4096x11264, .f32⟩
  | 15 => ⟨S4096x11264, .f32⟩
  | 16 => ⟨S4096x11264, .f32⟩
  | 17 => ⟨S4096x11264, .f32⟩
  | 18 => ⟨S1x11264, .f32⟩
  | 19 => ⟨S11264, .f32⟩
  | 20 => ⟨S1x11264, .f32⟩
  | 21 => ⟨S4096x11264, .f32⟩
  | 22 => ⟨S4096x11264, .f32⟩
  | 23 => ⟨S4096x11264, .f32⟩
  | 24 => ⟨S4096x11264, .f32⟩
  | 25 => ⟨S1x11264, .f32⟩
  | 26 => ⟨S11264, .f32⟩
  | 27 => ⟨S1x11264, .f32⟩
  | 28 => ⟨S4096x11264, .f32⟩
  | 29 => ⟨S4096x11264, .f32⟩
  | 30 => ⟨S4096x11264, .f32⟩
  | 31 => ⟨S4096x4x2x1408, .f32⟩
  | 32 => ⟨S4096x4x1x1408, .f32⟩
  | 33 => ⟨S4096x4x1408, .f32⟩
  | 34 => ⟨S4096x4x1408, .f32⟩
  | 35 => ⟨S4096x4x1408, .f32⟩
  | 36 => ⟨S4096x4x1408, .f32⟩
  | 37 => ⟨S_, .f32⟩
  | 38 => ⟨S4096x4x1408, .f32⟩
  | 39 => ⟨S4096x4x1408, .f32⟩
  | 40 => ⟨S_, .f32⟩
  | 41 => ⟨S4096x4x1408, .f32⟩
  | 42 => ⟨S4096x4x1408, .f32⟩
  | 43 => ⟨S4096x4x1408, .f32⟩
  | 44 => ⟨S_, .f32⟩
  | 45 => ⟨S4096x4x1408, .f32⟩
  | 46 => ⟨S4096x4x1408, .f32⟩
  | 47 => ⟨S4096x4x1408, .f32⟩
  | 48 => ⟨S_, .f32⟩
  | 49 => ⟨S4096x4x1408, .f32⟩
  | 50 => ⟨S4096x4x1408, .f32⟩
  | 51 => ⟨S_, .f32⟩
  | 52 => ⟨S4096x4x1408, .f32⟩
  | 53 => ⟨S4096x4x1408, .f32⟩
  | 54 => ⟨S4096x4x1408, .f32⟩
  | 55 => ⟨S_, .f32⟩
  | 56 => ⟨S4096x4x1408, .f32⟩
  | 57 => ⟨S4096x4x1408, .f32⟩
  | 58 => ⟨S_, .f32⟩
  | 59 => ⟨S4096x4x1408, .f32⟩
  | 60 => ⟨S4096x4x1408, .f32⟩
  | 61 => ⟨S4096x4x1408, .f32⟩
  | 62 => ⟨S4096x4x1x1408, .f32⟩
  | 63 => ⟨S4096x4x1408, .f32⟩
  | 64 => ⟨S4096x4x1408, .f32⟩
  | 65 => ⟨S4096x5632, .f32⟩
  | 66 => ⟨S4096x4x1408, .f32⟩
  | 67 => ⟨S4096x4x1408, .f32⟩
  | 68 => ⟨S4096x4x1408, .f32⟩
  | 69 => ⟨S4096x4x1x1408, .f32⟩
  | 70 => ⟨S_, .f32⟩
  | 71 => ⟨S4096x4x2x1408, .f32⟩
  | 72 => ⟨S4096x4x1408, .f32⟩
  | 73 => ⟨S4096x4x1408, .f32⟩
  | 74 => ⟨S_, .f32⟩
  | 75 => ⟨S4096x4x1408, .f32⟩
  | 76 => ⟨S4096x4x1408, .f32⟩
  | 77 => ⟨S4096x4x1408, .f32⟩
  | 78 => ⟨S_, .f32⟩
  | 79 => ⟨S4096x4x1408, .f32⟩
  | 80 => ⟨S4096x4x1408, .f32⟩
  | 81 => ⟨S4096x4x1408, .f32⟩
  | 82 => ⟨S_, .f32⟩
  | 83 => ⟨S4096x4x1408, .f32⟩
  | 84 => ⟨S4096x4x1408, .f32⟩
  | 85 => ⟨S4096x4x1408, .f32⟩
  | 86 => ⟨S4096x4x1408, .f32⟩
  | 87 => ⟨S4096x4x1x1408, .f32⟩
  | 88 => ⟨S_, .f32⟩
  | 89 => ⟨S4096x4x2x1408, .f32⟩
  | 90 => ⟨S4096x4x2x1408, .f32⟩
  | 91 => ⟨S4096x11264, .f32⟩
  | 92 => ⟨S4096x11264, .f32⟩
  | 93 => ⟨S_, .f32⟩
  | 94 => ⟨S11264, .f32⟩
  | 95 => ⟨S1x11264, .f32⟩
  | 96 => ⟨S4096x11264, .f32⟩
  | 97 => ⟨S4096x11264, .f32⟩
  | 98 => ⟨S_, .f32⟩
  | 99 => ⟨S11264, .f32⟩
  | 100 => ⟨S1x11264, .f32⟩
  | 101 => ⟨S_, .f32⟩
  | 102 => ⟨S3x11264, .f32⟩
  | 103 => ⟨S_, .f32⟩
  | 104 => ⟨S4098x11264, .f32⟩
  | 105 => ⟨S4096x11264, .f32⟩
  | 106 => ⟨S_, .f32⟩
  | 107 => ⟨S11264, .f32⟩
  | 108 => ⟨S1x11264, .f32⟩
  | 109 => ⟨S4096x11264, .f32⟩
  | 110 => ⟨S4096x11264, .f32⟩
  | 111 => ⟨S_, .f32⟩
  | 112 => ⟨S11264, .f32⟩
  | 113 => ⟨S1x11264, .f32⟩
  | 114 => ⟨S_, .f32⟩
  | 115 => ⟨S3x11264, .f32⟩
  | 116 => ⟨S3x11264, .f32⟩
  | 117 => ⟨S_, .f32⟩
  | 118 => ⟨S4098x11264, .f32⟩
  | 119 => ⟨S4098x11264, .f32⟩
  | 120 => ⟨S_, .f32⟩
  | 121 => ⟨S11264, .f32⟩
  | 122 => ⟨S1x11264, .f32⟩
  | 123 => ⟨S4096x11264, .f32⟩
  | 124 => ⟨S_, .f32⟩
  | 125 => ⟨S11264, .f32⟩
  | 126 => ⟨S1x11264, .f32⟩
  | 127 => ⟨S4096x11264, .f32⟩
  | _ => ⟨S4096x5632, .f32⟩

abbrev hbmTy0_1 (i : Nat) : BufTy := match i % 128 with
  | 0 => ⟨S4096x11264, .f32⟩
  | 1 => ⟨S_, .f32⟩
  | 2 => ⟨S11264, .f32⟩
  | 3 => ⟨S1x11264, .f32⟩
  | 4 => ⟨S_, .f32⟩
  | 5 => ⟨S3x11264, .f32⟩
  | 6 => ⟨S3x11264, .f32⟩
  | 7 => ⟨S_, .f32⟩
  | 8 => ⟨S4098x11264, .f32⟩
  | 9 => ⟨S4098x11264, .f32⟩
  | 10 => ⟨S2x11264, .f32⟩
  | 11 => ⟨S4096x11264, .f32⟩
  | 12 => ⟨S4096x11264, .bf16⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_12 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_13 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_14 : Ref sig .tc := ⟨.hbm, 98, rfl⟩
abbrev main_v79 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_cst_17 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_18 : Ref sig .tc := ⟨.hbm, 111, rfl⟩
abbrev main_v88 : Ref sig .tc := ⟨.hbm, 112, rfl⟩
abbrev main_v89 : Ref sig .tc := ⟨.hbm, 113, rfl⟩
abbrev main_cst_19 : Ref sig .tc := ⟨.hbm, 114, rfl⟩
abbrev main_v90 : Ref sig .tc := ⟨.hbm, 115, rfl⟩
abbrev main_v91 : Ref sig .tc := ⟨.hbm, 116, rfl⟩
abbrev main_cst_20 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_23 : Ref sig .tc := ⟨.hbm, 129, rfl⟩
abbrev main_v101 : Ref sig .tc := ⟨.hbm, 130, rfl⟩
abbrev main_v102 : Ref sig .tc := ⟨.hbm, 131, rfl⟩
abbrev main_cst_24 : Ref sig .tc := ⟨.hbm, 132, rfl⟩
abbrev main_v103 : Ref sig .tc := ⟨.hbm, 133, rfl⟩
abbrev main_v104 : Ref sig .tc := ⟨.hbm, 134, rfl⟩
abbrev main_cst_25 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]
-- ==== KernelGate.lean ====
abbrev S4096x11264 : Shape := ⟨2, ![4096, 11264]⟩
abbrev S3x11264 : Shape := ⟨2, ![3, 11264]⟩
abbrev S1x11264 : Shape := ⟨2, ![1, 11264]⟩
abbrev S4096x5632 : Shape := ⟨2, ![4096, 5632]⟩
abbrev S256x2816 : Shape := ⟨2, ![256, 2816]⟩
abbrev S8x2816 : Shape := ⟨2, ![8, 2816]⟩
abbrev S3x2816 : Shape := ⟨2, ![3, 2816]⟩
abbrev S1x2816 : Shape := ⟨2, ![1, 2816]⟩
abbrev S256x1408 : Shape := ⟨2, ![256, 1408]⟩
abbrev S248x2816 : Shape := ⟨2, ![248, 2816]⟩

abbrev nBuf : Space → Nat
  | .hbm => 4
  | .vmem => 10
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S1x11264, .f32⟩
  | .hbm, ⟨3, _⟩ => ⟨S4096x5632, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S3x2816, .f32⟩
  | .local _ .vmem, ⟨5, _⟩ => ⟨S3x2816, .f32⟩
  | .local _ .vmem, ⟨6, _⟩ => ⟨S1x2816, .f32⟩
  | .local _ .vmem, ⟨7, _⟩ => ⟨S1x2816, .f32⟩
  | .local _ .vmem, ⟨8, _⟩ => ⟨S256x1408, .bf16⟩
  | .local _ .vmem, ⟨9, _⟩ => ⟨S256x1408, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGateIdeal.lean ====
abbrev S4096x11264 : Shape := ⟨2, ![4096, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩

abbrev nBuf : Space → Nat
  | .hbm => 53
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S1x11264, .f32⟩
  | .hbm, ⟨3, _⟩ => ⟨S_, .f32⟩
  | .hbm, ⟨4, _⟩ => ⟨S2x11264, .f32⟩
  | .hbm, ⟨5, _⟩ => ⟨S4098x11264, .f32⟩
  | .hbm, ⟨6, _⟩ => ⟨S4096x11264, .f32⟩
  | .hbm, ⟨7, _⟩ => ⟨S1x11264, .f32⟩
  | .hbm, ⟨8, _⟩ => ⟨S11264, .f32⟩
  | .hbm, ⟨9, _⟩ => ⟨S1x11264, .f32⟩
  | .hbm, ⟨10, _⟩ => ⟨S4096x11264, .f32⟩
  | .hbm, ⟨11, _⟩ => ⟨S4096x11264, .f32⟩
  | .hbm, ⟨12, _⟩ => ⟨S4096x11264, .f32⟩
  | .hbm, ⟨13, _⟩ => ⟨S4096x11264, .f32⟩
  | .hbm, ⟨14, _⟩ => ⟨S4096x11264, .f32⟩
  | .hbm, ⟨15, _⟩ => ⟨S1x11264, .f32⟩
  | .hbm, ⟨16, _⟩ => ⟨S11264, .f32⟩
  | .hbm, ⟨17, _⟩ => ⟨S1x11264, .f32⟩
  | .hbm, ⟨18, _⟩ => ⟨S4096x11264, .f32⟩
  | .hbm, ⟨19, _⟩ => ⟨S4096x11264, .f32⟩
  | .hbm, ⟨20, _⟩ => ⟨S4096x11264, .f32⟩
  | .hbm, ⟨21, _⟩ => ⟨S4096x11264, .f32⟩
  | .hbm, ⟨22, _⟩ => ⟨S1x11264, .f32⟩
  | .hbm, ⟨23, _⟩ => ⟨S11264, .f32⟩
  | .hbm, ⟨24, _⟩ => ⟨S1x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S4096x4x2x1408, .f32⟩
  | .hbm, ⟨29, _⟩ => ⟨S4096x4x1x1408, .f32⟩
  | .hbm, ⟨30, _⟩ => ⟨S4096x4x1408, .f32⟩
  | .hbm, ⟨31, _⟩ => ⟨S4096x4x1408, .f32⟩
  | .hbm, ⟨32, _⟩ => ⟨S4096x4x1408, .f32⟩
  | .hbm, ⟨33, _⟩ => ⟨S_, .f32⟩
  | .hbm, ⟨34, _⟩ => ⟨S4096x4x1408, .f32⟩
  | .hbm, ⟨35, _⟩ => ⟨S4096x4x1408, .f32⟩
  | .hbm, ⟨36, _⟩ => ⟨S4096x4x1408, .f32⟩
  | .hbm, ⟨37, _⟩ => ⟨S_, .f32⟩
  | .hbm, ⟨38, _⟩ => ⟨S4096x4x1408, .f32⟩
  | .hbm, ⟨39, _⟩ => ⟨S4096x4x1408, .f32⟩
  | .hbm, ⟨40, _⟩ => ⟨S4096x4x1408, .f32⟩
  | .hbm, ⟨41, _⟩ => ⟨S_, .f32⟩
  | .hbm, ⟨42, _⟩ => ⟨S4096x4x1408, .f32⟩
  | .hbm, ⟨43, _⟩ => ⟨S4096x4x1408, .f32⟩
  | .hbm, ⟨44, _⟩ => ⟨S_, .f32⟩
  | .hbm, ⟨45, _⟩ => ⟨S4096x4x1408, .f32⟩
  | .hbm, ⟨46, _⟩ => ⟨S4096x4x1408, .f32⟩
  | .hbm, ⟨47, _⟩ => ⟨S4096x4x1408, .f32⟩
  | .hbm, ⟨48, _⟩ => ⟨S4096x4x1x1408, .f32⟩
  | .hbm, ⟨49, _⟩ => ⟨S4096x4x1408, .f32⟩
  | .hbm, ⟨50, _⟩ => ⟨S4096x4x1408, .f32⟩
  | .hbm, ⟨51, _⟩ => ⟨S4096x5632, .f32⟩
  | .hbm, ⟨52, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== KernelQn.lean ====
abbrev S4096x3456 : Shape := ⟨2, ![4096, 3456]⟩
abbrev S1x512 : Shape := ⟨2, ![1, 512]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S4096x3456, .f32⟩
  | .hbm, ⟨1, _⟩ => ⟨S1x512, .f32⟩
  | .hbm, ⟨2, _⟩ => ⟨S4096x512, .f32⟩
  | .hbm, ⟨3, _⟩ => ⟨S4096x512, .f32⟩
  | .hbm, ⟨4, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S1x512, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceQnIdeal.lean ====
abbrev S4096x3456 : Shape := ⟨2, ![4096, 3456]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 46
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S1x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelKvn.lean ====
abbrev S4096x3456 : Shape := ⟨2, ![4096, 3456]⟩
abbrev S1x256 : Shape := ⟨2, ![1, 256]⟩
abbrev S4096x256 : Shape := ⟨2, ![4096, 256]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x3456, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S1x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceKvnIdeal.lean ====
abbrev S4096x3456 : Shape := ⟨2, ![4096, 3456]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256 : Shape := ⟨1, ![256]⟩

abbrev nBuf : Space → Nat
  | .hbm => 46
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelPost.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferencePostIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelPre.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferencePreIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== KernelSig.lean ====
abbrev S4096x512 : Shape := ⟨2, ![4096, 512]⟩
abbrev S4096x2048 : Shape := ⟨2, ![4096, 2048]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceSigIdeal.lean ====
abbrev S4096x512 : Shape := ⟨2, ![4096, 512]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelGelu.lean ====
abbrev S4096x512 : Shape := ⟨2, ![4096, 512]⟩
abbrev S4096x3456 : Shape := ⟨2, ![4096, 3456]⟩
abbrev S1x512 : Shape := ⟨2, ![1, 512]⟩
abbrev S256x512 : Shape := ⟨2, ![256, 512]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x3456, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceGeluIdeal.lean ====
abbrev S4096x512 : Shape := ⟨2, ![4096, 512]⟩
abbrev S4096x3456 : Shape := ⟨2, ![4096, 3456]⟩
abbrev S1x512 : Shape := ⟨2, ![1, 512]⟩
abbrev S_ : Shape := ⟨0, ![]⟩
abbrev S512 : Shape := ⟨1, ![512]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x3456, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== KernelFwd.lean ====
abbrev S4096x8x128 : Shape := ⟨3, ![4096, 8, 128]⟩
abbrev S4096x8x64 : Shape := ⟨3, ![4096, 8, 64]⟩
abbrev S4096x64 : Shape := ⟨2, ![4096, 64]⟩
abbrev S_ : Shape := ⟨0, ![]⟩
abbrev S4096x8x256 : Shape := ⟨3, ![4096, 8, 256]⟩
abbrev S4096x2048 : Shape := ⟨2, ![4096, 2048]⟩
abbrev S4096x1x64 : Shape := ⟨3, ![4096, 1, 64]⟩
abbrev S4096x1024 : Shape := ⟨2, ![4096, 1024]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 19
  | .vmem => 10
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S_, .f32⟩
  | .hbm, ⟨6, _⟩ => ⟨S4096x8x64, .f32⟩
  | .hbm, ⟨7, _⟩ => ⟨S4096x8x256, .f32⟩
  | .hbm, ⟨8, _⟩ => ⟨S4096x2048, .f32⟩
  | .hbm, ⟨9, _⟩ => ⟨S4096x2048, .bf16⟩
  | .hbm, ⟨10, _⟩ => ⟨S4096x1x64, .f32⟩
  | .hbm, ⟨11, _⟩ => ⟨S4096x8x64, .f32⟩
  | .hbm, ⟨12, _⟩ => ⟨S4096x8x256, .f32⟩
  | .hbm, ⟨13, _⟩ => ⟨S4096x2048, .f32⟩
  | .hbm, ⟨14, _⟩ => ⟨S4096x2048, .bf16⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_17 : BitVec 32 := 512#32
  let v53 : BitVec 32 := Scalar.muli arg7 c512_i32_17
  v53
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_17 : BitVec 32 := 512#32
  let v53 : BitVec 32 := Scalar.muli arg7 c512_i32_17
  let v54 : BitVec 32 := v53
  let v55 : Index := Scalar.indexCast v54
  let c0_18 : Index := 0#32
  ![v55.toNat, 0]
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_17 : BitVec 32 := 512#32
  let v53 : BitVec 32 := Scalar.muli arg7 c512_i32_17
  let v54 : BitVec 32 := v53
  let v75 : Index := Scalar.indexCast v54
  let c0_23 : Index := 0#32
  ![v75.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_17 : BitVec 32 := 512#32
  let v53 : BitVec 32 := Scalar.muli arg7 c512_i32_17
  v53
def k0_off3 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_17 : BitVec 32 := 512#32
  let v53 : BitVec 32 := Scalar.muli arg7 c512_i32_17
  let v54 : BitVec 32 := v53
  let v55 : Index := Scalar.indexCast v54
  let c0_18 : Index := 0#32
  ![v55.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_17 : BitVec 32 := 512#32
  let v53 : BitVec 32 := Scalar.muli arg7 c512_i32_17
  let v54 : BitVec 32 := v53
  let v75 : Index := Scalar.indexCast v54
  let c0_23 : Index := 0#32
  ![v75.toNat, 0]
def k0_mult3 (i : grid0.Coords) : BitVec 32 :=
  let arg1 : BitVec 32 := BitVec.ofNat 32 (i 1).val
  let c512_i32 : BitVec 32 := 512#32
  let v12 : BitVec 32 := Scalar.muli arg1 c512_i32
  v12
def k0_off5 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_5 : Index := 0#32
  ![v14.toNat, 0]
def k0_off6 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v39 : Index := Scalar.indexCast v13
  let c0_11 : Index := 0#32
  ![v39.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelFwdIdeal.lean ====
variable {F : FTy → Type} [FloatOps F] [Named F]
def κ : String → Option EReal := fun
  | "mask" => some ⊥
  | _ => none
-- ==== ReferenceFwdIdeal.lean ====
abbrev S4096x8x128 : Shape := ⟨3, ![4096, 8, 128]⟩
abbrev S4096x8x64 : Shape := ⟨3, ![4096, 8, 64]⟩
abbrev S4096x64 : Shape := ⟨2, ![4096, 64]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x8 : Shape := ⟨2, ![4096, 8]⟩
abbrev S4096x8x1 : Shape := ⟨3, ![4096, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S8x4096x4096, .f32⟩
  | .hbm, ⟨6, _⟩ => ⟨S4096x4096x8, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x128x4096, .f32⟩
  | .hbm, ⟨39, _⟩ => ⟨S4096x8x128, .f32⟩
  | .hbm, ⟨40, _⟩ => ⟨S4096x1024, .f32⟩
  | .hbm, ⟨41, _⟩ => ⟨S8x4096x4096, .f32⟩
  | .hbm, ⟨42, _⟩ => ⟨S4096x4096x8, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096x4096, .f32⟩
  | .hbm, ⟨47, _⟩ => ⟨S8x4096x4096, .f32⟩
  | .hbm, ⟨48, _⟩ => ⟨S4096, .i32⟩
  | .hbm, ⟨49, _⟩ => ⟨S1x4096, .i32⟩
  | .hbm, ⟨50, _⟩ => ⟨S4096, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S8x4096x4096, .i1⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096, .f32⟩
  | .hbm, ⟨69, _⟩ => ⟨S8x4096, .f32⟩
  | .hbm, ⟨70, _⟩ => ⟨S4096x8, .f32⟩
  | .hbm, ⟨71, _⟩ => ⟨S4096x8x1, .f32⟩
  | .hbm, ⟨72, _⟩ => ⟨S4096x8x128, .f32⟩
  | .hbm, ⟨73, _⟩ => ⟨S4096x1024, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Dq.Block.lean ====
/-
  What one grid point of the dq call writes: the block of 512 query rows of one head, as sums over the 4096 keys.
-/
module

public import proofs.«01_k».proof.Proof.Gen.KernelDqIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelDqIdeal.Dq

open Cert.KernelDqIdeal Cert.KernelDqIdeal.Gen

variable [Cert.KernelDqIdeal.Facts]
variable (m : (ℓ : Loc nD τ sig) → Buf (Elt Ideal) ℓ)

/-! ## The loop's bounds and offsets over the grid -/

theorem trips1 : ∀ t : Fin cfg0.N, (k0_t1_loop (grid0.coords t)).trips = t.val % 8 :=
  (by decide +kernel : ∀ t : Fin grid0.N, (k0_t1_loop (grid0.coords t)).trips = t.val % 8)
theorem trips2 : ∀ t : Fin cfg0.N, (k0_t2_loop (grid0.coords t)).trips = 0 :=
  (by decide +kernel : ∀ t : Fin grid0.N, (k0_t2_loop (grid0.coords t)).trips = 0)
theorem off1 : ∀ (t : Fin cfg0.N) (k : Fin (k0_t1_loop (grid0.coords t)).trips), k0_off1 (grid0.coords t) k = ![512 * k.val, 0] :=
  (by decide +kernel : ∀ (t : Fin grid0.N) (k : Fin (k0_t1_loop (grid0.coords t)).trips), k0_off1 (grid0.coords t) k = ![512 * k.val, 0])
theorem off2 : ∀ (t : Fin cfg0.N) (k : Fin (k0_t1_loop (grid0.coords t)).trips), k0_off2 (grid0.coords t) k = ![512 * k.val, 0] :=
  (by decide +kernel : ∀ (t : Fin grid0.N) (k : Fin (k0_t1_loop (grid0.coords t)).trips), k0_off2 (grid0.coords t) k = ![512 * k.val, 0])
theorem off5 : ∀ t : Fin cfg0.N, k0_off5 (grid0.coords t) = ![512 * (t.val % 8), 0] :=
  (by decide +kernel : ∀ t : Fin grid0.N, k0_off5 (grid0.coords t) = ![512 * (t.val % 8), 0])
theorem off6 : ∀ t : Fin cfg0.N, k0_off6 (grid0.coords t) = ![512 * (t.val % 8), 0] :=
  (by decide +kernel : ∀ t : Fin grid0.N, k0_off6 (grid0.coords t) = ![512 * (t.val % 8), 0])

/-- A two-axis array's row at a natural number, zero past its end. -/
def rowOf {n w : ℕ} (X : (⟨2, ![n, w]⟩ : Shape).Idx → EReal) (k : ℕ) (d : Fin w) : EReal :=
  if h : k < n then X (ix2 ⟨k, h⟩ d) else 0

/-- The weight `exp (scale · q·k − lse)` of key `k` in query row `r` of the block. -/
def wt (q : S512x256.Idx → EReal) (lse : S512x128.Idx → EReal) (K : S4096x256.Idx → EReal) (r : Fin 512) (k : ℕ) : EReal :=
  Ideal.exp ((∑ d, q (ix2 r d) * rowOf K k d) * Ideal.ofBits FTy.f32 1033096506#32
    - Finset.fold max (Ideal.ofBits FTy.f32 4286578688#32) (fun x => lse (ix2 r x)) Finset.univ)

/-- Key `k`'s contribution to entry `(r, j)` of the block. -/
def term (q : S512x256.Idx → EReal) (dO o lse : S512x128.Idx → EReal) (K : S4096x256.Idx → EReal) (V : S4096x128.Idx → EReal)
    (r : Fin 512) (j : Fin 256) (k : ℕ) : EReal :=
  wt q lse K r k * ((∑ d, dO (ix2 r d) * rowOf V k d) - ∑ d, dO (ix2 r d) * o (ix2 r d)) * Ideal.ofBits FTy.f32 1033096506#32
    * rowOf K k j

theorem ld_rows {n w : ℕ} (X : (⟨2, ![n, w]⟩ : Shape).Idx → EReal) (off : Fin 2 → ℕ) (s : ℕ) (hoff : off = ![s, 0])
    (h) (x : Fin 512) (d : Fin w) :
    View.ld (Val := Elt Ideal) (e' := .f32) X (Rect.unit (s := ⟨2, ![n, w]⟩) off ![512, w] h) (ix2 x d) = rowOf X (s + x.val) d := by
  subst hoff
  have hb : s + x.val < n := by have := h 0; simp at this; omega
  unfold rowOf
  rw [dif_pos hb]
  refine congrArg X (funext fun a => Fin.ext ?_)
  match a with
  | ⟨0, _⟩ => simp
  | ⟨1, _⟩ => simp

theorem pay7_apply (q : Vec Ideal S512x256 .bf16) (dO o lse : Vec Ideal S512x128 .f32) (acc : FVec Ideal S512x256 .f32) (kb : Vec Ideal S512x256 .bf16) (vb : Vec Ideal S512x128 .bf16)
    (r : Fin 512) (j : Fin 256) :
    k0_pay7 q dO o lse acc kb vb (ix2 r j) = acc (ix2 r j) + ∑ x : Fin 512,
      Ideal.exp ((∑ d, q (ix2 r d) * kb (ix2 x d)) * Ideal.ofBits FTy.f32 1033096506#32
        - Finset.fold max (Ideal.ofBits FTy.f32 4286578688#32) (fun x => lse (ix2 r x)) Finset.univ)
      * ((∑ d, dO (ix2 r d) * vb (ix2 x d)) - ∑ d, dO (ix2 r d) * o (ix2 r d)) * Ideal.ofBits FTy.f32 1033096506#32 * kb (ix2 x j) := by
  pointwise [k0_pay7, k0_pay2, k0_pay3, k0_pay4, k0_pay5]

theorem pay1_apply (q : Vec Ideal S512x256 .bf16) (dO o lse : Vec Ideal S512x128 .f32) (acc : FVec Ideal S512x256 .f32) (kb : Vec Ideal S512x256 .bf16) (vb : Vec Ideal S512x128 .bf16)
    (r : Fin 512) (j : Fin 256) :
    k0_pay1 (k0_pay3 dO o) (k0_pay5 dO) acc (k0_pay9 kb) (k0_pay10 q lse kb) vb (ix2 r j) = acc (ix2 r j) + ∑ x : Fin 512,
      if x.val ≤ r.val then Ideal.exp ((∑ d, q (ix2 r d) * kb (ix2 x d)) * Ideal.ofBits FTy.f32 1033096506#32
        - Finset.fold max (Ideal.ofBits FTy.f32 4286578688#32) (fun x => lse (ix2 r x)) Finset.univ)
      * ((∑ d, dO (ix2 r d) * vb (ix2 x d)) - ∑ d, dO (ix2 r d) * o (ix2 r d)) * Ideal.ofBits FTy.f32 1033096506#32 * kb (ix2 x j) else 0 := by
  have hm : ∀ (x r : Fin 512) (a b : EReal), Scalar.select (IntOp.cmpi CmpIPredicate.sle (BitVec.ofNat 32 x.val) (BitVec.ofNat 32 r.val)) a b = if x.val ≤ r.val then a else b := by
    intro x r a b
    have hx := x.isLt
    have hr := r.isLt
    rw [WordCmp.cmpi_sle_ofNat (by omega) (by omega)]
    by_cases h : x.val ≤ r.val <;> simp [h, Scalar.select]
  pointwise [k0_pay1, k0_pay10, k0_pay2, k0_pay3, k0_pay4, k0_pay5, k0_pay9]
  simp only [hm]

theorem trip (c : Dev nD) (t : Fin cfg0.N) (k : Fin (k0_t1_loop (grid0.coords t)).trips) (acc : FVec Ideal S512x256 .f32) (r : Fin 512) (j : Fin 256) :
    (tripR_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 5 t) (iblk m c 3 t) (iblk m c 4 t) ((hs0_1 t).unread (iblk m c 1 t)) ((hs0_2 t).unread (iblk m c 2 t)) k acc) (ix2 r j)
    = acc (ix2 r j) + ∑ x : Fin 512, term (iblk m c 0 t) (iblk m c 5 t) (iblk m c 3 t) (iblk m c 4 t) (iblk m c 1 t) (iblk m c 2 t) r j (512 * k.val + x.val) := by
  unfold tripR_k0_t1 trip_k0_t1
  frame_out
  rw [pay7_apply]
  unfold term wt
  refine congrArg (_ + ·) (Finset.sum_congr rfl fun x _ => ?_)
  simp only [ld_rows (iblk m c 1 t) _ _ (off1 t k), ld_rows (iblk m c 2 t) _ _ (off2 t k)]

theorem carried (c : Dev nD) (t : Fin cfg0.N) (r : Fin 512) (j : Fin 256) : ∀ n : ℕ, n ≤ t.val % 8 →
    (st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 5 t) (iblk m c 3 t) (iblk m c 4 t) ((hs0_1 t).unread (iblk m c 1 t)) ((hs0_2 t).unread (iblk m c 2 t)) k0_pay6 n) (ix2 r j)
    = ∑ k ∈ Finset.range (512 * n), term (iblk m c 0 t) (iblk m c 5 t) (iblk m c 3 t) (iblk m c 4 t) (iblk m c 1 t) (iblk m c 2 t) r j k := by
  intro n
  induction n with
  | zero =>
    intro _
    rw [st_k0_t1_zero]
    pointwise [k0_pay6]
    simp
  | succ n ih =>
    intro hn
    have hk : n < (k0_t1_loop (grid0.coords t)).trips := by rw [trips1]; omega
    have := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 5 t) (iblk m c 3 t) (iblk m c 4 t) ((hs0_1 t).unread (iblk m c 1 t)) ((hs0_2 t).unread (iblk m c 2 t)) k0_pay6 ⟨n, hk⟩
    rw [this, trip, ih (by omega), Nat.mul_succ, Finset.sum_range_add, Finset.sum_range (n := 512)]

/-- The blocks before the diagonal whole and the diagonal block masked: the sum over all keys up to the query row. -/
theorem causal_sum (i : ℕ) (hi : i < 8) (r : Fin 512) (f : ℕ → EReal) :
    (∑ k ∈ Finset.range (512 * i), f k) + ∑ x : Fin 512, (if x.val ≤ r.val then f (512 * i + x.val) else 0)
      = ∑ k : Fin 4096, if k.val ≤ 512 * i + r.val then f k.val else 0 := by
  have hr := r.isLt
  rw [← Finset.sum_range (n := 4096) (fun k => if k ≤ 512 * i + r.val then f k else 0),
    ← Finset.sum_range (n := 512) (fun x => if x ≤ r.val then f (512 * i + x) else 0),
    show 4096 = 512 * i + (512 + (4096 - 512 * i - 512)) by omega, Finset.sum_range_add, Finset.sum_range_add]
  have h0 : ∑ x ∈ Finset.range (4096 - 512 * i - 512), (if 512 * i + (512 + x) ≤ 512 * i + r.val then f (512 * i + (512 + x)) else 0) = 0 :=
    Finset.sum_eq_zero fun x _ => if_neg (by omega)
  rw [h0, add_zero]
  refine congrArg₂ (· + ·) (Finset.sum_congr rfl fun k hk => ?_) (Finset.sum_congr rfl fun k _ => ?_)
  · have := Finset.mem_range.1 hk
    exact (if_pos (by omega)).symm
  · simp

/-- What grid point `t` writes at `(r, j)`: the sum over the keys up to the query row, which is row `512 · (t % 8) + r`. -/
theorem point (c : Dev nD) (t : Fin cfg0.N) (r : Fin 512) (j : Fin 256) :
    outsAt0 m c t (ix2 r j) = ∑ k : Fin 4096, if k.val ≤ 512 * (t.val % 8) + r.val then
      term (iblk m c 0 t) (iblk m c 5 t) (iblk m c 3 t) (iblk m c 4 t) (iblk m c 1 t) (iblk m c 2 t) r j k.val else 0 := by
  unfold outsAt0
  frame_out
  have h1 := trips1 t
  have h2 := trips2 t
  dsimp only [k0_t1_loop, k0_t2_loop, Scf.Loop.trips] at h1 h2
  rw [pay1_apply, h1, h2, st_k0_t2_zero, carried m c t r j _ le_rfl]
  have hi : t.val % 8 < 8 := Nat.mod_lt _ (by decide)
  refine Eq.trans (congrArg (_ + ·) (Finset.sum_congr rfl fun x _ => ?_)) (causal_sum (t.val % 8) hi r _)
  simp only [ld_rows (iblk m c 1 t) _ _ (off5 t), ld_rows (iblk m c 2 t) _ _ (off6 t)]
  rfl

end Cert.KernelDqIdeal.Dq
-- ==== Proof.Dq.Blocks.lean ====
module

public import proofs.«01_k».proof.Proof.Dq.Block

@[expose] public section

set_option maxRecDepth 16384

noncomputable section

open Idealize.ShloMosaic Idealize.ShloMosaic.TcCoe Idealize.SL.Sem

namespace Cert.KernelDqIdeal.Dq

open Cert.KernelDqIdeal Cert.KernelDqIdeal.Gen

variable [Cert.KernelDqIdeal.Facts]
variable (m : (ℓ : Loc nD τ sig) → Buf (Elt Ideal) ℓ)

/-- A grid point's head is below 8. -/
theorem hd_lt : ∀ t : Fin cfg0.N, t.val / 8 < 8 := (by decide +kernel : ∀ t : Fin grid0.N, t.val / 8 < 8)

/-! Where each window's block lies at a grid point: query block `t % 8` of head `t / 8`. -/

theorem idx0 : ∀ t : Fin cfg0.N, win0_0.index t = ![t.val % 8, t.val / 8] := (by decide +kernel : ∀ t : Fin grid0.N, win0_0.index t = ![t.val % 8, t.val / 8])
theorem idx1 : ∀ t : Fin cfg0.N, win0_1.index t = ![0, t.val / 8] := (by decide +kernel : ∀ t : Fin grid0.N, win0_1.index t = ![0, t.val / 8])
theorem idx2 : ∀ t : Fin cfg0.N, win0_2.index t = ![0, t.val / 8] := (by decide +kernel : ∀ t : Fin grid0.N, win0_2.index t = ![0, t.val / 8])
theorem idx3 : ∀ t : Fin cfg0.N, win0_3.index t = ![t.val % 8, t.val / 8] := (by decide +kernel : ∀ t : Fin grid0.N, win0_3.index t = ![t.val % 8, t.val / 8])
theorem idx4 : ∀ t : Fin cfg0.N, win0_4.index t = ![t.val % 8, t.val / 8] := (by decide +kernel : ∀ t : Fin grid0.N, win0_4.index t = ![t.val % 8, t.val / 8])
theorem idx5 : ∀ t : Fin cfg0.N, win0_5.index t = ![t.val % 8, 4 + t.val / 8] := (by decide +kernel : ∀ t : Fin grid0.N, win0_5.index t = ![t.val % 8, 4 + t.val / 8])
theorem idx6 : ∀ t : Fin cfg0.N, win0_6.index t = ![t.val % 8, t.val / 8] := (by decide +kernel : ∀ t : Fin grid0.N, win0_6.index t = ![t.val % 8, t.val / 8])

/-- The head of a grid point. -/
def hd (t : Fin cfg0.N) : Fin 8 := ⟨t.val / 8, hd_lt t⟩
/-- The query row of a grid point's row `r`. -/
def qrow (t : Fin cfg0.N) (r : Fin 512) : Fin 4096 := ⟨512 * (t.val % 8) + r.val, by omega⟩

theorem b0 (c : Dev nD) (t : Fin cfg0.N) (r : Fin 512) (d : Fin 256) : (iblk m c 0 t : S512x256.Idx → EReal) (ix2 r d) =
    (V m c main_v43 : S4096x2048.Idx → EReal) (ix2 (qrow t r) ⟨256 * (hd t).val + d.val, by omega⟩) := by
  unfold hd
  unfold qrow
  blk_simp [iblk]
  generalize V m c main_v43 = W
  blk_ext [idx0 t]

theorem b1 (c : Dev nD) (t : Fin cfg0.N) (k : Fin 4096) (d : Fin 256) : (iblk m c 1 t : S4096x256.Idx → EReal) (ix2 k d) =
    (V m c main_v48 : S4096x2048.Idx → EReal) (ix2 k ⟨256 * (hd t).val + d.val, by omega⟩) := by
  unfold hd
  blk_simp [iblk]
  generalize V m c main_v48 = W
  blk_ext [idx1 t]

theorem b2 (c : Dev nD) (t : Fin cfg0.N) (k : Fin 4096) (d : Fin 128) : (iblk m c 2 t : S4096x128.Idx → EReal) (ix2 k d) =
    (V m c main_v50 : S4096x1024.Idx → EReal) (ix2 k ⟨128 * (hd t).val + d.val, by omega⟩) := by
  unfold hd
  blk_simp [iblk]
  generalize V m c main_v50 = W
  blk_ext [idx2 t]

theorem b3 (c : Dev nD) (t : Fin cfg0.N) (r : Fin 512) (d : Fin 128) : (iblk m c 3 t : S512x128.Idx → EReal) (ix2 r d) =
    (V m c main_v27 : S4096x1024.Idx → EReal) (ix2 (qrow t r) ⟨128 * (hd t).val + d.val, by omega⟩) := by
  unfold hd
  unfold qrow
  blk_simp [iblk]
  generalize V m c main_v27 = W
  blk_ext [idx3 t]

theorem e4 (r : Fin 512) (d : Fin 128) (W : S4096x1024.Idx → EReal) (t : Fin cfg0.N) : W ((win0_4.blk t).view.emb (ix2 r d)) = W (ix2 (qrow t r) ⟨128 * (hd t).val + d.val, by omega⟩) := by
  unfold hd qrow
  blk_ext [idx4 t]
theorem r4 (c : Dev nD) (t : Fin cfg0.N) (W : (b : Ref sig Kind.tc) → Buf (Elt Ideal) ((Dev.tc (τ := τ) c).loc b)) (x : S512x128.Idx) : View.read (Elt Ideal) ((cfg0.win 4).blk t).view (W (Pipeline.arrRef spec0 4)) x = W (Pipeline.arrRef spec0 4) (((cfg0.win 4).blk t).view.emb x) := rfl
theorem s4 (c : Dev nD) (t : Fin cfg0.N) (W : (b : Ref sig Kind.tc) → Buf (Elt Ideal) ((Dev.tc (τ := τ) c).loc b)) (x : S512x128.Idx) : W (Pipeline.arrRef spec0 4) (((cfg0.win 4).blk t).view.emb x) = W main_v39 ((win0_4.blk t).view.emb x) := rfl
theorem b4 (c : Dev nD) (t : Fin cfg0.N) (r : Fin 512) (d : Fin 128) : (iblk m c 4 t : S512x128.Idx → EReal) (ix2 r d) =
    (V m c main_v39 : S4096x1024.Idx → EReal) (ix2 (qrow t r) ⟨128 * (hd t).val + d.val, by omega⟩) := by
  exact (r4 c t (V m c) (ix2 r d)).trans ((s4 c t (V m c) (ix2 r d)).trans (e4 r d (V m c main_v39) t))

theorem b5 (c : Dev nD) (t : Fin cfg0.N) (r : Fin 512) (d : Fin 128) : (iblk m c 5 t : S512x128.Idx → EReal) (ix2 r d) =
    (V m c main_arg5 : S4096x2048.Idx → EReal) (ix2 (qrow t r) ⟨512 + ((hd t).val * 128 + d.val), by omega⟩) := by
  unfold hd
  unfold qrow
  blk_simp [iblk]
  generalize V m c main_arg5 = W
  blk_ext [idx5 t]

end Cert.KernelDqIdeal.Dq
-- ==== Proof.Dq.Entry.lean ====
module

public import proofs.«01_k».proof.Proof.Dq.Block
public import Idealize.ShloMosaic.Lib.StableHlo.RunRead
public import proofs.«01_k».proof.Proof.Gen.ReferenceDqIdeal.Read

@[expose] public section

set_option maxRecDepth 200000

noncomputable section

open Idealize.ShloMosaic Idealize.ShloMosaic.TcCoe Idealize.SL.Sem

namespace Cert.KernelDqIdeal.Dq

open Cert.KernelDqIdeal Cert.KernelDqIdeal.Gen

variable [Cert.KernelDqIdeal.Facts] [Cert.ReferenceDqIdeal.Facts]
variable (m : (ℓ : Loc nD τ sig) → Buf (Elt Ideal) ℓ)

/-- A concatenation of three pieces depends on the pieces' entries alone. -/
theorem concat3 {α : Type} {A B C D : Shape} {a : Fin D.rank} {f f' : A.Idx → α} {g g' : B.Idx → α} {h h' : C.Idx → α}
    (P : Shape.Concatenates [A, B, C] D a) (hf : f = f') (hg : g = g') (hh : h = h') :
    concatenate D a [⟨A, f⟩, ⟨B, g⟩, ⟨C, h⟩] P = concatenate D a [⟨A, f'⟩, ⟨B, g'⟩, ⟨C, h'⟩] P := by
  subst hf hg hh
  rfl

/-- `q` as the kernels lay it out: each head's 128 entries without rotation, 64 with, 64 zeros. -/
def qOf (x0 : FVec Ideal S4096x8x128 .f32) (x1 : FVec Ideal S4096x8x64 .f32) : FVec Ideal S4096x2048 .f32 :=
  shapeCast S4096x2048 (concatenate S4096x8x256 2 [⟨S4096x8x128, x0⟩, ⟨S4096x8x64, x1⟩,
    ⟨S4096x8x64, (broadcastInDim S4096x8x64 ![] bcast_S_S4096x8x64 (constant S_ .f32 0x00000000#32) : FVec Ideal S4096x8x64 .f32)⟩] concatenates_S4096x8x128_S4096x8x64_S4096x8x64_S4096x8x256_d2)
    shapeCasts_S4096x8x256_S4096x2048

/-- `k` as the kernels lay it out; the rotated entries are repeated in every head. -/
def kOf (x2 : FVec Ideal S4096x8x128 .f32) (x3 : FVec Ideal S4096x64 .f32) : FVec Ideal S4096x2048 .f32 :=
  shapeCast S4096x2048 (concatenate S4096x8x256 2 [⟨S4096x8x128, x2⟩,
    ⟨S4096x8x64, (broadcastInDim S4096x8x64 ![0, 1, 2] bcast_S4096x1x64_S4096x8x64_0_1_2 (broadcastInDim S4096x1x64 ![0, 2] bcast_S4096x64_S4096x1x64_0_2 x3) : FVec Ideal S4096x8x64 .f32)⟩,
    ⟨S4096x8x64, (broadcastInDim S4096x8x64 ![] bcast_S_S4096x8x64 (constant S_ .f32 0x00000000#32) : FVec Ideal S4096x8x64 .f32)⟩] concatenates_S4096x8x128_S4096x8x64_S4096x8x64_S4096x8x256_d2)
    shapeCasts_S4096x8x256_S4096x2048

/-- An array of heads' 128 entries, its heads laid side by side. -/
def flat (x : FVec Ideal S4096x8x128 .f32) : FVec Ideal S4096x1024 .f32 := shapeCast S4096x1024 x shapeCasts_S4096x8x128_S4096x1024

theorem entry_q (c : Dev nD) : (V m c main_v43 : S4096x2048.Idx → EReal) = qOf (m (c, main_arg0)) (m (c, main_arg1)) := by
  unfold qOf
  unfold V
  simp only [List.flatten_cons, List.flatten_nil, List.append_nil, List.cons_append, List.nil_append]
  after_reads_simp
  refine congrArg (fun x : FVec Ideal S4096x8x256 .f32 => shapeCast S4096x2048 x shapeCasts_S4096x8x256_S4096x2048) (concat3 _ ?_ ?_ ?_)
  all_goals after_reads_simp
  all_goals rfl

theorem entry_k (c : Dev nD) : (V m c main_v48 : S4096x2048.Idx → EReal) = kOf (m (c, main_arg2)) (m (c, main_arg3)) := by
  unfold kOf
  unfold V
  simp only [List.flatten_cons, List.flatten_nil, List.append_nil, List.cons_append, List.nil_append]
  after_reads_simp
  refine congrArg (fun x : FVec Ideal S4096x8x256 .f32 => shapeCast S4096x2048 x shapeCasts_S4096x8x256_S4096x2048) (concat3 _ ?_ ?_ ?_)
  all_goals after_reads_simp
  all_goals rfl

/-- The attention output `o`, as the reference's own forward term. -/
theorem entry_o (c : Dev nD) : (V m c main_v27 : S4096x1024.Idx → EReal) =
    flat (Cert.ReferenceDqIdeal.Read.val_main_v45 (F := Ideal) (m (c, main_arg0)) (m (c, main_arg1)) (m (c, main_arg2)) (m (c, main_arg3)) (m (c, main_arg4))) := by
  unfold V
  simp only [List.flatten_cons, List.flatten_nil, List.append_nil, List.cons_append, List.nil_append]
  after_reads_simp
  rfl

/-- The row's log-sum-exp, from masked scores `s` and their row maxima `mx`. -/
def lseOf (s : FVec Ideal S8x4096x4096 .f32) (mx : FVec Ideal S8x4096 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1
      (transpose S4096x8 [1, 0] (addf mx (Host.log (Host.reduceAdd (Host.exp (subf s
        (broadcastInDim S8x4096x4096 ![0, 1, 2] bcast_S8x4096x1_S8x4096x4096_0_1_2
          (broadcastInDim S8x4096x1 ![0, 1] bcast_S8x4096_S8x4096x1_0_1 mx))))
        (constant S_ .f32 0x00000000#32) reducesTo_S8x4096x4096_S8x4096_d2 h_S_))) transposes_S8x4096_S4096x8_1_0)))
    shapeCasts_S4096x8x128_S4096x1024

theorem entry_lse (c : Dev nD) : (V m c main_v39 : S4096x1024.Idx → EReal) =
    lseOf (Cert.ReferenceDqIdeal.Read.val_main_v15_0 (F := Ideal) (m (c, main_arg0)) (m (c, main_arg1)) (m (c, main_arg2)) (m (c, main_arg3)))
      (Cert.ReferenceDqIdeal.Read.val_main_v16 (F := Ideal) (m (c, main_arg0)) (m (c, main_arg1)) (m (c, main_arg2)) (m (c, main_arg3))) := by
  unfold V
  simp only [List.flatten_cons, List.flatten_nil, List.append_nil, List.cons_append, List.nil_append]
  after_reads_simp
  rfl

theorem entry_v (c : Dev nD) : (V m c main_v50 : S4096x1024.Idx → EReal) = flat (m (c, main_arg4)) := by
  unfold V
  simp only [List.flatten_cons, List.flatten_nil, List.append_nil, List.cons_append, List.nil_append]
  after_reads_simp
  rfl

end Cert.KernelDqIdeal.Dq
-- ==== Proof.Math.Softmax.lean ====
module

public import Idealize.ShloMosaic.PureOps.Ideal
public import Idealize.ShloMosaic.Lib.IdealHost

@[expose] public section

noncomputable section

open Idealize.ShloMosaic

namespace Cert.Attn

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of `-inf` is the least extended real. -/
theorem ofBits_neg_inf : Ideal.ofBits FTy.f32 4286578688#32 = ⊥ := by
  simp [Ideal.ofBits, Ideal.ieee]

/-- The scale factor's word is a real number. -/
theorem scale_real : ∃ c : ℝ, Ideal.ofBits FTy.f32 1033096506#32 = (c : EReal) := by
  simp only [Ideal.ofBits, Ideal.ieee]
  simp
  exact ⟨_, (EReal.coe_mul _ _).symm⟩

/-- The scale factor. -/
def scale : ℝ := Classical.choose scale_real

theorem ofBits_scale : Ideal.ofBits FTy.f32 1033096506#32 = (scale : EReal) := Classical.choose_spec scale_real

/-- The maximum over a row of equal entries is the entry. -/
theorem fold_const {n : ℕ} (x : EReal) : Finset.fold max ⊥ (fun _ : Fin (n + 1) => x) Finset.univ = x := by
  show Finset.sup Finset.univ (fun _ : Fin (n + 1) => x) = x
  exact Finset.sup_const Finset.univ_nonempty x

variable {n : ℕ} (s : Fin n → ℝ) (a : Fin n)

/-- A row of scores under the causal mask. -/
def masked (k : Fin n) : EReal := if k.val ≤ a.val then (s k : EReal) else ⊥

/-- The greatest score of row `a` that the mask keeps. -/
def mu : ℝ := (Finset.fold max ⊥ (masked s a) Finset.univ).toReal

theorem coe_mu : Finset.fold max ⊥ (masked s a) Finset.univ = (mu s a : EReal) := by
  refine (EReal.coe_toReal ?_ ?_).symm
  · refine ne_of_lt (show Finset.sup Finset.univ (masked s a) < ⊤ from ?_)
    rw [Finset.sup_lt_iff (by exact bot_lt_top)]
    intro k _
    unfold masked
    split
    · exact EReal.coe_lt_top _
    · exact bot_lt_top
  · refine ne_of_gt (lt_of_lt_of_le (EReal.bot_lt_coe (s a)) (show _ ≤ Finset.sup Finset.univ (masked s a) from ?_))
    refine le_trans (le_of_eq ?_) (Finset.le_sup (Finset.mem_univ a))
    simp [masked]

/-- The exponentials of row `a`, zero where masked. -/
def ex (k : Fin n) : ℝ := if k.val ≤ a.val then Real.exp (s k - mu s a) else 0

theorem coe_ex (k : Fin n) : Ideal.exp (masked s a k - (mu s a : EReal)) = (ex s a k : EReal) := by
  unfold masked ex
  split
  · rw [← EReal.coe_sub]; rfl
  · rw [EReal.bot_sub]; rfl

/-- The row's sum of exponentials. -/
def den : ℝ := ∑ k, ex s a k

theorem den_pos : 0 < den s a := by
  refine Finset.sum_pos' (fun k _ => ?_) ⟨a, Finset.mem_univ _, ?_⟩
  · unfold ex; split
    · exact (Real.exp_pos _).le
    · exact le_rfl
  · unfold ex; rw [if_pos le_rfl]; exact Real.exp_pos _

theorem den_ne : den s a ≠ 0 := (den_pos s a).ne'

/-- The row's logarithm of its sum of exponentials. -/
def lse : ℝ := mu s a + Real.log (den s a)

theorem coe_lse : (mu s a : EReal) + Ideal.log (den s a : EReal) = (lse s a : EReal) := by
  rw [Ideal.log_coe, if_neg (not_le.mpr (den_pos s a)), ← EReal.coe_add, lse]

/-- A kept entry's probability from the saved log-sum. -/
theorem exp_lse (k : Fin n) (h : k.val ≤ a.val) : Real.exp (s k - lse s a) = ex s a k / den s a := by
  unfold lse ex
  rw [if_pos h, ← sub_sub, Real.exp_sub, Real.exp_log (den_pos s a)]

variable (dp : Fin n → ℝ) (c : ℝ)

/-- The gradient of the scores of row `a`, as the derivative of the softmax gives it. -/
def ds (k : Fin n) : ℝ :=
  (if k.val ≤ a.val then (dp k / den s a + -(∑ k', dp k' * (1 / (den s a * den s a)) * ex s a k')) * ex s a k else 0) * c

/-- The same from the saved log-sum and the row's product of output and its gradient. -/
theorem ds_eq (k : Fin n) (h : k.val ≤ a.val) :
    Real.exp (s k - lse s a) * (dp k - ∑ k', (ex s a k' / den s a) * dp k') * c = ds s a dp c k := by
  have hd := den_ne s a
  rw [exp_lse s a k h, ds, if_pos h]
  have e : (∑ k', dp k' * (1 / (den s a * den s a)) * ex s a k') = (1 / den s a) * ∑ k', (ex s a k' / den s a) * dp k' := by
    rw [Finset.mul_sum]
    refine Finset.sum_congr rfl fun k' _ => ?_
    field_simp
  rw [e]
  field_simp
  ring

/-- Summed over the output's columns first or over the keys first, the row's product is the same. -/
theorem delta_eq {p : ℕ} (g : Fin p → ℝ) (v : Fin n → Fin p → ℝ) (w : Fin n → ℝ) :
    (∑ d, g d * ∑ k, v k d * w k) = ∑ k, w k * ∑ d, g d * v k d := by
  simp only [Finset.mul_sum]
  rw [Finset.sum_comm]
  refine Finset.sum_congr rfl fun k _ => Finset.sum_congr rfl fun d _ => ?_
  ring

end Cert.Attn
-- ==== Proof.Dq.Ref1.lean ====
module

public import proofs.«01_k».proof.Proof.Gen.ReferenceDqIdeal.Read
public import proofs.«01_k».proof.Proof.Math.Softmax
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.ReferenceDqIdeal.At

open Cert.ReferenceDqIdeal Cert.ReferenceDqIdeal.Read Cert.Attn

/-- An array of reals, read in the extended reals. -/
def up {S : Shape} (f : S.Idx → ℝ) : (⟨S, .f32⟩ : BufTy).Contents (Elt Ideal) := fun i => (f i : EReal)

theorem up_apply {S : Shape} (f : S.Idx → ℝ) (i : S.Idx) : up f i = (f i : EReal) := rfl

variable [Cert.ReferenceDqIdeal.Facts]
variable (f0 : S4096x8x128.Idx → ℝ) (f1 : S4096x8x64.Idx → ℝ) (f2 : S4096x8x128.Idx → ℝ) (f3 : S4096x64.Idx → ℝ)
  (f4 : S4096x8x128.Idx → ℝ) (f5 : S4096x2048.Idx → ℝ)

/-- The scaled score of query row `a` and key row `k` in head `h`. -/
def sR (h : Fin 8) (a k : Fin 4096) : ℝ :=
  ((∑ d : Fin 128, f0 (ix3 a h d) * f2 (ix3 k h d)) + ∑ d : Fin 64, f3 (ix2 k d) * f1 (ix3 a h d)) * scale

theorem v7_at (h : Fin 8) (a k : Fin 4096) :
    val_main_v7 (F := Ideal) (up f0) (up f1) (up f2) (up f3) (ix3 h a k) = (sR f0 f1 f2 f3 h a k : EReal) := by
  have e : val_main_v7 (F := Ideal) (up f0) (up f1) (up f2) (up f3) (ix3 h a k) =
      (((∑ d : Fin 128, up f0 (ix3 a h d) * up f2 (ix3 k h d)) + ∑ d : Fin 64, up f3 (ix2 k d) * up f1 (ix3 a h d)) *
        Ideal.ofBits FTy.f32 1033096506#32 : EReal) := by
    pointwise [val_main_v7, val_main_v6, val_main_v5, val_main_v4, val_main_v3, val_main_v2, val_main_cst]
  rw [e, ofBits_scale, sR, EReal.coe_mul, EReal.coe_add, coe_sum, coe_sum]
  simp only [up_apply, EReal.coe_mul]

theorem v14_at (a k : Fin 4096) : val_main_v14 (F := Ideal) (ix2 a k) = if k.val ≤ a.val then 1#1 else 0#1 := by
  pointwise [val_main_v14, val_main_v13, val_main_v12, val_main_v11, val_main_v10, val_main_v9, val_main_v8]
  rw [WordCmp.cmpi_sle_ofNat (by omega) (by omega)]
  by_cases h : k.val ≤ a.val <;> simp [h]

theorem v15_1_at (h : Fin 8) (a k : Fin 4096) : val_main_v15_1 (F := Ideal) (ix3 h a k) = if k.val ≤ a.val then 1#1 else 0#1 := by
  rw [val_main_v15_1_apply, ← v14_at a k]
  rfl

theorem v15_at (h : Fin 8) (a k : Fin 4096) :
    val_main_v15_0 (F := Ideal) (up f0) (up f1) (up f2) (up f3) (ix3 h a k) = masked (sR f0 f1 f2 f3 h a) a k := by
  rw [val_main_v15_0_apply, v7_at, v15_1_at, masked]
  have e : val_main_call0_v2 (F := Ideal) (ix3 h a k) = (⊥ : EReal) := by
    rw [← ofBits_neg_inf]
    pointwise [val_main_call0_v2, val_main_call0_v0, val_main_cst_0]
    rfl
  rw [e]
  split <;> simp [Scalar.select]

theorem v16_at (h : Fin 8) (a : Fin 4096) :
    val_main_v16 (F := Ideal) (up f0) (up f1) (up f2) (up f3) (ix2 h a) = (mu (sR f0 f1 f2 f3 h a) a : EReal) := by
  have e : val_main_v16 (F := Ideal) (up f0) (up f1) (up f2) (up f3) (ix2 h a) =
      Finset.fold max (Ideal.ofBits FTy.f32 4286578688#32) (fun k => val_main_v15_0 (F := Ideal) (up f0) (up f1) (up f2) (up f3) (ix3 h a k)) Finset.univ := by
    unfold val_main_v16
    generalize val_main_v15_0 (F := Ideal) (up f0) (up f1) (up f2) (up f3) = y
    pointwise [val_main_cst_1]
  rw [e, ofBits_neg_inf, ← coe_mu]
  exact congrArg (fun f => Finset.fold max ⊥ f Finset.univ) (funext fun k => v15_at f0 f1 f2 f3 h a k)

end Cert.ReferenceDqIdeal.At
-- ==== Proof.Dq.Ref2.lean ====
module

public import proofs.«01_k».proof.Proof.Dq.Ref1
public import proofs.«01_k».proof.Proof.Math.Softmax
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.ReferenceDqIdeal.At

open Cert.ReferenceDqIdeal Cert.ReferenceDqIdeal.Read Cert.Attn

variable [Cert.ReferenceDqIdeal.Facts]
variable (f0 : S4096x8x128.Idx → ℝ) (f1 : S4096x8x64.Idx → ℝ) (f2 : S4096x8x128.Idx → ℝ) (f3 : S4096x64.Idx → ℝ)
  (f4 : S4096x8x128.Idx → ℝ) (f5 : S4096x2048.Idx → ℝ)

theorem e36 (h : Fin 8) (a k : Fin 4096) : val_main_v36 (F := Ideal) (up f0) (up f1) (up f2) (up f3) (ix3 h a k) =
      Ideal.exp (val_main_v15_0 (F := Ideal) (up f0) (up f1) (up f2) (up f3) (ix3 h a k) -
        max (Ideal.ofBits FTy.f32 4286578688#32) (val_main_v16 (F := Ideal) (up f0) (up f1) (up f2) (up f3) (ix2 h a))) := by
    rw [val_main_v36_apply, val_main_v35_apply, val_main_v34_apply, val_main_v33_apply, val_main_v23_apply]
    have hi : idx_main_v33 (idx_main_v34 (ix3 h a k)) = ix2 h a := funext fun b => match b with | ⟨0, _⟩ => rfl | ⟨1, _⟩ => rfl
    rw [hi]
    have e : val_main_v22 (F := Ideal) (ix2 h a) = Ideal.ofBits FTy.f32 4286578688#32 := by
      pointwise [val_main_v22, val_main_cst_3]
    rw [e]
    generalize val_main_v15_0 (F := Ideal) (up f0) (up f1) (up f2) (up f3) (ix3 h a k) = y
    generalize val_main_v16 (F := Ideal) (up f0) (up f1) (up f2) (up f3) (ix2 h a) = z
    rfl

theorem v36_at (h : Fin 8) (a k : Fin 4096) :
    val_main_v36 (F := Ideal) (up f0) (up f1) (up f2) (up f3) (ix3 h a k) = (ex (sR f0 f1 f2 f3 h a) a k : EReal) := by
  rw [e36, v15_at, v16_at, ofBits_neg_inf, max_eq_right bot_le]
  exact coe_ex _ _ _

theorem v38_at (h : Fin 8) (a : Fin 4096) :
    val_main_v38 (F := Ideal) (up f0) (up f1) (up f2) (up f3) (ix3 h a 0) = (den (sR f0 f1 f2 f3 h a) a : EReal) := by
  have e : val_main_v38 (F := Ideal) (up f0) (up f1) (up f2) (up f3) (ix3 h a 0) =
      (∑ k : Fin 4096, val_main_v36 (F := Ideal) (up f0) (up f1) (up f2) (up f3) (ix3 h a k) : EReal) := by
    unfold val_main_v38 val_main_v37
    generalize val_main_v36 (F := Ideal) (up f0) (up f1) (up f2) (up f3) = y
    pointwise [val_main_cst_9]
  rw [e, den, coe_sum]
  exact Finset.sum_congr rfl fun k _ => v36_at f0 f1 f2 f3 h a k

/-- The product of the output's gradient and the value row `k`. -/
def dpR (h : Fin 8) (a k : Fin 4096) : ℝ := ∑ d : Fin 128, f5 (ix2 a ⟨512 + (h.val * 128 + d.val), by omega⟩) * f4 (ix3 k h d)

theorem v47_at (h : Fin 8) (a k : Fin 4096) : val_main_v47 (F := Ideal) (up f4) (up f5) (ix3 h a k) = (dpR f4 f5 h a k : EReal) := by
  have e : val_main_v47 (F := Ideal) (up f4) (up f5) (ix3 h a k) =
      (∑ d : Fin 128, up f5 (ix2 a ⟨512 + (h.val * 128 + d.val), by omega⟩) * up f4 (ix3 k h d) : EReal) := by
    pointwise [val_main_v47, val_main_v46, val_main_v1, val_main_v0]
  rw [e, dpR, coe_sum]
  simp only [up_apply, EReal.coe_mul]

/-- The attention's output. -/
def oR (h : Fin 8) (a : Fin 4096) (d : Fin 128) : ℝ :=
  ∑ k : Fin 4096, f4 (ix3 k h d) * (ex (sR f0 f1 f2 f3 h a) a k / den (sR f0 f1 f2 f3 h a) a)

theorem v45_at (h : Fin 8) (a : Fin 4096) (d : Fin 128) :
    val_main_v45 (F := Ideal) (up f0) (up f1) (up f2) (up f3) (up f4) (ix3 a h d) = (oR f0 f1 f2 f3 f4 h a d : EReal) := by
  have e : val_main_v45 (F := Ideal) (up f0) (up f1) (up f2) (up f3) (up f4) (ix3 a h d) =
      (∑ k : Fin 4096, up f4 (ix3 k h d) * Ideal.div (val_main_v36 (F := Ideal) (up f0) (up f1) (up f2) (up f3) (ix3 h a k))
        (val_main_v38 (F := Ideal) (up f0) (up f1) (up f2) (up f3) (ix3 h a 0)) : EReal) := by
    unfold val_main_v45 val_main_v44 val_main_v40 val_main_v39
    generalize val_main_v36 (F := Ideal) (up f0) (up f1) (up f2) (up f3) = y
    generalize val_main_v38 (F := Ideal) (up f0) (up f1) (up f2) (up f3) = z
    pointwise []
  rw [e, oR, coe_sum]
  refine Finset.sum_congr rfl fun k _ => ?_
  rw [v36_at, v38_at, Ideal.div_coe (den_ne _ _), up_apply, ← EReal.coe_mul, ← EReal.coe_mul, one_div, div_eq_mul_inv]

/-- The gradient of the scores. -/
def dsR (h : Fin 8) (a k : Fin 4096) : ℝ := ds (sR f0 f1 f2 f3 h a) a (dpR f4 f5 h a) scale k

theorem v57_at (h : Fin 8) (a k : Fin 4096) :
    val_main_v57 (F := Ideal) (up f0) (up f1) (up f2) (up f3) (up f4) (up f5) (ix3 h a k) =
      ((-(∑ k', dpR f4 f5 h a k' * (1 / (den (sR f0 f1 f2 f3 h a) a * den (sR f0 f1 f2 f3 h a) a)) * ex (sR f0 f1 f2 f3 h a) a k') : ℝ) : EReal) := by
  have e : val_main_v57 (F := Ideal) (up f0) (up f1) (up f2) (up f3) (up f4) (up f5) (ix3 h a k) =
      (-(∑ k' : Fin 4096, val_main_v47 (F := Ideal) (up f4) (up f5) (ix3 h a k') * Ideal.div (Ideal.ofBits FTy.f32 0x3F800000#32)
        (val_main_v38 (F := Ideal) (up f0) (up f1) (up f2) (up f3) (ix3 h a 0) * val_main_v38 (F := Ideal) (up f0) (up f1) (up f2) (up f3) (ix3 h a 0)) *
        val_main_v36 (F := Ideal) (up f0) (up f1) (up f2) (up f3) (ix3 h a k')) : EReal) := by
    unfold val_main_v57 val_main_v56 val_main_v53 val_main_v52 val_main_v51 val_main_v50 val_main_v49 val_main_v48 val_main_v43 val_main_v41
    generalize val_main_v36 (F := Ideal) (up f0) (up f1) (up f2) (up f3) = y
    generalize val_main_v38 (F := Ideal) (up f0) (up f1) (up f2) (up f3) = z
    generalize val_main_v47 (F := Ideal) (up f4) (up f5) = w
    pointwise [val_main_v42, val_main_cst_10, val_main_cst_11, val_main_cst_12]
    exact Fin.sum_univ_one _
  rw [e, EReal.coe_neg, coe_sum]
  refine congrArg (fun x : EReal => -x) (Finset.sum_congr rfl fun k _ => ?_)
  rw [v36_at, v38_at, v47_at, ← EReal.coe_mul, Ideal.div_coe (mul_ne_zero (den_ne _ _) (den_ne _ _)), Ideal.ofBits_one_f32, one_mul,
    EReal.coe_mul, EReal.coe_mul]

theorem v62_at (h : Fin 8) (a k : Fin 4096) :
    val_main_v62 (F := Ideal) (up f0) (up f1) (up f2) (up f3) (up f4) (up f5) (ix3 h a k) = (dsR f0 f1 f2 f3 f4 f5 h a k : EReal) := by
  have e : val_main_v62 (F := Ideal) (up f0) (up f1) (up f2) (up f3) (up f4) (up f5) (ix3 h a k) =
      (Scalar.select (val_main_v15_1 (F := Ideal) (ix3 h a k))
        ((Ideal.div (val_main_v47 (F := Ideal) (up f4) (up f5) (ix3 h a k)) (val_main_v38 (F := Ideal) (up f0) (up f1) (up f2) (up f3) (ix3 h a 0)) +
          val_main_v57 (F := Ideal) (up f0) (up f1) (up f2) (up f3) (up f4) (up f5) (ix3 h a k)) * val_main_v36 (F := Ideal) (up f0) (up f1) (up f2) (up f3) (ix3 h a k)) 0
        * Ideal.ofBits FTy.f32 1033096506#32 : EReal) := by
    unfold val_main_v62 val_main_v60 val_main_v59 val_main_v58 val_main_v55 val_main_v54
    generalize val_main_v36 (F := Ideal) (up f0) (up f1) (up f2) (up f3) = y
    generalize val_main_v38 (F := Ideal) (up f0) (up f1) (up f2) (up f3) = z
    generalize val_main_v47 (F := Ideal) (up f4) (up f5) = w
    generalize val_main_v57 (F := Ideal) (up f0) (up f1) (up f2) (up f3) (up f4) (up f5) = u
    generalize val_main_v15_1 (F := Ideal) = q
    pointwise [val_main_v61, val_main_cst_13, val_main_call1_v0, val_main_call1_cst]
  rw [e, v36_at, v38_at, v47_at, v57_at, v15_1_at, ofBits_scale, dsR, ds, Ideal.div_coe (den_ne _ _)]
  split
  · simp only [Scalar.select, EReal.coe_mul, EReal.coe_add, div_eq_mul_inv, one_mul]
    rw [if_pos (by decide)]
  · simp [Scalar.select]

theorem v66_at (h : Fin 8) (a : Fin 4096) (j : Fin 128) :
    val_main_v66 (F := Ideal) (up f0) (up f1) (up f2) (up f3) (up f4) (up f5) (ix3 a h j) =
      ((∑ k, dsR f0 f1 f2 f3 f4 f5 h a k * f2 (ix3 k h j) : ℝ) : EReal) := by
  have e : val_main_v66 (F := Ideal) (up f0) (up f1) (up f2) (up f3) (up f4) (up f5) (ix3 a h j) =
      (∑ k : Fin 4096, val_main_v62 (F := Ideal) (up f0) (up f1) (up f2) (up f3) (up f4) (up f5) (ix3 h a k) * up f2 (ix3 k h j) : EReal) := by
    unfold val_main_v66 val_main_v65
    generalize val_main_v62 (F := Ideal) (up f0) (up f1) (up f2) (up f3) (up f4) (up f5) = y
    pointwise []
  rw [e, coe_sum]
  refine Finset.sum_congr rfl fun k _ => ?_
  rw [v62_at, up_apply, EReal.coe_mul]

theorem v64_at (h : Fin 8) (a : Fin 4096) (j : Fin 64) :
    val_main_v64 (F := Ideal) (up f0) (up f1) (up f2) (up f3) (up f4) (up f5) (ix3 a h j) =
      ((∑ k, dsR f0 f1 f2 f3 f4 f5 h a k * f3 (ix2 k j) : ℝ) : EReal) := by
  have e : val_main_v64 (F := Ideal) (up f0) (up f1) (up f2) (up f3) (up f4) (up f5) (ix3 a h j) =
      (∑ k : Fin 4096, val_main_v62 (F := Ideal) (up f0) (up f1) (up f2) (up f3) (up f4) (up f5) (ix3 h a k) * up f3 (ix2 k j) : EReal) := by
    unfold val_main_v64 val_main_v63
    generalize val_main_v62 (F := Ideal) (up f0) (up f1) (up f2) (up f3) (up f4) (up f5) = y
    pointwise []
  rw [e, coe_sum]
  refine Finset.sum_congr rfl fun k _ => ?_
  rw [v62_at, up_apply, EReal.coe_mul]

/-- Head `h` of a row of `q` as the kernel lays it out: 128 entries without rotation, 64 with, 64 zeros. -/
def qR (a : Fin 4096) (h : Fin 8) (j : Fin 256) : ℝ :=
  if h1 : j.val < 128 then f0 (ix3 a h ⟨j.val, h1⟩) else if h2 : j.val - 128 < 64 then f1 (ix3 a h ⟨j.val - 128, h2⟩) else 0

/-- Head `h` of a row of `k` as the kernel lays it out; the rotated entries are the same in every head. -/
def kR (k : Fin 4096) (h : Fin 8) (j : Fin 256) : ℝ :=
  if h1 : j.val < 128 then f2 (ix3 k h ⟨j.val, h1⟩) else if h2 : j.val - 128 < 64 then f3 (ix2 k ⟨j.val - 128, h2⟩) else 0

/-- A sum over a laid-out row is the sum over its two parts. -/
theorem sum_split (A : Fin 128 → ℝ) (B : Fin 64 → ℝ) :
    (∑ j : Fin 256, if h1 : j.val < 128 then A ⟨j.val, h1⟩ else if h2 : j.val - 128 < 64 then B ⟨j.val - 128, h2⟩ else 0) =
      (∑ d, A d) + ∑ d, B d := by
  show (∑ j : Fin (128 + (64 + 64)), _) = _
  rw [Fin.sum_univ_add, Fin.sum_univ_add]
  have e0 : ∀ i : Fin 128, (i.val < 128) = True := fun i => by simp
  have e1 : ∀ i : Fin 64, (i.val < 64) = True := fun i => by simp
  simp [e0, e1]

/-- The laid-out rows' product is the score before scaling. -/
theorem qk (h : Fin 8) (a k : Fin 4096) : (∑ j, qR f0 f1 a h j * kR f2 f3 k h j) * scale = sR f0 f1 f2 f3 h a k := by
  have e : ∀ j, qR f0 f1 a h j * kR f2 f3 k h j =
      if h1 : j.val < 128 then f0 (ix3 a h ⟨j.val, h1⟩) * f2 (ix3 k h ⟨j.val, h1⟩)
      else if h2 : j.val - 128 < 64 then f3 (ix2 k ⟨j.val - 128, h2⟩) * f1 (ix3 a h ⟨j.val - 128, h2⟩) else 0 := fun j => by
    unfold qR kR
    split
    · rfl
    · split
      · exact mul_comm _ _
      · exact mul_zero _
  simp only [e]
  rw [sum_split (fun d => f0 (ix3 a h d) * f2 (ix3 k h d)) (fun d => f3 (ix2 k d) * f1 (ix3 a h d)), sR]

/-- The reference's result: head `h` of row `a`, laid out as `k` is. -/
theorem v69_at (h : Fin 8) (a : Fin 4096) (j : Fin 256) :
    val_main_v69 (F := Ideal) (up f0) (up f1) (up f2) (up f3) (up f4) (up f5) (ix2 a ⟨256 * h.val + j.val, by omega⟩) =
      ((∑ k, dsR f0 f1 f2 f3 f4 f5 h a k * kR f2 f3 k h j : ℝ) : EReal) := by
  have e : val_main_v69 (F := Ideal) (up f0) (up f1) (up f2) (up f3) (up f4) (up f5) (ix2 a ⟨256 * h.val + j.val, by omega⟩) =
      ((if h1 : j.val < 128 then val_main_v66 (F := Ideal) (up f0) (up f1) (up f2) (up f3) (up f4) (up f5) (ix3 a h ⟨j.val, h1⟩)
        else if h2 : j.val - 128 < 64 then val_main_v64 (F := Ideal) (up f0) (up f1) (up f2) (up f3) (up f4) (up f5) (ix3 a h ⟨j.val - 128, h2⟩) else 0 : EReal)) := by
    unfold val_main_v69 val_main_v68
    generalize val_main_v66 (F := Ideal) (up f0) (up f1) (up f2) (up f3) (up f4) (up f5) = y
    generalize val_main_v64 (F := Ideal) (up f0) (up f1) (up f2) (up f3) (up f4) (up f5) = z
    pointwise [val_main_v67, val_main_cst_14]
  rw [e]
  unfold kR
  split
  · exact v66_at f0 f1 f2 f3 f4 f5 h a _
  · split
    · exact v64_at f0 f1 f2 f3 f4 f5 h a _
    · simp

/-- The weight of key `k` in the kernel's sum, in reals: from the saved log-sum and the row's product of output and its gradient. -/
theorem ds_saved (h : Fin 8) (a k : Fin 4096) (hk : k.val ≤ a.val) :
    Real.exp (sR f0 f1 f2 f3 h a k - lse (sR f0 f1 f2 f3 h a) a) * (dpR f4 f5 h a k -
      ∑ d : Fin 128, f5 (ix2 a ⟨512 + (h.val * 128 + d.val), by omega⟩) * oR f0 f1 f2 f3 f4 h a d) * scale = dsR f0 f1 f2 f3 f4 f5 h a k := by
  unfold dsR oR
  rw [← ds_eq _ _ _ _ _ hk, delta_eq]
  rfl

/-- A masked entry's gradient is zero. -/
theorem ds_masked (h : Fin 8) (a k : Fin 4096) (hk : ¬ k.val ≤ a.val) : dsR f0 f1 f2 f3 f4 f5 h a k = 0 := by
  unfold dsR ds
  rw [if_neg hk, zero_mul]

end Cert.ReferenceDqIdeal.At
-- ==== Proof.Dq.At1.lean ====
module

public import proofs.«01_k».proof.Proof.Dq.Entry
public import proofs.«01_k».proof.Proof.Dq.Ref2

@[expose] public section

set_option maxRecDepth 16384

noncomputable section

open Idealize.ShloMosaic Idealize.ShloMosaic.TcCoe Idealize.SL.Sem

namespace Cert.KernelDqIdeal.Dq

open Cert.KernelDqIdeal Cert.KernelDqIdeal.Gen Cert.ReferenceDqIdeal.At Cert.Attn

variable [Cert.KernelDqIdeal.Facts] [Cert.ReferenceDqIdeal.Facts]
variable (f0 : S4096x8x128.Idx → ℝ) (f1 : S4096x8x64.Idx → ℝ) (f2 : S4096x8x128.Idx → ℝ) (f3 : S4096x64.Idx → ℝ)
  (f4 : S4096x8x128.Idx → ℝ)

theorem q_at (h : Fin 8) (a : Fin 4096) (d : Fin 256) :
    qOf (up f0) (up f1) (ix2 a ⟨256 * h.val + d.val, by omega⟩) = (qR f0 f1 a h d : EReal) := by
  pointwise [qOf]
  unfold qR
  split
  · rfl
  · split
    · rfl
    · rfl

theorem k_at (h : Fin 8) (a : Fin 4096) (d : Fin 256) :
    kOf (up f2) (up f3) (ix2 a ⟨256 * h.val + d.val, by omega⟩) = (kR f2 f3 a h d : EReal) := by
  pointwise [kOf]
  unfold kR
  split
  · rfl
  · split
    · rfl
    · rfl

end Cert.KernelDqIdeal.Dq
-- ==== Proof.Dq.At2.lean ====
module

public import proofs.«01_k».proof.Proof.Dq.Entry
public import proofs.«01_k».proof.Proof.Dq.Ref2

@[expose] public section

set_option maxRecDepth 16384

noncomputable section

open Idealize.ShloMosaic Idealize.ShloMosaic.TcCoe Idealize.SL.Sem

namespace Cert.KernelDqIdeal.Dq

open Cert.KernelDqIdeal Cert.KernelDqIdeal.Gen Cert.ReferenceDqIdeal.At Cert.Attn

variable [Cert.KernelDqIdeal.Facts] [Cert.ReferenceDqIdeal.Facts]
variable (f0 : S4096x8x128.Idx → ℝ) (f1 : S4096x8x64.Idx → ℝ) (f2 : S4096x8x128.Idx → ℝ) (f3 : S4096x64.Idx → ℝ)
  (f4 : S4096x8x128.Idx → ℝ)

theorem v_at (h : Fin 8) (a : Fin 4096) (d : Fin 128) :
    flat (up f4) (ix2 a ⟨128 * h.val + d.val, by omega⟩) = (f4 (ix3 a h d) : EReal) := by
  pointwise [flat]
  rfl

theorem o_at (h : Fin 8) (a : Fin 4096) (d : Fin 128) :
    flat (Cert.ReferenceDqIdeal.Read.val_main_v45 (F := Ideal) (up f0) (up f1) (up f2) (up f3) (up f4)) (ix2 a ⟨128 * h.val + d.val, by omega⟩) =
      (oR f0 f1 f2 f3 f4 h a d : EReal) := by
  rw [← v45_at]
  generalize Cert.ReferenceDqIdeal.Read.val_main_v45 (F := Ideal) (up f0) (up f1) (up f2) (up f3) (up f4) = y
  pointwise [flat]

end Cert.KernelDqIdeal.Dq
-- ==== Proof.Dq.At3.lean ====
module

public import proofs.«01_k».proof.Proof.Dq.Entry
public import proofs.«01_k».proof.Proof.Dq.Ref2

@[expose] public section

set_option maxRecDepth 16384

noncomputable section

open Idealize.ShloMosaic Idealize.ShloMosaic.TcCoe Idealize.SL.Sem

namespace Cert.KernelDqIdeal.Dq

open Cert.KernelDqIdeal Cert.KernelDqIdeal.Gen Cert.ReferenceDqIdeal.At Cert.Attn

variable [Cert.KernelDqIdeal.Facts] [Cert.ReferenceDqIdeal.Facts]
variable (f0 : S4096x8x128.Idx → ℝ) (f1 : S4096x8x64.Idx → ℝ) (f2 : S4096x8x128.Idx → ℝ) (f3 : S4096x64.Idx → ℝ)
  (f4 : S4096x8x128.Idx → ℝ)

theorem lse_at (h : Fin 8) (a : Fin 4096) (d : Fin 128) :
    lseOf (Cert.ReferenceDqIdeal.Read.val_main_v15_0 (F := Ideal) (up f0) (up f1) (up f2) (up f3))
      (Cert.ReferenceDqIdeal.Read.val_main_v16 (F := Ideal) (up f0) (up f1) (up f2) (up f3)) (ix2 a ⟨128 * h.val + d.val, by omega⟩) =
      (lse (sR f0 f1 f2 f3 h a) a : EReal) := by
  have e : ∀ (s : FVec Ideal S8x4096x4096 .f32) (mx : FVec Ideal S8x4096 .f32), lseOf s mx (ix2 a ⟨128 * h.val + d.val, by omega⟩) =
      (mx (ix2 h a) + Ideal.log (∑ k : Fin 4096, Ideal.exp (s (ix3 h a k) - mx (ix2 h a))) : EReal) := fun s mx => by
    pointwise [lseOf]
  rw [e, v16_at, ← coe_lse, den, coe_sum]
  refine congrArg (fun x : EReal => _ + Ideal.log x) (Finset.sum_congr rfl fun k _ => ?_)
  rw [v15_at]
  exact coe_ex _ _ _

end Cert.KernelDqIdeal.Dq
-- ==== Proof.Dq.Final.lean ====
module

public import proofs.«01_k».proof.Proof.Dq.Blocks
public import proofs.«01_k».proof.Proof.Dq.At1
public import proofs.«01_k».proof.Proof.Dq.At2
public import proofs.«01_k».proof.Proof.Dq.At3

/-! What the kernel leaves in its output, at real arguments: the reference's gradient. -/

@[expose] public section

set_option maxRecDepth 16384

noncomputable section

open Idealize.ShloMosaic Idealize.ShloMosaic.TcCoe Idealize.SL.Sem

namespace Cert.KernelDqIdeal.Dq

open Cert.KernelDqIdeal Cert.KernelDqIdeal.Gen Cert.ReferenceDqIdeal.At Cert.Attn

/-- One key's contribution, when the blocks hold real numbers. -/
theorem term_real (q : S512x256.Idx → EReal) (dO o l : S512x128.Idx → EReal) (K : S4096x256.Idx → EReal) (V : S4096x128.Idx → EReal)
    (r : Fin 512) (j : Fin 256) (k : Fin 4096) (qr kr : Fin 256 → ℝ) (dr or vr : Fin 128 → ℝ) (lr : ℝ)
    (hq : ∀ d, q (ix2 r d) = qr d) (hd : ∀ d, dO (ix2 r d) = dr d) (ho : ∀ d, o (ix2 r d) = or d) (hl : ∀ d, l (ix2 r d) = lr)
    (hk : ∀ d, K (ix2 k d) = kr d) (hv : ∀ d, V (ix2 k d) = vr d) :
    term q dO o l K V r j k.val = ((Real.exp ((∑ d, qr d * kr d) * scale - lr) * ((∑ d, dr d * vr d) - ∑ d, dr d * or d) * scale * kr j : ℝ) : EReal) := by
  have hK : ∀ d, rowOf K k.val d = kr d := fun d => by rw [rowOf, dif_pos k.isLt]; exact hk d
  have hV : ∀ d, rowOf V k.val d = vr d := fun d => by rw [rowOf, dif_pos k.isLt]; exact hv d
  unfold term wt
  simp only [hq, hd, ho, hl, hK, hV, ofBits_scale, ofBits_neg_inf]
  rw [fold_const]
  simp only [← EReal.coe_mul, ← coe_sum, ← EReal.coe_sub, Ideal.exp_coe]

variable [Cert.KernelDqIdeal.Facts] [Cert.ReferenceDqIdeal.Facts]
variable (m : (ℓ : Loc nD τ sig) → Buf (Elt Ideal) ℓ)

section entries
variable (c : Dev nD) (f0 : S4096x8x128.Idx → ℝ) (f1 : S4096x8x64.Idx → ℝ) (f2 : S4096x8x128.Idx → ℝ) (f3 : S4096x64.Idx → ℝ)
  (f4 : S4096x8x128.Idx → ℝ) (f5 : S4096x2048.Idx → ℝ)
  (h0 : m (c, main_arg0) = up f0) (h1 : m (c, main_arg1) = up f1) (h2 : m (c, main_arg2) = up f2) (h3 : m (c, main_arg3) = up f3)
  (h4 : m (c, main_arg4) = up f4) (h5 : m (c, main_arg5) = up f5)
include h0 h1 h2 h3 h4 h5

/-- Key `k`'s contribution to row `r` of grid point `t`'s block. -/
theorem term_at (t : Fin cfg0.N) (r : Fin 512) (j : Fin 256) (k : Fin 4096) (hk : k.val ≤ (qrow t r).val) :
    term (iblk m c 0 t) (iblk m c 5 t) (iblk m c 3 t) (iblk m c 4 t) (iblk m c 1 t) (iblk m c 2 t) r j k.val =
      ((dsR f0 f1 f2 f3 f4 f5 (hd t) (qrow t r) k * kR f2 f3 k (hd t) j : ℝ) : EReal) := by
  refine (term_real _ _ _ _ _ _ r j k (qR f0 f1 (qrow t r) (hd t)) (kR f2 f3 k (hd t))
    (fun d => f5 (ix2 (qrow t r) ⟨512 + ((hd t).val * 128 + d.val), by omega⟩)) (oR f0 f1 f2 f3 f4 (hd t) (qrow t r)) (fun d => f4 (ix3 k (hd t) d))
    (lse (sR f0 f1 f2 f3 (hd t) (qrow t r)) (qrow t r)) ?_ ?_ ?_ ?_ ?_ ?_).trans ?_
  · exact fun d => (b0 m c t r d).trans (by rw [entry_q, h0, h1]; exact q_at f0 f1 (hd t) (qrow t r) d)
  · exact fun d => (b5 m c t r d).trans ((congrFun ((V_main_arg5 m c).trans h5) _))
  · exact fun d => (b3 m c t r d).trans (by rw [entry_o, h0, h1, h2, h3, h4]; exact o_at f0 f1 f2 f3 f4 (hd t) (qrow t r) d)
  · exact fun d => (b4 m c t r d).trans (by rw [entry_lse, h0, h1, h2, h3]; exact lse_at f0 f1 f2 f3 (hd t) (qrow t r) d)
  · exact fun d => (b1 m c t k d).trans (by rw [entry_k, h2, h3]; exact k_at f2 f3 (hd t) k d)
  · exact fun d => (b2 m c t k d).trans (by rw [entry_v, h4]; exact v_at f4 (hd t) k d)
  · rw [qk, ← ds_saved f0 f1 f2 f3 f4 f5 (hd t) (qrow t r) k hk]
    rfl

theorem out_at (t : Fin cfg0.N) (r : Fin 512) (j : Fin 256) :
    (outsAt0 m c t (ix2 r j) : EReal) = Cert.ReferenceDqIdeal.Read.val_main_v69 (F := Ideal) (up f0) (up f1) (up f2) (up f3) (up f4) (up f5)
      (ix2 (qrow t r) ⟨256 * (hd t).val + j.val, by omega⟩) := by
  rw [v69_at]
  refine (point m c t r j).trans ?_
  rw [coe_sum]
  refine Finset.sum_congr rfl fun k _ => ?_
  split
  · exact term_at m c f0 f1 f2 f3 f4 f5 h0 h1 h2 h3 h4 h5 t r j k ‹_›
  · rw [ds_masked f0 f1 f2 f3 f4 f5 (hd t) (qrow t r) k ‹_›, zero_mul, EReal.coe_zero]

/-- The output array after the run. -/
theorem final : ((dats m 0 c).arrAt 6 (cfgs 0).N : S4096x2048.Idx → EReal) =
    Cert.ReferenceDqIdeal.Read.val_main_v69 (F := Ideal) (up f0) (up f1) (up f2) (up f3) (up f4) (up f5) := by
  refine (dats m 0 c).arrAt_eq_of_covers 6 _ (by decide +kernel) fun t _ y => ?_
  blk_simp
  rw [after0_6]
  obtain ⟨r, j, rfl⟩ : ∃ (r : Fin 512) (j : Fin 256), y = ix2 r j := ⟨y 0, y 1, by funext k; fin_cases k <;> rfl⟩
  refine (out_at m c f0 f1 f2 f3 f4 f5 h0 h1 h2 h3 h4 h5 t r j).trans ?_
  generalize Cert.ReferenceDqIdeal.Read.val_main_v69 (F := Ideal) (up f0) (up f1) (up f2) (up f3) (up f4) (up f5) = W
  unfold hd qrow
  symm
  blk_ext [idx6 t]

end entries

end Cert.KernelDqIdeal.Dq
-- ==== Proof.Dq.Pre.lean ====
module

public import proofs.«01_k».proof.Pre_finite
public import Idealize.ShloMosaic.Lib.Pointwise
public import Idealize.ShloMosaic.Lib.ReduceAll
public import proofs.«01_k».proof.Proof.Dq.Ref1

/-! The precondition: every entry is a real number. -/

@[expose] public section

set_option maxRecDepth 16384

noncomputable section

open Idealize.ShloMosaic

namespace Cert.Pre_finite

variable [Cert.Pre_finite.Facts]

instance : Subsingleton S_.Idx := ⟨fun _ _ => funext fun i => i.elim0⟩

theorem ofBits_inf : Ideal.ofBits FTy.f32 0x7F800000#32 = ⊤ := by
  simp [Ideal.ofBits, Ideal.ieee]

/-- An array the `and` over whose entries' finiteness test is 1 is an array of reals. -/
theorem real_of_test {S : Shape} {axes} (x : FVec Ideal S .f32) (hb) (hr : S.ReducesTo axes S_) (hu) (j : S_.Idx)
    (e : Host.reduce IntOp.andi (cmpf .olt (Host.absf x) (broadcastInDim S ![] hb (constant S_ .f32 0x7F800000#32))) (constantI S_ 1 1#1) hr hu j = 1#1) :
    ∃ f : S.Idx → ℝ, x = Cert.ReferenceDqIdeal.At.up f := by
  refine ⟨fun i => EReal.toReal (x i), funext fun i => ?_⟩
  have h := Host.reduce_andi_all _ _ _ _ j e i
  have h' := (Ideal.cmp_olt_eq_one (Host.absf x i) _).1 h
  have h2 : (broadcastInDim S ![] hb (constant S_ .f32 0x7F800000#32) : FVec Ideal S .f32) i = ⊤ := ofBits_inf
  rw [h2] at h'
  refine (EReal.coe_toReal ?_ ?_).symm
  · intro e
    exact absurd h' (by rw [show Host.absf x i = max (x i) (-(x i)) from rfl, e]; simp)
  · intro e
    exact absurd h' (by rw [show Host.absf x i = max (x i) (-(x i)) from rfl, e]; simp)

theorem reals (a0 : FVec Ideal S4096x8x128 .f32) (a1 : FVec Ideal S4096x8x64 .f32) (a2 : FVec Ideal S4096x8x128 .f32) (a3 : FVec Ideal S4096x64 .f32)
    (a4 : FVec Ideal S4096x8x128 .f32) (a5 : FVec Ideal S4096x2048 .f32) (h : fn (F := Ideal) a0 a1 a2 a3 a4 a5 = fun _ => 1#1) :
    (∃ f, a0 = Cert.ReferenceDqIdeal.At.up f) ∧ (∃ f, a1 = Cert.ReferenceDqIdeal.At.up f) ∧ (∃ f, a2 = Cert.ReferenceDqIdeal.At.up f) ∧
    (∃ f, a3 = Cert.ReferenceDqIdeal.At.up f) ∧ (∃ f, a4 = Cert.ReferenceDqIdeal.At.up f) ∧ (∃ f, a5 = Cert.ReferenceDqIdeal.At.up f) := by
  have e := congrFun h (fun i => i.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_test _ _ _ _ _ e0, real_of_test _ _ _ _ _ e1, real_of_test _ _ _ _ _ e2, real_of_test _ _ _ _ _ e3,
    real_of_test _ _ _ _ _ e4, real_of_test _ _ _ _ _ e5⟩

end Cert.Pre_finite

namespace Cert.Pre_finite

/-- The side conditions the precondition states. -/
theorem facts : Cert.Pre_finite.Facts where
  bcast_S_S4096x8x128 := by decide
  reducesTo_S4096x8x128_S_d0_1_2 := by decide
  h_S_ := by decide
  bcast_S_S4096x8x64 := by decide
  reducesTo_S4096x8x64_S_d0_1_2 := by decide
  bcast_S_S4096x64 := by decide
  reducesTo_S4096x64_S_d0_1 := by decide
  bcast_S_S4096x2048 := by decide
  reducesTo_S4096x2048_S_d0_1 := by decide

end Cert.Pre_finite
-- ==== Proof.Dq.Claims.lean ====
module

public import proofs.«01_k».proof.Defs
public import proofs.«01_k».proof.Proof.Dq.Final
public import proofs.«01_k».proof.Proof.Dq.Pre
public import proofs.«01_k».proof.Proof.Gen.KernelDq.Frame
public import proofs.«01_k».proof.Proof.Gen.KernelDqIdeal.Value
public import proofs.«01_k».proof.Proof.Gen.ReferenceDqIdeal.Run
public import proofs.«01_k».proof.Proof.Gen.ReferenceDqIdeal.Read
public import Idealize.ShloMosaic.Lib.Claim

/-! The claims about the gradient of the queries. -/

@[expose] public section

noncomputable section

open Idealize.ShloMosaic Idealize.ShloMosaic.TcCoe Idealize.SL.Sem

namespace Cert.Proof.Dq

theorem frame_reference : Cert.quiescent_ReferenceDqIdeal := by
  intro m g _
  exact (θ_run Cert.ReferenceDqIdeal.defs _ _).mono (fun r h => ⟨fun c => (h c).2, sem_eq_zero_of_no_sems (by decide) r.2⟩)
    (Cert.ReferenceDqIdeal.Value.run m g)

theorem frame_reference_pre [Cert.Pre_finite.Facts] : Cert.quiescent_ReferenceDqIdeal_pre_finite :=
  fun m g _ => frame_reference m g trivial

theorem algebraic [Cert.Pre_finite.Facts] : Cert.algebraic_KernelDqIdeal_ReferenceDqIdeal_pre_finite := by
  pair_intro
  · run_from Cert.KernelDqIdeal.Value.run_blocks m g
  · run_from Cert.ReferenceDqIdeal.Value.run m' g'
    obtain ⟨e0, e1, e2, e3, e4, e5⟩ := hagree c
    obtain ⟨⟨f0, h0⟩, ⟨f1, h1⟩, ⟨f2, h2⟩, ⟨f3, h3⟩, ⟨f4, h4⟩, ⟨f5, h5⟩⟩ := Cert.Pre_finite.reals _ _ _ _ _ _ (hpre c)
    rw [Cert.ReferenceDqIdeal.Read.val_main_v69_eq, e0, e1, e2, e3, e4, e5]
    refine Eq.trans ?_ (Cert.KernelDqIdeal.Dq.final m c f0 f1 f2 f3 f4 f5 h0 h1 h2 h3 h4 h5).symm
    rw [h0, h1, h2, h3, h4, h5]

end Cert.Proof.Dq
-- ==== Proof.Dkv.Block.lean ====
/-
  What one grid point of the dkv call writes: the blocks of 512 key rows of one head, as sums over the 4096 queries.
-/
module

public import proofs.«01_k».proof.Proof.Gen.KernelDkvIdeal.Value
public import proofs.«01_k».proof.Proof.Dq.Block
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelDkvIdeal.Dkv

open Cert.KernelDkvIdeal Cert.KernelDkvIdeal.Gen
open Cert.KernelDqIdeal.Dq (rowOf ld_rows)

variable [Cert.KernelDkvIdeal.Facts]
variable (m : (ℓ : Loc nD τ sig) → Buf (Elt Ideal) ℓ)

/-! ## The loop's bounds and offsets over the grid -/

theorem trips1 : ∀ t : Fin cfg0.N, (k0_t1_loop (grid0.coords t)).trips = 7 - t.val % 8 :=
  (by decide +kernel : ∀ t : Fin grid0.N, (k0_t1_loop (grid0.coords t)).trips = 7 - t.val % 8)
theorem trips2 : ∀ t : Fin cfg0.N, (k0_t2_loop (grid0.coords t)).trips = 0 :=
  (by decide +kernel : ∀ t : Fin grid0.N, (k0_t2_loop (grid0.coords t)).trips = 0)
theorem off1 : ∀ t : Fin cfg0.N, k0_off1 (grid0.coords t) = ![512 * (t.val % 8), 0] :=
  (by decide +kernel : ∀ t : Fin grid0.N, k0_off1 (grid0.coords t) = ![512 * (t.val % 8), 0])
theorem off2 : ∀ t : Fin cfg0.N, k0_off2 (grid0.coords t) = ![512 * (t.val % 8), 0] :=
  (by decide +kernel : ∀ t : Fin grid0.N, k0_off2 (grid0.coords t) = ![512 * (t.val % 8), 0])
theorem off3 : ∀ (t : Fin cfg0.N) (k : Fin (k0_t1_loop (grid0.coords t)).trips), k0_off3 (grid0.coords t) k = ![512 * (t.val % 8 + 1) + 512 * k.val, 0] :=
  (by decide +kernel : ∀ (t : Fin grid0.N) (k : Fin (k0_t1_loop (grid0.coords t)).trips), k0_off3 (grid0.coords t) k = ![512 * (t.val % 8 + 1) + 512 * k.val, 0])
theorem off4 : ∀ (t : Fin cfg0.N) (k : Fin (k0_t1_loop (grid0.coords t)).trips), k0_off4 (grid0.coords t) k = ![512 * (t.val % 8 + 1) + 512 * k.val, 0] :=
  (by decide +kernel : ∀ (t : Fin grid0.N) (k : Fin (k0_t1_loop (grid0.coords t)).trips), k0_off4 (grid0.coords t) k = ![512 * (t.val % 8 + 1) + 512 * k.val, 0])

/-- The weight `exp (scale · q·k − lse)` of query `a` at key row `x` of the block. -/
def wt (Q : S4096x256.Idx → EReal) (lse : S4096x128.Idx → EReal) (K : S512x256.Idx → EReal) (x : Fin 512) (a : ℕ) : EReal :=
  Ideal.exp ((∑ d, rowOf Q a d * K (ix2 x d)) * Ideal.ofBits FTy.f32 1033096506#32
    - Finset.fold max (Ideal.ofBits FTy.f32 4286578688#32) (fun y => rowOf lse a y) Finset.univ)

/-- Query `a`'s contribution to entry `(x, j)` of the keys' gradient. -/
def termK (Q : S4096x256.Idx → EReal) (dO o lse : S4096x128.Idx → EReal) (K : S512x256.Idx → EReal) (V : S512x128.Idx → EReal)
    (x : Fin 512) (j : Fin 256) (a : ℕ) : EReal :=
  wt Q lse K x a * ((∑ d, rowOf dO a d * V (ix2 x d)) - ∑ d, rowOf dO a d * rowOf o a d) * Ideal.ofBits FTy.f32 1033096506#32
    * rowOf Q a j

/-- Query `a`'s contribution to entry `(x, d)` of the values' gradient. -/
def termV (Q : S4096x256.Idx → EReal) (dO lse : S4096x128.Idx → EReal) (K : S512x256.Idx → EReal)
    (x : Fin 512) (d : Fin 128) (a : ℕ) : EReal :=
  wt Q lse K x a * rowOf dO a d

section pays
variable (kb : FVec Ideal S512x256 .bf16) (vb : FVec Ideal S512x128 .bf16) (q : Vec Ideal S512x256 .bf16) (dO o lse : Vec Ideal S512x128 .f32)
  (acc : FVec Ideal S512x256 .f32) (acv : FVec Ideal S512x128 .f32) (x : Fin 512)

theorem pay6_apply (j : Fin 256) :
    k0_pay6 kb vb acc q dO o lse (ix2 x j) = acc (ix2 x j) + ∑ r : Fin 512,
      Ideal.exp ((∑ d, q (ix2 r d) * kb (ix2 x d)) * Ideal.ofBits FTy.f32 1033096506#32
        - Finset.fold max (Ideal.ofBits FTy.f32 4286578688#32) (fun y => lse (ix2 r y)) Finset.univ)
      * ((∑ d, dO (ix2 r d) * vb (ix2 x d)) - ∑ d, dO (ix2 r d) * o (ix2 r d)) * Ideal.ofBits FTy.f32 1033096506#32 * q (ix2 r j) := by
  pointwise [k0_pay6, k0_pay2, k0_pay3, k0_pay4]

theorem pay5_apply (j : Fin 128) :
    k0_pay5 kb acv q dO lse (ix2 x j) = acv (ix2 x j) + ∑ r : Fin 512,
      Ideal.exp ((∑ d, q (ix2 r d) * kb (ix2 x d)) * Ideal.ofBits FTy.f32 1033096506#32
        - Finset.fold max (Ideal.ofBits FTy.f32 4286578688#32) (fun y => lse (ix2 r y)) Finset.univ) * dO (ix2 r j) := by
  pointwise [k0_pay5, k0_pay2, k0_pay3, k0_pay4]

theorem mask (x r : Fin 512) (a b : EReal) :
    Scalar.select (IntOp.cmpi CmpIPredicate.sle (BitVec.ofNat 32 x.val) (BitVec.ofNat 32 r.val)) a b = if x.val ≤ r.val then a else b := by
  have hx := x.isLt
  have hr := r.isLt
  rw [WordCmp.cmpi_sle_ofNat (by omega) (by omega)]
  by_cases h : x.val ≤ r.val <;> simp [h, Scalar.select]

theorem pay1_apply (j : Fin 256) :
    k0_pay1 (k0_pay14 (F := Ideal)) (k0_pay15 q) (k0_pay16 dO o) (k0_pay17 kb q lse) (k0_pay20 vb dO) (ix2 x j) = ∑ r : Fin 512,
      if x.val ≤ r.val then Ideal.exp ((∑ d, q (ix2 r d) * kb (ix2 x d)) * Ideal.ofBits FTy.f32 1033096506#32
        - Finset.fold max (Ideal.ofBits FTy.f32 4286578688#32) (fun y => lse (ix2 r y)) Finset.univ)
      * ((∑ d, dO (ix2 r d) * vb (ix2 x d)) - ∑ d, dO (ix2 r d) * o (ix2 r d)) * Ideal.ofBits FTy.f32 1033096506#32 * q (ix2 r j) else 0 := by
  pointwise [k0_pay1, k0_pay14, k0_pay15, k0_pay16, k0_pay17, k0_pay18, k0_pay20, k0_pay12, k0_pay13]
  simp only [mask, ite_mul, zero_mul, zero_add]

theorem pay19_apply (j : Fin 128) :
    k0_pay19 kb q dO lse (ix2 x j) = ∑ r : Fin 512,
      if x.val ≤ r.val then Ideal.exp ((∑ d, q (ix2 r d) * kb (ix2 x d)) * Ideal.ofBits FTy.f32 1033096506#32
        - Finset.fold max (Ideal.ofBits FTy.f32 4286578688#32) (fun y => lse (ix2 r y)) Finset.univ) * dO (ix2 r j) else 0 := by
  pointwise [k0_pay19, k0_pay17, k0_pay18, k0_pay15, k0_pay12]
  simp only [mask, ite_mul, zero_mul, zero_add]

theorem pay12_eq : k0_pay12 (F := Ideal) kb = kb := by
  funext y
  pointwise [k0_pay12]

theorem pay13_eq : k0_pay13 (F := Ideal) vb = vb := by
  funext y
  pointwise [k0_pay13]

end pays

section loop
variable (c : Dev nD) (t : Fin cfg0.N) (kb : FVec Ideal S512x256 .bf16) (vb : FVec Ideal S512x128 .bf16) (x : Fin 512)

theorem trip (k : Fin (k0_t1_loop (grid0.coords t)).trips) (acc : FVec Ideal S512x256 .f32 × FVec Ideal S512x128 .f32) :
    (∀ j, (tripR_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) kb vb
      ((hs0_0 t).unread (iblk m c 0 t)) ((hs0_3 t).unread (iblk m c 3 t)) ((hs0_4 t).unread (iblk m c 4 t)) ((hs0_5 t).unread (iblk m c 5 t)) k acc).1 (ix2 x j)
      = acc.1 (ix2 x j) + ∑ r : Fin 512, termK (iblk m c 0 t) (iblk m c 5 t) (iblk m c 3 t) (iblk m c 4 t) kb vb x j (512 * (t.val % 8 + 1) + 512 * k.val + r.val)) ∧
    ∀ d, (tripR_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) kb vb
      ((hs0_0 t).unread (iblk m c 0 t)) ((hs0_3 t).unread (iblk m c 3 t)) ((hs0_4 t).unread (iblk m c 4 t)) ((hs0_5 t).unread (iblk m c 5 t)) k acc).2 (ix2 x d)
      = acc.2 (ix2 x d) + ∑ r : Fin 512, termV (iblk m c 0 t) (iblk m c 5 t) (iblk m c 4 t) kb x d (512 * (t.val % 8 + 1) + 512 * k.val + r.val) := by
  unfold tripR_k0_t1 trip_k0_t1
  frame_out
  constructor
  · intro j
    rw [pay6_apply]
    unfold termK wt
    refine congrArg (_ + ·) (Finset.sum_congr rfl fun r _ => ?_)
    simp only [ld_rows (iblk m c 0 t) _ _ (off3 t k), ld_rows (iblk m c 3 t) _ _ (off4 t k), ld_rows (iblk m c 4 t) _ _ (off4 t k), ld_rows (iblk m c 5 t) _ _ (off4 t k)]
  · intro d
    rw [pay5_apply]
    unfold termV wt
    refine congrArg (_ + ·) (Finset.sum_congr rfl fun r _ => ?_)
    simp only [ld_rows (iblk m c 0 t) _ _ (off3 t k), ld_rows (iblk m c 3 t) _ _ (off4 t k), ld_rows (iblk m c 4 t) _ _ (off4 t k), ld_rows (iblk m c 5 t) _ _ (off4 t k)]

theorem carried (init : FVec Ideal S512x256 .f32 × FVec Ideal S512x128 .f32) : ∀ n : ℕ, n ≤ 7 - t.val % 8 →
    (∀ j, (st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) kb vb
      ((hs0_0 t).unread (iblk m c 0 t)) ((hs0_3 t).unread (iblk m c 3 t)) ((hs0_4 t).unread (iblk m c 4 t)) ((hs0_5 t).unread (iblk m c 5 t)) init n).1 (ix2 x j)
      = init.1 (ix2 x j) + ∑ a ∈ Finset.range (512 * n), termK (iblk m c 0 t) (iblk m c 5 t) (iblk m c 3 t) (iblk m c 4 t) kb vb x j (512 * (t.val % 8 + 1) + a)) ∧
    ∀ d, (st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) kb vb
      ((hs0_0 t).unread (iblk m c 0 t)) ((hs0_3 t).unread (iblk m c 3 t)) ((hs0_4 t).unread (iblk m c 4 t)) ((hs0_5 t).unread (iblk m c 5 t)) init n).2 (ix2 x d)
      = init.2 (ix2 x d) + ∑ a ∈ Finset.range (512 * n), termV (iblk m c 0 t) (iblk m c 5 t) (iblk m c 4 t) kb x d (512 * (t.val % 8 + 1) + a) := by
  intro n
  induction n with
  | zero =>
    intro _
    rw [st_k0_t1_zero]
    simp
  | succ n ih =>
    intro hn
    have hk : n < (k0_t1_loop (grid0.coords t)).trips := by rw [trips1]; omega
    have hs := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) kb vb
      ((hs0_0 t).unread (iblk m c 0 t)) ((hs0_3 t).unread (iblk m c 3 t)) ((hs0_4 t).unread (iblk m c 4 t)) ((hs0_5 t).unread (iblk m c 5 t)) init ⟨n, hk⟩
    obtain ⟨i1, i2⟩ := ih (by omega)
    rw [hs]
    constructor
    · intro j
      rw [(trip m c t kb vb x ⟨n, hk⟩ _).1 j, i1, Nat.mul_succ 512 n, Finset.sum_range_add, Finset.sum_range (n := 512), add_assoc]
      simp only [Nat.add_assoc]
    · intro d
      rw [(trip m c t kb vb x ⟨n, hk⟩ _).2 d, i2, Nat.mul_succ 512 n, Finset.sum_range_add, Finset.sum_range (n := 512), add_assoc]
      simp only [Nat.add_assoc]

end loop

/-- The diagonal block masked and the blocks after it whole: the sum over all queries from the key row on. -/
theorem causal_sum (i : ℕ) (hi : i < 8) (x : Fin 512) (f : ℕ → EReal) :
    (∑ r : Fin 512, if x.val ≤ r.val then f (512 * i + r.val) else 0) + ∑ a ∈ Finset.range (512 * (7 - i)), f (512 * (i + 1) + a)
      = ∑ a : Fin 4096, if 512 * i + x.val ≤ a.val then f a.val else 0 := by
  have hx := x.isLt
  rw [← Finset.sum_range (n := 4096) (fun a => if 512 * i + x.val ≤ a then f a else 0),
    ← Finset.sum_range (n := 512) (fun r => if x.val ≤ r then f (512 * i + r) else 0),
    show 4096 = 512 * i + (512 + 512 * (7 - i)) by omega, Finset.sum_range_add, Finset.sum_range_add]
  have h0 : ∑ a ∈ Finset.range (512 * i), (if 512 * i + x.val ≤ a then f a else 0) = 0 :=
    Finset.sum_eq_zero fun a ha => if_neg (by have := Finset.mem_range.1 ha; omega)
  rw [h0, zero_add]
  refine congrArg₂ (· + ·) (Finset.sum_congr rfl fun r _ => ?_) (Finset.sum_congr rfl fun a _ => ?_)
  · simp
  · rw [if_pos (by omega), show 512 * (i + 1) + a = 512 * i + (512 + a) by ring]

/-- What grid point `t` writes at `(x, j)` of the keys' gradient: the sum over the queries from the key row on, which is row `512 · (t % 8) + x`. -/
theorem pointK (c : Dev nD) (t : Fin cfg0.N) (x : Fin 512) (j : Fin 256) :
    (outsAt0 m c t).1 (ix2 x j) = ∑ a : Fin 4096, if 512 * (t.val % 8) + x.val ≤ a.val then
      termK (iblk m c 0 t) (iblk m c 5 t) (iblk m c 3 t) (iblk m c 4 t) (iblk m c 1 t) (iblk m c 2 t) x j a.val else 0 := by
  unfold outsAt0
  frame_out
  have h1 := trips1 t
  have h2 := trips2 t
  dsimp only [k0_t1_loop, k0_t2_loop, Scf.Loop.trips] at h1 h2
  rw [h1, h2, st_k0_t2_zero, (carried m c t _ _ x _ _ le_rfl).1 j, pay12_eq, pay13_eq]
  dsimp only
  rw [pay1_apply]
  have hi : t.val % 8 < 8 := Nat.mod_lt _ (by decide)
  refine Eq.trans (congrArg (· + _) (Finset.sum_congr rfl fun r _ => ?_)) (causal_sum (t.val % 8) hi x _)
  simp only [ld_rows (iblk m c 0 t) _ _ (off1 t), ld_rows (iblk m c 3 t) _ _ (off2 t), ld_rows (iblk m c 4 t) _ _ (off2 t), ld_rows (iblk m c 5 t) _ _ (off2 t)]
  rfl

/-- What grid point `t` writes at `(x, d)` of the values' gradient. -/
theorem pointV (c : Dev nD) (t : Fin cfg0.N) (x : Fin 512) (d : Fin 128) :
    (outsAt0 m c t).2 (ix2 x d) = ∑ a : Fin 4096, if 512 * (t.val % 8) + x.val ≤ a.val then
      termV (iblk m c 0 t) (iblk m c 5 t) (iblk m c 4 t) (iblk m c 1 t) x d a.val else 0 := by
  unfold outsAt0
  frame_out
  have h1 := trips1 t
  have h2 := trips2 t
  dsimp only [k0_t1_loop, k0_t2_loop, Scf.Loop.trips] at h1 h2
  rw [h1, h2, st_k0_t2_zero, (carried m c t _ _ x _ _ le_rfl).2 d, pay12_eq]
  dsimp only
  rw [pay19_apply]
  have hi : t.val % 8 < 8 := Nat.mod_lt _ (by decide)
  refine Eq.trans (congrArg (· + _) (Finset.sum_congr rfl fun r _ => ?_)) (causal_sum (t.val % 8) hi x _)
  simp only [ld_rows (iblk m c 0 t) _ _ (off1 t), ld_rows (iblk m c 3 t) _ _ (off2 t), ld_rows (iblk m c 4 t) _ _ (off2 t), ld_rows (iblk m c 5 t) _ _ (off2 t)]
  rfl

end Cert.KernelDkvIdeal.Dkv
-- ==== Proof.Dkv.Blocks.lean ====
module

public import proofs.«01_k».proof.Proof.Dkv.Block

@[expose] public section

set_option maxRecDepth 16384

noncomputable section

open Idealize.ShloMosaic Idealize.ShloMosaic.TcCoe Idealize.SL.Sem

namespace Cert.KernelDkvIdeal.Dkv

open Cert.KernelDkvIdeal Cert.KernelDkvIdeal.Gen

variable [Cert.KernelDkvIdeal.Facts]
variable (m : (ℓ : Loc nD τ sig) → Buf (Elt Ideal) ℓ)

/-- A grid point's head is below 8. -/
theorem hd_lt : ∀ t : Fin cfg0.N, t.val / 8 < 8 := (by decide +kernel : ∀ t : Fin grid0.N, t.val / 8 < 8)

/-! Where each window's block lies at a grid point: key block `t % 8` of head `t / 8`. -/

theorem idx0 : ∀ t : Fin cfg0.N, win0_0.index t = ![0, t.val / 8] := (by decide +kernel : ∀ t : Fin grid0.N, win0_0.index t = ![0, t.val / 8])
theorem idx1 : ∀ t : Fin cfg0.N, win0_1.index t = ![t.val % 8, t.val / 8] := (by decide +kernel : ∀ t : Fin grid0.N, win0_1.index t = ![t.val % 8, t.val / 8])
theorem idx2 : ∀ t : Fin cfg0.N, win0_2.index t = ![t.val % 8, t.val / 8] := (by decide +kernel : ∀ t : Fin grid0.N, win0_2.index t = ![t.val % 8, t.val / 8])
theorem idx3 : ∀ t : Fin cfg0.N, win0_3.index t = ![0, t.val / 8] := (by decide +kernel : ∀ t : Fin grid0.N, win0_3.index t = ![0, t.val / 8])
theorem idx4 : ∀ t : Fin cfg0.N, win0_4.index t = ![0, t.val / 8] := (by decide +kernel : ∀ t : Fin grid0.N, win0_4.index t = ![0, t.val / 8])
theorem idx5 : ∀ t : Fin cfg0.N, win0_5.index t = ![0, 4 + t.val / 8] := (by decide +kernel : ∀ t : Fin grid0.N, win0_5.index t = ![0, 4 + t.val / 8])
theorem idx6 : ∀ t : Fin cfg0.N, win0_6.index t = ![t.val % 8, t.val / 8] := (by decide +kernel : ∀ t : Fin grid0.N, win0_6.index t = ![t.val % 8, t.val / 8])
theorem idx7 : ∀ t : Fin cfg0.N, win0_7.index t = ![t.val % 8, t.val / 8] := (by decide +kernel : ∀ t : Fin grid0.N, win0_7.index t = ![t.val % 8, t.val / 8])

/-- The head of a grid point. -/
def hd (t : Fin cfg0.N) : Fin 8 := ⟨t.val / 8, hd_lt t⟩
/-- The key row of a grid point's row `x`. -/
def krow (t : Fin cfg0.N) (x : Fin 512) : Fin 4096 := ⟨512 * (t.val % 8) + x.val, by omega⟩

theorem b0 (c : Dev nD) (t : Fin cfg0.N) (a : Fin 4096) (d : Fin 256) : (iblk m c 0 t : S4096x256.Idx → EReal) (ix2 a d) =
    (V m c main_v43 : S4096x2048.Idx → EReal) (ix2 a ⟨256 * (hd t).val + d.val, by omega⟩) := by
  unfold hd
  blk_simp [iblk]
  generalize V m c main_v43 = W
  blk_ext [idx0 t]

theorem b1 (c : Dev nD) (t : Fin cfg0.N) (x : Fin 512) (d : Fin 256) : (iblk m c 1 t : S512x256.Idx → EReal) (ix2 x d) =
    (V m c main_v48 : S4096x2048.Idx → EReal) (ix2 (krow t x) ⟨256 * (hd t).val + d.val, by omega⟩) := by
  unfold hd
  unfold krow
  blk_simp [iblk]
  generalize V m c main_v48 = W
  blk_ext [idx1 t]

theorem b2 (c : Dev nD) (t : Fin cfg0.N) (x : Fin 512) (d : Fin 128) : (iblk m c 2 t : S512x128.Idx → EReal) (ix2 x d) =
    (V m c main_v50 : S4096x1024.Idx → EReal) (ix2 (krow t x) ⟨128 * (hd t).val + d.val, by omega⟩) := by
  unfold hd
  unfold krow
  blk_simp [iblk]
  generalize V m c main_v50 = W
  blk_ext [idx2 t]

theorem b3 (c : Dev nD) (t : Fin cfg0.N) (a : Fin 4096) (d : Fin 128) : (iblk m c 3 t : S4096x128.Idx → EReal) (ix2 a d) =
    (V m c main_v27 : S4096x1024.Idx → EReal) (ix2 a ⟨128 * (hd t).val + d.val, by omega⟩) := by
  unfold hd
  blk_simp [iblk]
  generalize V m c main_v27 = W
  blk_ext [idx3 t]

theorem e4 (a : Fin 4096) (d : Fin 128) (W : S4096x1024.Idx → EReal) (t : Fin cfg0.N) : W ((win0_4.blk t).view.emb (ix2 a d)) = W (ix2 a ⟨128 * (hd t).val + d.val, by omega⟩) := by
  unfold hd
  blk_ext [idx4 t]
theorem r4 (c : Dev nD) (t : Fin cfg0.N) (W : (b : Ref sig Kind.tc) → Buf (Elt Ideal) ((Dev.tc (τ := τ) c).loc b)) (x : S4096x128.Idx) : View.read (Elt Ideal) ((cfg0.win 4).blk t).view (W (Pipeline.arrRef spec0 4)) x = W (Pipeline.arrRef spec0 4) (((cfg0.win 4).blk t).view.emb x) := rfl
theorem s4 (c : Dev nD) (t : Fin cfg0.N) (W : (b : Ref sig Kind.tc) → Buf (Elt Ideal) ((Dev.tc (τ := τ) c).loc b)) (x : S4096x128.Idx) : W (Pipeline.arrRef spec0 4) (((cfg0.win 4).blk t).view.emb x) = W main_v39 ((win0_4.blk t).view.emb x) := rfl
theorem b4 (c : Dev nD) (t : Fin cfg0.N) (a : Fin 4096) (d : Fin 128) : (iblk m c 4 t : S4096x128.Idx → EReal) (ix2 a d) =
    (V m c main_v39 : S4096x1024.Idx → EReal) (ix2 a ⟨128 * (hd t).val + d.val, by omega⟩) := by
  exact (r4 c t (V m c) (ix2 a d)).trans ((s4 c t (V m c) (ix2 a d)).trans (e4 a d (V m c main_v39) t))

theorem b5 (c : Dev nD) (t : Fin cfg0.N) (a : Fin 4096) (d : Fin 128) : (iblk m c 5 t : S4096x128.Idx → EReal) (ix2 a d) =
    (V m c main_arg5 : S4096x2048.Idx → EReal) (ix2 a ⟨512 + ((hd t).val * 128 + d.val), by omega⟩) := by
  unfold hd
  blk_simp [iblk]
  generalize V m c main_arg5 = W
  blk_ext [idx5 t]

end Cert.KernelDkvIdeal.Dkv
-- ==== Proof.Dkv.Entry.lean ====
module

public import proofs.«01_k».proof.Proof.Dkv.Block
public import proofs.«01_k».proof.Proof.Dq.Entry
public import Idealize.ShloMosaic.Lib.StableHlo.RunRead

/-! The arrays the dkv call finds: the dq call's, from the same arguments. -/

@[expose] public section

set_option maxRecDepth 200000

noncomputable section

open Idealize.ShloMosaic Idealize.ShloMosaic.TcCoe Idealize.SL.Sem

namespace Cert.KernelDkvIdeal.Dkv

open Cert.KernelDkvIdeal Cert.KernelDkvIdeal.Gen
open Cert.KernelDqIdeal.Dq (qOf kOf flat lseOf concat3)

variable [Cert.KernelDkvIdeal.Facts] [Cert.KernelDqIdeal.Facts] [Cert.ReferenceDqIdeal.Facts]
variable (m : (ℓ : Loc nD τ sig) → Buf (Elt Ideal) ℓ)

theorem entry_q (c : Dev nD) : (V m c main_v43 : S4096x2048.Idx → EReal) = qOf (m (c, main_arg0)) (m (c, main_arg1)) := by
  unfold qOf
  unfold V
  simp only [List.flatten_cons, List.flatten_nil, List.append_nil, List.cons_append, List.nil_append]
  after_reads_simp
  refine congrArg (fun x : FVec Ideal S4096x8x256 .f32 => shapeCast S4096x2048 x shapeCasts_S4096x8x256_S4096x2048) (concat3 _ ?_ ?_ ?_)
  all_goals after_reads_simp
  all_goals rfl

theorem entry_k (c : Dev nD) : (V m c main_v48 : S4096x2048.Idx → EReal) = kOf (m (c, main_arg2)) (m (c, main_arg3)) := by
  unfold kOf
  unfold V
  simp only [List.flatten_cons, List.flatten_nil, List.append_nil, List.cons_append, List.nil_append]
  after_reads_simp
  refine congrArg (fun x : FVec Ideal S4096x8x256 .f32 => shapeCast S4096x2048 x shapeCasts_S4096x8x256_S4096x2048) (concat3 _ ?_ ?_ ?_)
  all_goals after_reads_simp
  all_goals rfl

theorem entry_o (c : Dev nD) : (V m c main_v27 : S4096x1024.Idx → EReal) =
    flat (Cert.ReferenceDqIdeal.Read.val_main_v45 (F := Ideal) (m (c, main_arg0)) (m (c, main_arg1)) (m (c, main_arg2)) (m (c, main_arg3)) (m (c, main_arg4))) := by
  unfold V
  simp only [List.flatten_cons, List.flatten_nil, List.append_nil, List.cons_append, List.nil_append]
  after_reads_simp
  rfl

theorem entry_lse (c : Dev nD) : (V m c main_v39 : S4096x1024.Idx → EReal) =
    lseOf (Cert.ReferenceDqIdeal.Read.val_main_v15_0 (F := Ideal) (m (c, main_arg0)) (m (c, main_arg1)) (m (c, main_arg2)) (m (c, main_arg3)))
      (Cert.ReferenceDqIdeal.Read.val_main_v16 (F := Ideal) (m (c, main_arg0)) (m (c, main_arg1)) (m (c, main_arg2)) (m (c, main_arg3))) := by
  unfold V
  simp only [List.flatten_cons, List.flatten_nil, List.append_nil, List.cons_append, List.nil_append]
  after_reads_simp
  rfl

theorem entry_v (c : Dev nD) : (V m c main_v50 : S4096x1024.Idx → EReal) = flat (m (c, main_arg4)) := by
  unfold V
  simp only [List.flatten_cons, List.flatten_nil, List.append_nil, List.cons_append, List.nil_append]
  after_reads_simp
  rfl

end Cert.KernelDkvIdeal.Dkv
-- ==== Proof.Dkv.Ref.lean ====
module

public import proofs.«01_k».proof.Proof.Gen.ReferenceDkvIdeal.Read
public import proofs.«01_k».proof.Proof.Dq.Ref2

/-! The reference of the dkv call at real arguments. Its forward lines and its gradient of the scores are the dq reference's;
  from those come the gradients of the keys and of the values. -/

@[expose] public section

set_option maxRecDepth 16384

noncomputable section

open Idealize.ShloMosaic Idealize.ShloMosaic.TcCoe Idealize.SL.Sem

namespace Cert.ReferenceDkvIdeal.At

open Cert.ReferenceDkvIdeal Cert.ReferenceDkvIdeal.Read Cert.Attn
open Cert.ReferenceDqIdeal.At (up up_apply sR dpR dsR qR v7_at v36_at v38_at v62_at)

variable [Cert.ReferenceDkvIdeal.Facts] [Cert.ReferenceDqIdeal.Facts]
variable (f0 : S4096x8x128.Idx → ℝ) (f1 : S4096x8x64.Idx → ℝ) (f2 : S4096x8x128.Idx → ℝ) (f3 : S4096x64.Idx → ℝ)
  (f4 : S4096x8x128.Idx → ℝ) (f5 : S4096x2048.Idx → ℝ)

/-- The scaled scores: each head reads its own copy of the rotated key entries, which are the shared ones. -/
theorem scores_eq : val_main_v8 (F := Ideal) (up f0) (up f1) (up f2) (up f3) =
    Cert.ReferenceDqIdeal.Read.val_main_v7 (F := Ideal) (up f0) (up f1) (up f2) (up f3) := by
  funext i
  obtain ⟨h, a, k, rfl⟩ : ∃ (h : Fin 8) (a k : Fin 4096), i = ix3 h a k := ⟨i 0, i 1, i 2, by funext b; fin_cases b <;> rfl⟩
  refine Eq.trans ?_ (v7_at f0 f1 f2 f3 h a k).symm
  have e : val_main_v8 (F := Ideal) (up f0) (up f1) (up f2) (up f3) (ix3 h a k) =
      (((∑ d : Fin 128, up f0 (ix3 a h d) * up f2 (ix3 k h d)) + ∑ d : Fin 64, up f1 (ix3 a h d) * up f3 (ix2 k d)) *
        Ideal.ofBits FTy.f32 1033096506#32 : EReal) := by
    pointwise [val_main_v8, val_main_v7, val_main_v6, val_main_v5, val_main_v4, val_main_v3, val_main_v2, val_main_cst]
  rw [e, ofBits_scale, sR, EReal.coe_mul, EReal.coe_add, coe_sum, coe_sum]
  simp only [up_apply, EReal.coe_mul]
  congr 3
  funext d
  exact mul_comm _ _

theorem masked_eq : val_main_v16_0 (F := Ideal) (up f0) (up f1) (up f2) (up f3) =
    Cert.ReferenceDqIdeal.Read.val_main_v15_0 (F := Ideal) (up f0) (up f1) (up f2) (up f3) := by
  unfold val_main_v16_0
  rw [scores_eq]
  rfl

theorem exp_eq : val_main_v37 (F := Ideal) (up f0) (up f1) (up f2) (up f3) =
    Cert.ReferenceDqIdeal.Read.val_main_v36 (F := Ideal) (up f0) (up f1) (up f2) (up f3) := by
  unfold val_main_v37 val_main_v36 val_main_v35 val_main_v34 val_main_v24 val_main_v17
  rw [masked_eq]
  rfl

theorem den_eq : val_main_v39 (F := Ideal) (up f0) (up f1) (up f2) (up f3) =
    Cert.ReferenceDqIdeal.Read.val_main_v38 (F := Ideal) (up f0) (up f1) (up f2) (up f3) := by
  unfold val_main_v39 val_main_v38
  rw [exp_eq]
  rfl

theorem dp_eq : val_main_v48 (F := Ideal) (up f4) (up f5) = Cert.ReferenceDqIdeal.Read.val_main_v47 (F := Ideal) (up f4) (up f5) := rfl

/-- The gradient of the scores. -/
theorem ds_eq' : val_main_v65 (F := Ideal) (up f0) (up f1) (up f2) (up f3) (up f4) (up f5) =
    Cert.ReferenceDqIdeal.Read.val_main_v62 (F := Ideal) (up f0) (up f1) (up f2) (up f3) (up f4) (up f5) := by
  unfold val_main_v65 val_main_v63 val_main_v62 val_main_v61 val_main_v60 val_main_v59 val_main_v58 val_main_v57 val_main_v56 val_main_v55
    val_main_v54 val_main_v53 val_main_v52 val_main_v51 val_main_v44 val_main_v42
  rw [exp_eq, den_eq, dp_eq]
  rfl

/-- The attention weight of query `a` on key `k`. -/
def pR (h : Fin 8) (a k : Fin 4096) : ℝ := ex (sR f0 f1 f2 f3 h a) a k / den (sR f0 f1 f2 f3 h a) a

theorem v41_at (h : Fin 8) (a k : Fin 4096) :
    val_main_v41 (F := Ideal) (up f0) (up f1) (up f2) (up f3) (ix3 h a k) = (pR f0 f1 f2 f3 h a k : EReal) := by
  have e : val_main_v41 (F := Ideal) (up f0) (up f1) (up f2) (up f3) (ix3 h a k) =
      Ideal.div (val_main_v37 (F := Ideal) (up f0) (up f1) (up f2) (up f3) (ix3 h a k))
        (val_main_v39 (F := Ideal) (up f0) (up f1) (up f2) (up f3) (ix3 h a 0)) := by
    unfold val_main_v41 val_main_v40
    generalize val_main_v37 (F := Ideal) (up f0) (up f1) (up f2) (up f3) = y
    generalize val_main_v39 (F := Ideal) (up f0) (up f1) (up f2) (up f3) = z
    pointwise []
  rw [e, exp_eq, den_eq]
  refine (congrArg₂ Ideal.div (v36_at f0 f1 f2 f3 h a k) (v38_at f0 f1 f2 f3 h a)).trans ?_
  rw [Ideal.div_coe (den_ne _ _), ← EReal.coe_mul, one_div, pR, div_eq_mul_inv]

theorem v65_at (h : Fin 8) (a k : Fin 4096) :
    val_main_v65 (F := Ideal) (up f0) (up f1) (up f2) (up f3) (up f4) (up f5) (ix3 h a k) = (dsR f0 f1 f2 f3 f4 f5 h a k : EReal) := by
  rw [ds_eq']
  exact v62_at f0 f1 f2 f3 f4 f5 h a k

theorem v69_at (h : Fin 8) (k : Fin 4096) (j : Fin 128) :
    val_main_v69 (F := Ideal) (up f0) (up f1) (up f2) (up f3) (up f4) (up f5) (ix3 k h j) =
      ((∑ a, dsR f0 f1 f2 f3 f4 f5 h a k * f0 (ix3 a h j) : ℝ) : EReal) := by
  have e : val_main_v69 (F := Ideal) (up f0) (up f1) (up f2) (up f3) (up f4) (up f5) (ix3 k h j) =
      (∑ a : Fin 4096, val_main_v65 (F := Ideal) (up f0) (up f1) (up f2) (up f3) (up f4) (up f5) (ix3 h a k) * up f0 (ix3 a h j) : EReal) := by
    unfold val_main_v69 val_main_v68
    generalize val_main_v65 (F := Ideal) (up f0) (up f1) (up f2) (up f3) (up f4) (up f5) = y
    pointwise []
  rw [e, coe_sum]
  refine Finset.sum_congr rfl fun a _ => ?_
  rw [v65_at, up_apply, EReal.coe_mul]

theorem v67_at (h : Fin 8) (k : Fin 4096) (j : Fin 64) :
    val_main_v67 (F := Ideal) (up f0) (up f1) (up f2) (up f3) (up f4) (up f5) (ix3 k h j) =
      ((∑ a, dsR f0 f1 f2 f3 f4 f5 h a k * f1 (ix3 a h j) : ℝ) : EReal) := by
  have e : val_main_v67 (F := Ideal) (up f0) (up f1) (up f2) (up f3) (up f4) (up f5) (ix3 k h j) =
      (∑ a : Fin 4096, val_main_v65 (F := Ideal) (up f0) (up f1) (up f2) (up f3) (up f4) (up f5) (ix3 h a k) * up f1 (ix3 a h j) : EReal) := by
    unfold val_main_v67 val_main_v66
    generalize val_main_v65 (F := Ideal) (up f0) (up f1) (up f2) (up f3) (up f4) (up f5) = y
    pointwise []
  rw [e, coe_sum]
  refine Finset.sum_congr rfl fun a _ => ?_
  rw [v65_at, up_apply, EReal.coe_mul]

/-- The keys' gradient: head `h` of row `k`, laid out as `q` is. -/
theorem v72_at (h : Fin 8) (k : Fin 4096) (j : Fin 256) :
    val_main_v72 (F := Ideal) (up f0) (up f1) (up f2) (up f3) (up f4) (up f5) (ix2 k ⟨256 * h.val + j.val, by omega⟩) =
      ((∑ a, dsR f0 f1 f2 f3 f4 f5 h a k * qR f0 f1 a h j : ℝ) : EReal) := by
  have e : val_main_v72 (F := Ideal) (up f0) (up f1) (up f2) (up f3) (up f4) (up f5) (ix2 k ⟨256 * h.val + j.val, by omega⟩) =
      ((if h1 : j.val < 128 then val_main_v69 (F := Ideal) (up f0) (up f1) (up f2) (up f3) (up f4) (up f5) (ix3 k h ⟨j.val, h1⟩)
        else if h2 : j.val - 128 < 64 then val_main_v67 (F := Ideal) (up f0) (up f1) (up f2) (up f3) (up f4) (up f5) (ix3 k h ⟨j.val - 128, h2⟩) else 0 : EReal)) := by
    unfold val_main_v72 val_main_v71
    generalize val_main_v69 (F := Ideal) (up f0) (up f1) (up f2) (up f3) (up f4) (up f5) = y
    generalize val_main_v67 (F := Ideal) (up f0) (up f1) (up f2) (up f3) (up f4) (up f5) = z
    pointwise [val_main_v70, val_main_cst_14]
  rw [e]
  unfold qR
  split
  · exact v69_at f0 f1 f2 f3 f4 f5 h k _
  · split
    · exact v67_at f0 f1 f2 f3 f4 f5 h k _
    · simp

/-- The values' gradient. -/
theorem v73_at (h : Fin 8) (k : Fin 4096) (d : Fin 128) :
    val_main_v73 (F := Ideal) (up f0) (up f1) (up f2) (up f3) (up f5) (ix2 k ⟨128 * h.val + d.val, by omega⟩) =
      ((∑ a, f5 (ix2 a ⟨512 + (h.val * 128 + d.val), by omega⟩) * pR f0 f1 f2 f3 h a k : ℝ) : EReal) := by
  have e : val_main_v73 (F := Ideal) (up f0) (up f1) (up f2) (up f3) (up f5) (ix2 k ⟨128 * h.val + d.val, by omega⟩) =
      (∑ a : Fin 4096, up f5 (ix2 a ⟨512 + (h.val * 128 + d.val), by omega⟩) * val_main_v41 (F := Ideal) (up f0) (up f1) (up f2) (up f3) (ix3 h a k) : EReal) := by
    unfold val_main_v73 val_main_v50 val_main_v49
    generalize val_main_v41 (F := Ideal) (up f0) (up f1) (up f2) (up f3) = y
    pointwise [val_main_v47, val_main_v1, val_main_v0]
  rw [e, coe_sum]
  refine Finset.sum_congr rfl fun a _ => ?_
  rw [v41_at, up_apply, EReal.coe_mul]

end Cert.ReferenceDkvIdeal.At
-- ==== Proof.Dkv.Final.lean ====
module

public import proofs.«01_k».proof.Proof.Dkv.Blocks
public import proofs.«01_k».proof.Proof.Dkv.Entry
public import proofs.«01_k».proof.Proof.Dkv.Ref
public import proofs.«01_k».proof.Proof.Dq.At1
public import proofs.«01_k».proof.Proof.Dq.At2
public import proofs.«01_k».proof.Proof.Dq.At3

/-! What the kernel leaves in its two outputs, at real arguments: the reference's gradients. -/

@[expose] public section

set_option maxRecDepth 16384

noncomputable section

open Idealize.ShloMosaic Idealize.ShloMosaic.TcCoe Idealize.SL.Sem

namespace Cert.KernelDkvIdeal.Dkv

open Cert.KernelDkvIdeal Cert.KernelDkvIdeal.Gen Cert.ReferenceDqIdeal.At Cert.Attn
open Cert.KernelDqIdeal.Dq (rowOf q_at k_at v_at o_at lse_at)
open Cert.ReferenceDkvIdeal.At (pR v72_at v73_at)

/-- One query's weight, when the blocks hold real numbers. -/
theorem wt_real (Q : S4096x256.Idx → EReal) (l : S4096x128.Idx → EReal) (K : S512x256.Idx → EReal)
    (x : Fin 512) (a : Fin 4096) (qr kr : Fin 256 → ℝ) (lr : ℝ)
    (hq : ∀ d, Q (ix2 a d) = qr d) (hl : ∀ d, l (ix2 a d) = lr) (hk : ∀ d, K (ix2 x d) = kr d) :
    wt Q l K x a.val = ((Real.exp ((∑ d, qr d * kr d) * scale - lr) : ℝ) : EReal) := by
  have hQ : ∀ d, rowOf Q a.val d = qr d := fun d => by rw [rowOf, dif_pos a.isLt]; exact hq d
  have hL : ∀ d, rowOf l a.val d = lr := fun d => by rw [rowOf, dif_pos a.isLt]; exact hl d
  unfold wt
  simp only [hQ, hL, hk, ofBits_scale, ofBits_neg_inf]
  rw [fold_const]
  simp only [← EReal.coe_mul, ← coe_sum, ← EReal.coe_sub, Ideal.exp_coe]

variable [Cert.KernelDkvIdeal.Facts] [Cert.KernelDqIdeal.Facts] [Cert.ReferenceDqIdeal.Facts] [Cert.ReferenceDkvIdeal.Facts]
variable (m : (ℓ : Loc nD τ sig) → Buf (Elt Ideal) ℓ)

section entries
variable (c : Dev nD) (f0 : S4096x8x128.Idx → ℝ) (f1 : S4096x8x64.Idx → ℝ) (f2 : S4096x8x128.Idx → ℝ) (f3 : S4096x64.Idx → ℝ)
  (f4 : S4096x8x128.Idx → ℝ) (f5 : S4096x2048.Idx → ℝ)
  (h0 : m (c, main_arg0) = up f0) (h1 : m (c, main_arg1) = up f1) (h2 : m (c, main_arg2) = up f2) (h3 : m (c, main_arg3) = up f3)
  (h4 : m (c, main_arg4) = up f4) (h5 : m (c, main_arg5) = up f5)

section rows
variable (t : Fin cfg0.N) (x : Fin 512) (a : Fin 4096)

include h0 h1 in
theorem row_q (d : Fin 256) : (iblk m c 0 t : S4096x256.Idx → EReal) (ix2 a d) = (qR f0 f1 a (hd t) d : EReal) :=
  (b0 m c t a d).trans (by rw [entry_q, h0, h1]; exact q_at f0 f1 (hd t) a d)

include h2 h3 in
theorem row_k (d : Fin 256) : (iblk m c 1 t : S512x256.Idx → EReal) (ix2 x d) = (kR f2 f3 (krow t x) (hd t) d : EReal) :=
  (b1 m c t x d).trans (by rw [entry_k, h2, h3]; exact k_at f2 f3 (hd t) (krow t x) d)

include h4 in
theorem row_v (d : Fin 128) : (iblk m c 2 t : S512x128.Idx → EReal) (ix2 x d) = (f4 (ix3 (krow t x) (hd t) d) : EReal) :=
  (b2 m c t x d).trans (by rw [entry_v, h4]; exact v_at f4 (hd t) (krow t x) d)

include h0 h1 h2 h3 h4 in
theorem row_o (d : Fin 128) : (iblk m c 3 t : S4096x128.Idx → EReal) (ix2 a d) = (oR f0 f1 f2 f3 f4 (hd t) a d : EReal) :=
  (b3 m c t a d).trans (by rw [entry_o, h0, h1, h2, h3, h4]; exact o_at f0 f1 f2 f3 f4 (hd t) a d)

include h0 h1 h2 h3 in
theorem row_lse (d : Fin 128) : (iblk m c 4 t : S4096x128.Idx → EReal) (ix2 a d) = (lse (sR f0 f1 f2 f3 (hd t) a) a : EReal) :=
  (b4 m c t a d).trans (by rw [entry_lse, h0, h1, h2, h3]; exact lse_at f0 f1 f2 f3 (hd t) a d)

include h5 in
theorem row_do (d : Fin 128) : (iblk m c 5 t : S4096x128.Idx → EReal) (ix2 a d) = (f5 (ix2 a ⟨512 + ((hd t).val * 128 + d.val), by omega⟩) : EReal) :=
  (b5 m c t a d).trans (congrFun ((V_main_arg5 m c).trans h5) _)

include h0 h1 h2 h3 in
theorem wt_at : wt (iblk m c 0 t) (iblk m c 4 t) (iblk m c 1 t) x a.val =
    ((Real.exp (sR f0 f1 f2 f3 (hd t) a (krow t x) - lse (sR f0 f1 f2 f3 (hd t) a) a) : ℝ) : EReal) := by
  rw [wt_real (iblk m c 0 t) (iblk m c 4 t) (iblk m c 1 t) x a _ _ _ (row_q m c f0 f1 h0 h1 t a) (row_lse m c f0 f1 f2 f3 h0 h1 h2 h3 t a)
    (row_k m c f2 f3 h2 h3 t x), qk]

end rows

include h0 h1 h2 h3 h4 h5

/-- Query `a`'s contribution to row `x` of grid point `t`'s block of the keys' gradient. -/
theorem termK_at (t : Fin cfg0.N) (x : Fin 512) (j : Fin 256) (a : Fin 4096) (ha : (krow t x).val ≤ a.val) :
    termK (iblk m c 0 t) (iblk m c 5 t) (iblk m c 3 t) (iblk m c 4 t) (iblk m c 1 t) (iblk m c 2 t) x j a.val =
      ((dsR f0 f1 f2 f3 f4 f5 (hd t) a (krow t x) * qR f0 f1 a (hd t) j : ℝ) : EReal) := by
  unfold termK
  rw [wt_at m c f0 f1 f2 f3 h0 h1 h2 h3 t x a]
  have hQ : rowOf (iblk m c 0 t : S4096x256.Idx → EReal) a.val j = (qR f0 f1 a (hd t) j : EReal) := by
    rw [rowOf, dif_pos a.isLt]; exact row_q m c f0 f1 h0 h1 t a j
  have hD : ∀ d, rowOf (iblk m c 5 t : S4096x128.Idx → EReal) a.val d = (f5 (ix2 a ⟨512 + ((hd t).val * 128 + d.val), by omega⟩) : EReal) := fun d => by
    rw [rowOf, dif_pos a.isLt]; exact row_do m c f5 h5 t a d
  have hO : ∀ d, rowOf (iblk m c 3 t : S4096x128.Idx → EReal) a.val d = (oR f0 f1 f2 f3 f4 (hd t) a d : EReal) := fun d => by
    rw [rowOf, dif_pos a.isLt]; exact row_o m c f0 f1 f2 f3 f4 h0 h1 h2 h3 h4 t a d
  have hV := row_v m c f4 h4 t x
  simp only [hQ, hD, hO, hV, ofBits_scale]
  rw [← ds_saved f0 f1 f2 f3 f4 f5 (hd t) a (krow t x) ha]
  simp only [dpR, EReal.coe_mul, EReal.coe_sub, coe_sum]

omit h4 in
/-- Query `a`'s contribution to row `x` of grid point `t`'s block of the values' gradient. -/
theorem termV_at (t : Fin cfg0.N) (x : Fin 512) (d : Fin 128) (a : Fin 4096) (ha : (krow t x).val ≤ a.val) :
    termV (iblk m c 0 t) (iblk m c 5 t) (iblk m c 4 t) (iblk m c 1 t) x d a.val =
      ((f5 (ix2 a ⟨512 + ((hd t).val * 128 + d.val), by omega⟩) * pR f0 f1 f2 f3 (hd t) a (krow t x) : ℝ) : EReal) := by
  unfold termV
  rw [wt_at m c f0 f1 f2 f3 h0 h1 h2 h3 t x a, exp_lse _ _ _ ha]
  have hD : rowOf (iblk m c 5 t : S4096x128.Idx → EReal) a.val d = (f5 (ix2 a ⟨512 + ((hd t).val * 128 + d.val), by omega⟩) : EReal) := by
    rw [rowOf, dif_pos a.isLt]; exact row_do m c f5 h5 t a d
  rw [hD, ← EReal.coe_mul, mul_comm]
  rfl

theorem outK_at (t : Fin cfg0.N) (x : Fin 512) (j : Fin 256) :
    ((outsAt0 m c t).1 (ix2 x j) : EReal) = Cert.ReferenceDkvIdeal.Read.val_main_v72 (F := Ideal) (up f0) (up f1) (up f2) (up f3) (up f4) (up f5)
      (ix2 (krow t x) ⟨256 * (hd t).val + j.val, by omega⟩) := by
  rw [v72_at]
  refine (pointK m c t x j).trans ?_
  rw [coe_sum]
  refine Finset.sum_congr rfl fun a _ => ?_
  split
  · exact termK_at m c f0 f1 f2 f3 f4 f5 h0 h1 h2 h3 h4 h5 t x j a ‹_›
  · rw [ds_masked f0 f1 f2 f3 f4 f5 (hd t) a (krow t x) ‹_›, zero_mul, EReal.coe_zero]

omit h4 in
theorem outV_at (t : Fin cfg0.N) (x : Fin 512) (d : Fin 128) :
    ((outsAt0 m c t).2 (ix2 x d) : EReal) = Cert.ReferenceDkvIdeal.Read.val_main_v73 (F := Ideal) (up f0) (up f1) (up f2) (up f3) (up f5)
      (ix2 (krow t x) ⟨128 * (hd t).val + d.val, by omega⟩) := by
  rw [v73_at]
  refine (pointV m c t x d).trans ?_
  rw [coe_sum]
  refine Finset.sum_congr rfl fun a _ => ?_
  split
  · exact termV_at m c f0 f1 f2 f3 f5 h0 h1 h2 h3 h5 t x d a ‹_›
  · have hp : pR f0 f1 f2 f3 (hd t) a (krow t x) = 0 := by
      unfold pR ex
      rw [if_neg ‹_›, zero_div]
    rw [hp, mul_zero, EReal.coe_zero]

/-- The keys' gradient after the run. -/
theorem finalK : ((dats m 0 c).arrAt 6 (cfgs 0).N : S4096x2048.Idx → EReal) =
    Cert.ReferenceDkvIdeal.Read.val_main_v72 (F := Ideal) (up f0) (up f1) (up f2) (up f3) (up f4) (up f5) := by
  refine (dats m 0 c).arrAt_eq_of_covers 6 _ (by decide +kernel) fun t _ y => ?_
  blk_simp
  rw [after0_6]
  obtain ⟨x, j, rfl⟩ : ∃ (x : Fin 512) (j : Fin 256), y = ix2 x j := ⟨y 0, y 1, by funext k; fin_cases k <;> rfl⟩
  refine (outK_at m c f0 f1 f2 f3 f4 f5 h0 h1 h2 h3 h4 h5 t x j).trans ?_
  generalize Cert.ReferenceDkvIdeal.Read.val_main_v72 (F := Ideal) (up f0) (up f1) (up f2) (up f3) (up f4) (up f5) = W
  unfold hd krow
  symm
  blk_ext [idx6 t]

omit h4 in
/-- The values' gradient after the run. -/
theorem finalV : ((dats m 0 c).arrAt 7 (cfgs 0).N : S4096x1024.Idx → EReal) =
    Cert.ReferenceDkvIdeal.Read.val_main_v73 (F := Ideal) (up f0) (up f1) (up f2) (up f3) (up f5) := by
  refine (dats m 0 c).arrAt_eq_of_covers 7 _ (by decide +kernel) fun t _ y => ?_
  blk_simp
  rw [after0_7]
  obtain ⟨x, d, rfl⟩ : ∃ (x : Fin 512) (d : Fin 128), y = ix2 x d := ⟨y 0, y 1, by funext k; fin_cases k <;> rfl⟩
  refine (outV_at m c f0 f1 f2 f3 f5 h0 h1 h2 h3 h5 t x d).trans ?_
  generalize Cert.ReferenceDkvIdeal.Read.val_main_v73 (F := Ideal) (up f0) (up f1) (up f2) (up f3) (up f5) = W
  unfold hd krow
  symm
  blk_ext [idx7 t]

end entries

end Cert.KernelDkvIdeal.Dkv
-- ==== Proof.Dkv.Claims.lean ====
module

public import proofs.«01_k».proof.Defs
public import proofs.«01_k».proof.Proof.Dkv.Final
public import proofs.«01_k».proof.Proof.Dq.Pre
public import proofs.«01_k».proof.Proof.Gen.KernelDkv.Frame
public import proofs.«01_k».proof.Proof.Gen.KernelDkvIdeal.Value
public import proofs.«01_k».proof.Proof.Gen.ReferenceDkvIdeal.Run
public import proofs.«01_k».proof.Proof.Gen.ReferenceDkvIdeal.Read
public import Idealize.ShloMosaic.Lib.Claim

/-! The claims about the gradients of the keys and of the values. -/

@[expose] public section

noncomputable section

open Idealize.ShloMosaic Idealize.ShloMosaic.TcCoe Idealize.SL.Sem

namespace Cert.Proof.Dkv

theorem frame_reference : Cert.quiescent_ReferenceDkvIdeal := by
  intro m g _
  exact (θ_run Cert.ReferenceDkvIdeal.defs _ _).mono (fun r h => ⟨fun c => (h c).2.2, sem_eq_zero_of_no_sems (by decide) r.2⟩)
    (Cert.ReferenceDkvIdeal.Value.run m g)

theorem frame_reference_pre [Cert.Pre_finite.Facts] : Cert.quiescent_ReferenceDkvIdeal_pre_finite :=
  fun m g _ => frame_reference m g trivial

theorem algebraic [Cert.Pre_finite.Facts] : Cert.algebraic_KernelDkvIdeal_ReferenceDkvIdeal_pre_finite := by
  pair_intro
  · run_from Cert.KernelDkvIdeal.Value.run_blocks m g
  · run_from Cert.ReferenceDkvIdeal.Value.run m' g'
    all_goals
      obtain ⟨e0, e1, e2, e3, e4, e5⟩ := hagree c
      obtain ⟨⟨f0, h0⟩, ⟨f1, h1⟩, ⟨f2, h2⟩, ⟨f3, h3⟩, ⟨f4, h4⟩, ⟨f5, h5⟩⟩ := Cert.Pre_finite.reals _ _ _ _ _ _ (hpre c)
    · rw [Cert.ReferenceDkvIdeal.Read.val_main_v72_eq, e0, e1, e2, e3, e4, e5]
      refine Eq.trans ?_ (Cert.KernelDkvIdeal.Dkv.finalK m c f0 f1 f2 f3 f4 f5 h0 h1 h2 h3 h4 h5).symm
      rw [h0, h1, h2, h3, h4, h5]
    · rw [Cert.ReferenceDkvIdeal.Read.val_main_v73_eq, e0, e1, e2, e3, e5]
      refine Eq.trans ?_ (Cert.KernelDkvIdeal.Dkv.finalV m c f0 f1 f2 f3 f5 h0 h1 h2 h3 h5).symm
      rw [h0, h1, h2, h3, h5]

end Cert.Proof.Dkv
-- ==== Proof.Math.Online.lean ====
module

public import proofs.«01_k».proof.Proof.Math.Softmax

/-! The forward call takes a row's keys in blocks: each block's greatest score may raise the maximum so far, and what was
  summed is then scaled to the new maximum. A masked score is the least extended real. -/

@[expose] public section

noncomputable section

open Idealize.ShloMosaic

namespace Cert.Attn

variable (f : ℕ → EReal) (v : ℕ → ℝ)

/-- The greatest of the first `n` scores. -/
def top (n : ℕ) : EReal := (Finset.range n).sup f

/-- The first `n` values, each weighted by the exponential of its score less `M`. -/
def acc (M : EReal) (n : ℕ) : EReal := ∑ k ∈ Finset.range n, Ideal.exp (f k - M) * (v k : EReal)

theorem top_add (n b : ℕ) : top f (n + b) = max (top f n) (Finset.fold max ⊥ (fun x : Fin b => f (n + x.val)) Finset.univ) := by
  show top f (n + b) = max (top f n) (Finset.sup Finset.univ (fun x : Fin b => f (n + x.val)))
  unfold top
  apply le_antisymm
  · refine Finset.sup_le fun k hk => ?_
    have hk := Finset.mem_range.1 hk
    by_cases h : k < n
    · exact le_max_of_le_left (Finset.le_sup (Finset.mem_range.2 h))
    · refine le_max_of_le_right (le_trans (le_of_eq ?_) (Finset.le_sup (Finset.mem_univ (⟨k - n, by omega⟩ : Fin b))))
      exact congrArg f (by dsimp only; omega)
  · refine max_le (Finset.sup_mono (Finset.range_mono (by omega))) (Finset.sup_le fun x _ => ?_)
    exact Finset.le_sup (f := f) (Finset.mem_range.2 (by omega))

variable {f}

theorem top_lt (hf : ∀ k, f k ≠ ⊤) (n : ℕ) : top f n < ⊤ := by
  unfold top
  rw [Finset.sup_lt_iff (by exact bot_lt_top)]
  exact fun k _ => lt_top_iff_ne_top.2 (hf k)

/-- A score's exponential less a real maximum is real. -/
theorem exp_real (x : EReal) (hx : x ≠ ⊤) (M : ℝ) :
    Ideal.exp (x - (M : EReal)) = ((if x = ⊥ then 0 else Real.exp (x.toReal - M) : ℝ) : EReal) := by
  induction x using EReal.rec with
  | bot => rw [EReal.bot_sub, if_pos rfl]; rfl
  | top => exact absurd rfl hx
  | coe r => rw [if_neg (EReal.coe_ne_bot r), ← EReal.coe_sub]; rfl

/-- Scaling what was summed to a new maximum sums it at the new maximum. -/
theorem rescale (hf : ∀ k, f k ≠ ⊤) (n : ℕ) (M : ℝ) : Ideal.exp (top f n - (M : EReal)) * acc f v (top f n) n = acc f v (M : EReal) n := by
  have ht := top_lt hf n
  unfold acc
  induction h : top f n using EReal.rec with
  | top => rw [h] at ht; exact absurd rfl ht.ne
  | bot =>
    have hb : ∀ k ∈ Finset.range n, f k = ⊥ := fun k hk => le_bot_iff.1 (h ▸ Finset.le_sup (f := f) hk)
    rw [EReal.bot_sub, show Ideal.exp ⊥ = 0 from rfl, zero_mul]
    refine (Finset.sum_eq_zero fun k hk => ?_).symm
    rw [hb k hk, EReal.bot_sub, show Ideal.exp ⊥ = 0 from rfl, zero_mul]
  | coe μ =>
    simp only [exp_real _ (hf _), exp_real _ (EReal.coe_ne_top μ), ← EReal.coe_mul, ← coe_sum]
    rw [if_neg (EReal.coe_ne_bot μ), EReal.toReal_coe, Finset.mul_sum]
    refine congrArg _ (Finset.sum_congr rfl fun k _ => ?_)
    split
    · simp
    · rw [← mul_assoc, ← Real.exp_add]
      congr 2
      ring

/-- One block of the running sum. -/
theorem acc_add (hf : ∀ k, f k ≠ ⊤) (n b : ℕ) (M : ℝ) :
    Ideal.exp (top f n - (M : EReal)) * acc f v (top f n) n + ∑ x : Fin b, Ideal.exp (f (n + x.val) - (M : EReal)) * (v (n + x.val) : EReal) = acc f v (M : EReal) (n + b) := by
  rw [rescale v hf, acc, acc, Finset.sum_range_add, Finset.sum_range (n := b)]

/-! ## The causal row -/

variable {n : ℕ} (s : Fin n → ℝ) (a : Fin n)

/-- The masked scores of row `a`, and nothing past them. -/
def row (k : ℕ) : EReal := if h : k < n then masked s a ⟨k, h⟩ else ⊥

/-- Values at natural numbers, zero past their end. -/
def past (w : Fin n → ℝ) (k : ℕ) : ℝ := if h : k < n then w ⟨k, h⟩ else 0

theorem row_ne_top (k : ℕ) : row s a k ≠ ⊤ := by
  unfold row masked
  split
  · split
    · exact EReal.coe_ne_top _
    · exact bot_ne_top
  · exact bot_ne_top

theorem row_past (k : ℕ) (h : a.val < k) : row s a k = ⊥ := by
  unfold row masked
  split
  · rw [if_neg (by dsimp only; omega)]
  · rfl

/-- Once the keys up to the diagonal are seen the maximum is the row's. -/
theorem top_row (N : ℕ) (ha : a.val < N) (hN : N ≤ n) : top (row s a) N = (mu s a : EReal) := by
  rw [← coe_mu]
  show _ = Finset.sup Finset.univ (masked s a)
  unfold top
  apply le_antisymm
  · refine Finset.sup_le fun k hk => ?_
    have hk := Finset.mem_range.1 hk
    rw [row, dif_pos (by omega)]
    exact Finset.le_sup (Finset.mem_univ _)
  · refine Finset.sup_le fun k _ => ?_
    by_cases h : k.val < N
    · refine le_trans (le_of_eq ?_) (Finset.le_sup (Finset.mem_range.2 h))
      rw [row, dif_pos k.isLt]
    · rw [masked, if_neg (by omega)]
      exact bot_le

/-- And the sum is over the whole row. -/
theorem acc_row (w : Fin n → ℝ) (N : ℕ) (ha : a.val < N) (hN : N ≤ n) :
    acc (row s a) (past w) (mu s a : EReal) N = ((∑ k, ex s a k * w k : ℝ) : EReal) := by
  have e : acc (row s a) (past w) (mu s a : EReal) n = acc (row s a) (past w) (mu s a : EReal) N := by
    obtain ⟨b, rfl⟩ := Nat.exists_eq_add_of_le hN
    unfold acc
    rw [Finset.sum_range_add]
    refine Eq.trans (congrArg (_ + ·) (Finset.sum_eq_zero fun x _ => ?_)) (add_zero _)
    rw [row_past s a _ (by omega), EReal.bot_sub, show Ideal.exp ⊥ = 0 from rfl, zero_mul]
  rw [← e, acc, Finset.sum_range, coe_sum]
  refine Finset.sum_congr rfl fun k _ => ?_
  rw [row, dif_pos k.isLt, past, dif_pos k.isLt, Fin.eta, coe_ex, ← EReal.coe_mul]

end Cert.Attn
-- ==== Proof.Fwd.Block.lean ====
/-
  What one grid point of the forward call writes: a block of 512 query rows of one head, each row's softmax taken over its
  keys in blocks of 512, the block on the diagonal masked and last.
-/
module

public import proofs.«01_k».proof.Proof.Gen.KernelFwdIdeal.Value
public import proofs.«01_k».proof.Proof.Dq.Block
public import proofs.«01_k».proof.Proof.Math.Online
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelFwdIdeal.Fwd

open Cert.KernelFwdIdeal Cert.KernelFwdIdeal.Gen Cert.Attn
open Cert.KernelDqIdeal.Dq (rowOf ld_rows)

variable [Cert.KernelFwdIdeal.Facts]
variable (m : (ℓ : Loc nD τ sig) → Buf (Elt Ideal) ℓ)

/-! ## The loop's bounds and offsets over the grid -/

theorem trips1 : ∀ t : Fin cfg0.N, (k0_t1_loop (grid0.coords t)).trips = t.val % 8 :=
  (by decide +kernel : ∀ t : Fin grid0.N, (k0_t1_loop (grid0.coords t)).trips = t.val % 8)
theorem trips2 : ∀ t : Fin cfg0.N, (k0_t2_loop (grid0.coords t)).trips = 0 :=
  (by decide +kernel : ∀ t : Fin grid0.N, (k0_t2_loop (grid0.coords t)).trips = 0)
theorem off1 : ∀ (t : Fin cfg0.N) (k : Fin (k0_t1_loop (grid0.coords t)).trips), k0_off1 (grid0.coords t) k = ![512 * k.val, 0] :=
  (by decide +kernel : ∀ (t : Fin grid0.N) (k : Fin (k0_t1_loop (grid0.coords t)).trips), k0_off1 (grid0.coords t) k = ![512 * k.val, 0])
theorem off2 : ∀ (t : Fin cfg0.N) (k : Fin (k0_t1_loop (grid0.coords t)).trips), k0_off2 (grid0.coords t) k = ![512 * k.val, 0] :=
  (by decide +kernel : ∀ (t : Fin grid0.N) (k : Fin (k0_t1_loop (grid0.coords t)).trips), k0_off2 (grid0.coords t) k = ![512 * k.val, 0])
theorem off5 : ∀ t : Fin cfg0.N, k0_off5 (grid0.coords t) = ![512 * (t.val % 8), 0] :=
  (by decide +kernel : ∀ t : Fin grid0.N, k0_off5 (grid0.coords t) = ![512 * (t.val % 8), 0])
theorem off6 : ∀ t : Fin cfg0.N, k0_off6 (grid0.coords t) = ![512 * (t.val % 8), 0] :=
  (by decide +kernel : ∀ t : Fin grid0.N, k0_off6 (grid0.coords t) = ![512 * (t.val % 8), 0])

/-- The mask's constant is read as the least extended real. -/
theorem mask_bot : Named.named (F := Ideal) κ "mask" (φ := .f32) 0xF149F2CA#32 = (⊥ : EReal) :=
  IdealRules.named_const.ideal_named_scalar _ _ _ _ rfl

section pays
variable (q kb : Vec Ideal S512x256 .bf16) (vb : Vec Ideal S512x128 .bf16)
  (mx l : FVec Ideal S512x1 .f32) (ac : FVec Ideal S512x128 .f32) (r : Fin 512)

theorem mask (r x : Fin 512) (a b : EReal) :
    Scalar.select (IntOp.cmpi CmpIPredicate.sle (BitVec.ofNat 32 x.val) (BitVec.ofNat 32 r.val)) a b = if x.val ≤ r.val then a else b := by
  have hx := x.isLt
  have hr := r.isLt
  rw [WordCmp.cmpi_sle_ofNat (by omega) (by omega)]
  by_cases h : x.val ≤ r.val <;> simp [h, Scalar.select]

theorem pay7_apply (x : Fin 512) :
    k0_pay7 q kb (ix2 r x) = (∑ d, q (ix2 r d) * kb (ix2 x d)) * Ideal.ofBits FTy.f32 1033096506#32 := by
  pointwise [k0_pay7, k0_pay3]

theorem pay19_apply (x : Fin 512) :
    k0_pay19 q kb (ix2 r x) = if x.val ≤ r.val then (∑ d, q (ix2 r d) * kb (ix2 x d)) * Ideal.ofBits FTy.f32 1033096506#32 else ⊥ := by
  pointwise [k0_pay19, k0_pay3]
  rw [mask, mask_bot]

theorem pay8_apply : k0_pay8 q mx kb (ix2 r 0) = max (mx (ix2 r 0)) (Finset.fold max ⊥ (fun x => k0_pay7 q kb (ix2 r x)) Finset.univ) := by
  unfold k0_pay8
  generalize k0_pay7 q kb = z
  pointwise
  rw [ofBits_neg_inf]

theorem pay20_apply : k0_pay20 q mx kb (ix2 r 0) = max (mx (ix2 r 0)) (Finset.fold max ⊥ (fun x => k0_pay19 q kb (ix2 r x)) Finset.univ) := by
  unfold k0_pay20
  generalize k0_pay19 q kb = z
  pointwise
  rw [ofBits_neg_inf]

theorem pay11_apply : k0_pay11 q mx l kb (ix2 r 0) = Ideal.exp (mx (ix2 r 0) - k0_pay8 q mx kb (ix2 r 0)) * l (ix2 r 0)
    + ∑ x, Ideal.exp (k0_pay7 q kb (ix2 r x) - k0_pay8 q mx kb (ix2 r 0)) := by
  unfold k0_pay11 k0_pay9 k0_pay10
  generalize k0_pay7 q kb = z
  generalize k0_pay8 q mx kb = y
  pointwise

theorem pay23_apply : k0_pay23 q mx l kb (ix2 r 0) = Ideal.exp (mx (ix2 r 0) - k0_pay20 q mx kb (ix2 r 0)) * l (ix2 r 0)
    + ∑ x, Ideal.exp (k0_pay19 q kb (ix2 r x) - k0_pay20 q mx kb (ix2 r 0)) := by
  unfold k0_pay23 k0_pay21 k0_pay22
  generalize k0_pay19 q kb = z
  generalize k0_pay20 q mx kb = y
  pointwise

theorem pay12_apply (d : Fin 128) : k0_pay12 q mx ac kb vb (ix2 r d) = Ideal.exp (mx (ix2 r 0) - k0_pay8 q mx kb (ix2 r 0)) * ac (ix2 r d)
    + ∑ x, Ideal.exp (k0_pay7 q kb (ix2 r x) - k0_pay8 q mx kb (ix2 r 0)) * vb (ix2 x d) := by
  unfold k0_pay12 k0_pay9 k0_pay10
  generalize k0_pay7 q kb = z
  generalize k0_pay8 q mx kb = y
  pointwise

theorem pay1_apply (d : Fin 128) : k0_pay1 (k0_pay22 q mx kb) l (k0_pay24 q mx ac kb) vb (ix2 r d) =
    Ideal.div (Ideal.exp (mx (ix2 r 0) - k0_pay20 q mx kb (ix2 r 0)) * ac (ix2 r d)
      + ∑ x, Ideal.exp (k0_pay19 q kb (ix2 r x) - k0_pay20 q mx kb (ix2 r 0)) * vb (ix2 x d)) (l (ix2 r 0)) := by
  unfold k0_pay1 k0_pay24 k0_pay21 k0_pay22
  generalize k0_pay19 q kb = z
  generalize k0_pay20 q mx kb = y
  pointwise

theorem pay2_apply (d : Fin 128) : k0_pay2 mx l (ix2 r d) = mx (ix2 r 0) + Ideal.log (l (ix2 r 0)) := by
  pointwise [k0_pay2]

end pays

/-! ## A row's running softmax -/

/-- After a row's first `n` keys: the greatest score, the sum of exponentials and the weighted sums of the values. -/
def Seen (f : ℕ → EReal) (v : Fin 128 → ℕ → ℝ) (r : Fin 512) (n : ℕ)
    (S : FVec Ideal S512x1 .f32 × FVec Ideal S512x1 .f32 × FVec Ideal S512x128 .f32) : Prop :=
  S.1 (ix2 r 0) = top f n ∧ S.2.1 (ix2 r 0) = acc f (fun _ => 1) (top f n) n ∧ ∀ d, S.2.2 (ix2 r d) = acc f (v d) (top f n) n

/-- One block more of a running sum. -/
theorem sum_step {f : ℕ → EReal} (v : ℕ → ℝ) (hf : ∀ k, f k ≠ ⊤) (hr : ∀ n, 0 < n → ∃ M : ℝ, top f n = M) (n : ℕ) (w : Fin 512 → EReal)
    (hw : ∀ x : Fin 512, w x = v (n + x.val)) :
    Ideal.exp (top f n - top f (n + 512)) * acc f v (top f n) n + ∑ x : Fin 512, Ideal.exp (f (n + x.val) - top f (n + 512)) * w x
      = acc f v (top f (n + 512)) (n + 512) := by
  obtain ⟨M, hM⟩ := hr (n + 512) (by omega)
  simp only [hM, hw]
  exact acc_add v hf n 512 M

section step
variable (f : ℕ → EReal) (v : Fin 128 → ℕ → ℝ) (r : Fin 512) (n : ℕ) (S : FVec Ideal S512x1 .f32 × FVec Ideal S512x1 .f32 × FVec Ideal S512x128 .f32)
  (q kb : Vec Ideal S512x256 .bf16) (vb : Vec Ideal S512x128 .bf16)
  (hf : ∀ k, f k ≠ ⊤) (hr : ∀ n, 0 < n → ∃ M : ℝ, top f n = M) (hS : Seen f v r n S)
  (hv : ∀ (x : Fin 512) (d : Fin 128), vb (ix2 x d) = (v d (n + x.val) : EReal))
include hf hr hS hv

/-- A block the mask keeps whole. -/
theorem seen_step (hs : ∀ x : Fin 512, k0_pay7 q kb (ix2 r x) = f (n + x.val)) :
    Seen f v r (n + 512) (k0_pay8 q S.1 kb, k0_pay11 q S.1 S.2.1 kb, k0_pay12 q S.1 S.2.2 kb vb) := by
  obtain ⟨h1, h2, h3⟩ := hS
  have e : k0_pay8 q S.1 kb (ix2 r 0) = top f (n + 512) := by
    rw [pay8_apply, h1, top_add]
    simp only [hs]
  refine ⟨e, ?_, fun d => ?_⟩
  · refine (pay11_apply q kb S.1 S.2.1 r).trans ?_
    rw [e, h1, h2]
    simp only [hs]
    have := sum_step (fun _ => 1) hf hr n (fun _ => 1) (fun _ => EReal.coe_one.symm)
    simpa only [mul_one] using this
  · refine (pay12_apply q kb vb S.1 S.2.2 r d).trans ?_
    rw [e, h1, h3]
    simp only [hs]
    exact sum_step (v d) hf hr n _ (hv · d)

/-- The block on the diagonal, and the row's quotient. -/
theorem out_last (hs : ∀ x : Fin 512, k0_pay19 q kb (ix2 r x) = f (n + x.val)) (d : Fin 128) :
    k0_pay1 (k0_pay22 q S.1 kb) (k0_pay23 q S.1 S.2.1 kb) (k0_pay24 q S.1 S.2.2 kb) vb (ix2 r d) =
      Ideal.div (acc f (v d) (top f (n + 512)) (n + 512)) (acc f (fun _ => 1) (top f (n + 512)) (n + 512)) ∧
    k0_pay2 (k0_pay20 q S.1 kb) (k0_pay23 q S.1 S.2.1 kb) (ix2 r d) =
      top f (n + 512) + Ideal.log (acc f (fun _ => 1) (top f (n + 512)) (n + 512)) := by
  obtain ⟨h1, h2, h3⟩ := hS
  have e : k0_pay20 q S.1 kb (ix2 r 0) = top f (n + 512) := by
    rw [pay20_apply, h1, top_add]
    simp only [hs]
  have el : k0_pay23 q S.1 S.2.1 kb (ix2 r 0) = acc f (fun _ => 1) (top f (n + 512)) (n + 512) := by
    rw [pay23_apply, e, h1, h2]
    simp only [hs]
    have := sum_step (fun _ => 1) hf hr n (fun _ => 1) (fun _ => EReal.coe_one.symm)
    simpa only [mul_one] using this
  constructor
  · rw [pay1_apply, el, e, h1, h3]
    simp only [hs]
    rw [sum_step (v d) hf hr n _ (hv · d)]
  · rw [pay2_apply, el, e]

end step

/-- Query row `r`'s score at key `k`. -/
def sc (q : S512x256.Idx → EReal) (K : S4096x256.Idx → EReal) (r : Fin 512) (k : ℕ) : EReal :=
  (∑ d, q (ix2 r d) * rowOf K k d) * Ideal.ofBits FTy.f32 1033096506#32

section loop
variable (c : Dev nD) (t : Fin cfg0.N) (r : Fin 512) (f : ℕ → EReal) (v : Fin 128 → ℕ → ℝ)
  (hf : ∀ k, f k ≠ ⊤) (hr : ∀ n, 0 < n → ∃ M : ℝ, top f n = M)
  (hv : ∀ k, k < 4096 → ∀ d : Fin 128, rowOf (iblk m c 2 t : S4096x128.Idx → EReal) k d = (v d k : EReal))
  (hs : ∀ k, k < 512 * (t.val % 8) → sc (iblk m c 0 t) (iblk m c 1 t) r k = f k)
include hf hr hv hs

theorem carried : ∀ n : ℕ, n ≤ t.val % 8 → Seen f v r (512 * n)
    (st_k0_t1 Variants.none c none (grid0.coords t) (ms0_0 t) (hs0_0 t) (ms0_1 t) (hs0_1 t) (ms0_2 t) (hs0_2 t) (ms0_3 t) (hs0_3 t) (ms0_4 t) (hs0_4 t)
      (iblk m c 0 t) ((hs0_1 t).unread (iblk m c 1 t)) ((hs0_2 t).unread (iblk m c 2 t)) (k0_pay4, k0_pay5, k0_pay6) n) := by
  intro n
  induction n with
  | zero =>
    intro _
    rw [st_k0_t1_zero]
    refine ⟨?_, ?_, fun d => ?_⟩
    · show Named.named (F := Ideal) κ "mask" (φ := .f32) 0xF149F2CA#32 = _
      rw [mask_bot]
      rfl
    · show k0_pay5 (F := Ideal) (ix2 r 0) = 0
      pointwise [k0_pay5]
    · show k0_pay6 (F := Ideal) (ix2 r d) = 0
      pointwise [k0_pay6]
  | succ n ih =>
    intro hn
    have hk : n < (k0_t1_loop (grid0.coords t)).trips := by rw [trips1]; omega
    have hst := st_k0_t1_succ (F := Ideal) Variants.none c none (grid0.coords t) (ms0_0 t) (hs0_0 t) (ms0_1 t) (hs0_1 t) (ms0_2 t) (hs0_2 t) (ms0_3 t) (hs0_3 t) (ms0_4 t) (hs0_4 t)
      (iblk m c 0 t) ((hs0_1 t).unread (iblk m c 1 t)) ((hs0_2 t).unread (iblk m c 2 t)) (k0_pay4, k0_pay5, k0_pay6) ⟨n, hk⟩
    have ih := ih (by omega)
    rw [hst, Nat.mul_succ 512 n]
    revert ih
    generalize st_k0_t1 (F := Ideal) Variants.none c none (grid0.coords t) (ms0_0 t) (hs0_0 t) (ms0_1 t) (hs0_1 t) (ms0_2 t) (hs0_2 t) (ms0_3 t) (hs0_3 t) (ms0_4 t) (hs0_4 t)
      (iblk m c 0 t) ((hs0_1 t).unread (iblk m c 1 t)) ((hs0_2 t).unread (iblk m c 2 t)) (k0_pay4, k0_pay5, k0_pay6) n = S
    intro ih
    unfold tripR_k0_t1 trip_k0_t1
    frame_out
    refine seen_step f v r (512 * n) S _ _ _ hf hr ih (fun x d => ?_) (fun x => ?_)
    · exact (ld_rows (iblk m c 2 t) _ _ (off2 t ⟨n, hk⟩) _ x d).trans (hv _ (by dsimp only; omega) d)
    · rw [pay7_apply, ← hs (512 * n + x.val) (by omega), sc]
      simp only [ld_rows (iblk m c 1 t) _ _ (off1 t ⟨n, hk⟩)]

/-- What grid point `t` writes in row `r` of its two blocks. -/
theorem point (hd : ∀ x : Fin 512, (if x.val ≤ r.val then sc (iblk m c 0 t) (iblk m c 1 t) r (512 * (t.val % 8) + x.val) else ⊥)
      = f (512 * (t.val % 8) + x.val)) (d : Fin 128) :
    (outsAt0 m c t).1 (ix2 r d) = Ideal.div (acc f (v d) (top f (512 * (t.val % 8) + 512)) (512 * (t.val % 8) + 512))
        (acc f (fun _ => 1) (top f (512 * (t.val % 8) + 512)) (512 * (t.val % 8) + 512)) ∧
    (outsAt0 m c t).2 (ix2 r d) = top f (512 * (t.val % 8) + 512) + Ideal.log (acc f (fun _ => 1) (top f (512 * (t.val % 8) + 512)) (512 * (t.val % 8) + 512)) := by
  have hS := carried m c t r f v hf hr hv hs _ le_rfl
  unfold outsAt0
  frame_out
  have h1 := trips1 t
  have h2 := trips2 t
  dsimp only [k0_t1_loop, k0_t2_loop, Scf.Loop.trips] at h1 h2
  rw [h1, h2, st_k0_t2_zero]
  revert hS
  generalize st_k0_t1 (F := Ideal) Variants.none c none (grid0.coords t) (ms0_0 t) (hs0_0 t) (ms0_1 t) (hs0_1 t) (ms0_2 t) (hs0_2 t) (ms0_3 t) (hs0_3 t) (ms0_4 t) (hs0_4 t)
      (iblk m c 0 t) ((hs0_1 t).unread (iblk m c 1 t)) ((hs0_2 t).unread (iblk m c 2 t)) (k0_pay4, k0_pay5, k0_pay6) (t.val % 8) = S
  intro hS
  refine out_last f v r (512 * (t.val % 8)) S _ _ _ hf hr hS (fun x d => ?_) (fun x => ?_) d
  · exact (ld_rows (iblk m c 2 t) _ _ (off6 t) _ x d).trans (hv _ (by omega) d)
  · rw [pay19_apply, ← hd x]
    unfold sc
    simp only [ld_rows (iblk m c 1 t) _ _ (off5 t)]

end loop

end Cert.KernelFwdIdeal.Fwd
-- ==== Proof.Fwd.Blocks.lean ====
module

public import proofs.«01_k».proof.Proof.Fwd.Block

@[expose] public section

set_option maxRecDepth 16384

noncomputable section

open Idealize.ShloMosaic Idealize.ShloMosaic.TcCoe Idealize.SL.Sem

namespace Cert.KernelFwdIdeal.Fwd

open Cert.KernelFwdIdeal Cert.KernelFwdIdeal.Gen

variable [Cert.KernelFwdIdeal.Facts]
variable (m : (ℓ : Loc nD τ sig) → Buf (Elt Ideal) ℓ)

/-- A grid point's head is below 8. -/
theorem hd_lt : ∀ t : Fin cfg0.N, t.val / 8 < 8 := (by decide +kernel : ∀ t : Fin grid0.N, t.val / 8 < 8)

/-! Where each window's block lies at a grid point: query block `t % 8` of head `t / 8`. -/

theorem idx0 : ∀ t : Fin cfg0.N, win0_0.index t = ![t.val % 8, t.val / 8] := (by decide +kernel : ∀ t : Fin grid0.N, win0_0.index t = ![t.val % 8, t.val / 8])
theorem idx1 : ∀ t : Fin cfg0.N, win0_1.index t = ![0, t.val / 8] := (by decide +kernel : ∀ t : Fin grid0.N, win0_1.index t = ![0, t.val / 8])
theorem idx2 : ∀ t : Fin cfg0.N, win0_2.index t = ![0, t.val / 8] := (by decide +kernel : ∀ t : Fin grid0.N, win0_2.index t = ![0, t.val / 8])
theorem idx3 : ∀ t : Fin cfg0.N, win0_3.index t = ![t.val % 8, t.val / 8] := (by decide +kernel : ∀ t : Fin grid0.N, win0_3.index t = ![t.val % 8, t.val / 8])
theorem idx4 : ∀ t : Fin cfg0.N, win0_4.index t = ![t.val % 8, t.val / 8] := (by decide +kernel : ∀ t : Fin grid0.N, win0_4.index t = ![t.val % 8, t.val / 8])

/-- The head of a grid point. -/
def hd (t : Fin cfg0.N) : Fin 8 := ⟨t.val / 8, hd_lt t⟩
/-- The query row of a grid point's row `r`. -/
def qrow (t : Fin cfg0.N) (r : Fin 512) : Fin 4096 := ⟨512 * (t.val % 8) + r.val, by omega⟩

theorem b0 (c : Dev nD) (t : Fin cfg0.N) (r : Fin 512) (d : Fin 256) : (iblk m c 0 t : S512x256.Idx → EReal) (ix2 r d) =
    (V m c main_v3 : S4096x2048.Idx → EReal) (ix2 (qrow t r) ⟨256 * (hd t).val + d.val, by omega⟩) := by
  unfold hd
  unfold qrow
  blk_simp [iblk]
  generalize V m c main_v3 = W
  blk_ext [idx0 t]

theorem b1 (c : Dev nD) (t : Fin cfg0.N) (k : Fin 4096) (d : Fin 256) : (iblk m c 1 t : S4096x256.Idx → EReal) (ix2 k d) =
    (V m c main_v8 : S4096x2048.Idx → EReal) (ix2 k ⟨256 * (hd t).val + d.val, by omega⟩) := by
  unfold hd
  blk_simp [iblk]
  generalize V m c main_v8 = W
  blk_ext [idx1 t]

theorem b2 (c : Dev nD) (t : Fin cfg0.N) (k : Fin 4096) (d : Fin 128) : (iblk m c 2 t : S4096x128.Idx → EReal) (ix2 k d) =
    (V m c main_v10 : S4096x1024.Idx → EReal) (ix2 k ⟨128 * (hd t).val + d.val, by omega⟩) := by
  unfold hd
  blk_simp [iblk]
  generalize V m c main_v10 = W
  blk_ext [idx2 t]

end Cert.KernelFwdIdeal.Fwd
-- ==== Proof.Fwd.Entry.lean ====
module

public import proofs.«01_k».proof.Proof.Fwd.Block
public import proofs.«01_k».proof.Proof.Dq.Entry
public import Idealize.ShloMosaic.Lib.StableHlo.RunRead

/-! The arrays the forward call finds: the dq call's, from the same arguments. -/

@[expose] public section

set_option maxRecDepth 200000

noncomputable section

open Idealize.ShloMosaic Idealize.ShloMosaic.TcCoe Idealize.SL.Sem

namespace Cert.KernelFwdIdeal.Fwd

open Cert.KernelFwdIdeal Cert.KernelFwdIdeal.Gen
open Cert.KernelDqIdeal.Dq (qOf kOf flat concat3)

variable [Cert.KernelFwdIdeal.Facts] [Cert.KernelDqIdeal.Facts] [Cert.ReferenceDqIdeal.Facts]
variable (m : (ℓ : Loc nD τ sig) → Buf (Elt Ideal) ℓ)

theorem entry_q (c : Dev nD) : (V m c main_v3 : S4096x2048.Idx → EReal) = qOf (m (c, main_arg0)) (m (c, main_arg1)) := by
  unfold qOf
  unfold V
  simp only [List.flatten_cons, List.flatten_nil, List.append_nil, List.cons_append, List.nil_append]
  after_reads_simp
  refine congrArg (fun x : FVec Ideal S4096x8x256 .f32 => shapeCast S4096x2048 x shapeCasts_S4096x8x256_S4096x2048) (concat3 _ ?_ ?_ ?_)
  all_goals after_reads_simp
  all_goals rfl

theorem entry_k (c : Dev nD) : (V m c main_v8 : S4096x2048.Idx → EReal) = kOf (m (c, main_arg2)) (m (c, main_arg3)) := by
  unfold kOf
  unfold V
  simp only [List.flatten_cons, List.flatten_nil, List.append_nil, List.cons_append, List.nil_append]
  after_reads_simp
  refine congrArg (fun x : FVec Ideal S4096x8x256 .f32 => shapeCast S4096x2048 x shapeCasts_S4096x8x256_S4096x2048) (concat3 _ ?_ ?_ ?_)
  all_goals after_reads_simp
  all_goals rfl

theorem entry_v (c : Dev nD) : (V m c main_v10 : S4096x1024.Idx → EReal) = flat (m (c, main_arg4)) := by
  unfold V
  after_reads_simp
  rfl

end Cert.KernelFwdIdeal.Fwd
-- ==== Proof.Fwd.Final.lean ====
module

public import proofs.«01_k».proof.Proof.Fwd.Blocks
public import proofs.«01_k».proof.Proof.Fwd.Entry
public import proofs.«01_k».proof.Proof.Gen.ReferenceFwdIdeal.Read
public import proofs.«01_k».proof.Proof.Dq.At1
public import proofs.«01_k».proof.Proof.Dq.At2
public import proofs.«01_k».proof.Proof.Dq.At3

/-! What the kernel leaves in its two outputs, at real arguments: the reference's attention and log-sums. -/

@[expose] public section

set_option maxRecDepth 16384

noncomputable section

open Idealize.ShloMosaic Idealize.ShloMosaic.TcCoe Idealize.SL.Sem

/-! ## The reference's results -/

namespace Cert.ReferenceFwdIdeal.At

open Cert.ReferenceDqIdeal.At Cert.Attn
open Cert.KernelDqIdeal.Dq (flat lseOf o_at lse_at)

variable [Cert.KernelDqIdeal.Facts] [Cert.ReferenceDqIdeal.Facts] [Cert.ReferenceFwdIdeal.Facts]
variable (f0 : Cert.KernelFwdIdeal.S4096x8x128.Idx → ℝ) (f1 : Cert.KernelFwdIdeal.S4096x8x64.Idx → ℝ) (f2 : Cert.KernelFwdIdeal.S4096x8x128.Idx → ℝ)
  (f3 : Cert.KernelFwdIdeal.S4096x64.Idx → ℝ) (f4 : Cert.KernelFwdIdeal.S4096x8x128.Idx → ℝ)

theorem v27_eq (x0 x1 x2 x3 x4) : Cert.ReferenceFwdIdeal.Read.val_main_v27 (F := Ideal) x0 x1 x2 x3 x4 =
    flat (Cert.ReferenceDqIdeal.Read.val_main_v45 (F := Ideal) x0 x1 x2 x3 x4) := rfl

theorem v53_eq (x0 x1 x2 x3) : Cert.ReferenceFwdIdeal.Read.val_main_v53 (F := Ideal) x0 x1 x2 x3 =
    lseOf (Cert.ReferenceDqIdeal.Read.val_main_v15_0 (F := Ideal) x0 x1 x2 x3) (Cert.ReferenceDqIdeal.Read.val_main_v16 (F := Ideal) x0 x1 x2 x3) := rfl

theorem v27_at (h : Fin 8) (a : Fin 4096) (d : Fin 128) :
    Cert.ReferenceFwdIdeal.Read.val_main_v27 (F := Ideal) (up f0) (up f1) (up f2) (up f3) (up f4) (ix2 a ⟨128 * h.val + d.val, by omega⟩) =
      (oR f0 f1 f2 f3 f4 h a d : EReal) := by
  rw [v27_eq]
  exact o_at f0 f1 f2 f3 f4 h a d

theorem v53_at (h : Fin 8) (a : Fin 4096) (d : Fin 128) :
    Cert.ReferenceFwdIdeal.Read.val_main_v53 (F := Ideal) (up f0) (up f1) (up f2) (up f3) (ix2 a ⟨128 * h.val + d.val, by omega⟩) =
      (lse (sR f0 f1 f2 f3 h a) a : EReal) := by
  rw [v53_eq]
  exact lse_at f0 f1 f2 f3 h a d

end Cert.ReferenceFwdIdeal.At

namespace Cert.KernelFwdIdeal.Fwd

open Cert.KernelFwdIdeal Cert.KernelFwdIdeal.Gen Cert.ReferenceDqIdeal.At Cert.Attn
open Cert.KernelDqIdeal.Dq (rowOf q_at k_at v_at)
open Cert.ReferenceFwdIdeal.At (v27_at v53_at)

/-- A masked row's running maximum is real from its first key on. -/
theorem top_real {n : ℕ} (s : Fin n → ℝ) (a : Fin n) (N : ℕ) (h : 0 < N) : ∃ M : ℝ, top (row s a) N = M := by
  have hb : ⊥ < row s a 0 := by
    rw [row, dif_pos (by have := a.isLt; omega), masked, if_pos (Nat.zero_le _)]
    exact EReal.bot_lt_coe _
  exact ⟨(top (row s a) N).toReal, (EReal.coe_toReal (top_lt (row_ne_top s a) N).ne
    (hb.trans_le (Finset.le_sup (f := row s a) (Finset.mem_range.2 h))).ne').symm⟩

variable [Cert.KernelFwdIdeal.Facts] [Cert.KernelDqIdeal.Facts] [Cert.ReferenceDqIdeal.Facts] [Cert.ReferenceFwdIdeal.Facts]
variable (m : (ℓ : Loc nD τ sig) → Buf (Elt Ideal) ℓ)

section entries
variable (c : Dev nD) (f0 : S4096x8x128.Idx → ℝ) (f1 : S4096x8x64.Idx → ℝ) (f2 : S4096x8x128.Idx → ℝ) (f3 : S4096x64.Idx → ℝ)
  (f4 : S4096x8x128.Idx → ℝ)
  (h0 : m (c, main_arg0) = up f0) (h1 : m (c, main_arg1) = up f1) (h2 : m (c, main_arg2) = up f2) (h3 : m (c, main_arg3) = up f3)
  (h4 : m (c, main_arg4) = up f4)

section rows
variable (t : Fin cfg0.N) (r : Fin 512) (k : Fin 4096)

include h0 h1 in
theorem row_q (d : Fin 256) : (iblk m c 0 t : S512x256.Idx → EReal) (ix2 r d) = (qR f0 f1 (qrow t r) (hd t) d : EReal) :=
  (b0 m c t r d).trans (by rw [entry_q, h0, h1]; exact q_at f0 f1 (hd t) (qrow t r) d)

include h2 h3 in
theorem row_k (d : Fin 256) : rowOf (iblk m c 1 t : S4096x256.Idx → EReal) k.val d = (kR f2 f3 k (hd t) d : EReal) := by
  rw [rowOf, dif_pos k.isLt]
  exact (b1 m c t k d).trans (by rw [entry_k, h2, h3]; exact k_at f2 f3 (hd t) k d)

include h4 in
theorem row_v (d : Fin 128) : rowOf (iblk m c 2 t : S4096x128.Idx → EReal) k.val d = (f4 (ix3 k (hd t) d) : EReal) := by
  rw [rowOf, dif_pos k.isLt]
  exact (b2 m c t k d).trans (by rw [entry_v, h4]; exact v_at f4 (hd t) k d)

include h0 h1 h2 h3 in
theorem sc_at : sc (iblk m c 0 t) (iblk m c 1 t) r k.val = (sR f0 f1 f2 f3 (hd t) (qrow t r) k : EReal) := by
  unfold sc
  simp only [row_q m c f0 f1 h0 h1 t r, row_k m c f2 f3 h2 h3 t k, ofBits_scale, ← EReal.coe_mul, ← coe_sum]
  rw [qk]

end rows

include h0 h1 h2 h3 h4

theorem out_at (t : Fin cfg0.N) (r : Fin 512) (d : Fin 128) :
    ((outsAt0 m c t).1 (ix2 r d) : EReal) = Cert.ReferenceFwdIdeal.Read.val_main_v27 (F := Ideal) (up f0) (up f1) (up f2) (up f3) (up f4)
      (ix2 (qrow t r) ⟨128 * (hd t).val + d.val, by omega⟩) ∧
    ((outsAt0 m c t).2 (ix2 r d) : EReal) = Cert.ReferenceFwdIdeal.Read.val_main_v53 (F := Ideal) (up f0) (up f1) (up f2) (up f3)
      (ix2 (qrow t r) ⟨128 * (hd t).val + d.val, by omega⟩) := by
  rw [v27_at, v53_at]
  have ha : (qrow t r).val = 512 * (t.val % 8) + r.val := rfl
  generalize hs : sR f0 f1 f2 f3 (hd t) (qrow t r) = s
  have hsc : ∀ k (hk : k < 4096), sc (iblk m c 0 t) (iblk m c 1 t) r k = (s ⟨k, hk⟩ : EReal) := fun k hk => by
    rw [← hs]
    exact sc_at m c f0 f1 f2 f3 h0 h1 h2 h3 t r ⟨k, hk⟩
  obtain ⟨e1, e2⟩ := point m c t r (row s (qrow t r)) (fun d => past fun k => f4 (ix3 k (hd t) d)) (row_ne_top _ _) (top_real _ _)
    (fun k hk d => by rw [past, dif_pos hk]; exact row_v m c f4 h4 t ⟨k, hk⟩ d)
    (fun k hk => by rw [hsc k (by omega), row, dif_pos (by omega), masked, if_pos (by dsimp only; omega)])
    (fun x => by
      rw [hsc _ (by omega), row, dif_pos (by omega), masked]
      refine if_congr ?_ rfl rfl
      dsimp only
      omega) d
  have hN : 512 * (t.val % 8) + 512 ≤ 4096 := by omega
  have hl : acc (row s (qrow t r)) (fun _ => 1) (mu s (qrow t r) : EReal) (512 * (t.val % 8) + 512) = (den s (qrow t r) : EReal) := by
    refine Eq.trans ?_ ((acc_row s (qrow t r) (fun _ => 1) _ (by omega) hN).trans ?_)
    · unfold acc
      refine Finset.sum_congr rfl fun k hk => ?_
      rw [past, dif_pos (by have := Finset.mem_range.1 hk; omega)]
    · simp only [mul_one]
      rfl
  rw [top_row s (qrow t r) _ (by omega) hN] at e1 e2
  rw [hl] at e1 e2
  constructor
  · refine e1.trans ?_
    rw [acc_row s (qrow t r) _ _ (by omega) hN, Ideal.div_coe (den_ne _ _)]
    rw [← EReal.coe_mul]
    refine congrArg Real.toEReal ?_
    unfold oR
    rw [hs, Finset.sum_mul]
    refine Finset.sum_congr rfl fun k _ => ?_
    ring
  · exact e2.trans (coe_lse s (qrow t r))

/-- The attention's output after the run. -/
theorem finalO : ((dats m 0 c).arrAt 3 (cfgs 0).N : S4096x1024.Idx → EReal) =
    Cert.ReferenceFwdIdeal.Read.val_main_v27 (F := Ideal) (up f0) (up f1) (up f2) (up f3) (up f4) := by
  refine (dats m 0 c).arrAt_eq_of_covers 3 _ (by decide +kernel) fun t _ y => ?_
  blk_simp
  rw [after0_3]
  obtain ⟨r, d, rfl⟩ : ∃ (r : Fin 512) (d : Fin 128), y = ix2 r d := ⟨y 0, y 1, by funext k; fin_cases k <;> rfl⟩
  refine (out_at m c f0 f1 f2 f3 f4 h0 h1 h2 h3 h4 t r d).1.trans ?_
  generalize Cert.ReferenceFwdIdeal.Read.val_main_v27 (F := Ideal) (up f0) (up f1) (up f2) (up f3) (up f4) = W
  unfold hd qrow
  symm
  blk_ext [idx3 t]

/-- The log-sums after the run. -/
theorem finalL : ((dats m 0 c).arrAt 4 (cfgs 0).N : S4096x1024.Idx → EReal) =
    Cert.ReferenceFwdIdeal.Read.val_main_v53 (F := Ideal) (up f0) (up f1) (up f2) (up f3) := by
  refine (dats m 0 c).arrAt_eq_of_covers 4 _ (by decide +kernel) fun t _ y => ?_
  blk_simp
  rw [after0_4]
  obtain ⟨r, d, rfl⟩ : ∃ (r : Fin 512) (d : Fin 128), y = ix2 r d := ⟨y 0, y 1, by funext k; fin_cases k <;> rfl⟩
  refine (out_at m c f0 f1 f2 f3 f4 h0 h1 h2 h3 h4 t r d).2.trans ?_
  generalize Cert.ReferenceFwdIdeal.Read.val_main_v53 (F := Ideal) (up f0) (up f1) (up f2) (up f3) = W
  unfold hd qrow
  symm
  blk_ext [idx4 t]

end entries

end Cert.KernelFwdIdeal.Fwd
-- ==== Proof.Fwd.Pre.lean ====
module

public import proofs.«01_k».proof.Pre_finite_fwd
public import proofs.«01_k».proof.Proof.Dq.Pre

/-! The forward call's precondition: every entry is a real number. -/

@[expose] public section

set_option maxRecDepth 16384

noncomputable section

open Idealize.ShloMosaic

namespace Cert.Pre_finite_fwd

section
variable [Cert.Pre_finite_fwd.Facts]

theorem reals (a0 : FVec Ideal S4096x8x128 .f32) (a1 : FVec Ideal S4096x8x64 .f32) (a2 : FVec Ideal S4096x8x128 .f32) (a3 : FVec Ideal S4096x64 .f32)
    (a4 : FVec Ideal S4096x8x128 .f32) (h : fn (F := Ideal) a0 a1 a2 a3 a4 = fun _ => 1#1) :
    (∃ f, a0 = Cert.ReferenceDqIdeal.At.up f) ∧ (∃ f, a1 = Cert.ReferenceDqIdeal.At.up f) ∧ (∃ f, a2 = Cert.ReferenceDqIdeal.At.up f) ∧
    (∃ f, a3 = Cert.ReferenceDqIdeal.At.up f) ∧ (∃ f, a4 = Cert.ReferenceDqIdeal.At.up f) := by
  have e := congrFun h (fun i => i.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI := Cert.Pre_finite.facts
  exact ⟨Cert.Pre_finite.real_of_test _ _ _ _ _ e0, Cert.Pre_finite.real_of_test _ _ _ _ _ e1, Cert.Pre_finite.real_of_test _ _ _ _ _ e2,
    Cert.Pre_finite.real_of_test _ _ _ _ _ e3, Cert.Pre_finite.real_of_test _ _ _ _ _ e4⟩

end

/-- The side conditions the precondition states. -/
theorem facts : Cert.Pre_finite_fwd.Facts where
  bcast_S_S4096x8x128 := by decide
  reducesTo_S4096x8x128_S_d0_1_2 := by decide
  h_S_ := by decide
  bcast_S_S4096x8x64 := by decide
  reducesTo_S4096x8x64_S_d0_1_2 := by decide
  bcast_S_S4096x64 := by decide
  reducesTo_S4096x64_S_d0_1 := by decide

end Cert.Pre_finite_fwd
-- ==== Proof.Fwd.Claims.lean ====
module

public import proofs.«01_k».proof.Defs
public import proofs.«01_k».proof.Proof.Fwd.Final
public import proofs.«01_k».proof.Proof.Fwd.Pre
public import proofs.«01_k».proof.Proof.Gen.KernelFwd.Frame
public import proofs.«01_k».proof.Proof.Gen.KernelFwdIdeal.Value
public import proofs.«01_k».proof.Proof.Gen.ReferenceFwdIdeal.Run
public import proofs.«01_k».proof.Proof.Gen.ReferenceFwdIdeal.Read
public import Idealize.ShloMosaic.Lib.Claim

/-! The claims about the attention's output and log-sums. -/

@[expose] public section

set_option maxRecDepth 16384

noncomputable section

open Idealize.ShloMosaic Idealize.ShloMosaic.TcCoe Idealize.SL.Sem

namespace Cert.Proof.Fwd

theorem frame_reference : Cert.quiescent_ReferenceFwdIdeal := by
  intro m g _
  exact (θ_run Cert.ReferenceFwdIdeal.defs _ _).mono (fun r h => ⟨fun c => (h c).2.2, sem_eq_zero_of_no_sems (by decide) r.2⟩)
    (Cert.ReferenceFwdIdeal.Value.run m g)

theorem frame_reference_pre [Cert.Pre_finite_fwd.Facts] : Cert.quiescent_ReferenceFwdIdeal_pre_finite_fwd :=
  fun m g _ => frame_reference m g trivial

/-- The mask's constant may be read as the least extended real. -/
theorem preserves : Cert.preserves_KernelFwd_KernelFwdIdeal :=
  IdealRules.named_const.statement Cert.KernelFwdIdeal.κ "mask" .f32 0xF149F2CA#32 ⊥ rfl

theorem algebraic [Cert.Pre_finite_fwd.Facts] : Cert.algebraic_KernelFwdIdeal_ReferenceFwdIdeal_pre_finite_fwd := by
  pair_intro
  · run_from Cert.KernelFwdIdeal.Value.run_blocks m g
  · refine (θ_run Cert.ReferenceFwdIdeal.defs _ _).mono (fun r h c => ?_) (Cert.ReferenceFwdIdeal.Value.run m' g')
    obtain ⟨e0, e1, e2, e3, e4⟩ := hagree c
    obtain ⟨⟨f0, h0⟩, ⟨f1, h1⟩, ⟨f2, h2⟩, ⟨f3, h3⟩, ⟨f4, h4⟩⟩ := Cert.Pre_finite_fwd.reals _ _ _ _ _ (hpre c)
    refine ⟨(h c).1.trans ?_, ((h c).2.1.trans (Cert.ReferenceFwdIdeal.Read.val_main_v53_eq _ _ _ _)).trans ?_, (h c).2.2⟩
    · rw [Cert.ReferenceFwdIdeal.Read.val_main_v27_eq, e0, e1, e2, e3, e4]
      refine Eq.trans ?_ (Cert.KernelFwdIdeal.Fwd.finalO m c f0 f1 f2 f3 f4 h0 h1 h2 h3 h4).symm
      rw [h0, h1, h2, h3, h4]
    · rw [e0, e1, e2, e3]
      refine Eq.trans ?_ (Cert.KernelFwdIdeal.Fwd.finalL m c f0 f1 f2 f3 f4 h0 h1 h2 h3 h4).symm
      rw [h0, h1, h2, h3]

end Cert.Proof.Fwd
-- ==== Proof.Math.Gated.lean ====
/-
  The gated unit `gelu g * v` and a causal convolution of three taps, on the extended reals: their gradients as sums of products.
-/
module

public import Idealize.ShloMosaic.Lib.Pointwise
public import Idealize.ShloMosaic.Lib.Claim
public import Idealize.ShloMosaic.Lib.WordCmp

@[expose] public section

noncomputable section

open Idealize.ShloMosaic

namespace Cert.Gated

/-- The hyperbolic tangent inside the gate `g`'s activation. -/
def th (g : EReal) : EReal :=
  Ideal.tanh (Ideal.ofBits FTy.f32 1061962282#32 * (g + Ideal.ofBits FTy.f32 1027024659#32 * (g * (g * g))))

/-- Half of one plus it. -/
def act (g : EReal) : EReal := Ideal.ofBits FTy.f32 1056964608#32 * (1 + th g)

/-- The part of the gate's gradient through the hyperbolic tangent, before its cubic term. -/
def inside (g v d : EReal) : EReal :=
  Ideal.ofBits FTy.f32 1061962282#32 * (Ideal.ofBits FTy.f32 1056964608#32 * (g * (d * v)) * ((1 + th g) * (1 - th g)))

/-- The gradient of the gate `g`, given the value `v` and the gradient `d` of the product. -/
def dgate (g v d : EReal) : EReal :=
  d * v * act g + inside g v d + Ideal.ofBits FTy.f32 1027024659#32 * inside g v d * (Ideal.ofBits FTy.f32 1077936128#32 * (g * g))

/-- The gradient of the value. -/
def dval (g d : EReal) : EReal := g * act g * d

theorem dgate_zero (g v : EReal) : dgate g v 0 = 0 := by simp [dgate, inside]
theorem dval_zero (g : EReal) : dval g 0 = 0 := by simp [dval]

/-- The gated value. -/
def gated (g v : EReal) : EReal := g * act g * v

/-- The entry `k` rows before row `n`, zero before the first row. -/
def sh (u : ℕ → EReal) (k n : ℕ) : EReal := if n < k then 0 else u (n - k)

/-- The convolution of three taps, the last at the current row. -/
def cv (u : ℕ → EReal) (w0 w1 w2 b : EReal) (n : ℕ) : EReal := b + sh u 2 n * w0 + sh u 1 n * w1 + u n * w2

/-- A choice by a row's number in a block. -/
theorem mask (x : ℕ) (hx : x < 264) (k : ℕ) (hk : k < 1000) (a b : EReal) :
    Scalar.select (IntOp.cmpi CmpIPredicate.slt (BitVec.ofNat 32 x) (BitVec.ofNat 32 k)) a b = if x < k then a else b := by
  rw [WordCmp.cmpi_slt_ofNat (by omega) (by omega)]
  by_cases h : x < k <;> simp [h, Scalar.select]

end Cert.Gated

end
-- ==== Proof.Conv.Block.lean ====
/-
  What one grid point of the `conv_geglu_bwd` call computes: the gradient of the gated convolution at 264 rows of one block of columns.
-/
module

public import proofs.«01_k».proof.Proof.Gen.KernelConvIdeal.Value
public import proofs.«01_k».proof.Proof.Math.Gated
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.KernelConvIdeal.Conv

open Cert.KernelConvIdeal Cert.KernelConvIdeal.Gen Cert.Gated

variable [Cert.KernelConvIdeal.Facts]

/-! ## The two flags over the grid: whether a block of rows lies before, whether one follows -/

theorem flag0 : ∀ t : Fin cfg0.N, (Scalar.extui (Scalar.cmpi .sgt (BitVec.ofNat 32 (grid0.coords t 1).val) 0#32) : BitVec 32).toInt = if t.val % 16 = 0 then 0 else 1 :=
  (by decide +kernel : ∀ t : Fin grid0.N, (Scalar.extui (Scalar.cmpi .sgt (BitVec.ofNat 32 (grid0.coords t 1).val) 0#32) : BitVec 32).toInt = if t.val % 16 = 0 then 0 else 1)
theorem flag1 : ∀ t : Fin cfg0.N, (Scalar.extui (Scalar.cmpi .slt (BitVec.ofNat 32 (grid0.coords t 1).val) 15#32) : BitVec 32).toInt = if t.val % 16 = 15 then 0 else 1 :=
  (by decide +kernel : ∀ t : Fin grid0.N, (Scalar.extui (Scalar.cmpi .slt (BitVec.ofNat 32 (grid0.coords t 1).val) 15#32) : BitVec 32).toInt = if t.val % 16 = 15 then 0 else 1)

/-- The gradient at row `n` of column `l` of a block of columns, given the convolution `g` and the gradient `d` of the product by columns. -/
def duL (g d : ℕ → ℕ → EReal) (l n : ℕ) : EReal :=
  if l < 1408 then dgate (g l n) (g (1408 + l) n) (d l n) else dval (g (l - 1408) n) (d (l - 1408) n)

/-- The convolution by columns, given the rows `u`, the taps and the bias by columns. -/
def cvL (u : ℕ → ℕ → EReal) (w0 w1 w2 b : ℕ → EReal) (l n : ℕ) : EReal := cv (u l) (w0 l) (w1 l) (w2 l) (b l) n

/-- The rows above a block shifted down by two, by one. -/
def down1 (H : FVec Ideal S8x2816 .f32) (C : FVec Ideal S264x2816 .f32) : FVec Ideal S264x2816 .f32 :=
  select (cmpi .slt (iota .tc S264x2816 32 [0] iota_S264x2816_d0_w32) (broadcast S264x2816 1#32))
    (concatenate S264x2816 0 [⟨S8x2816, dynamicRotate 0 1#32 none H rotates_S8x2816_d0⟩, ⟨S256x2816, broadcast S256x2816 (Scalar.ofBits .f32 0x00000000#32)⟩]
      concatenates_S8x2816_S256x2816_S264x2816_d0)
    (dynamicRotate 0 1#32 none C rotates_S264x2816_d0)

def down2 (H : FVec Ideal S8x2816 .f32) (C : FVec Ideal S264x2816 .f32) : FVec Ideal S264x2816 .f32 :=
  select k0_pay21 (k0_pay20 H) (k0_pay22 C)

theorem pay3_eq (i : grid0.Coords) (v0 : Vec Ideal S256x2816 .f32) (v1 v3 : Vec Ideal S8x2816 .f32) (v9 v18 v31 : Vec Ideal S1x2816 .f32) :
    k0_pay3 i v0 v1 v3 v9 v18 v31 = addf (addf (broadcastTo S264x2816 v9 broadcasts_S1x2816_S264x2816)
      (mulf (down2 (k0_pay2 i v3) (k0_pay1 v0 v1)) (broadcastTo S264x2816 v18 broadcasts_S1x2816_S264x2816)))
      (mulf (down1 (k0_pay2 i v3) (k0_pay1 v0 v1)) (broadcastTo S264x2816 v31 broadcasts_S1x2816_S264x2816)) := rfl

theorem pay24_eq (C : FVec Ideal S264x2816 .f32) (H : FVec Ideal S8x2816 .f32) (D : FVec Ideal S264x2816 .f32) (v : Vec Ideal S1x2816 .f32) :
    k0_pay24 C H D v = addf (shapeCast S1x2816 v shapeCasts_S1x2816_S1x2816)
      (shapeCast S1x2816 (multiReduction .add [0] S2816 (mulf D (down1 H C)) 0x00000000#32 reduces_S264x2816_S2816 (.inl rfl) rfl) shapeCasts_S2816_S1x2816) := rfl

theorem pay23_eq (C : FVec Ideal S264x2816 .f32) (H : FVec Ideal S8x2816 .f32) (D : FVec Ideal S264x2816 .f32) (v : Vec Ideal S1x2816 .f32) :
    k0_pay23 D (k0_pay19 v) (k0_pay20 H) k0_pay21 (k0_pay22 C) = addf (shapeCast S1x2816 v shapeCasts_S1x2816_S1x2816)
      (shapeCast S1x2816 (multiReduction .add [0] S2816 (mulf D (down2 H C)) 0x00000000#32 reduces_S264x2816_S2816 (.inl rfl) rfl) shapeCasts_S2816_S1x2816) := rfl

theorem down1_apply (H : FVec Ideal S8x2816 .f32) (C : FVec Ideal S264x2816 .f32) (x : Fin 264) (l : Fin 2816) :
    down1 H C (ix2 x l) = if h : x.val < 1 then H (ix2 7 l) else C (ix2 ⟨x.val - 1, by omega⟩ l) := by
  pointwise [down1]
  rw [mask x.val x.isLt 1 (by decide)]
  split
  · rename_i h
    rw [dif_pos (by omega)]
    refine congrArg H (congrArg (ix2 · l) (Fin.ext ?_))
    show (x.val + 8 - 1) % 8 = 7
    omega
  · refine congrArg C (congrArg (ix2 · l) (Fin.ext ?_))
    show (x.val + 264 - 1) % 264 = x.val - 1
    omega

theorem down2_apply (H : FVec Ideal S8x2816 .f32) (C : FVec Ideal S264x2816 .f32) (x : Fin 264) (l : Fin 2816) :
    down2 H C (ix2 x l) = if h : x.val < 2 then H (ix2 ⟨6 + x.val, by omega⟩ l) else C (ix2 ⟨x.val - 2, by omega⟩ l) := by
  pointwise [down2, k0_pay20, k0_pay21, k0_pay22]
  rw [mask x.val x.isLt 2 (by decide)]
  split
  · rename_i h
    rw [dif_pos (by omega)]
    refine congrArg H (congrArg (ix2 · l) (Fin.ext ?_))
    show (x.val + 8 - 2) % 8 = 6 + x.val
    omega
  · refine congrArg C (congrArg (ix2 · l) (Fin.ext ?_))
    show (x.val + 264 - 2) % 264 = x.val - 2
    omega

theorem pay3_apply (i : grid0.Coords) (v0 : Vec Ideal S256x2816 .f32) (v1 v3 : Vec Ideal S8x2816 .f32) (v9 v18 v31 : Vec Ideal S1x2816 .f32) (x : Fin 264) (l : Fin 2816) :
    k0_pay3 i v0 v1 v3 v9 v18 v31 (ix2 x l) = v9 (ix2 0 l) + down2 (k0_pay2 i v3) (k0_pay1 v0 v1) (ix2 x l) * v18 (ix2 0 l)
      + down1 (k0_pay2 i v3) (k0_pay1 v0 v1) (ix2 x l) * v31 (ix2 0 l) := by
  rw [pay3_eq]
  generalize down2 (k0_pay2 i v3) (k0_pay1 v0 v1) = A
  generalize down1 (k0_pay2 i v3) (k0_pay1 v0 v1) = B
  pointwise

theorem pay23_apply (C : FVec Ideal S264x2816 .f32) (H : FVec Ideal S8x2816 .f32) (D : FVec Ideal S264x2816 .f32) (v : Vec Ideal S1x2816 .f32) (l : Fin 2816) :
    k0_pay23 D (k0_pay19 v) (k0_pay20 H) k0_pay21 (k0_pay22 C) (ix2 0 l) = v (ix2 0 l) + ∑ x : Fin 264, D (ix2 x l) * down2 H C (ix2 x l) := by
  rw [pay23_eq]
  generalize down2 H C = A
  pointwise

theorem pay24_apply (C : FVec Ideal S264x2816 .f32) (H : FVec Ideal S8x2816 .f32) (D : FVec Ideal S264x2816 .f32) (v : Vec Ideal S1x2816 .f32) (l : Fin 2816) :
    k0_pay24 C H D v (ix2 0 l) = v (ix2 0 l) + ∑ x : Fin 264, D (ix2 x l) * down1 H C (ix2 x l) := by
  rw [pay24_eq]
  generalize down1 H C = A
  pointwise

theorem pay25_apply (C D : FVec Ideal S264x2816 .f32) (v : Vec Ideal S1x2816 .f32) (l : Fin 2816) :
    k0_pay25 C D v (ix2 0 l) = v (ix2 0 l) + ∑ x : Fin 264, D (ix2 x l) * C (ix2 x l) := by pointwise [k0_pay25]

theorem pay26_apply (D : FVec Ideal S264x2816 .f32) (v : Vec Ideal S1x2816 .f32) (l : Fin 2816) :
    k0_pay26 D v (ix2 0 l) = v (ix2 0 l) + ∑ x : Fin 264, D (ix2 x l) := by pointwise [k0_pay26]

theorem pay16_apply (j : S3x2816.Idx) : k0_pay16 (F := Ideal) j = 0 := by pointwise [k0_pay16]
theorem pay17_apply (j : S1x2816.Idx) : k0_pay17 (F := Ideal) j = 0 := by pointwise [k0_pay17]

theorem pay4_apply (C A : FVec Ideal S264x2816 .f32) (v : Vec Ideal S1x2816 .f32) (x : Fin 264) (l : Fin 2816) :
    k0_pay4 C A v (ix2 x l) = A (ix2 x l) + C (ix2 x l) * v (ix2 0 l) := by pointwise [k0_pay4]

theorem pay14_apply (a : BitVec 32) (v2 v34 : FVec Ideal S264x2816 .f32) (v35 : Vec Ideal S1x2816 .f32) (v39 : Vec Ideal S256x1408 .f32) (v40 : Vec Ideal S8x1408 .f32)
    (x : Fin 264) (l : Fin 2816) :
    k0_pay14 (k0_pay7 v2 v34 v35) (k0_pay10 a v2 v34 v35 v39 v40) (k0_pay12 a v2 v34 v35 v39 v40) (k0_pay13 a v2 v34 v35 v39 v40) (FloatOps.ofBits (F := Ideal) .f32 1027024659#32) (ix2 x l) =
      if h : l.val < 1408 then
        dgate (k0_pay4 v2 v34 v35 (ix2 x l)) (k0_pay4 v2 v34 v35 (ix2 x ⟨1408 + l.val, by omega⟩)) (k0_pay5 a v39 v40 (ix2 x ⟨l.val, h⟩))
      else dval (k0_pay4 v2 v34 v35 (ix2 x ⟨l.val - 1408, by omega⟩)) (k0_pay5 a v39 v40 (ix2 x ⟨l.val - 1408, by omega⟩)) := by
  unfold k0_pay14 k0_pay13 k0_pay12 k0_pay11 k0_pay10 k0_pay9 k0_pay8 k0_pay7 k0_pay6
  generalize k0_pay4 v2 v34 v35 = G
  generalize k0_pay5 a v39 v40 = D
  pointwise [dgate, dval, act, inside, th]

theorem pay15_apply (v53 v70 v78 v79 : FVec Ideal S264x1408 .f32) (c : Ideal .f32) (a b d : Vec Ideal S1x2816 .f32) (x : Fin 256) (l : Fin 2816) :
    k0_pay15 v53 v70 v78 v79 c a b d (ix2 x l) = k0_pay14 v53 v70 v78 v79 c (ix2 ⟨x.val, by omega⟩ l) * a (ix2 0 l)
      + k0_pay14 v53 v70 v78 v79 c (ix2 ⟨x.val + 1, by omega⟩ l) * b (ix2 0 l) + k0_pay14 v53 v70 v78 v79 c (ix2 ⟨x.val + 2, by omega⟩ l) * d (ix2 0 l) := by
  unfold k0_pay15
  generalize k0_pay14 v53 v70 v78 v79 c = D
  pointwise
  have e1 : (x.val + 264 - 263) % 264 = x.val + 1 := by omega
  have e2 : (x.val + 264 - 262) % 264 = x.val + 2 := by omega
  simp only [e1, e2]

theorem pay18_apply (v53 v70 v78 v79 : FVec Ideal S264x1408 .f32) (c : Ideal .f32) (x : Fin 264) (l : Fin 2816) :
    k0_pay18 v53 v70 v78 v79 c (ix2 x l) = if x.val < 256 then k0_pay14 v53 v70 v78 v79 c (ix2 x l) else 0 := by
  unfold k0_pay18
  generalize k0_pay14 v53 v70 v78 v79 c = D
  pointwise
  exact mask x.val x.isLt 256 (by decide) _ _

theorem sum_264 (f : Fin 264 → EReal) (g : ℕ → EReal) (h : ∀ x : Fin 264, f x = if x.val < 256 then g x.val else 0) :
    ∑ x : Fin 264, f x = ∑ x : Fin 256, g x.val := by
  rw [Finset.sum_congr rfl (fun x _ => h x), show (264 : ℕ) = 256 + 8 from rfl, Fin.sum_univ_add]
  simp

section rows

variable (t : Fin cfg0.N) (u d : ℕ → ℕ → EReal) (w0 w1 w2 b : ℕ → EReal)
variable (v0 : Vec Ideal S256x2816 .f32) (v1 v3 : Vec Ideal S8x2816 .f32) (v9 v18 v31 v35 : Vec Ideal S1x2816 .f32) (v39 : Vec Ideal S256x1408 .f32) (v40 : Vec Ideal S8x1408 .f32)

/-- The blocks of a grid point hold rows of `u` and of `d`, its own and its neighbours', and the taps `w0`, `w1`, `w2` and the bias `b`. -/
structure Holds : Prop where
  cur : ∀ (x : Fin 256) (l : Fin 2816), v0 (ix2 x l) = u l.val (256 * (t.val % 16) + x.val)
  next : t.val % 16 ≠ 15 → ∀ (y : Fin 8) (l : Fin 2816), v1 (ix2 y l) = u l.val (256 * (t.val % 16) + (256 + y.val))
  prev : t.val % 16 ≠ 0 → ∀ (y : Fin 8) (l : Fin 2816), v3 (ix2 y l) = u l.val (256 * (t.val % 16) - 8 + y.val)
  dcur : ∀ (x : Fin 256) (l : Fin 1408), v39 (ix2 x l) = d l.val (256 * (t.val % 16) + x.val)
  dnext : t.val % 16 ≠ 15 → ∀ (y : Fin 8) (l : Fin 1408), v40 (ix2 y l) = d l.val (256 * (t.val % 16) + (256 + y.val))
  dlast : ∀ l n, 4096 ≤ n → d l n = 0
  tap0 : ∀ l : Fin 2816, v18 (ix2 0 l) = w0 l.val
  tap1 : ∀ l : Fin 2816, v31 (ix2 0 l) = w1 l.val
  tap2 : ∀ l : Fin 2816, v35 (ix2 0 l) = w2 l.val
  bias : ∀ l : Fin 2816, v9 (ix2 0 l) = b l.val

variable {t u d w0 w1 w2 b v0 v1 v3 v9 v18 v31 v35 v39 v40} (H : Holds t u d w0 w1 w2 b v0 v1 v3 v9 v18 v31 v35 v39 v40)
include H

theorem cur_at (x : Fin 264) (l : Fin 2816) (hx : x.val < 256 ∨ t.val % 16 ≠ 15) : k0_pay1 v0 v1 (ix2 x l) = u l.val (256 * (t.val % 16) + x.val) := by
  pointwise [k0_pay1]
  split
  · rename_i h
    exact H.cur ⟨x.val, h⟩ l
  · rw [H.next (by omega) _ l]
    refine congrArg (u l.val) ?_
    dsimp only
    omega

theorem prev_at (y : Fin 8) (l : Fin 2816) : k0_pay2 (grid0.coords t) v3 (ix2 y l) = if t.val % 16 = 0 then 0 else u l.val (256 * (t.val % 16) - 8 + y.val) := by
  pointwise [k0_pay2]
  rw [flag0 t]
  split
  · simp
  · rename_i h
    simp [H.prev h y l]

theorem d_at (x : Fin 264) (l : Fin 1408) :
    k0_pay5 (BitVec.ofNat 32 (grid0.coords t 1).val) v39 v40 (ix2 x l) = d l.val (256 * (t.val % 16) + x.val) := by
  pointwise [k0_pay5]
  split
  · rename_i h
    exact H.dcur ⟨x.val, h⟩ l
  · rename_i h
    rw [flag1 t]
    split
    · rw [H.dlast _ _ (by omega)]
      simp
    · rename_i h15
      rw [H.dnext h15 _ l]
      simp only [Int.cast_one, EReal.coe_one, mul_one]
      refine congrArg (d l.val) ?_
      omega

theorem down1_at (x : Fin 264) (l : Fin 2816) (hx : x.val < 256 ∨ t.val % 16 ≠ 15) :
    down1 (k0_pay2 (grid0.coords t) v3) (k0_pay1 v0 v1) (ix2 x l) = sh (u l.val) 1 (256 * (t.val % 16) + x.val) := by
  rw [down1_apply, sh]
  split
  · rename_i h
    rw [prev_at H]
    by_cases h0 : t.val % 16 = 0
    · rw [if_pos h0, if_pos (by omega)]
    · rw [if_neg h0, if_neg (by omega)]
      refine congrArg (u l.val) ?_
      show _ + 7 = _
      omega
  · rename_i h
    rw [cur_at H _ _ (by dsimp only; omega), if_neg (by omega)]
    refine congrArg (u l.val) ?_
    dsimp only
    omega

theorem down2_at (x : Fin 264) (l : Fin 2816) (hx : x.val < 256 ∨ t.val % 16 ≠ 15) :
    down2 (k0_pay2 (grid0.coords t) v3) (k0_pay1 v0 v1) (ix2 x l) = sh (u l.val) 2 (256 * (t.val % 16) + x.val) := by
  rw [down2_apply, sh]
  split
  · rename_i h
    rw [prev_at H]
    by_cases h0 : t.val % 16 = 0
    · rw [if_pos h0, if_pos (by omega)]
    · rw [if_neg h0, if_neg (by omega)]
      refine congrArg (u l.val) ?_
      dsimp only
      omega
  · rename_i h
    rw [cur_at H _ _ (by dsimp only; omega), if_neg (by omega)]
    refine congrArg (u l.val) ?_
    dsimp only
    omega

theorem conv_at (x : Fin 264) (l : Fin 2816) (hx : x.val < 256 ∨ t.val % 16 ≠ 15) :
    k0_pay4 (k0_pay1 v0 v1) (k0_pay3 (grid0.coords t) v0 v1 v3 v9 v18 v31) v35 (ix2 x l) = cvL u w0 w1 w2 b l.val (256 * (t.val % 16) + x.val) := by
  rw [pay4_apply, pay3_apply, down1_at H x l hx, down2_at H x l hx, cur_at H x l hx, H.tap0, H.tap1, H.tap2, H.bias]
  rfl

/-- The gradient at a row of the block, its own or one of the eight after it. -/
theorem du_at (x : Fin 264) (l : Fin 2816) :
    k0_pay14 (k0_pay7 (k0_pay1 v0 v1) (k0_pay3 (grid0.coords t) v0 v1 v3 v9 v18 v31) v35)
      (k0_pay10 (BitVec.ofNat 32 (grid0.coords t 1).val) (k0_pay1 v0 v1) (k0_pay3 (grid0.coords t) v0 v1 v3 v9 v18 v31) v35 v39 v40)
      (k0_pay12 (BitVec.ofNat 32 (grid0.coords t 1).val) (k0_pay1 v0 v1) (k0_pay3 (grid0.coords t) v0 v1 v3 v9 v18 v31) v35 v39 v40)
      (k0_pay13 (BitVec.ofNat 32 (grid0.coords t 1).val) (k0_pay1 v0 v1) (k0_pay3 (grid0.coords t) v0 v1 v3 v9 v18 v31) v35 v39 v40)
      (FloatOps.ofBits (F := Ideal) .f32 1027024659#32) (ix2 x l) = duL (cvL u w0 w1 w2 b) d l.val (256 * (t.val % 16) + x.val) := by
  rw [pay14_apply, duL]
  by_cases hx : x.val < 256 ∨ t.val % 16 ≠ 15
  · split
    · rw [d_at H, conv_at H x _ hx, conv_at H x _ hx]
    · rw [d_at H, conv_at H x _ hx]
  · have hn : 4096 ≤ 256 * (t.val % 16) + x.val := by omega
    split
    · rw [d_at H, H.dlast _ _ hn, dgate_zero, dgate_zero]
    · rw [d_at H, H.dlast _ _ hn, dval_zero, dval_zero]

/-- The vector of the gradient over the block's 264 rows, and the same with the last eight rows zero. -/
theorem own_at (x : Fin 264) (l : Fin 2816) :
    k0_pay18 (k0_pay7 (k0_pay1 v0 v1) (k0_pay3 (grid0.coords t) v0 v1 v3 v9 v18 v31) v35)
      (k0_pay10 (BitVec.ofNat 32 (grid0.coords t 1).val) (k0_pay1 v0 v1) (k0_pay3 (grid0.coords t) v0 v1 v3 v9 v18 v31) v35 v39 v40)
      (k0_pay12 (BitVec.ofNat 32 (grid0.coords t 1).val) (k0_pay1 v0 v1) (k0_pay3 (grid0.coords t) v0 v1 v3 v9 v18 v31) v35 v39 v40)
      (k0_pay13 (BitVec.ofNat 32 (grid0.coords t 1).val) (k0_pay1 v0 v1) (k0_pay3 (grid0.coords t) v0 v1 v3 v9 v18 v31) v35 v39 v40)
      (FloatOps.ofBits (F := Ideal) .f32 1027024659#32) (ix2 x l) = if x.val < 256 then duL (cvL u w0 w1 w2 b) d l.val (256 * (t.val % 16) + x.val) else 0 := by
  rw [pay18_apply, du_at H]

/-- The block of the input's gradient. -/
theorem out_at (x : Fin 256) (l : Fin 2816) :
    k0_pay15 (k0_pay7 (k0_pay1 v0 v1) (k0_pay3 (grid0.coords t) v0 v1 v3 v9 v18 v31) v35)
      (k0_pay10 (BitVec.ofNat 32 (grid0.coords t 1).val) (k0_pay1 v0 v1) (k0_pay3 (grid0.coords t) v0 v1 v3 v9 v18 v31) v35 v39 v40)
      (k0_pay12 (BitVec.ofNat 32 (grid0.coords t 1).val) (k0_pay1 v0 v1) (k0_pay3 (grid0.coords t) v0 v1 v3 v9 v18 v31) v35 v39 v40)
      (k0_pay13 (BitVec.ofNat 32 (grid0.coords t 1).val) (k0_pay1 v0 v1) (k0_pay3 (grid0.coords t) v0 v1 v3 v9 v18 v31) v35 v39 v40)
      (FloatOps.ofBits (F := Ideal) .f32 1027024659#32) v35 v31 v18 (ix2 x l) =
    duL (cvL u w0 w1 w2 b) d l.val (256 * (t.val % 16) + x.val) * w2 l.val + duL (cvL u w0 w1 w2 b) d l.val (256 * (t.val % 16) + (x.val + 1)) * w1 l.val
      + duL (cvL u w0 w1 w2 b) d l.val (256 * (t.val % 16) + (x.val + 2)) * w0 l.val := by
  rw [pay15_apply, du_at H, du_at H, du_at H, H.tap0, H.tap1, H.tap2]

/-- What the block adds to the taps' gradients. -/
theorem add0_at (D : FVec Ideal S264x2816 .f32) (v : Vec Ideal S1x2816 .f32) (l : Fin 2816)
    (hD : ∀ x : Fin 264, D (ix2 x l) = if x.val < 256 then duL (cvL u w0 w1 w2 b) d l.val (256 * (t.val % 16) + x.val) else 0) :
    k0_pay23 D (k0_pay19 v) (k0_pay20 (k0_pay2 (grid0.coords t) v3)) k0_pay21 (k0_pay22 (k0_pay1 v0 v1)) (ix2 0 l) = v (ix2 0 l) +
      ∑ x : Fin 256, duL (cvL u w0 w1 w2 b) d l.val (256 * (t.val % 16) + x.val) * sh (u l.val) 2 (256 * (t.val % 16) + x.val) := by
  rw [pay23_apply]
  refine congrArg (v (ix2 0 l) + ·) (sum_264 _ (fun x => duL (cvL u w0 w1 w2 b) d l.val (256 * (t.val % 16) + x) * sh (u l.val) 2 (256 * (t.val % 16) + x)) fun x => ?_)
  rw [hD]
  split
  · rename_i h
    rw [down2_at H x l (.inl h)]
  · simp

theorem add1_at (D : FVec Ideal S264x2816 .f32) (v : Vec Ideal S1x2816 .f32) (l : Fin 2816)
    (hD : ∀ x : Fin 264, D (ix2 x l) = if x.val < 256 then duL (cvL u w0 w1 w2 b) d l.val (256 * (t.val % 16) + x.val) else 0) :
    k0_pay24 (k0_pay1 v0 v1) (k0_pay2 (grid0.coords t) v3) D v (ix2 0 l) = v (ix2 0 l) +
      ∑ x : Fin 256, duL (cvL u w0 w1 w2 b) d l.val (256 * (t.val % 16) + x.val) * sh (u l.val) 1 (256 * (t.val % 16) + x.val) := by
  rw [pay24_apply]
  refine congrArg (v (ix2 0 l) + ·) (sum_264 _ (fun x => duL (cvL u w0 w1 w2 b) d l.val (256 * (t.val % 16) + x) * sh (u l.val) 1 (256 * (t.val % 16) + x)) fun x => ?_)
  rw [hD]
  split
  · rename_i h
    rw [down1_at H x l (.inl h)]
  · simp

theorem add2_at (D : FVec Ideal S264x2816 .f32) (v : Vec Ideal S1x2816 .f32) (l : Fin 2816)
    (hD : ∀ x : Fin 264, D (ix2 x l) = if x.val < 256 then duL (cvL u w0 w1 w2 b) d l.val (256 * (t.val % 16) + x.val) else 0) :
    k0_pay25 (k0_pay1 v0 v1) D v (ix2 0 l) = v (ix2 0 l) +
      ∑ x : Fin 256, duL (cvL u w0 w1 w2 b) d l.val (256 * (t.val % 16) + x.val) * u l.val (256 * (t.val % 16) + x.val) := by
  rw [pay25_apply]
  refine congrArg (v (ix2 0 l) + ·) (sum_264 _ (fun x => duL (cvL u w0 w1 w2 b) d l.val (256 * (t.val % 16) + x) * u l.val (256 * (t.val % 16) + x)) fun x => ?_)
  rw [hD]
  split
  · rename_i h
    rw [cur_at H x l (.inl h)]
  · simp

omit H in
/-- What it adds to the bias's. -/
theorem add_at (g : ℕ → EReal) (D : FVec Ideal S264x2816 .f32) (v : Vec Ideal S1x2816 .f32) (l : Fin 2816)
    (hD : ∀ x : Fin 264, D (ix2 x l) = if x.val < 256 then g x.val else 0) : k0_pay26 D v (ix2 0 l) = v (ix2 0 l) + ∑ x : Fin 256, g x.val := by
  rw [pay26_apply]
  exact congrArg (v (ix2 0 l) + ·) (sum_264 _ g hD)

end rows

end Cert.KernelConvIdeal.Conv
-- ==== Proof.Math.GatedSpec.lean ====
/-
  The gradient of the gated convolution over whole arrays: 4 blocks of 2816 columns, in each 1408 gates and then 1408 values.
-/
module

public import proofs.«01_k».proof.Proof.Math.Gated
public import Idealize.ShloMosaic.Lib.Pointwise

@[expose] public section

noncomputable section

open Idealize.ShloMosaic

namespace Cert.Gated

/-- An array at a row and a column, zero outside. -/
def at2 {a b : ℕ} (W : (⟨2, ![a, b]⟩ : Shape).Idx → EReal) (n c : ℕ) : EReal := if h : n < a ∧ c < b then W (ix2 ⟨n, h.1⟩ ⟨c, h.2⟩) else 0

theorem at2_of_lt {a b : ℕ} (W : (⟨2, ![a, b]⟩ : Shape).Idx → EReal) {n c : ℕ} (hn : n < a) (hc : c < b) : at2 W n c = W (ix2 ⟨n, hn⟩ ⟨c, hc⟩) :=
  dif_pos ⟨hn, hc⟩

theorem at2_eq_zero {a b : ℕ} (W : (⟨2, ![a, b]⟩ : Shape).Idx → EReal) {n : ℕ} (c : ℕ) (hn : a ≤ n) : at2 W n c = 0 := dif_neg fun h => by omega

variable (da : (⟨2, ![4096, 5632]⟩ : Shape).Idx → EReal) (u : (⟨2, ![4096, 11264]⟩ : Shape).Idx → EReal)
  (w : (⟨2, ![3, 11264]⟩ : Shape).Idx → EReal) (b : (⟨2, ![1, 11264]⟩ : Shape).Idx → EReal)

/-- A column of the input. -/
def col (c n : ℕ) : EReal := at2 u n c

/-- The convolution of a column. -/
def conv (c n : ℕ) : EReal := cv (col u c) (at2 w 0 c) (at2 w 1 c) (at2 w 2 c) (at2 b 0 c) n

/-- The gated convolution, by the product's columns. -/
def out (c n : ℕ) : EReal := gated (conv u w b (2816 * (c / 1408) + c % 1408) n) (conv u w b (2816 * (c / 1408) + (1408 + c % 1408)) n)

/-- The gradient of the convolution. -/
def dconv (c n : ℕ) : EReal :=
  if c % 2816 < 1408 then dgate (conv u w b c n) (conv u w b (1408 + c) n) (at2 da n (1408 * (c / 2816) + c % 2816))
  else dval (conv u w b (c - 1408) n) (at2 da n (1408 * (c / 2816) + (c % 2816 - 1408)))

theorem dconv_last (c n : ℕ) (h : 4096 ≤ n) : dconv da u w b c n = 0 := by
  rw [dconv, at2_eq_zero da _ h, at2_eq_zero da _ h, dgate_zero, dval_zero, ite_self]

/-- The gradient of the input, -/
def din (c n : ℕ) : EReal := dconv da u w b c n * at2 w 2 c + dconv da u w b c (n + 1) * at2 w 1 c + dconv da u w b c (n + 2) * at2 w 0 c

/-- of the tap `k` rows before, -/
def dtap (k c : ℕ) : EReal := ∑ n : Fin 4096, dconv da u w b c n.val * sh (col u c) k n.val

/-- and of the bias. -/
def dbias (c : ℕ) : EReal := ∑ n : Fin 4096, dconv da u w b c n.val

end Cert.Gated

end
-- ==== Proof.Conv.Blocks.lean ====
module

public import proofs.«01_k».proof.Proof.Conv.Block
public import proofs.«01_k».proof.Proof.Math.GatedSpec

/-! The blocks a grid point reads: row block `t % 16` of column block `t / 16`, and the eight rows before it and after it. -/

@[expose] public section

set_option maxRecDepth 16384

noncomputable section

open Idealize.ShloMosaic Idealize.ShloMosaic.TcCoe Idealize.SL.Sem

namespace Cert.KernelConvIdeal.Conv

open Cert.KernelConvIdeal Cert.KernelConvIdeal.Gen Cert.Gated

variable [Cert.KernelConvIdeal.Facts]
variable (m : (ℓ : Loc nD τ sig) → Buf (Elt Ideal) ℓ)

theorem cb_lt : ∀ t : Fin cfg0.N, t.val / 16 < 4 := (by decide +kernel : ∀ t : Fin grid0.N, t.val / 16 < 4)

theorem idx0 : ∀ t : Fin cfg0.N, win0_0.index t = ![t.val % 16, t.val / 16] := (by decide +kernel : ∀ t : Fin grid0.N, win0_0.index t = ![t.val % 16, t.val / 16])
theorem idx1 : ∀ t : Fin cfg0.N, win0_1.index t = ![32 * (t.val % 16) - 1, t.val / 16] := (by decide +kernel : ∀ t : Fin grid0.N, win0_1.index t = ![32 * (t.val % 16) - 1, t.val / 16])
theorem idx2 : ∀ t : Fin cfg0.N, win0_2.index t = ![min (32 * (t.val % 16 + 1)) 511, t.val / 16] := (by decide +kernel : ∀ t : Fin grid0.N, win0_2.index t = ![min (32 * (t.val % 16 + 1)) 511, t.val / 16])
theorem idx3 : ∀ t : Fin cfg0.N, win0_3.index t = ![0, t.val / 16] := (by decide +kernel : ∀ t : Fin grid0.N, win0_3.index t = ![0, t.val / 16])
theorem idx4 : ∀ t : Fin cfg0.N, win0_4.index t = ![0, t.val / 16] := (by decide +kernel : ∀ t : Fin grid0.N, win0_4.index t = ![0, t.val / 16])
theorem idx5 : ∀ t : Fin cfg0.N, win0_5.index t = ![t.val % 16, t.val / 16] := (by decide +kernel : ∀ t : Fin grid0.N, win0_5.index t = ![t.val % 16, t.val / 16])
theorem idx6 : ∀ t : Fin cfg0.N, win0_6.index t = ![min (32 * (t.val % 16 + 1)) 511, t.val / 16] := (by decide +kernel : ∀ t : Fin grid0.N, win0_6.index t = ![min (32 * (t.val % 16 + 1)) 511, t.val / 16])
theorem idx7 : ∀ t : Fin cfg0.N, win0_7.index t = ![t.val % 16, t.val / 16] := (by decide +kernel : ∀ t : Fin grid0.N, win0_7.index t = ![t.val % 16, t.val / 16])
theorem idx8 : ∀ t : Fin cfg0.N, win0_8.index t = ![0, t.val / 16] := (by decide +kernel : ∀ t : Fin grid0.N, win0_8.index t = ![0, t.val / 16])
theorem idx9 : ∀ t : Fin cfg0.N, win0_9.index t = ![0, t.val / 16] := (by decide +kernel : ∀ t : Fin grid0.N, win0_9.index t = ![0, t.val / 16])

/-- Column `l` of a grid point's block of columns. -/
def cc (t : Fin cfg0.N) (l : Fin 2816) : Fin 11264 := ⟨2816 * (t.val / 16) + l.val, by have := cb_lt t; omega⟩
/-- The same among the product's columns. -/
def dc (t : Fin cfg0.N) (l : Fin 1408) : Fin 5632 := ⟨1408 * (t.val / 16) + l.val, by have := cb_lt t; omega⟩

theorem b0 (c : Dev nD) (t : Fin cfg0.N) (x : Fin 256) (l : Fin 2816) : (iblk m c 0 t : S256x2816.Idx → EReal) (ix2 x l) =
    (V m c main_arg1 : S4096x11264.Idx → EReal) (ix2 ⟨256 * (t.val % 16) + x.val, by omega⟩ (cc t l)) := by
  unfold cc
  blk_simp [iblk]
  generalize V m c main_arg1 = W
  blk_ext [idx0 t]

theorem b1 (c : Dev nD) (t : Fin cfg0.N) (h : t.val % 16 ≠ 0) (x : Fin 8) (l : Fin 2816) : (iblk m c 1 t : S8x2816.Idx → EReal) (ix2 x l) =
    (V m c main_arg1 : S4096x11264.Idx → EReal) (ix2 ⟨256 * (t.val % 16) - 8 + x.val, by omega⟩ (cc t l)) := by
  unfold cc
  blk_simp [iblk]
  generalize V m c main_arg1 = W
  blk_ext [idx1 t]

theorem b2 (c : Dev nD) (t : Fin cfg0.N) (h : t.val % 16 ≠ 15) (x : Fin 8) (l : Fin 2816) : (iblk m c 2 t : S8x2816.Idx → EReal) (ix2 x l) =
    (V m c main_arg1 : S4096x11264.Idx → EReal) (ix2 ⟨256 * (t.val % 16) + (256 + x.val), by omega⟩ (cc t l)) := by
  unfold cc
  blk_simp [iblk]
  generalize V m c main_arg1 = W
  blk_ext [idx2 t]

theorem b3 (c : Dev nD) (t : Fin cfg0.N) (x : Fin 3) (l : Fin 2816) : (iblk m c 3 t : S3x2816.Idx → EReal) (ix2 x l) =
    (V m c main_arg2 : S3x11264.Idx → EReal) (ix2 x (cc t l)) := by
  unfold cc
  blk_simp [iblk]
  generalize V m c main_arg2 = W
  blk_ext [idx3 t]

theorem b4 (c : Dev nD) (t : Fin cfg0.N) (x : Fin 1) (l : Fin 2816) : (iblk m c 4 t : S1x2816.Idx → EReal) (ix2 x l) =
    (V m c main_arg3 : S1x11264.Idx → EReal) (ix2 x (cc t l)) := by
  unfold cc
  blk_simp [iblk]
  generalize V m c main_arg3 = W
  blk_ext [idx4 t]

theorem b5 (c : Dev nD) (t : Fin cfg0.N) (x : Fin 256) (l : Fin 1408) : (iblk m c 5 t : S256x1408.Idx → EReal) (ix2 x l) =
    (V m c main_arg0 : S4096x5632.Idx → EReal) (ix2 ⟨256 * (t.val % 16) + x.val, by omega⟩ (dc t l)) := by
  unfold dc
  blk_simp [iblk]
  generalize V m c main_arg0 = W
  blk_ext [idx5 t]

theorem b6 (c : Dev nD) (t : Fin cfg0.N) (h : t.val % 16 ≠ 15) (x : Fin 8) (l : Fin 1408) : (iblk m c 6 t : S8x1408.Idx → EReal) (ix2 x l) =
    (V m c main_arg0 : S4096x5632.Idx → EReal) (ix2 ⟨256 * (t.val % 16) + (256 + x.val), by omega⟩ (dc t l)) := by
  unfold dc
  blk_simp [iblk]
  generalize V m c main_arg0 = W
  blk_ext [idx6 t]

section specs

variable (c : Dev nD)

/-- The columns a grid point reads, by their place in its block. -/
def ub (t : Fin cfg0.N) (l n : ℕ) : EReal := col (m (c, main_arg1)) (2816 * (t.val / 16) + l) n
def db (t : Fin cfg0.N) (l n : ℕ) : EReal := at2 (m (c, main_arg0) : S4096x5632.Idx → EReal) n (1408 * (t.val / 16) + l)
def wb (k : ℕ) (t : Fin cfg0.N) (l : ℕ) : EReal := at2 (m (c, main_arg2) : S3x11264.Idx → EReal) k (2816 * (t.val / 16) + l)
def bb (t : Fin cfg0.N) (l : ℕ) : EReal := at2 (m (c, main_arg3) : S1x11264.Idx → EReal) 0 (2816 * (t.val / 16) + l)

/-- The gradient within a block of columns is that of the whole arrays. -/
theorem duL_eq (t : Fin cfg0.N) (l n : ℕ) (h : l < 2816) : duL (cvL (ub m c t) (wb m c 0 t) (wb m c 1 t) (wb m c 2 t) (bb m c t)) (db m c t) l n =
    dconv (m (c, main_arg0)) (m (c, main_arg1)) (m (c, main_arg2)) (m (c, main_arg3)) (2816 * (t.val / 16) + l) n := by
  have e1 : (2816 * (t.val / 16) + l) % 2816 = l := by omega
  have e2 : (2816 * (t.val / 16) + l) / 2816 = t.val / 16 := by omega
  unfold duL dconv
  rw [e1, e2]
  split
  · unfold cvL conv
    rw [show 1408 + (2816 * (t.val / 16) + l) = 2816 * (t.val / 16) + (1408 + l) by omega]
    rfl
  · unfold cvL conv
    rw [show 2816 * (t.val / 16) + l - 1408 = 2816 * (t.val / 16) + (l - 1408) by omega]
    rfl

theorem holds (t : Fin cfg0.N) : Holds t (ub m c t) (db m c t) (wb m c 0 t) (wb m c 1 t) (wb m c 2 t) (bb m c t)
    (iblk m c 0 t) (iblk m c 2 t) (iblk m c 1 t) (iblk m c 4 t)
    (View.ld (iblk m c 3 t) (Rect.unit ![0, 0] ![1, 2816] inb_S3x2816_S1x2816_0_0))
    (View.ld (iblk m c 3 t) (Rect.unit ![1, 0] ![1, 2816] inb_S3x2816_S1x2816_1_0))
    (View.ld (iblk m c 3 t) (Rect.unit ![2, 0] ![1, 2816] inb_S3x2816_S1x2816_2_0)) (iblk m c 5 t) (iblk m c 6 t) where
  cur x l := (b0 m c t x l).trans (at2_of_lt (m (c, main_arg1)) _ _).symm
  next h x l := (b2 m c t h x l).trans (at2_of_lt (m (c, main_arg1)) _ _).symm
  prev h x l := (b1 m c t h x l).trans (at2_of_lt (m (c, main_arg1)) _ _).symm
  dcur x l := (b5 m c t x l).trans (at2_of_lt (m (c, main_arg0)) _ _).symm
  dnext h x l := (b6 m c t h x l).trans (at2_of_lt (m (c, main_arg0)) _ _).symm
  dlast l n h := at2_eq_zero (m (c, main_arg0)) _ h
  tap0 l := by
    refine Eq.trans ?_ ((b3 m c t 0 l).trans (at2_of_lt (m (c, main_arg2)) _ _).symm)
    generalize iblk m c 3 t = X
    pointwise
  tap1 l := by
    refine Eq.trans ?_ ((b3 m c t 1 l).trans (at2_of_lt (m (c, main_arg2)) _ _).symm)
    generalize iblk m c 3 t = X
    pointwise
  tap2 l := by
    refine Eq.trans ?_ ((b3 m c t 2 l).trans (at2_of_lt (m (c, main_arg2)) _ _).symm)
    generalize iblk m c 3 t = X
    pointwise
  bias l := (b4 m c t 0 l).trans (at2_of_lt (m (c, main_arg3)) _ _).symm

end specs

end Cert.KernelConvIdeal.Conv

end
-- ==== Proof.Conv.Rows.lean ====
module

public import Idealize.ShloMosaic.Lib.Pointwise
public import Idealize.ShloMosaic.Lib.Pipeline.ValueKit

/-! Three rows stored one after another, each read at its own place. -/

@[expose] public section

set_option maxRecDepth 16384

noncomputable section

open Idealize.ShloMosaic

namespace Cert.Gated

variable {n : ℕ} {Val : EltTy → Type} [∀ e, Nonempty (Val e)] {e : EltTy}

/-- Under the last store of a row, its payload; -/
theorem canon_row (a : ℕ) (ha : a < 3) (inb : ∀ x, (![a, 0] : Fin 2 → ℕ) x + (![1, n] : Fin 2 → ℕ) x ≤ (⟨2, ![3, n]⟩ : Shape).size x)
    (P : (Rect.unit (s := ⟨2, ![3, n]⟩) ![a, 0] ![1, n] inb).shape.Idx → Val e) (L : List (View.Piece Val ⟨2, ![3, n]⟩ e)) (l : Fin n) :
    View.canon (⟨Rect.unit (s := ⟨2, ![3, n]⟩) ![a, 0] ![1, n] inb, P⟩ :: L) (ix2 ⟨a, ha⟩ l) = P (ix2 0 l) := by
  refine (congrArg _ ?_).trans (View.canon_cons_emb (Rect.unit (s := ⟨2, ![3, n]⟩) ![a, 0] ![1, n] inb) P L (ix2 0 l))
  funext x
  refine Fin.ext ?_
  match x with
  | 0 => show a = a + 1 * 0; omega
  | 1 => show l.val = 0 + 1 * l.val; omega

/-- at another row, what was there before. -/
theorem canon_row_of_ne (a r : ℕ) (hr : r < 3) (h : r ≠ a) (inb : ∀ x, (![a, 0] : Fin 2 → ℕ) x + (![1, n] : Fin 2 → ℕ) x ≤ (⟨2, ![3, n]⟩ : Shape).size x)
    (P : (Rect.unit (s := ⟨2, ![3, n]⟩) ![a, 0] ![1, n] inb).shape.Idx → Val e) (L : List (View.Piece Val ⟨2, ![3, n]⟩ e)) (l : Fin n) :
    View.canon (⟨Rect.unit (s := ⟨2, ![3, n]⟩) ![a, 0] ![1, n] inb, P⟩ :: L) (ix2 ⟨r, hr⟩ l) = View.canon L (ix2 ⟨r, hr⟩ l) := by
  refine View.canon_cons_of_not_mem _ _ fun hm => h ?_
  have h0 : a ≤ r ∧ r < a + 1 := (Rect.mem_set_unit (inb := inb)).mp hm 0
  omega

/-- After one store of all three rows, its payload. -/
theorem canon_whole (inb : ∀ x, (![0, 0] : Fin 2 → ℕ) x + (![3, n] : Fin 2 → ℕ) x ≤ (⟨2, ![3, n]⟩ : Shape).size x)
    (P : (Rect.unit (s := ⟨2, ![3, n]⟩) ![0, 0] ![3, n] inb).shape.Idx → Val e) (j : (⟨2, ![3, n]⟩ : Shape).Idx) :
    View.canon [(⟨Rect.unit (s := ⟨2, ![3, n]⟩) ![0, 0] ![3, n] inb, P⟩ : View.Piece Val ⟨2, ![3, n]⟩ e)] j = P j := by
  refine (congrArg _ ?_).trans (View.canon_cons_emb (Rect.unit (s := ⟨2, ![3, n]⟩) ![0, 0] ![3, n] inb) P [] j)
  funext x
  refine Fin.ext ?_
  match x with
  | 0 => show (j 0).val = 0 + 1 * (j 0).val; omega
  | 1 => show (j 1).val = 0 + 1 * (j 1).val; omega

/-- A load of a row reads what the stores before it left there. -/
theorem read_row {sig : RefSig} {κ : Kind} {sp : Space} (v : View sig κ sp (⟨2, ![3, n]⟩ : Shape) e) (a : ℕ) (ha : a < 3)
    (inb : ∀ x, (![a, 0] : Fin 2 → ℕ) x + (![1, n] : Fin 2 → ℕ) x ≤ (⟨2, ![3, n]⟩ : Shape).size x) (L : List (View.Piece Val ⟨2, ![3, n]⟩ e)) (l : Fin n) :
    v.readCov L (Rect.unit (s := ⟨2, ![3, n]⟩) ![a, 0] ![1, n] inb).toLoadRect (ix2 0 l) = View.canon L (ix2 ⟨a, ha⟩ l) := by
  rw [View.readCov_eq_canon']
  refine congrArg (View.canon L) ?_
  funext x
  refine Fin.ext ?_
  match x with
  | 0 => show a + 1 * 0 = a; omega
  | 1 => show 0 + 1 * l.val = l.val; omega

/-- The same of given contents. -/
theorem ld_row (X : (⟨2, ![3, n]⟩ : Shape).Idx → Val e) (a : ℕ) (ha : a < 3)
    (inb : ∀ x, (![a, 0] : Fin 2 → ℕ) x + (![1, n] : Fin 2 → ℕ) x ≤ (⟨2, ![3, n]⟩ : Shape).size x) (l : Fin n) :
    View.ld X (Rect.unit (s := ⟨2, ![3, n]⟩) ![a, 0] ![1, n] inb) (ix2 0 l) = X (ix2 ⟨a, ha⟩ l) := by
  refine congrArg X ?_
  funext x
  refine Fin.ext ?_
  match x with
  | 0 => show a + 1 * 0 = a; omega
  | 1 => show 0 + 1 * l.val = l.val; omega

end Cert.Gated

end
-- ==== Proof.Conv.Final.lean ====
module

public import proofs.«01_k».proof.Proof.Conv.Blocks
public import proofs.«01_k».proof.Proof.Conv.Rows
public import Idealize.ShloMosaic.Lib.Pipeline.ReadBack

/-! The three results of the call, each at an index. -/

@[expose] public section

set_option maxRecDepth 16384

noncomputable section

open Idealize.ShloMosaic Idealize.ShloMosaic.TcCoe Idealize.SL.Sem

namespace Cert.KernelConvIdeal.Conv

open Cert.KernelConvIdeal Cert.KernelConvIdeal.Gen Cert.Gated

variable [Cert.KernelConvIdeal.Facts]
variable (m : (ℓ : Loc nD τ sig) → Buf (Elt Ideal) ℓ) (c : Dev nD)

/-- The gradient of the convolution, of a grid point's column `l`. -/
def du (t : Fin cfg0.N) (l : Fin 2816) (n : ℕ) : EReal :=
  dconv (m (c, main_arg0)) (m (c, main_arg1)) (m (c, main_arg2)) (m (c, main_arg3)) (cc t l).val n

theorem own_eq (t : Fin cfg0.N) (l : Fin 2816) (n : ℕ) :
    duL (cvL (ub m c t) (wb m c 0 t) (wb m c 1 t) (wb m c 2 t) (bb m c t)) (db m c t) l.val n = du m c t l n := duL_eq m c t l.val n l.isLt

/-- A block of the input's gradient. -/
theorem block7 (t : Fin cfg0.N) (x : Fin 256) (l : Fin 2816) : (outsAt0 m c t.val t.isLt).1 (ix2 x l) =
    din (m (c, main_arg0)) (m (c, main_arg1)) (m (c, main_arg2)) (m (c, main_arg3)) (cc t l).val (256 * (t.val % 16) + x.val) := by
  by_cases h0 : t.val % 16 = 0
  · rw [outsAt0_A m c t h0]
    frame_out
    refine (out_at (holds m c t) x l).trans ?_
    simp only [own_eq]
    rfl
  · rw [outsAt0_B m c t h0]
    frame_out
    refine (out_at (holds m c t) x l).trans ?_
    simp only [own_eq]
    rfl

theorem final7 : (dats m 0 c).arrAt 7 (cfgs 0).N = (fun j => din (m (c, main_arg0)) (m (c, main_arg1)) (m (c, main_arg2)) (m (c, main_arg3)) (j 1).val (j 0).val) := by
  refine (dats m 0 c).arrAt_eq_of_covers 7 _ (by decide +kernel) fun t hf y => ?_
  blk_simp
  rw [after0_7]
  obtain ⟨x, l, rfl⟩ : ∃ (x : Fin 256) (l : Fin 2816), y = ix2 x l := ⟨y 0, y 1, by pointwise⟩
  rw [block7]
  blk_simp [idx7 t]
  refine congrArg₂ (din _ _ _ _) ?_ ?_
  · show 2816 * (t.val / 16) + l.val = t.val / 16 * 2816 + l.val
    omega
  · show 256 * (t.val % 16) + x.val = t.val % 16 * 256 + x.val
    omega

/-- What a grid point adds to the gradient of the tap in row `k`. -/
def tapStep (t : Fin cfg0.N) (k : ℕ) (l : Fin 2816) : EReal :=
  ∑ x : Fin 256, du m c t l (256 * (t.val % 16) + x.val) * sh (ub m c t l.val) (2 - k) (256 * (t.val % 16) + x.val)

theorem sh_zero (u : ℕ → EReal) (n : ℕ) : sh u 0 n = u n := by simp [sh]

theorem canon_zero (k : Fin 3) (l : Fin 2816) :
    View.canon [(⟨Rect.unit ![0, 0] ![3, 2816] inb_S3x2816_S3x2816_0_0, k0_pay16 (F := Ideal)⟩ : View.Piece (Elt Ideal) S3x2816 .f32)] (ix2 k l) = (0 : EReal) :=
  (canon_whole _ _ (ix2 k l)).trans (pay16_apply _)

theorem row_ix (j : S1x2816.Idx) : ∃ l : Fin 2816, j = ix2 0 l :=
  ⟨j 1, (show j = ix2 (j 0) (j 1) by pointwise).trans (congrArg (ix2 · (j 1)) (Fin.ext (by have h : (j 0).val < 1 := (j 0).isLt; show (j 0).val = 0; omega)))⟩

theorem stepA (t : Fin cfg0.N) (h0 : t.val % 16 = 0) (k : Fin 3) (l : Fin 2816) : (outsAt0 m c t.val t.isLt).2.1 (ix2 k l) = 0 + tapStep m c t k.val l := by
  have H := holds m c t
  have hD := own_at H
  rw [outsAt0_A m c t h0]
  frame_out
  generalize k0_pay18 (F := Ideal) _ _ _ _ _ = D at hD ⊢
  match k with
  | 0 =>
    refine (canon_row_of_ne 2 0 (by decide) (by decide) _ _ _ l).trans ((canon_row_of_ne 1 0 (by decide) (by decide) _ _ _ l).trans ((canon_row 0 (by decide) _ _ _ l).trans ((add0_at H D _ l (fun x => hD x l)).trans ?_)))
    simp only [own_eq]
    refine congrArg₂ (· + ·) ((read_row _ 0 (by decide) _ _ l).trans (canon_zero 0 l)) ?_
    rfl
  | 1 =>
    refine (canon_row_of_ne 2 1 (by decide) (by decide) _ _ _ l).trans ((canon_row 1 (by decide) _ _ _ l).trans ((add1_at H D _ l (fun x => hD x l)).trans ?_))
    simp only [own_eq]
    refine congrArg₂ (· + ·) ((read_row _ 1 (by decide) _ _ l).trans ((canon_row_of_ne 0 1 (by decide) (by decide) _ _ _ l).trans (canon_zero 1 l))) ?_
    rfl
  | 2 =>
    refine (canon_row 2 (by decide) _ _ _ l).trans ((add2_at H D _ l (fun x => hD x l)).trans ?_)
    simp only [own_eq]
    refine congrArg₂ (· + ·) ((read_row _ 2 (by decide) _ _ l).trans ((canon_row_of_ne 1 2 (by decide) (by decide) _ _ _ l).trans ((canon_row_of_ne 0 2 (by decide) (by decide) _ _ _ l).trans (canon_zero 2 l)))) ?_
    exact Finset.sum_congr rfl fun x _ => congrArg (_ * ·) (sh_zero _ _).symm

theorem stepB (t : Fin cfg0.N) (h0 : ¬ t.val % 16 = 0) (k : Fin 3) (l : Fin 2816) : (outsAt0 m c t.val t.isLt).2.1 (ix2 k l) =
    (outsAt0 m c (t.val - 1) (by omega)).2.1 (ix2 k l) + tapStep m c t k.val l := by
  have H := holds m c t
  have hD := own_at H
  rw [outsAt0_B m c t h0]
  frame_out
  generalize k0_pay18 (F := Ideal) _ _ _ _ _ = D at hD ⊢
  match k with
  | 0 =>
    refine (canon_row_of_ne 2 0 (by decide) (by decide) _ _ _ l).trans ((canon_row_of_ne 1 0 (by decide) (by decide) _ _ _ l).trans ((canon_row 0 (by decide) _ _ _ l).trans ((add0_at H D _ l (fun x => hD x l)).trans ?_)))
    simp only [own_eq]
    refine congrArg₂ (· + ·) (ld_row _ 0 (by decide) _ l) ?_
    rfl
  | 1 =>
    refine (canon_row_of_ne 2 1 (by decide) (by decide) _ _ _ l).trans ((canon_row 1 (by decide) _ _ _ l).trans ((add1_at H D _ l (fun x => hD x l)).trans ?_))
    simp only [own_eq]
    refine congrArg₂ (· + ·) (ld_row _ 1 (by decide) _ l) ?_
    rfl
  | 2 =>
    refine (canon_row 2 (by decide) _ _ _ l).trans ((add2_at H D _ l (fun x => hD x l)).trans ?_)
    simp only [own_eq]
    refine congrArg₂ (· + ·) (ld_row _ 2 (by decide) _ l) ?_
    exact Finset.sum_congr rfl fun x _ => congrArg (_ * ·) (sh_zero _ _).symm

/-- A term of the sum over a block's 16 grid points, in the whole arrays. -/
theorem du_run (t : Fin cfg0.N) (s : Fin 16) (ht : 16 * (t.val / 16) + s.val < cfg0.N) (x : Fin 256) (l : Fin 2816) :
    du m c ⟨16 * (t.val / 16) + s.val, ht⟩ l (256 * ((16 * (t.val / 16) + s.val) % 16) + x.val) =
      dconv (m (c, main_arg0)) (m (c, main_arg1)) (m (c, main_arg2)) (m (c, main_arg3)) (t.val / 16 * 2816 + l.val) (s.val * 256 + x.val) := by
  unfold du cc
  dsimp only
  rw [show 2816 * ((16 * (t.val / 16) + s.val) / 16) + l.val = t.val / 16 * 2816 + l.val by omega,
    show 256 * ((16 * (t.val / 16) + s.val) % 16) + x.val = s.val * 256 + x.val by omega]

theorem sh_run (t : Fin cfg0.N) (s : Fin 16) (ht : 16 * (t.val / 16) + s.val < cfg0.N) (x : Fin 256) (l : Fin 2816) (k : ℕ) :
    sh (ub m c ⟨16 * (t.val / 16) + s.val, ht⟩ l.val) k (256 * ((16 * (t.val / 16) + s.val) % 16) + x.val) =
      sh (col (m (c, main_arg1)) (t.val / 16 * 2816 + l.val)) k (s.val * 256 + x.val) := by
  unfold ub
  dsimp only
  rw [show 2816 * ((16 * (t.val / 16) + s.val) / 16) + l.val = t.val / 16 * 2816 + l.val by omega,
    show 256 * ((16 * (t.val / 16) + s.val) % 16) + x.val = s.val * 256 + x.val by omega]

theorem final8 : (dats m 0 c).arrAt 8 (cfgs 0).N =
    (fun j => dtap (m (c, main_arg0)) (m (c, main_arg1)) (m (c, main_arg2)) (m (c, main_arg3)) (2 - (j 0).val) (j 1).val) := by
  refine (dats m 0 c).arrAt_eq_of_covers 8 _ (by decide +kernel) fun t hf y => ?_
  blk_simp
  have h1 := (flush0_8 t).mp hf
  rw [after0_8, Pipeline.eq_sum_fin_of_reset_step_apply_of_flush (fun n h => (outsAt0 m c n h).2.1) 16 (fun _ => 0) (fun t j => tapStep m c t (j 0).val (j 1))
    (fun t h j => by
      obtain ⟨k, l, rfl⟩ : ∃ (k : Fin 3) (l : Fin 2816), j = ix2 k l := ⟨j 0, j 1, by pointwise⟩
      exact stepA m c t h k l)
    (fun t h j => by
      obtain ⟨k, l, rfl⟩ : ∃ (k : Fin 3) (l : Fin 2816), j = ix2 k l := ⟨j 0, j 1, by pointwise⟩
      exact stepB m c t h k l)
    t h1 _, zero_add]
  obtain ⟨k, l, rfl⟩ : ∃ (k : Fin 3) (l : Fin 2816), y = ix2 k l := ⟨y 0, y 1, by pointwise⟩
  blk_simp [idx8 t]
  unfold tapStep dtap
  refine Fin.sum_mul_add_congr fun s x hl => ?_
  exact congrArg₂ (· * ·) (du_run m c t s _ x l) (sh_run m c t s _ x l _)

/-- What it adds to the gradient of the bias. -/
theorem biasA (t : Fin cfg0.N) (h0 : t.val % 16 = 0) (l : Fin 2816) : (outsAt0 m c t.val t.isLt).2.2 (ix2 0 l) =
    0 + ∑ x : Fin 256, du m c t l (256 * (t.val % 16) + x.val) := by
  have hD := own_at (holds m c t)
  rw [outsAt0_A m c t h0]
  frame_out
  generalize k0_pay18 (F := Ideal) _ _ _ _ _ = D at hD ⊢
  simp only [own_eq] at hD
  refine (add_at (fun n => du m c t l (256 * (t.val % 16) + n)) D _ l (fun x => hD x l)).trans ?_
  rw [pay17_apply]

theorem biasB (t : Fin cfg0.N) (h0 : ¬ t.val % 16 = 0) (l : Fin 2816) : (outsAt0 m c t.val t.isLt).2.2 (ix2 0 l) =
    (outsAt0 m c (t.val - 1) (by omega)).2.2 (ix2 0 l) + ∑ x : Fin 256, du m c t l (256 * (t.val % 16) + x.val) := by
  have hD := own_at (holds m c t)
  rw [outsAt0_B m c t h0]
  frame_out
  generalize k0_pay18 (F := Ideal) _ _ _ _ _ = D at hD ⊢
  simp only [own_eq] at hD
  exact add_at (fun n => du m c t l (256 * (t.val % 16) + n)) D _ l (fun x => hD x l)

theorem final9 : (dats m 0 c).arrAt 9 (cfgs 0).N =
    (fun j => dbias (m (c, main_arg0)) (m (c, main_arg1)) (m (c, main_arg2)) (m (c, main_arg3)) (j 1).val) := by
  refine (dats m 0 c).arrAt_eq_of_covers 9 _ (by decide +kernel) fun t hf y => ?_
  blk_simp
  have h1 := (flush0_9 t).mp hf
  rw [after0_9, Pipeline.eq_sum_fin_of_reset_step_apply_of_flush (fun n h => (outsAt0 m c n h).2.2) 16 (fun _ => 0)
    (fun t j => ∑ x : Fin 256, du m c t (j 1) (256 * (t.val % 16) + x.val))
    (fun t h j => by
      obtain ⟨l, rfl⟩ : ∃ l : Fin 2816, j = ix2 0 l := row_ix j
      exact biasA m c t h l)
    (fun t h j => by
      obtain ⟨l, rfl⟩ : ∃ l : Fin 2816, j = ix2 0 l := row_ix j
      exact biasB m c t h l)
    t h1 _, zero_add]
  obtain ⟨l, rfl⟩ : ∃ l : Fin 2816, y = ix2 0 l := row_ix y
  blk_simp [idx9 t]
  unfold dbias
  refine Fin.sum_mul_add_congr fun s x hl => ?_
  exact du_run m c t s _ x l

end Cert.KernelConvIdeal.Conv

end
-- ==== Proof.Conv.Ref.lean ====
module

public import proofs.«01_k».proof.Proof.Gen.ReferenceConvIdeal.Read
public import proofs.«01_k».proof.Proof.Math.GatedSpec
public import Idealize.ShloMosaic.Lib.Pointwise
public import Idealize.ShloMosaic.Lib.Pipeline.ValueKit
public import Idealize.ShloMosaic.Lib.Claim

/-! The reference's three results, each at an index. -/

@[expose] public section

set_option maxRecDepth 16384

noncomputable section

open Idealize.ShloMosaic Idealize.ShloMosaic.TcCoe Idealize.SL.Sem

namespace Cert.ReferenceConvIdeal.At

open Cert.ReferenceConvIdeal Cert.ReferenceConvIdeal.Read Cert.Gated

variable [Cert.ReferenceConvIdeal.Facts]
variable (x0 : FVec Ideal S4096x5632 .f32) (x1 : FVec Ideal S4096x11264 .f32) (x2 : FVec Ideal S3x11264 .f32) (x3 : FVec Ideal S1x11264 .f32)

theorem ix2_ext {a b : ℕ} {i : (⟨2, ![a, b]⟩ : Shape).Idx} {n : Fin a} {c : Fin b} (h0 : (i 0).val = n.val) (h1 : (i 1).val = c.val) : i = ix2 n c := by
  funext x
  refine Fin.ext ?_
  match x with
  | 0 => exact h0
  | 1 => exact h1

/-- The input after two rows of zeros. -/
theorem v1_at (n : Fin 4098) (c : Fin 11264) : val_main_v1 (F := Ideal) x1 (ix2 n c) = sh (col x1 c.val) 2 n.val := by
  pointwise [val_main_v1, val_main_v0, val_main_cst]
  unfold sh
  split
  · rfl
  · exact (at2_of_lt x1 (by omega) c.isLt).symm

/-- The three rows each tap meets. -/
theorem v3_at (n : Fin 4096) (c : Fin 11264) : val_main_v3 (F := Ideal) x1 (ix2 n c) = sh (col x1 c.val) 2 n.val := by
  refine (val_main_v3_apply _ _).trans (Eq.trans ?_ (v1_at x1 ⟨n.val, by omega⟩ c))
  refine congrArg _ ?_
  exact ix2_ext rfl rfl

theorem v11_at (n : Fin 4096) (c : Fin 11264) : val_main_v11 (F := Ideal) x1 (ix2 n c) = sh (col x1 c.val) 1 n.val := by
  refine (val_main_v11_apply _ _).trans (Eq.trans (congrArg _ ?_) ((v1_at x1 ⟨1 + n.val, by omega⟩ c).trans ?_))
  · exact ix2_ext rfl rfl
  · unfold sh
    by_cases h : n.val < 1
    · rw [if_pos h, if_pos (by dsimp only; omega)]
    · rw [if_neg h, if_neg (by dsimp only; omega)]
      refine congrArg (col x1 c.val) ?_
      dsimp only
      omega

theorem v18_at (n : Fin 4096) (c : Fin 11264) : val_main_v18 (F := Ideal) x1 (ix2 n c) = col x1 c.val n.val := by
  refine (val_main_v18_apply _ _).trans (Eq.trans (congrArg _ ?_) ((v1_at x1 ⟨2 + n.val, by omega⟩ c).trans ?_))
  · exact ix2_ext rfl rfl
  · unfold sh
    rw [if_neg (by dsimp only; omega)]
    refine congrArg (col x1 c.val) ?_
    dsimp only
    omega

/-- The taps and the bias, one row each over all rows. -/
theorem v7_at (n : Fin 4096) (c : Fin 11264) : val_main_v7 (F := Ideal) x2 (ix2 n c) = at2 x2 0 c.val := by
  rw [at2_of_lt x2 (by decide) c.isLt, val_main_v7_apply, val_main_v6_apply, val_main_v5_apply, val_main_v4_apply]
  refine congrArg x2 (ix2_ext rfl ?_)
  have hc : c.val < 11264 := c.isLt
  dsimp only [idx_main_v4, idx_main_v5, idx_main_v6, idx_main_v7, ix2]
  omega

theorem v15_at (n : Fin 4096) (c : Fin 11264) : val_main_v15 (F := Ideal) x2 (ix2 n c) = at2 x2 1 c.val := by
  rw [at2_of_lt x2 (by decide) c.isLt, val_main_v15_apply, val_main_v14_apply, val_main_v13_apply, val_main_v12_apply]
  refine congrArg x2 (ix2_ext rfl ?_)
  have hc : c.val < 11264 := c.isLt
  dsimp only [idx_main_v12, idx_main_v13, idx_main_v14, idx_main_v15, ix2]
  omega

theorem v22_at (n : Fin 4096) (c : Fin 11264) : val_main_v22 (F := Ideal) x2 (ix2 n c) = at2 x2 2 c.val := by
  rw [at2_of_lt x2 (by decide) c.isLt, val_main_v22_apply, val_main_v21_apply, val_main_v20_apply, val_main_v19_apply]
  refine congrArg x2 (ix2_ext rfl ?_)
  have hc : c.val < 11264 := c.isLt
  dsimp only [idx_main_v19, idx_main_v20, idx_main_v21, idx_main_v22, ix2]
  omega

theorem v9_at (n : Fin 4096) (c : Fin 11264) : val_main_v9 (F := Ideal) x3 (ix2 n c) = at2 x3 0 c.val := by
  rw [at2_of_lt x3 (by decide) c.isLt, val_main_v9_apply]
  exact congrArg x3 (ix2_ext rfl rfl)

/-- The convolution. -/
theorem v24_at (n : Fin 4096) (c : Fin 11264) : val_main_v24 (F := Ideal) x1 x2 x3 (ix2 n c) = conv x1 x2 x3 c.val n.val := by
  rw [val_main_v24_apply, val_main_v17_apply, val_main_v10_apply, val_main_v8_apply, val_main_v16_apply, val_main_v23_apply,
    v3_at, v11_at, v18_at, v7_at, v15_at, v22_at, v9_at]
  rfl

/-- The gates, the values and the gradient of their product, by blocks of columns. -/
theorem v27_at (n : Fin 4096) (q : Fin 4) (r : Fin 1408) : val_main_v27 (F := Ideal) x1 x2 x3 (ix3 n q r) = conv x1 x2 x3 (2816 * q.val + r.val) n.val := by
  rw [val_main_v27_apply, val_main_v26_apply, val_main_v25_apply]
  refine Eq.trans (congrArg _ ?_) (v24_at x1 x2 x3 n ⟨2816 * q.val + r.val, by omega⟩)
  have hn : n.val < 4096 := n.isLt
  have hq : q.val < 4 := q.isLt
  have hr : r.val < 1408 := r.isLt
  refine ix2_ext ?_ ?_
  · dsimp only [idx_main_v25, idx_main_v26, idx_main_v27, ix3, ix2]
    omega
  · dsimp only [idx_main_v25, idx_main_v26, idx_main_v27, ix3, ix2]
    omega

theorem v50_at (n : Fin 4096) (q : Fin 4) (r : Fin 1408) : val_main_v50 (F := Ideal) x1 x2 x3 (ix3 n q r) = conv x1 x2 x3 (2816 * q.val + (1408 + r.val)) n.val := by
  rw [val_main_v50_apply, val_main_v49_apply, val_main_v25_apply]
  refine Eq.trans (congrArg _ ?_) (v24_at x1 x2 x3 n ⟨2816 * q.val + (1408 + r.val), by omega⟩)
  have hn : n.val < 4096 := n.isLt
  have hq : q.val < 4 := q.isLt
  have hr : r.val < 1408 := r.isLt
  refine ix2_ext ?_ ?_
  · dsimp only [idx_main_v25, idx_main_v49, idx_main_v50, ix3, ix2]
    omega
  · dsimp only [idx_main_v25, idx_main_v49, idx_main_v50, ix3, ix2]
    omega

theorem v53_at (n : Fin 4096) (q : Fin 4) (r : Fin 1408) : val_main_v53 (F := Ideal) x0 (ix3 n q r) = at2 x0 n.val (1408 * q.val + r.val) := by
  rw [at2_of_lt x0 n.isLt (by omega), val_main_v53_apply]
  refine congrArg x0 ?_
  have hn : n.val < 4096 := n.isLt
  have hq : q.val < 4 := q.isLt
  have hr : r.val < 1408 := r.isLt
  refine ix2_ext ?_ ?_
  · dsimp only [idx_main_v53, ix3, ix2]
    omega
  · dsimp only [idx_main_v53, ix3, ix2]
    omega

/-- The words of one half's activation: `1` is the constant it is, and the cube may be taken in either order. -/
theorem v38_at (j : S4096x4x1408.Idx) : val_main_v38 (F := Ideal) x1 x2 x3 j = th (val_main_v27 (F := Ideal) x1 x2 x3 j) := by
  simp only [val_main_v38_apply, val_main_v37_apply, val_main_v36_apply, val_main_v35_apply, val_main_v34_apply, val_main_v33_apply, val_main_v29_apply, val_main_v28_apply, val_main_cst_1_apply, val_main_cst_2_apply, val_main_cst_3_apply, val_main_cst_4_apply, val_main_cst_5_apply, val_main_cst_6_apply, val_main_cst_7_apply, val_main_cst_9_apply, val_main_cst_10_apply, val_main_cst_11_apply]
  generalize val_main_v27 (F := Ideal) x1 x2 x3 j = g
  rw [th, ← mul_assoc g g g]
  rfl

theorem one_bits : FloatOps.ofBits (F := Ideal) .f32 1065353216#32 = (1 : EReal) := by pointwise

theorem v47_at (j : S4096x4x1408.Idx) : val_main_v47 (F := Ideal) x1 x2 x3 j = act (val_main_v27 (F := Ideal) x1 x2 x3 j) := by
  simp only [val_main_v47_apply, val_main_v46_apply, val_main_v45_apply, val_main_v44_apply, v38_at, val_main_cst_1_apply, val_main_cst_2_apply, val_main_cst_3_apply, val_main_cst_4_apply, val_main_cst_5_apply, val_main_cst_6_apply, val_main_cst_7_apply, val_main_cst_9_apply, val_main_cst_10_apply, val_main_cst_11_apply]
  rw [act, one_bits]
  rfl

theorem v54_at (j : S4096x4x1408.Idx) : val_main_v54 (F := Ideal) x0 x1 x2 x3 j = dval (val_main_v27 (F := Ideal) x1 x2 x3 j) (val_main_v53 (F := Ideal) x0 j) := by
  rw [val_main_v54_apply, val_main_v48_apply, v47_at]
  rfl

theorem v64_at (j : S4096x4x1408.Idx) : val_main_v64 (F := Ideal) x0 x1 x2 x3 j =
    inside (val_main_v27 (F := Ideal) x1 x2 x3 j) (val_main_v50 (F := Ideal) x1 x2 x3 j) (val_main_v53 (F := Ideal) x0 j) := by
  simp only [val_main_v64_apply, val_main_v63_apply, val_main_v62_apply, val_main_v61_apply, val_main_v60_apply, val_main_v58_apply, val_main_v55_apply, val_main_v43_apply, val_main_v42_apply, val_main_v41_apply, val_main_v40_apply, val_main_v39_apply, v38_at, val_main_cst_1_apply, val_main_cst_2_apply, val_main_cst_3_apply, val_main_cst_4_apply, val_main_cst_5_apply, val_main_cst_6_apply, val_main_cst_7_apply, val_main_cst_9_apply, val_main_cst_10_apply, val_main_cst_11_apply]
  rw [inside, one_bits]
  rfl

theorem v69_at (j : S4096x4x1408.Idx) : val_main_v69 (F := Ideal) x0 x1 x2 x3 j =
    dgate (val_main_v27 (F := Ideal) x1 x2 x3 j) (val_main_v50 (F := Ideal) x1 x2 x3 j) (val_main_v53 (F := Ideal) x0 j) := by
  simp only [val_main_v69_apply, val_main_v68_apply, val_main_v67_apply, val_main_v66_apply, val_main_v65_apply, val_main_v59_apply, val_main_v55_apply, val_main_v32_apply, val_main_v31_apply, val_main_v30_apply, v64_at, v47_at, val_main_cst_1_apply, val_main_cst_2_apply, val_main_cst_3_apply, val_main_cst_4_apply, val_main_cst_5_apply, val_main_cst_6_apply, val_main_cst_7_apply, val_main_cst_9_apply, val_main_cst_10_apply, val_main_cst_11_apply]
  rfl

/-- The gradient of the convolution. -/
theorem v73_at (n : Fin 4096) (c : Fin 11264) : val_main_v73 (F := Ideal) x0 x1 x2 x3 (ix2 n c) = dconv x0 x1 x2 x3 c.val n.val := by
  unfold val_main_v73 val_main_v72 val_main_v57 val_main_v71 val_main_v56 val_main_v70
  have hA : ∀ (n : Fin 4096) (q : Fin 4) (r : Fin 1408), val_main_v54 (F := Ideal) x0 x1 x2 x3 (ix3 n q r) =
      dval (conv x1 x2 x3 (2816 * q.val + r.val) n.val) (at2 x0 n.val (1408 * q.val + r.val)) := fun n q r => by rw [v54_at, v27_at, v53_at]
  have hB : ∀ (n : Fin 4096) (q : Fin 4) (r : Fin 1408), val_main_v69 (F := Ideal) x0 x1 x2 x3 (ix3 n q r) =
      dgate (conv x1 x2 x3 (2816 * q.val + r.val) n.val) (conv x1 x2 x3 (2816 * q.val + (1408 + r.val)) n.val) (at2 x0 n.val (1408 * q.val + r.val)) := fun n q r => by
    rw [v69_at, v27_at, v50_at, v53_at]
  generalize val_main_v54 (F := Ideal) x0 x1 x2 x3 = A at hA ⊢
  generalize val_main_v69 (F := Ideal) x0 x1 x2 x3 = B at hB ⊢
  pointwise [val_main_cst_8, val_main_cst_12]
  have hc := c.isLt
  have p0 : c.val / 2816 < 4 := by omega
  have p1 : c.val % 1408 < 1408 := by omega
  unfold dconv
  by_cases h : c.val % 2816 < 1408
  · have q0 : ¬ (c.val / 2816 < 4 ∧ (1 ≤ c.val / 1408 % 2 ∧ c.val / 1408 % 2 - 1 < 1) ∧ c.val % 1408 < 1408) := by omega
    have q1 : c.val / 2816 < 4 ∧ c.val / 1408 % 2 < 1 ∧ c.val % 1408 < 1408 := by omega
    have e1 : 2816 * (c.val / 2816) + c.val % 1408 = c.val := by omega
    have e2 : 2816 * (c.val / 2816) + (1408 + c.val % 1408) = 1408 + c.val := by omega
    have e3 : c.val % 1408 = c.val % 2816 := by omega
    refine Eq.trans ((congrArg₂ (· + ·) (dif_neg q0) (dif_pos q1)).trans ((zero_add _).trans ?_)) (if_pos h).symm
    refine (hB n ⟨c.val / 2816, p0⟩ ⟨c.val % 1408, p1⟩).trans ?_
    dsimp only
    rw [e1, e2, e3]
  · have q0 : c.val / 2816 < 4 ∧ (1 ≤ c.val / 1408 % 2 ∧ c.val / 1408 % 2 - 1 < 1) ∧ c.val % 1408 < 1408 := by omega
    have q1 : ¬ (c.val / 2816 < 4 ∧ c.val / 1408 % 2 < 1 ∧ c.val % 1408 < 1408) := by omega
    have e1 : 2816 * (c.val / 2816) + c.val % 1408 = c.val - 1408 := by omega
    have e2 : c.val % 1408 = c.val % 2816 - 1408 := by omega
    refine Eq.trans ((congrArg₂ (· + ·) (dif_pos q0) (dif_neg q1)).trans ((add_zero _).trans ?_)) (if_neg h).symm
    refine (hA n ⟨c.val / 2816, p0⟩ ⟨c.val % 1408, p1⟩).trans ?_
    dsimp only
    rw [e1, e2]

/-- The gradient of the bias, -/
theorem v95_at (j : S1x11264.Idx) : val_main_v95 (F := Ideal) x0 x1 x2 x3 j = dbias x0 x1 x2 x3 (j 1).val := by
  unfold val_main_v95 val_main_v94
  have h := v73_at x0 x1 x2 x3
  generalize val_main_v73 (F := Ideal) x0 x1 x2 x3 = A at h ⊢
  pointwise [val_main_cst_21]
  exact Finset.sum_congr rfl fun n _ => h n (j 1)

/-- of the taps, -/
theorem v104_at (j : S3x11264.Idx) : val_main_v104 (F := Ideal) x0 x1 x2 x3 j = dtap x0 x1 x2 x3 (2 - (j 0).val) (j 1).val := by
  obtain ⟨k, c, rfl⟩ : ∃ (k : Fin 3) (c : Fin 11264), j = ix2 k c := ⟨j 0, j 1, ix2_ext rfl rfl⟩
  have h2 : ∀ n c, val_main_v74 (F := Ideal) x0 x1 x2 x3 (ix2 n c) = dconv x0 x1 x2 x3 c.val n.val * sh (col x1 c.val) 0 n.val := fun n c => by
    rw [val_main_v74_apply, v18_at, v73_at]
    simp [sh, mul_comm]
  have h1 : ∀ n c, val_main_v83 (F := Ideal) x0 x1 x2 x3 (ix2 n c) = dconv x0 x1 x2 x3 c.val n.val * sh (col x1 c.val) 1 n.val := fun n c => by
    rw [val_main_v83_apply, v11_at, v73_at]
    exact mul_comm _ _
  have h0 : ∀ n c, val_main_v96 (F := Ideal) x0 x1 x2 x3 (ix2 n c) = dconv x0 x1 x2 x3 c.val n.val * sh (col x1 c.val) 2 n.val := fun n c => by
    rw [val_main_v96_apply, v3_at, v73_at]
    exact mul_comm _ _
  unfold val_main_v104 val_main_v91 val_main_v103 val_main_v81 val_main_v90 val_main_v80 val_main_v89 val_main_v102 val_main_v79 val_main_v88 val_main_v101 val_main_v76 val_main_v85 val_main_v98 val_main_v75 val_main_v84 val_main_v97
  generalize val_main_v74 (F := Ideal) x0 x1 x2 x3 = A at h2 ⊢
  generalize val_main_v83 (F := Ideal) x0 x1 x2 x3 = B at h1 ⊢
  generalize val_main_v96 (F := Ideal) x0 x1 x2 x3 = C at h0 ⊢
  pointwise [val_main_cst_13, val_main_cst_14, val_main_cst_15, val_main_cst_17, val_main_cst_18, val_main_cst_19, val_main_cst_22, val_main_cst_23, val_main_cst_24]
  have one : ∀ f : Fin 1 → EReal, ∑ x : Fin 1, f x = f 0 := fun f => Fin.sum_univ_one f
  rw [one, one, one]
  simp only [h0, h1, h2]
  match k with
  | 0 => simp [dtap]
  | 1 => simp [dtap]
  | 2 => simp [dtap]

theorem v77_at (n : Fin 4096) (c : Fin 11264) : val_main_v77 (F := Ideal) x2 (ix2 n c) = at2 x2 2 c.val :=
  (show val_main_v77 (F := Ideal) x2 (ix2 n c) = val_main_v22 (F := Ideal) x2 (ix2 n c) from rfl).trans (v22_at x2 n c)

theorem v86_at (n : Fin 4096) (c : Fin 11264) : val_main_v86 (F := Ideal) x2 (ix2 n c) = at2 x2 1 c.val :=
  (show val_main_v86 (F := Ideal) x2 (ix2 n c) = val_main_v15 (F := Ideal) x2 (ix2 n c) from rfl).trans (v15_at x2 n c)

theorem v99_at (n : Fin 4096) (c : Fin 11264) : val_main_v99 (F := Ideal) x2 (ix2 n c) = at2 x2 0 c.val :=
  (show val_main_v99 (F := Ideal) x2 (ix2 n c) = val_main_v7 (F := Ideal) x2 (ix2 n c) from rfl).trans (v7_at x2 n c)

/-- and of the input. -/
theorem v109_at (j : S4096x11264.Idx) : val_main_v109 (F := Ideal) x0 x1 x2 x3 j = din x0 x1 x2 x3 (j 1).val (j 0).val := by
  obtain ⟨n, c, rfl⟩ : ∃ (n : Fin 4096) (c : Fin 11264), j = ix2 n c := ⟨j 0, j 1, ix2_ext rfl rfl⟩
  have h2 : ∀ n c, val_main_v78 (F := Ideal) x0 x1 x2 x3 (ix2 n c) = dconv x0 x1 x2 x3 c.val n.val * at2 x2 2 c.val := fun n c => by
    rw [val_main_v78_apply, v73_at, v77_at]
    rfl
  have h1 : ∀ n c, val_main_v87 (F := Ideal) x0 x1 x2 x3 (ix2 n c) = dconv x0 x1 x2 x3 c.val n.val * at2 x2 1 c.val := fun n c => by
    rw [val_main_v87_apply, v73_at, v86_at]
    rfl
  have h0 : ∀ n c, val_main_v100 (F := Ideal) x0 x1 x2 x3 (ix2 n c) = dconv x0 x1 x2 x3 c.val n.val * at2 x2 0 c.val := fun n c => by
    rw [val_main_v100_apply, v73_at, v99_at]
    rfl
  unfold val_main_v109 val_main_v108 val_main_v106 val_main_v93 val_main_v105 val_main_v82 val_main_v92
  generalize val_main_v78 (F := Ideal) x0 x1 x2 x3 = A at h2 ⊢
  generalize val_main_v87 (F := Ideal) x0 x1 x2 x3 = B at h1 ⊢
  generalize val_main_v100 (F := Ideal) x0 x1 x2 x3 = C at h0 ⊢
  pointwise [val_main_cst_16, val_main_cst_20, val_main_cst_25]
  refine congrArg₂ (· + ·) (congrArg₂ (· + ·) (h2 n c) ?_) ?_
  · split
    · rw [h1]
      refine congrArg (dconv x0 x1 x2 x3 c.val · * at2 x2 1 c.val) ?_
      show 2 + n.val - 1 = n.val + 1
      omega
    · show 0 = dconv x0 x1 x2 x3 c.val (n.val + 1) * at2 x2 1 c.val
      rw [dconv_last _ _ _ _ _ _ (by omega), zero_mul]
  · split
    · rw [h0]
      refine congrArg (dconv x0 x1 x2 x3 c.val · * at2 x2 0 c.val) ?_
      show 2 + n.val = n.val + 2
      omega
    · show 0 = dconv x0 x1 x2 x3 c.val (n.val + 2) * at2 x2 0 c.val
      rw [dconv_last _ _ _ _ _ _ (by omega), zero_mul]

end Cert.ReferenceConvIdeal.At

end
-- ==== Proof.Conv.Claims.lean ====
module

public import proofs.«01_k».proof.Defs
public import proofs.«01_k».proof.Proof.Conv.Final
public import proofs.«01_k».proof.Proof.Conv.Ref
public import proofs.«01_k».proof.Proof.Gen.KernelConv.Frame
public import proofs.«01_k».proof.Proof.Gen.KernelConvIdeal.Value
public import proofs.«01_k».proof.Proof.Gen.ReferenceConvIdeal.Run
public import proofs.«01_k».proof.Proof.Gen.ReferenceConvIdeal.Read
public import Idealize.ShloMosaic.Lib.Claim

/-! The claims about the gradients of the gated convolution. -/

@[expose] public section

set_option maxRecDepth 16384

noncomputable section

open Idealize.ShloMosaic Idealize.ShloMosaic.TcCoe Idealize.SL.Sem

namespace Cert.Proof.Conv

theorem frame_reference : Cert.quiescent_ReferenceConvIdeal := by
  intro m g _
  exact (θ_run Cert.ReferenceConvIdeal.defs _ _).mono (fun r h => ⟨fun c => (h c).2.2.2, sem_eq_zero_of_no_sems (by decide) r.2⟩)
    (Cert.ReferenceConvIdeal.Value.run m g)

theorem four {A B C D E : Type} (f : A → B → C → D → E) {a a' : A} {b b' : B} {c c' : C} {d d' : D} (ha : a = a') (hb : b = b') (hc : c = c') (hd : d = d') :
    f a b c d = f a' b' c' d' := by rw [ha, hb, hc, hd]

theorem algebraic : Cert.algebraic_KernelConvIdeal_ReferenceConvIdeal := by
  pair_intro
  · run_from Cert.KernelConvIdeal.Value.run_blocks m g
  · refine (θ_run Cert.ReferenceConvIdeal.defs _ _).mono (fun r h c => ?_) (Cert.ReferenceConvIdeal.Value.run m' g')
    obtain ⟨e0, e1, e2, e3⟩ := hagree c
    refine ⟨((h c).1.trans (Cert.ReferenceConvIdeal.Read.val_main_v109_eq _)).trans ?_, ((h c).2.1.trans (Cert.ReferenceConvIdeal.Read.val_main_v104_eq _)).trans ?_,
      ((h c).2.2.1.trans (Cert.ReferenceConvIdeal.Read.val_main_v95_eq _)).trans ?_, (h c).2.2.2⟩
    · exact (four (Cert.ReferenceConvIdeal.Read.val_main_v109 (F := Ideal)) e0 e1 e2 e3).trans ((funext (Cert.ReferenceConvIdeal.At.v109_at _ _ _ _)).trans (Cert.KernelConvIdeal.Conv.final7 m c).symm)
    · exact (four (Cert.ReferenceConvIdeal.Read.val_main_v104 (F := Ideal)) e0 e1 e2 e3).trans ((funext (Cert.ReferenceConvIdeal.At.v104_at _ _ _ _)).trans (Cert.KernelConvIdeal.Conv.final8 m c).symm)
    · exact (four (Cert.ReferenceConvIdeal.Read.val_main_v95 (F := Ideal)) e0 e1 e2 e3).trans ((funext (Cert.ReferenceConvIdeal.At.v95_at _ _ _ _)).trans (Cert.KernelConvIdeal.Conv.final9 m c).symm)

end Cert.Proof.Conv

end
-- ==== Proof.Gate.Final.lean ====
module

public import proofs.«01_k».proof.Proof.Gen.KernelGateIdeal.Value
public import proofs.«01_k».proof.Proof.Math.GatedSpec
public import Idealize.ShloMosaic.Lib.Pointwise
public import Idealize.ShloMosaic.Lib.Pipeline.ValueKit
public import Idealize.ShloMosaic.Lib.Claim

/-! The blocks of the `conv_geglu_fwd` call, what a grid point writes, and the call's result. -/

@[expose] public section

set_option maxRecDepth 16384

noncomputable section

open Idealize.ShloMosaic Idealize.ShloMosaic.TcCoe Idealize.SL.Sem

namespace Cert.KernelGateIdeal.Gate

open Cert.KernelGateIdeal Cert.KernelGateIdeal.Gen Cert.Gated

variable [Cert.KernelGateIdeal.Facts]

theorem flag0 : ∀ t : Fin cfg0.N, (Scalar.extui (Scalar.cmpi .sgt (BitVec.ofNat 32 (grid0.coords t 1).val) 0#32) : BitVec 32).toInt = if t.val % 16 = 0 then 0 else 1 :=
  (by decide +kernel : ∀ t : Fin grid0.N, (Scalar.extui (Scalar.cmpi .sgt (BitVec.ofNat 32 (grid0.coords t 1).val) 0#32) : BitVec 32).toInt = if t.val % 16 = 0 then 0 else 1)

/-- The eight rows before, zero for the first block, and the rows above a block shifted down by two, by one. -/
def halo (i : grid0.Coords) (H : Vec Ideal S8x2816 .f32) : FVec Ideal S8x2816 .f32 :=
  mulf H (broadcast S8x2816 (Scalar.sitofp .f32 (Scalar.extui (Scalar.cmpi .sgt (BitVec.ofNat 32 (i 1).val) 0#32) : BitVec 32)))

def down1 (H : FVec Ideal S8x2816 .f32) (C : FVec Ideal S256x2816 .f32) : FVec Ideal S256x2816 .f32 :=
  select (cmpi .slt (iota .tc S256x2816 32 [0] iota_S256x2816_d0_w32) (broadcast S256x2816 1#32))
    (concatenate S256x2816 0 [⟨S8x2816, dynamicRotate 0 1#32 none H rotates_S8x2816_d0⟩, ⟨S248x2816, broadcast S248x2816 (Scalar.ofBits .f32 0x00000000#32)⟩]
      concatenates_S8x2816_S248x2816_S256x2816_d0)
    (dynamicRotate 0 1#32 none C rotates_S256x2816_d0)

def down2 (H : FVec Ideal S8x2816 .f32) (C : FVec Ideal S256x2816 .f32) : FVec Ideal S256x2816 .f32 :=
  select (cmpi .slt (iota .tc S256x2816 32 [0] iota_S256x2816_d0_w32) (broadcast S256x2816 2#32))
    (concatenate S256x2816 0 [⟨S8x2816, dynamicRotate 0 2#32 none H rotates_S8x2816_d0⟩, ⟨S248x2816, broadcast S248x2816 (Scalar.ofBits .f32 0x00000000#32)⟩]
      concatenates_S8x2816_S248x2816_S256x2816_d0)
    (dynamicRotate 0 2#32 none C rotates_S256x2816_d0)

theorem pay2_eq (i : grid0.Coords) (v3 : Vec Ideal S256x2816 .f32) (v4 : Vec Ideal S8x2816 .f32) (v7 v16 v29 v33 : Vec Ideal S1x2816 .f32) :
    k0_pay2 i v3 v4 v7 v16 v29 v33 = addf (addf (addf (broadcastTo S256x2816 v7 broadcasts_S1x2816_S256x2816)
      (mulf (down2 (halo i v4) v3) (broadcastTo S256x2816 v16 broadcasts_S1x2816_S256x2816)))
      (mulf (down1 (halo i v4) v3) (broadcastTo S256x2816 v29 broadcasts_S1x2816_S256x2816)))
      (mulf v3 (broadcastTo S256x2816 v33 broadcasts_S1x2816_S256x2816)) := rfl

theorem down1_apply (H : FVec Ideal S8x2816 .f32) (C : FVec Ideal S256x2816 .f32) (x : Fin 256) (l : Fin 2816) :
    down1 H C (ix2 x l) = if h : x.val < 1 then H (ix2 7 l) else C (ix2 ⟨x.val - 1, by omega⟩ l) := by
  pointwise [down1]
  rw [mask x.val (by omega) 1 (by decide)]
  split
  · rename_i h
    rw [dif_pos (by omega)]
    refine congrArg H (congrArg (ix2 · l) (Fin.ext ?_))
    show (x.val + 8 - 1) % 8 = 7
    omega
  · refine congrArg C (congrArg (ix2 · l) (Fin.ext ?_))
    show (x.val + 256 - 1) % 256 = x.val - 1
    omega

theorem down2_apply (H : FVec Ideal S8x2816 .f32) (C : FVec Ideal S256x2816 .f32) (x : Fin 256) (l : Fin 2816) :
    down2 H C (ix2 x l) = if h : x.val < 2 then H (ix2 ⟨6 + x.val, by omega⟩ l) else C (ix2 ⟨x.val - 2, by omega⟩ l) := by
  pointwise [down2]
  rw [mask x.val (by omega) 2 (by decide)]
  split
  · rename_i h
    rw [dif_pos (by omega)]
    refine congrArg H (congrArg (ix2 · l) (Fin.ext ?_))
    show (x.val + 8 - 2) % 8 = 6 + x.val
    omega
  · refine congrArg C (congrArg (ix2 · l) (Fin.ext ?_))
    show (x.val + 256 - 2) % 256 = x.val - 2
    omega

theorem pay2_apply (i : grid0.Coords) (v3 : Vec Ideal S256x2816 .f32) (v4 : Vec Ideal S8x2816 .f32) (v7 v16 v29 v33 : Vec Ideal S1x2816 .f32) (x : Fin 256) (l : Fin 2816) :
    k0_pay2 i v3 v4 v7 v16 v29 v33 (ix2 x l) = v7 (ix2 0 l) + down2 (halo i v4) v3 (ix2 x l) * v16 (ix2 0 l)
      + down1 (halo i v4) v3 (ix2 x l) * v29 (ix2 0 l) + v3 (ix2 x l) * v33 (ix2 0 l) := by
  rw [pay2_eq]
  generalize down2 (halo i v4) v3 = A
  generalize down1 (halo i v4) v3 = B
  pointwise

theorem pay1_apply (G : FVec Ideal S256x2816 .f32) (x : Fin 256) (r : Fin 1408) :
    k0_pay1 G (ix2 x r) = gated (G (ix2 x ⟨r.val, by omega⟩)) (G (ix2 x ⟨1408 + r.val, by omega⟩)) := by
  pointwise [k0_pay1, gated, act, th]

/-! ## The blocks -/

variable (m : (ℓ : Loc nD τ sig) → Buf (Elt Ideal) ℓ) (c : Dev nD)

theorem cb_lt : ∀ t : Fin cfg0.N, t.val / 16 < 4 := (by decide +kernel : ∀ t : Fin grid0.N, t.val / 16 < 4)

theorem idx0 : ∀ t : Fin cfg0.N, win0_0.index t = ![t.val % 16, t.val / 16] := (by decide +kernel : ∀ t : Fin grid0.N, win0_0.index t = ![t.val % 16, t.val / 16])
theorem idx1 : ∀ t : Fin cfg0.N, win0_1.index t = ![32 * (t.val % 16) - 1, t.val / 16] := (by decide +kernel : ∀ t : Fin grid0.N, win0_1.index t = ![32 * (t.val % 16) - 1, t.val / 16])
theorem idx2 : ∀ t : Fin cfg0.N, win0_2.index t = ![0, t.val / 16] := (by decide +kernel : ∀ t : Fin grid0.N, win0_2.index t = ![0, t.val / 16])
theorem idx3 : ∀ t : Fin cfg0.N, win0_3.index t = ![0, t.val / 16] := (by decide +kernel : ∀ t : Fin grid0.N, win0_3.index t = ![0, t.val / 16])
theorem idx4 : ∀ t : Fin cfg0.N, win0_4.index t = ![t.val % 16, t.val / 16] := (by decide +kernel : ∀ t : Fin grid0.N, win0_4.index t = ![t.val % 16, t.val / 16])

/-- Column `l` of a grid point's block of columns. -/
def cc (t : Fin cfg0.N) (l : Fin 2816) : Fin 11264 := ⟨2816 * (t.val / 16) + l.val, by have := cb_lt t; omega⟩

theorem b0 (t : Fin cfg0.N) (x : Fin 256) (l : Fin 2816) : (iblk m c 0 t : S256x2816.Idx → EReal) (ix2 x l) =
    col (m (c, main_arg0)) (2816 * (t.val / 16) + l.val) (256 * (t.val % 16) + x.val) := by
  refine Eq.trans ?_ (at2_of_lt (m (c, main_arg0)) (by omega) (cc t l).isLt).symm
  unfold cc
  blk_simp [iblk]
  show V m c main_arg0 _ = V m c main_arg0 _
  generalize V m c main_arg0 = W
  blk_ext [idx0 t]

theorem b1 (t : Fin cfg0.N) (h : t.val % 16 ≠ 0) (x : Fin 8) (l : Fin 2816) : (iblk m c 1 t : S8x2816.Idx → EReal) (ix2 x l) =
    col (m (c, main_arg0)) (2816 * (t.val / 16) + l.val) (256 * (t.val % 16) - 8 + x.val) := by
  refine Eq.trans ?_ (at2_of_lt (m (c, main_arg0)) (by omega) (cc t l).isLt).symm
  unfold cc
  blk_simp [iblk]
  show V m c main_arg0 _ = V m c main_arg0 _
  generalize V m c main_arg0 = W
  blk_ext [idx1 t]

theorem b2 (t : Fin cfg0.N) (k : Fin 3) (l : Fin 2816) : (iblk m c 2 t : S3x2816.Idx → EReal) (ix2 k l) =
    at2 (m (c, main_arg1) : S3x11264.Idx → EReal) k.val (2816 * (t.val / 16) + l.val) := by
  refine Eq.trans ?_ (at2_of_lt (m (c, main_arg1)) k.isLt (cc t l).isLt).symm
  unfold cc
  blk_simp [iblk]
  show V m c main_arg1 _ = V m c main_arg1 _
  generalize V m c main_arg1 = W
  blk_ext [idx2 t]

theorem b3 (t : Fin cfg0.N) (l : Fin 2816) : (iblk m c 3 t : S1x2816.Idx → EReal) (ix2 0 l) =
    at2 (m (c, main_arg2) : S1x11264.Idx → EReal) 0 (2816 * (t.val / 16) + l.val) := by
  refine Eq.trans ?_ (at2_of_lt (m (c, main_arg2)) (by decide) (cc t l).isLt).symm
  unfold cc
  blk_simp [iblk]
  show V m c main_arg2 _ = V m c main_arg2 _
  generalize V m c main_arg2 = W
  blk_ext [idx3 t]

theorem halo_at (t : Fin cfg0.N) (y : Fin 8) (l : Fin 2816) : halo (grid0.coords t) (iblk m c 1 t) (ix2 y l) =
    if t.val % 16 = 0 then 0 else col (m (c, main_arg0)) (2816 * (t.val / 16) + l.val) (256 * (t.val % 16) - 8 + y.val) := by
  have hb := fun h => b1 m c t h y l
  generalize (iblk m c 1 t : S8x2816.Idx → EReal) = X at hb ⊢
  pointwise [halo]
  rw [flag0 t]
  split
  · simp
  · rename_i h
    simp [hb h]

theorem down1_at (t : Fin cfg0.N) (x : Fin 256) (l : Fin 2816) : down1 (halo (grid0.coords t) (iblk m c 1 t)) (iblk m c 0 t) (ix2 x l) =
    sh (col (m (c, main_arg0)) (2816 * (t.val / 16) + l.val)) 1 (256 * (t.val % 16) + x.val) := by
  rw [down1_apply, sh]
  split
  · rename_i h
    rw [halo_at]
    by_cases h0 : t.val % 16 = 0
    · rw [if_pos h0, if_pos (by omega)]
    · rw [if_neg h0, if_neg (by omega)]
      refine congrArg (col _ _) ?_
      show _ + 7 = _
      omega
  · rename_i h
    rw [if_neg (by omega)]
    refine (b0 m c t _ l).trans (congrArg (col _ _) ?_)
    dsimp only
    omega

theorem down2_at (t : Fin cfg0.N) (x : Fin 256) (l : Fin 2816) : down2 (halo (grid0.coords t) (iblk m c 1 t)) (iblk m c 0 t) (ix2 x l) =
    sh (col (m (c, main_arg0)) (2816 * (t.val / 16) + l.val)) 2 (256 * (t.val % 16) + x.val) := by
  rw [down2_apply, sh]
  split
  · rename_i h
    rw [halo_at]
    by_cases h0 : t.val % 16 = 0
    · rw [if_pos h0, if_pos (by omega)]
    · rw [if_neg h0, if_neg (by omega)]
      refine congrArg (col _ _) ?_
      dsimp only
      omega
  · rename_i h
    rw [if_neg (by omega)]
    refine (b0 m c t _ l).trans (congrArg (col _ _) ?_)
    dsimp only
    omega

/-- The convolution in a block. -/
theorem conv_at (t : Fin cfg0.N) (x : Fin 256) (l : Fin 2816) :
    k0_pay2 (grid0.coords t) (iblk m c 0 t) (iblk m c 1 t) (iblk m c 3 t)
      (View.ld (iblk m c 2 t) (Rect.unit ![0, 0] ![1, 2816] inb_S3x2816_S1x2816_0_0))
      (View.ld (iblk m c 2 t) (Rect.unit ![1, 0] ![1, 2816] inb_S3x2816_S1x2816_1_0))
      (View.ld (iblk m c 2 t) (Rect.unit ![2, 0] ![1, 2816] inb_S3x2816_S1x2816_2_0)) (ix2 x l) =
    conv (m (c, main_arg0)) (m (c, main_arg1)) (m (c, main_arg2)) (2816 * (t.val / 16) + l.val) (256 * (t.val % 16) + x.val) := by
  rw [pay2_apply, down1_at, down2_at]
  refine congrArg₂ (· + ·) (congrArg₂ (· + ·) (congrArg₂ (· + ·) (b3 m c t l) (congrArg₂ (· * ·) rfl ?_)) (congrArg₂ (· * ·) rfl ?_)) (congrArg₂ (· * ·) (b0 m c t x l) ?_)
  · refine Eq.trans ?_ (b2 m c t 0 l)
    generalize iblk m c 2 t = X
    pointwise
  · refine Eq.trans ?_ (b2 m c t 1 l)
    generalize iblk m c 2 t = X
    pointwise
  · refine Eq.trans ?_ (b2 m c t 2 l)
    generalize iblk m c 2 t = X
    pointwise

theorem final : (dats m 0 c).arrAt 4 (cfgs 0).N = (fun j => out (m (c, main_arg0)) (m (c, main_arg1)) (m (c, main_arg2)) (j 1).val (j 0).val) := by
  refine (dats m 0 c).arrAt_eq_of_covers 4 _ (by decide +kernel) fun t hf y => ?_
  blk_simp
  rw [after0_4]
  obtain ⟨x, r, rfl⟩ : ∃ (x : Fin 256) (r : Fin 1408), y = ix2 x r := ⟨y 0, y 1, by pointwise⟩
  unfold out0_4
  frame_out
  refine (pay1_apply _ x r).trans ?_
  refine (congrArg₂ gated (conv_at m c t x _) (conv_at m c t x _)).trans ?_
  blk_simp [idx4 t]
  unfold out
  refine congrArg₂ gated (congrArg₂ (conv _ _ _) ?_ ?_) (congrArg₂ (conv _ _ _) ?_ ?_)
  · show 2816 * (t.val / 16) + r.val = 2816 * ((t.val / 16 * 1408 + r.val) / 1408) + (t.val / 16 * 1408 + r.val) % 1408
    omega
  · show 256 * (t.val % 16) + x.val = t.val % 16 * 256 + x.val
    omega
  · show 2816 * (t.val / 16) + (1408 + r.val) = 2816 * ((t.val / 16 * 1408 + r.val) / 1408) + (1408 + (t.val / 16 * 1408 + r.val) % 1408)
    omega
  · show 256 * (t.val % 16) + x.val = t.val % 16 * 256 + x.val
    omega

end Cert.KernelGateIdeal.Gate

end
-- ==== Proof.Gate.Ref.lean ====
module

public import proofs.«01_k».proof.Proof.Gen.ReferenceGateIdeal.Read
public import proofs.«01_k».proof.Proof.Math.GatedSpec
public import Idealize.ShloMosaic.Lib.Pointwise
public import Idealize.ShloMosaic.Lib.Pipeline.ValueKit
public import Idealize.ShloMosaic.Lib.Claim

/-! The reference's result at an index. -/

@[expose] public section

set_option maxRecDepth 16384

noncomputable section

open Idealize.ShloMosaic Idealize.ShloMosaic.TcCoe Idealize.SL.Sem

namespace Cert.ReferenceGateIdeal.At

open Cert.ReferenceGateIdeal Cert.ReferenceGateIdeal.Read Cert.Gated

variable [Cert.ReferenceGateIdeal.Facts]
variable (x1 : FVec Ideal S4096x11264 .f32) (x2 : FVec Ideal S3x11264 .f32) (x3 : FVec Ideal S1x11264 .f32)

theorem ix2_ext {a b : ℕ} {i : (⟨2, ![a, b]⟩ : Shape).Idx} {n : Fin a} {c : Fin b} (h0 : (i 0).val = n.val) (h1 : (i 1).val = c.val) : i = ix2 n c := by
  funext x
  refine Fin.ext ?_
  match x with
  | 0 => exact h0
  | 1 => exact h1

/-- The input after two rows of zeros. -/
theorem v1_at (n : Fin 4098) (c : Fin 11264) : val_main_v1 (F := Ideal) x1 (ix2 n c) = sh (col x1 c.val) 2 n.val := by
  pointwise [val_main_v1, val_main_v0, val_main_cst]
  unfold sh
  split
  · rfl
  · exact (at2_of_lt x1 (by omega) c.isLt).symm

/-- The three rows each tap meets. -/
theorem v2_at (n : Fin 4096) (c : Fin 11264) : val_main_v2 (F := Ideal) x1 (ix2 n c) = sh (col x1 c.val) 2 n.val := by
  refine (val_main_v2_apply _ _).trans (Eq.trans ?_ (v1_at x1 ⟨n.val, by omega⟩ c))
  refine congrArg _ ?_
  exact ix2_ext rfl rfl

theorem v10_at (n : Fin 4096) (c : Fin 11264) : val_main_v10 (F := Ideal) x1 (ix2 n c) = sh (col x1 c.val) 1 n.val := by
  refine (val_main_v10_apply _ _).trans (Eq.trans (congrArg _ ?_) ((v1_at x1 ⟨1 + n.val, by omega⟩ c).trans ?_))
  · exact ix2_ext rfl rfl
  · unfold sh
    by_cases h : n.val < 1
    · rw [if_pos h, if_pos (by dsimp only; omega)]
    · rw [if_neg h, if_neg (by dsimp only; omega)]
      refine congrArg (col x1 c.val) ?_
      dsimp only
      omega

theorem v17_at (n : Fin 4096) (c : Fin 11264) : val_main_v17 (F := Ideal) x1 (ix2 n c) = col x1 c.val n.val := by
  refine (val_main_v17_apply _ _).trans (Eq.trans (congrArg _ ?_) ((v1_at x1 ⟨2 + n.val, by omega⟩ c).trans ?_))
  · exact ix2_ext rfl rfl
  · unfold sh
    rw [if_neg (by dsimp only; omega)]
    refine congrArg (col x1 c.val) ?_
    dsimp only
    omega

/-- The taps and the bias, one row each over all rows. -/
theorem v6_at (n : Fin 4096) (c : Fin 11264) : val_main_v6 (F := Ideal) x2 (ix2 n c) = at2 x2 0 c.val := by
  rw [at2_of_lt x2 (by decide) c.isLt, val_main_v6_apply, val_main_v5_apply, val_main_v4_apply, val_main_v3_apply]
  refine congrArg x2 (ix2_ext rfl ?_)
  have hc : c.val < 11264 := c.isLt
  dsimp only [idx_main_v3, idx_main_v4, idx_main_v5, idx_main_v6, ix2]
  omega

theorem v14_at (n : Fin 4096) (c : Fin 11264) : val_main_v14 (F := Ideal) x2 (ix2 n c) = at2 x2 1 c.val := by
  rw [at2_of_lt x2 (by decide) c.isLt, val_main_v14_apply, val_main_v13_apply, val_main_v12_apply, val_main_v11_apply]
  refine congrArg x2 (ix2_ext rfl ?_)
  have hc : c.val < 11264 := c.isLt
  dsimp only [idx_main_v11, idx_main_v12, idx_main_v13, idx_main_v14, ix2]
  omega

theorem v21_at (n : Fin 4096) (c : Fin 11264) : val_main_v21 (F := Ideal) x2 (ix2 n c) = at2 x2 2 c.val := by
  rw [at2_of_lt x2 (by decide) c.isLt, val_main_v21_apply, val_main_v20_apply, val_main_v19_apply, val_main_v18_apply]
  refine congrArg x2 (ix2_ext rfl ?_)
  have hc : c.val < 11264 := c.isLt
  dsimp only [idx_main_v18, idx_main_v19, idx_main_v20, idx_main_v21, ix2]
  omega

theorem v8_at (n : Fin 4096) (c : Fin 11264) : val_main_v8 (F := Ideal) x3 (ix2 n c) = at2 x3 0 c.val := by
  rw [at2_of_lt x3 (by decide) c.isLt, val_main_v8_apply]
  exact congrArg x3 (ix2_ext rfl rfl)

/-- The convolution. -/
theorem v23_at (n : Fin 4096) (c : Fin 11264) : val_main_v23 (F := Ideal) x1 x2 x3 (ix2 n c) = conv x1 x2 x3 c.val n.val := by
  rw [val_main_v23_apply, val_main_v16_apply, val_main_v9_apply, val_main_v7_apply, val_main_v15_apply, val_main_v22_apply,
    v2_at, v10_at, v17_at, v6_at, v14_at, v21_at, v8_at]
  rfl

/-- The gates and the values, by blocks of columns. -/
theorem v26_at (n : Fin 4096) (q : Fin 4) (r : Fin 1408) : val_main_v26 (F := Ideal) x1 x2 x3 (ix3 n q r) = conv x1 x2 x3 (2816 * q.val + r.val) n.val := by
  rw [val_main_v26_apply, val_main_v25_apply, val_main_v24_apply]
  refine Eq.trans (congrArg _ ?_) (v23_at x1 x2 x3 n ⟨2816 * q.val + r.val, by omega⟩)
  have hn : n.val < 4096 := n.isLt
  have hq : q.val < 4 := q.isLt
  have hr : r.val < 1408 := r.isLt
  refine ix2_ext ?_ ?_
  · dsimp only [idx_main_v24, idx_main_v25, idx_main_v26, ix3, ix2]
    omega
  · dsimp only [idx_main_v24, idx_main_v25, idx_main_v26, ix3, ix2]
    omega

theorem v41_at (n : Fin 4096) (q : Fin 4) (r : Fin 1408) : val_main_v41 (F := Ideal) x1 x2 x3 (ix3 n q r) = conv x1 x2 x3 (2816 * q.val + (1408 + r.val)) n.val := by
  rw [val_main_v41_apply, val_main_v40_apply, val_main_v24_apply]
  refine Eq.trans (congrArg _ ?_) (v23_at x1 x2 x3 n ⟨2816 * q.val + (1408 + r.val), by omega⟩)
  have hn : n.val < 4096 := n.isLt
  have hq : q.val < 4 := q.isLt
  have hr : r.val < 1408 := r.isLt
  refine ix2_ext ?_ ?_
  · dsimp only [idx_main_v24, idx_main_v40, idx_main_v41, ix3, ix2]
    omega
  · dsimp only [idx_main_v24, idx_main_v40, idx_main_v41, ix3, ix2]
    omega

theorem one_bits : FloatOps.ofBits (F := Ideal) .f32 1065353216#32 = (1 : EReal) := by pointwise

theorem v42_at (j : S4096x4x1408.Idx) : val_main_v42 (F := Ideal) x1 x2 x3 j = gated (val_main_v26 (F := Ideal) x1 x2 x3 j) (val_main_v41 (F := Ideal) x1 x2 x3 j) := by
  simp only [val_main_v42_apply, val_main_v39_apply, val_main_v38_apply, val_main_v37_apply, val_main_v36_apply, val_main_v35_apply, val_main_v34_apply, val_main_v33_apply, val_main_v32_apply,
    val_main_v31_apply, val_main_v30_apply, val_main_v29_apply, val_main_v28_apply, val_main_v27_apply, val_main_cst_0_apply, val_main_cst_1_apply, val_main_cst_2_apply, val_main_cst_3_apply]
  generalize val_main_v26 (F := Ideal) x1 x2 x3 j = g
  generalize val_main_v41 (F := Ideal) x1 x2 x3 j = v
  rw [gated, act, th, ← mul_assoc g g g, one_bits]
  rfl

theorem v44_at (j : S4096x5632.Idx) : val_main_v44 (F := Ideal) x1 x2 x3 j = out x1 x2 x3 (j 1).val (j 0).val := by
  have h0 : (j 0).val < 4096 := (j 0).isLt
  have h1 : (j 1).val < 5632 := (j 1).isLt
  refine (val_main_v44_apply _ _ _ _).trans ((val_main_v43_apply _ _ _ _).trans ?_)
  refine (congrArg (val_main_v42 (F := Ideal) x1 x2 x3) (?_ : idx_main_v43 j = ix3 (j 0) ⟨(j 1).val / 1408, by omega⟩ ⟨(j 1).val % 1408, by omega⟩)).trans ?_
  · funext k
    refine Fin.ext ?_
    match k with
    | 0 => dsimp only [idx_main_v43, ix3]; omega
    | 1 => dsimp only [idx_main_v43, ix3]; omega
    | 2 => dsimp only [idx_main_v43, ix3]; omega
  · exact (v42_at x1 x2 x3 (ix3 (j 0) ⟨(j 1).val / 1408, by omega⟩ ⟨(j 1).val % 1408, by omega⟩)).trans (congrArg₂ gated (v26_at x1 x2 x3 _ _ _) (v41_at x1 x2 x3 _ _ _))

end Cert.ReferenceGateIdeal.At

end
-- ==== Proof.Gate.Claims.lean ====
module

public import proofs.«01_k».proof.Defs
public import proofs.«01_k».proof.Proof.Gate.Final
public import proofs.«01_k».proof.Proof.Gate.Ref
public import proofs.«01_k».proof.Proof.Gen.KernelGate.Frame
public import proofs.«01_k».proof.Proof.Gen.ReferenceGateIdeal.Run
public import Idealize.ShloMosaic.Lib.Claim

/-! The claims about the gated convolution. -/

@[expose] public section

set_option maxRecDepth 16384

noncomputable section

open Idealize.ShloMosaic Idealize.ShloMosaic.TcCoe Idealize.SL.Sem

namespace Cert.Proof.Gate

theorem frame_reference : Cert.quiescent_ReferenceGateIdeal := by
  intro m g _
  exact (θ_run Cert.ReferenceGateIdeal.defs _ _).mono (fun r h => ⟨fun c => (h c).2, sem_eq_zero_of_no_sems (by decide) r.2⟩)
    (Cert.ReferenceGateIdeal.Value.run m g)

theorem algebraic : Cert.algebraic_KernelGateIdeal_ReferenceGateIdeal := by
  pair_intro
  · run_from Cert.KernelGateIdeal.Value.run_blocks m g
  · refine (θ_run Cert.ReferenceGateIdeal.defs _ _).mono (fun r h c => ?_) (Cert.ReferenceGateIdeal.Value.run m' g')
    obtain ⟨e0, e1, e2⟩ := hagree c
    refine ⟨((h c).1.trans (Cert.ReferenceGateIdeal.Read.val_main_v44_eq _ _)).trans ?_, (h c).2⟩
    refine Eq.trans ?_ ((funext (Cert.ReferenceGateIdeal.At.v44_at _ _ _)).trans (Cert.KernelGateIdeal.Gate.final m c).symm)
    exact congrArg₂ (fun f a => f a) (congrArg₂ (Cert.ReferenceGateIdeal.Read.val_main_v44 (F := Ideal)) e0 e1) e2

end Cert.Proof.Gate

end
-- ==== Proof.Math.Norm.lean ====
module

public import Idealize.ShloMosaic.Lib.Pointwise
public import Idealize.ShloMosaic.Lib.Pipeline.ValueKit

/-! The gradient of the normalisation of a row by its root mean square, and sums over rows taken block by block. -/

@[expose] public section

noncomputable section

open Idealize.ShloMosaic Idealize.ShloMosaic.TcCoe

namespace Cert.Norm

variable {w : ℕ} (N : EReal) (f u : Fin w → EReal)

/-- The mean square of a row of width `N` with the offset that keeps it from zero, and its inverse root. -/
def ms : EReal := Ideal.div (∑ k, f k * f k) N + Ideal.ofBits .f32 0x358637BD#32
def rs : EReal := Ideal.rsqrt (ms N f)

/-- The normalised row. -/
def xhat (l : Fin w) : EReal := f l * rs N f

/-- What the mean square hands back to each of the row's entries. -/
def share : EReal :=
  ∑ _x : Fin 1, Ideal.div ((∑ k, f k * u k) * (Ideal.ofBits .f32 0xBF000000#32 * Ideal.div (rs N f) (ms N f))) N

/-- The gradient of the normalised row `f` along `u`. -/
def dnorm (l : Fin w) : EReal := u l * rs N f + f l * share N f u + share N f u * f l

/-- Row `x` of block `t`. -/
def rowOf (t : ℕ) (h : t < 16) (x : Fin 256) : Fin 4096 := ⟨t * 256 + x.val, by omega⟩

theorem row_ix (j : (⟨2, ![1, w]⟩ : Shape).Idx) : ∃ l : Fin w, j = ix2 0 l :=
  ⟨j 1, (show j = ix2 (j 0) (j 1) by pointwise).trans (congrArg (ix2 · (j 1)) (Fin.ext (by have h : (j 0).val < 1 := (j 0).isLt; show (j 0).val = 0; omega)))⟩

/-- A block zeroed at the first of sixteen points, to which each point adds its rows' sum, ends as the sum over all rows. -/
theorem run_sum {M : ℕ} (hM : M = 16) (a : (n : ℕ) → n < M → (⟨2, ![1, w]⟩ : Shape).Idx → EReal) (G : Fin 4096 → Fin w → EReal)
    (h0 : ∀ t : Fin M, t.val % 16 = 0 → ∀ l, a t.val t.isLt (ix2 0 l) = 0 + ∑ x : Fin 256, G (rowOf t.val (hM ▸ t.isLt) x) l)
    (hs : ∀ t : Fin M, ¬ t.val % 16 = 0 → ∀ l, a t.val t.isLt (ix2 0 l) =
      a (t.val - 1) (Nat.lt_of_le_of_lt (Nat.sub_le _ _) t.isLt) (ix2 0 l) + ∑ x : Fin 256, G (rowOf t.val (hM ▸ t.isLt) x) l)
    (t : Fin M) (hr : t.val % 16 = 15) (l : Fin w) : a t.val t.isLt (ix2 0 l) = ∑ n : Fin 4096, G n l := by
  subst hM
  rw [Pipeline.eq_sum_fin_of_reset_step_apply_of_flush a 16 (fun _ => 0) (fun t j => ∑ x : Fin 256, G (rowOf t.val t.isLt x) (j 1))
    (fun t h j => by
      obtain ⟨l, rfl⟩ := row_ix j
      exact h0 t h l)
    (fun t h j => by
      obtain ⟨l, rfl⟩ := row_ix j
      exact hs t h l)
    t hr, zero_add]
  refine Fin.sum_mul_add_congr fun s x hl => congrArg (G · l) (Fin.ext ?_)
  have ht := t.isLt
  show (16 * (t.val / 16) + s.val) * 256 + x.val = s.val * 256 + x.val
  omega

end Cert.Norm

end
-- ==== Proof.Row.Qn.lean ====
module

public import proofs.«01_k».proof.Defs
public import proofs.«01_k».proof.Proof.Math.Norm
public import proofs.«01_k».proof.Proof.Gen.KernelQn.Frame
public import proofs.«01_k».proof.Proof.Gen.KernelQnIdeal.Value
public import proofs.«01_k».proof.Proof.Gen.ReferenceQnIdeal.Run
public import proofs.«01_k».proof.Proof.Gen.ReferenceQnIdeal.Read
public import Idealize.ShloMosaic.Lib.Pointwise
public import Idealize.ShloMosaic.Lib.Pipeline.ValueKit
public import Idealize.ShloMosaic.Lib.Claim

/-! The gradient of the query latent's norm. -/

@[expose] public section

set_option maxRecDepth 16384

noncomputable section

open Idealize.ShloMosaic Idealize.ShloMosaic.TcCoe Idealize.SL.Sem

namespace Cert.KernelQnIdeal.Row

open Cert.KernelQnIdeal Cert.KernelQnIdeal.Gen Cert.Norm

/-- The row's width, as the kernel and the reference divide by it. -/
abbrev W : EReal := Ideal.ofBits .f32 0x44000000#32

section spec

variable (x0 : FVec Ideal S4096x3456 .f32) (x1 : FVec Ideal S1x512 .f32) (x2 : FVec Ideal S4096x512 .f32)

/-- A row of the latent, the gradient through the gain, and the two results. -/
def lat (n : Fin 4096) (k : Fin 512) : EReal := x0 (ix2 n ⟨512 + k.val, by omega⟩)
def thr (n : Fin 4096) (k : Fin 512) : EReal := x2 (ix2 n k) * x1 (ix2 0 k)
def din (n : Fin 4096) (l : Fin 512) : EReal := dnorm W (lat x0 n) (thr x1 x2 n) l
def dgain (n : Fin 4096) (l : Fin 512) : EReal := xhat W (lat x0 n) l * x2 (ix2 n l)

end spec

variable [Cert.KernelQnIdeal.Facts]

theorem pay5_apply (v0 v2 : Vec Ideal S256x512 .f32) (l : Fin 512) : k0_pay5 v0 v2 (ix2 0 l) = ∑ x : Fin 256, xhat W (fun k => v0 (ix2 x k)) l * v2 (ix2 x l) := by
  pointwise [k0_pay5, k0_pay4, k0_pay3]
  rfl

theorem pay6_apply (v0 v2 : Vec Ideal S256x512 .f32) (v1 : Vec Ideal S1x512 .f32) (x : Fin 256) (l : Fin 512) :
    k0_pay6 v0 v1 v2 (ix2 x l) = dnorm W (fun k => v0 (ix2 x k)) (fun k => v2 (ix2 x k) * v1 (ix2 0 k)) l := by
  have h3 : ∀ z : Fin 1, k0_pay3 v0 (ix2 x z) = ms W (fun k => v0 (ix2 x k)) := fun z => by
    pointwise [k0_pay3]
    rfl
  have h4 : ∀ z : Fin 1, k0_pay4 v0 (ix2 x z) = rs W (fun k => v0 (ix2 x k)) := fun z => congrArg Ideal.rsqrt (h3 z)
  unfold k0_pay6
  generalize k0_pay3 v0 = P at h3 ⊢
  generalize k0_pay4 v0 = Q at h4 ⊢
  pointwise
  simp only [h3, h4]
  rfl

theorem pay2_apply (D v : Vec Ideal S1x512 .f32) (l : Fin 512) : k0_pay2 D v (ix2 0 l) = v (ix2 0 l) + D (ix2 0 l) := by
  pointwise [k0_pay2]

theorem pay1_apply (l : Fin 512) : k0_pay1 (F := Ideal) (ix2 0 l) = 0 := by
  pointwise [k0_pay1]

variable (m : (ℓ : Loc nD τ sig) → Buf (Elt Ideal) ℓ) (c : Dev nD)

theorem idx0 : ∀ t : Fin cfg0.N, win0_0.index t = ![t.val, 1] := (by decide +kernel : ∀ t : Fin grid0.N, win0_0.index t = ![t.val, 1])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])

/-- Row `x` of block `t`. -/
abbrev rr (t : Fin cfg0.N) (x : Fin 256) : Fin 4096 := rowOf t.val t.isLt x

theorem b0 (t : Fin cfg0.N) (x : Fin 256) (l : Fin 512) : (X0_0 m c t : S256x512.Idx → EReal) (ix2 x l) = lat (m (c, main_arg0)) (rr t x) l := by
  unfold lat rr rowOf X0_0 Pipeline.Window.fill
  rw [dif_pos (moved0_0 t _)]
  blk_simp [iblk]
  show V m c main_arg0 _ = V m c main_arg0 _
  generalize V m c main_arg0 = U
  blk_ext [idx0 t]

theorem b1 (t : Fin cfg0.N) (l : Fin 512) : (iblk m c 1 t : S1x512.Idx → EReal) (ix2 0 l) = (m (c, main_arg1) : S1x512.Idx → EReal) (ix2 0 l) := by
  blk_simp [iblk]
  show V m c main_arg1 _ = V m c main_arg1 _
  generalize V m c main_arg1 = U
  blk_ext [idx1 t]

theorem b2 (t : Fin cfg0.N) (x : Fin 256) (l : Fin 512) : (iblk m c 2 t : S256x512.Idx → EReal) (ix2 x l) = (m (c, main_arg2) : S4096x512.Idx → EReal) (ix2 (rr t x) l) := by
  unfold rr rowOf
  blk_simp [iblk]
  show V m c main_arg2 _ = V m c main_arg2 _
  generalize V m c main_arg2 = U
  blk_ext [idx2 t]

theorem emb3 (t : Fin cfg0.N) (x : Fin 256) (l : Fin 512) : ((View.whole main_v0_0).slice (win0_3.rect t)).emb (ix2 x l) = ix2 (rr t x) l := by
  unfold rr rowOf
  blk_ext [idx3 t]

theorem emb4 (t : Fin cfg0.N) (l : Fin 512) : ((View.whole main_v0_1).slice (win0_4.rect t)).emb (ix2 0 l) = ix2 0 l := by
  blk_ext [idx4 t]

theorem in_at (t : Fin cfg0.N) (x : Fin 256) (l : Fin 512) :
    k0_pay6 (F := Ideal) (X0_0 m c t) (iblk m c 1 t) (iblk m c 2 t) (ix2 x l) = din (m (c, main_arg0)) (m (c, main_arg1)) (m (c, main_arg2)) (rr t x) l :=
  (pay6_apply _ _ _ x l).trans (congrArg₂ (dnorm W · · l) (funext fun k => b0 m c t x k)
    (funext fun k => congrArg₂ (fun a b : EReal => a * b) (b2 m c t x k) (b1 m c t k)))

theorem gain_at (t : Fin cfg0.N) (l : Fin 512) :
    k0_pay5 (F := Ideal) (X0_0 m c t) (iblk m c 2 t) (ix2 0 l) = ∑ x : Fin 256, dgain (m (c, main_arg0)) (m (c, main_arg2)) (rr t x) l :=
  (pay5_apply _ _ l).trans (Finset.sum_congr rfl fun x _ => congrArg₂ (fun (f : Fin 512 → EReal) a => xhat W f l * a) (funext fun k => b0 m c t x k) (b2 m c t x l))

theorem final3 : (dats m 0 c).arrAt 3 (cfgs 0).N = (fun j => din (m (c, main_arg0)) (m (c, main_arg1)) (m (c, main_arg2)) (j 0) (j 1)) := by
  refine (dats m 0 c).arrAt_eq_of_covers 3 _ (by decide +kernel) fun t hf y => ?_
  blk_simp
  rw [after0_3]
  obtain ⟨x, l, rfl⟩ : ∃ (x : Fin 256) (l : Fin 512), y = ix2 x l := ⟨y 0, y 1, by pointwise⟩
  rw [emb3]
  refine Eq.trans ?_ (in_at m c t x l)
  by_cases h0 : t.val % 16 = 0
  · rw [outsAt0_A m c t h0]
    frame_out
  · rw [outsAt0_B m c t h0]
    frame_out

theorem gainA (t : Fin cfg0.N) (h0 : t.val % 16 = 0) (l : Fin 512) :
    (outsAt0 m c t.val t.isLt).2 (ix2 0 l) = 0 + ∑ x : Fin 256, dgain (m (c, main_arg0)) (m (c, main_arg2)) (rr t x) l := by
  have hg := gain_at m c t l
  rw [outsAt0_A m c t h0]
  frame_out
  generalize k0_pay5 (F := Ideal) _ _ = D at hg ⊢
  exact (pay2_apply _ _ l).trans (congrArg₂ (· + ·) (pay1_apply l) hg)

theorem gainB (t : Fin cfg0.N) (h0 : ¬ t.val % 16 = 0) (l : Fin 512) :
    (outsAt0 m c t.val t.isLt).2 (ix2 0 l) = (outsAt0 m c (t.val - 1) (Nat.lt_of_le_of_lt (Nat.sub_le _ _) t.isLt)).2 (ix2 0 l)
      + ∑ x : Fin 256, dgain (m (c, main_arg0)) (m (c, main_arg2)) (rr t x) l := by
  have hg := gain_at m c t l
  rw [outsAt0_B m c t h0]
  frame_out
  generalize k0_pay5 (F := Ideal) _ _ = D at hg ⊢
  exact (pay2_apply _ _ l).trans (congrArg₂ (· + ·) rfl hg)

theorem final4 : (dats m 0 c).arrAt 4 (cfgs 0).N = (fun j => ∑ n : Fin 4096, dgain (m (c, main_arg0)) (m (c, main_arg2)) n (j 1)) := by
  refine (dats m 0 c).arrAt_eq_of_covers 4 _ (by decide +kernel) fun t hf y => ?_
  blk_simp
  rw [after0_4]
  obtain ⟨l, rfl⟩ := row_ix (w := 512) y
  rw [emb4]
  exact run_sum (M := cfg0.N) rfl (fun n h => (outsAt0 m c n h).2) (dgain (m (c, main_arg0)) (m (c, main_arg2))) (gainA m c) (gainB m c) t ((flush0_4 t).mp hf) l

end Cert.KernelQnIdeal.Row

namespace Cert.ReferenceQnIdeal.Row

open Cert.ReferenceQnIdeal Cert.ReferenceQnIdeal.Read Cert.Norm Cert.KernelQnIdeal.Row

variable [Cert.ReferenceQnIdeal.Facts]
variable (x0 : FVec Ideal S4096x3456 .f32) (x1 : FVec Ideal S1x512 .f32) (x2 : FVec Ideal S4096x512 .f32)

theorem v7_at (n : Fin 4096) (z : Fin 1) : val_main_v7 (F := Ideal) x0 (ix2 n z) = ms W (lat x0 n) := by
  pointwise [val_main_v7, val_main_v6, val_main_v5, val_main_v4, val_main_v3, val_main_v2, val_main_v1, val_main_v0, val_main_cst, val_main_cst_0, val_main_cst_1]
  rfl

theorem v8_at (n : Fin 4096) (z : Fin 1) : val_main_v8 (F := Ideal) x0 (ix2 n z) = rs W (lat x0 n) :=
  congrArg Ideal.rsqrt (v7_at x0 n z)

theorem v34_at (j : S4096x512.Idx) : val_main_v34 (F := Ideal) x0 x1 x2 j = din x0 x1 x2 (j 0) (j 1) := by
  obtain ⟨n, l, rfl⟩ : ∃ (n : Fin 4096) (l : Fin 512), j = ix2 n l := ⟨j 0, j 1, by pointwise⟩
  have h7 := v7_at x0 n
  have h8 := v8_at x0 n
  unfold val_main_v34 val_main_v33 val_main_v32 val_main_v31 val_main_v30 val_main_v29 val_main_v28 val_main_v26 val_main_v25 val_main_v24 val_main_v11 val_main_v9
  generalize val_main_v7 (F := Ideal) x0 = P at h7 ⊢
  generalize val_main_v8 (F := Ideal) x0 = Q at h8 ⊢
  pointwise [val_main_v23, val_main_v22, val_main_v21, val_main_v20, val_main_v19, val_main_v27, val_main_v10, val_main_v0, val_main_cst_2, val_main_cst_4, val_main_cst_5, val_main_cst_6]
  simp only [h7, h8]
  rfl

theorem v18_at (j : S1x512.Idx) : val_main_v18 (F := Ideal) x0 x2 j = ∑ n : Fin 4096, dgain x0 x2 n (j 1) := by
  obtain ⟨l, rfl⟩ := row_ix (w := 512) j
  have h8 := v8_at x0
  unfold val_main_v18 val_main_v17 val_main_v16 val_main_v13 val_main_v12
  generalize val_main_v8 (F := Ideal) x0 = Q at h8 ⊢
  pointwise [val_main_v0, val_main_cst_3]
  simp only [h8]
  rfl

end Cert.ReferenceQnIdeal.Row

namespace Cert.Proof.Row

theorem frame_Qn : Cert.quiescent_ReferenceQnIdeal := by
  intro m g _
  exact (θ_run Cert.ReferenceQnIdeal.defs _ _).mono (fun r h => ⟨fun c => (h c).2.2, sem_eq_zero_of_no_sems (by decide) r.2⟩)
    (Cert.ReferenceQnIdeal.Value.run m g)

theorem algebraic_Qn : Cert.algebraic_KernelQnIdeal_ReferenceQnIdeal := by
  pair_intro
  · run_from Cert.KernelQnIdeal.Value.run_blocks m g
  · refine (θ_run Cert.ReferenceQnIdeal.defs _ _).mono (fun r h c => ?_) (Cert.ReferenceQnIdeal.Value.run m' g')
    obtain ⟨e0, e1, e2⟩ := hagree c
    refine ⟨((h c).1.trans (Cert.ReferenceQnIdeal.Read.val_main_v34_eq _ _)).trans ?_, ((h c).2.1.trans (Cert.ReferenceQnIdeal.Read.val_main_v18_eq _ _)).trans ?_, (h c).2.2⟩
    · exact (congrArg₂ (fun f a => f a) (congrArg₂ (Cert.ReferenceQnIdeal.Read.val_main_v34 (F := Ideal)) e0 e1) e2).trans
        ((funext (Cert.ReferenceQnIdeal.Row.v34_at _ _ _)).trans (Cert.KernelQnIdeal.Row.final3 m c).symm)
    · exact (congrArg₂ (Cert.ReferenceQnIdeal.Read.val_main_v18 (F := Ideal)) e0 e2).trans
        ((funext (Cert.ReferenceQnIdeal.Row.v18_at _ _)).trans (Cert.KernelQnIdeal.Row.final4 m c).symm)

end Cert.Proof.Row

end
-- ==== Proof.Row.Kvn.lean ====
module

public import proofs.«01_k».proof.Defs
public import proofs.«01_k».proof.Proof.Math.Norm
public import proofs.«01_k».proof.Proof.Gen.KernelKvn.Frame
public import proofs.«01_k».proof.Proof.Gen.KernelKvnIdeal.Value
public import proofs.«01_k».proof.Proof.Gen.ReferenceKvnIdeal.Run
public import proofs.«01_k».proof.Proof.Gen.ReferenceKvnIdeal.Read
public import Idealize.ShloMosaic.Lib.Pointwise
public import Idealize.ShloMosaic.Lib.Pipeline.ValueKit
public import Idealize.ShloMosaic.Lib.Claim

/-! The gradient of the key-value latent's norm. -/

@[expose] public section

set_option maxRecDepth 16384

noncomputable section

open Idealize.ShloMosaic Idealize.ShloMosaic.TcCoe Idealize.SL.Sem

namespace Cert.KernelKvnIdeal.Row

open Cert.KernelKvnIdeal Cert.KernelKvnIdeal.Gen Cert.Norm

/-- The row's width, as the kernel and the reference divide by it. -/
abbrev W : EReal := Ideal.ofBits .f32 0x43800000#32

section spec

variable (x0 : FVec Ideal S4096x3456 .f32) (x1 : FVec Ideal S1x256 .f32) (x2 : FVec Ideal S4096x256 .f32)

/-- A row of the latent, the gradient through the gain, and the two results. -/
def lat (n : Fin 4096) (k : Fin 256) : EReal := x0 (ix2 n ⟨3072 + k.val, by omega⟩)
def thr (n : Fin 4096) (k : Fin 256) : EReal := x2 (ix2 n k) * x1 (ix2 0 k)
def din (n : Fin 4096) (l : Fin 256) : EReal := dnorm W (lat x0 n) (thr x1 x2 n) l
def dgain (n : Fin 4096) (l : Fin 256) : EReal := xhat W (lat x0 n) l * x2 (ix2 n l)

end spec

variable [Cert.KernelKvnIdeal.Facts]

theorem pay5_apply (v0 v2 : Vec Ideal S256x256 .f32) (l : Fin 256) : k0_pay5 v0 v2 (ix2 0 l) = ∑ x : Fin 256, xhat W (fun k => v0 (ix2 x k)) l * v2 (ix2 x l) := by
  pointwise [k0_pay5, k0_pay4, k0_pay3]
  rfl

theorem pay6_apply (v0 v2 : Vec Ideal S256x256 .f32) (v1 : Vec Ideal S1x256 .f32) (x : Fin 256) (l : Fin 256) :
    k0_pay6 v0 v1 v2 (ix2 x l) = dnorm W (fun k => v0 (ix2 x k)) (fun k => v2 (ix2 x k) * v1 (ix2 0 k)) l := by
  have h3 : ∀ z : Fin 1, k0_pay3 v0 (ix2 x z) = ms W (fun k => v0 (ix2 x k)) := fun z => by
    pointwise [k0_pay3]
    rfl
  have h4 : ∀ z : Fin 1, k0_pay4 v0 (ix2 x z) = rs W (fun k => v0 (ix2 x k)) := fun z => congrArg Ideal.rsqrt (h3 z)
  unfold k0_pay6
  generalize k0_pay3 v0 = P at h3 ⊢
  generalize k0_pay4 v0 = Q at h4 ⊢
  pointwise
  simp only [h3, h4]
  rfl

theorem pay2_apply (D v : Vec Ideal S1x256 .f32) (l : Fin 256) : k0_pay2 D v (ix2 0 l) = v (ix2 0 l) + D (ix2 0 l) := by
  pointwise [k0_pay2]

theorem pay1_apply (l : Fin 256) : k0_pay1 (F := Ideal) (ix2 0 l) = 0 := by
  pointwise [k0_pay1]

variable (m : (ℓ : Loc nD τ sig) → Buf (Elt Ideal) ℓ) (c : Dev nD)

theorem idx0 : ∀ t : Fin cfg0.N, win0_0.index t = ![t.val, 12] := (by decide +kernel : ∀ t : Fin grid0.N, win0_0.index t = ![t.val, 12])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])

/-- Row `x` of block `t`. -/
abbrev rr (t : Fin cfg0.N) (x : Fin 256) : Fin 4096 := rowOf t.val t.isLt x

theorem b0 (t : Fin cfg0.N) (x : Fin 256) (l : Fin 256) : (X0_0 m c t : S256x256.Idx → EReal) (ix2 x l) = lat (m (c, main_arg0)) (rr t x) l := by
  unfold lat rr rowOf X0_0 Pipeline.Window.fill
  rw [dif_pos (moved0_0 t _)]
  blk_simp [iblk]
  show V m c main_arg0 _ = V m c main_arg0 _
  generalize V m c main_arg0 = U
  blk_ext [idx0 t]

theorem b1 (t : Fin cfg0.N) (l : Fin 256) : (iblk m c 1 t : S1x256.Idx → EReal) (ix2 0 l) = (m (c, main_arg1) : S1x256.Idx → EReal) (ix2 0 l) := by
  blk_simp [iblk]
  show V m c main_arg1 _ = V m c main_arg1 _
  generalize V m c main_arg1 = U
  blk_ext [idx1 t]

theorem b2 (t : Fin cfg0.N) (x : Fin 256) (l : Fin 256) : (iblk m c 2 t : S256x256.Idx → EReal) (ix2 x l) = (m (c, main_arg2) : S4096x256.Idx → EReal) (ix2 (rr t x) l) := by
  unfold rr rowOf
  blk_simp [iblk]
  show V m c main_arg2 _ = V m c main_arg2 _
  generalize V m c main_arg2 = U
  blk_ext [idx2 t]

theorem emb3 (t : Fin cfg0.N) (x : Fin 256) (l : Fin 256) : ((View.whole main_v0_0).slice (win0_3.rect t)).emb (ix2 x l) = ix2 (rr t x) l := by
  unfold rr rowOf
  blk_ext [idx3 t]

theorem emb4 (t : Fin cfg0.N) (l : Fin 256) : ((View.whole main_v0_1).slice (win0_4.rect t)).emb (ix2 0 l) = ix2 0 l := by
  blk_ext [idx4 t]

theorem in_at (t : Fin cfg0.N) (x : Fin 256) (l : Fin 256) :
    k0_pay6 (F := Ideal) (X0_0 m c t) (iblk m c 1 t) (iblk m c 2 t) (ix2 x l) = din (m (c, main_arg0)) (m (c, main_arg1)) (m (c, main_arg2)) (rr t x) l :=
  (pay6_apply _ _ _ x l).trans (congrArg₂ (dnorm W · · l) (funext fun k => b0 m c t x k)
    (funext fun k => congrArg₂ (fun a b : EReal => a * b) (b2 m c t x k) (b1 m c t k)))

theorem gain_at (t : Fin cfg0.N) (l : Fin 256) :
    k0_pay5 (F := Ideal) (X0_0 m c t) (iblk m c 2 t) (ix2 0 l) = ∑ x : Fin 256, dgain (m (c, main_arg0)) (m (c, main_arg2)) (rr t x) l :=
  (pay5_apply _ _ l).trans (Finset.sum_congr rfl fun x _ => congrArg₂ (fun (f : Fin 256 → EReal) a => xhat W f l * a) (funext fun k => b0 m c t x k) (b2 m c t x l))

theorem final3 : (dats m 0 c).arrAt 3 (cfgs 0).N = (fun j => din (m (c, main_arg0)) (m (c, main_arg1)) (m (c, main_arg2)) (j 0) (j 1)) := by
  refine (dats m 0 c).arrAt_eq_of_covers 3 _ (by decide +kernel) fun t hf y => ?_
  blk_simp
  rw [after0_3]
  obtain ⟨x, l, rfl⟩ : ∃ (x : Fin 256) (l : Fin 256), y = ix2 x l := ⟨y 0, y 1, by pointwise⟩
  rw [emb3]
  refine Eq.trans ?_ (in_at m c t x l)
  by_cases h0 : t.val % 16 = 0
  · rw [outsAt0_A m c t h0]
    frame_out
  · rw [outsAt0_B m c t h0]
    frame_out

theorem gainA (t : Fin cfg0.N) (h0 : t.val % 16 = 0) (l : Fin 256) :
    (outsAt0 m c t.val t.isLt).2 (ix2 0 l) = 0 + ∑ x : Fin 256, dgain (m (c, main_arg0)) (m (c, main_arg2)) (rr t x) l := by
  have hg := gain_at m c t l
  rw [outsAt0_A m c t h0]
  frame_out
  generalize k0_pay5 (F := Ideal) _ _ = D at hg ⊢
  exact (pay2_apply _ _ l).trans (congrArg₂ (· + ·) (pay1_apply l) hg)

theorem gainB (t : Fin cfg0.N) (h0 : ¬ t.val % 16 = 0) (l : Fin 256) :
    (outsAt0 m c t.val t.isLt).2 (ix2 0 l) = (outsAt0 m c (t.val - 1) (Nat.lt_of_le_of_lt (Nat.sub_le _ _) t.isLt)).2 (ix2 0 l)
      + ∑ x : Fin 256, dgain (m (c, main_arg0)) (m (c, main_arg2)) (rr t x) l := by
  have hg := gain_at m c t l
  rw [outsAt0_B m c t h0]
  frame_out
  generalize k0_pay5 (F := Ideal) _ _ = D at hg ⊢
  exact (pay2_apply _ _ l).trans (congrArg₂ (· + ·) rfl hg)

theorem final4 : (dats m 0 c).arrAt 4 (cfgs 0).N = (fun j => ∑ n : Fin 4096, dgain (m (c, main_arg0)) (m (c, main_arg2)) n (j 1)) := by
  refine (dats m 0 c).arrAt_eq_of_covers 4 _ (by decide +kernel) fun t hf y => ?_
  blk_simp
  rw [after0_4]
  obtain ⟨l, rfl⟩ := row_ix (w := 256) y
  rw [emb4]
  exact run_sum (M := cfg0.N) rfl (fun n h => (outsAt0 m c n h).2) (dgain (m (c, main_arg0)) (m (c, main_arg2))) (gainA m c) (gainB m c) t ((flush0_4 t).mp hf) l

end Cert.KernelKvnIdeal.Row

namespace Cert.ReferenceKvnIdeal.Row

open Cert.ReferenceKvnIdeal Cert.ReferenceKvnIdeal.Read Cert.Norm Cert.KernelKvnIdeal.Row

variable [Cert.ReferenceKvnIdeal.Facts]
variable (x0 : FVec Ideal S4096x3456 .f32) (x1 : FVec Ideal S1x256 .f32) (x2 : FVec Ideal S4096x256 .f32)

theorem v7_at (n : Fin 4096) (z : Fin 1) : val_main_v7 (F := Ideal) x0 (ix2 n z) = ms W (lat x0 n) := by
  pointwise [val_main_v7, val_main_v6, val_main_v5, val_main_v4, val_main_v3, val_main_v2, val_main_v1, val_main_v0, val_main_cst, val_main_cst_0, val_main_cst_1]
  rfl

theorem v8_at (n : Fin 4096) (z : Fin 1) : val_main_v8 (F := Ideal) x0 (ix2 n z) = rs W (lat x0 n) :=
  congrArg Ideal.rsqrt (v7_at x0 n z)

theorem v34_at (j : S4096x256.Idx) : val_main_v34 (F := Ideal) x0 x1 x2 j = din x0 x1 x2 (j 0) (j 1) := by
  obtain ⟨n, l, rfl⟩ : ∃ (n : Fin 4096) (l : Fin 256), j = ix2 n l := ⟨j 0, j 1, by pointwise⟩
  have h7 := v7_at x0 n
  have h8 := v8_at x0 n
  unfold val_main_v34 val_main_v33 val_main_v32 val_main_v31 val_main_v30 val_main_v29 val_main_v28 val_main_v26 val_main_v25 val_main_v24 val_main_v11 val_main_v9
  generalize val_main_v7 (F := Ideal) x0 = P at h7 ⊢
  generalize val_main_v8 (F := Ideal) x0 = Q at h8 ⊢
  pointwise [val_main_v23, val_main_v22, val_main_v21, val_main_v20, val_main_v19, val_main_v27, val_main_v10, val_main_v0, val_main_cst_2, val_main_cst_4, val_main_cst_5, val_main_cst_6]
  simp only [h7, h8]
  rfl

theorem v18_at (j : S1x256.Idx) : val_main_v18 (F := Ideal) x0 x2 j = ∑ n : Fin 4096, dgain x0 x2 n (j 1) := by
  obtain ⟨l, rfl⟩ := row_ix (w := 256) j
  have h8 := v8_at x0
  unfold val_main_v18 val_main_v17 val_main_v16 val_main_v13 val_main_v12
  generalize val_main_v8 (F := Ideal) x0 = Q at h8 ⊢
  pointwise [val_main_v0, val_main_cst_3]
  simp only [h8]
  rfl

end Cert.ReferenceKvnIdeal.Row

namespace Cert.Proof.Row

theorem frame_Kvn : Cert.quiescent_ReferenceKvnIdeal := by
  intro m g _
  exact (θ_run Cert.ReferenceKvnIdeal.defs _ _).mono (fun r h => ⟨fun c => (h c).2.2, sem_eq_zero_of_no_sems (by decide) r.2⟩)
    (Cert.ReferenceKvnIdeal.Value.run m g)

theorem algebraic_Kvn : Cert.algebraic_KernelKvnIdeal_ReferenceKvnIdeal := by
  pair_intro
  · run_from Cert.KernelKvnIdeal.Value.run_blocks m g
  · refine (θ_run Cert.ReferenceKvnIdeal.defs _ _).mono (fun r h c => ?_) (Cert.ReferenceKvnIdeal.Value.run m' g')
    obtain ⟨e0, e1, e2⟩ := hagree c
    refine ⟨((h c).1.trans (Cert.ReferenceKvnIdeal.Read.val_main_v34_eq _ _)).trans ?_, ((h c).2.1.trans (Cert.ReferenceKvnIdeal.Read.val_main_v18_eq _ _)).trans ?_, (h c).2.2⟩
    · exact (congrArg₂ (fun f a => f a) (congrArg₂ (Cert.ReferenceKvnIdeal.Read.val_main_v34 (F := Ideal)) e0 e1) e2).trans
        ((funext (Cert.ReferenceKvnIdeal.Row.v34_at _ _ _)).trans (Cert.KernelKvnIdeal.Row.final3 m c).symm)
    · exact (congrArg₂ (Cert.ReferenceKvnIdeal.Read.val_main_v18 (F := Ideal)) e0 e2).trans
        ((funext (Cert.ReferenceKvnIdeal.Row.v18_at _ _)).trans (Cert.KernelKvnIdeal.Row.final4 m c).symm)

end Cert.Proof.Row

end
-- ==== Proof.Row.Post.lean ====
module

public import proofs.«01_k».proof.Defs
public import proofs.«01_k».proof.Proof.Math.Norm
public import proofs.«01_k».proof.Proof.Gen.KernelPost.Frame
public import proofs.«01_k».proof.Proof.Gen.KernelPostIdeal.Value
public import proofs.«01_k».proof.Proof.Gen.ReferencePostIdeal.Run
public import proofs.«01_k».proof.Proof.Gen.ReferencePostIdeal.Read
public import Idealize.ShloMosaic.Lib.Pointwise
public import Idealize.ShloMosaic.Lib.Pipeline.ValueKit
public import Idealize.ShloMosaic.Lib.Claim

/-! The gradient of a branch's norm and its gated sum with the stream. -/

@[expose] public section

set_option maxRecDepth 16384

noncomputable section

open Idealize.ShloMosaic Idealize.ShloMosaic.TcCoe Idealize.SL.Sem

namespace Cert.KernelPostIdeal.Row

open Cert.KernelPostIdeal Cert.KernelPostIdeal.Gen Cert.Norm

/-- The row's width, as the kernel and the reference divide by it. -/
abbrev W : EReal := Ideal.ofBits .f32 0x45000000#32

section spec

variable (y : FVec Ideal S4096x2048 .f32) (gain gate : FVec Ideal S1x2048 .f32) (d : FVec Ideal S4096x2048 .f32)

/-- A row of the branch, the gradient through the gate and the gain, and the three results of the norm. -/
def row (n : Fin 4096) (k : Fin 2048) : EReal := y (ix2 n k)
def thr (n : Fin 4096) (k : Fin 2048) : EReal := gate (ix2 0 k) * d (ix2 n k) * gain (ix2 0 k)
def dy (n : Fin 4096) (l : Fin 2048) : EReal := dnorm W (row y n) (thr gain gate d n) l
def dgain (n : Fin 4096) (l : Fin 2048) : EReal := xhat W (row y n) l * (gate (ix2 0 l) * d (ix2 n l))
def dgate (n : Fin 4096) (l : Fin 2048) : EReal := d (ix2 n l) * (xhat W (row y n) l * gain (ix2 0 l))

end spec

variable [Cert.KernelPostIdeal.Facts]

section block

variable (v0 v3 : Vec Ideal S256x2048 .f32) (v1 v2 : Vec Ideal S1x2048 .f32)

theorem pay6_apply (x : Fin 256) (z : Fin 1) : k0_pay6 v0 (ix2 x z) = ms W (fun k => v0 (ix2 x k)) := by
  pointwise [k0_pay6]
  rfl

theorem pay7_apply (x : Fin 256) (z : Fin 1) : k0_pay7 v0 (ix2 x z) = rs W (fun k => v0 (ix2 x k)) := congrArg Ideal.rsqrt (pay6_apply v0 x z)

theorem pay12_apply (l : Fin 2048) : k0_pay12 v0 v2 v3 (ix2 0 l) = ∑ x : Fin 256, xhat W (fun k => v0 (ix2 x k)) l * (v2 (ix2 0 l) * v3 (ix2 x l)) := by
  have h7 := pay7_apply v0
  unfold k0_pay12 k0_pay8
  generalize k0_pay7 v0 = Q at h7 ⊢
  pointwise [k0_pay10, k0_pay9]
  simp only [h7]
  rfl

theorem pay11_apply (l : Fin 2048) : k0_pay11 v0 v1 v3 (ix2 0 l) = ∑ x : Fin 256, v3 (ix2 x l) * (xhat W (fun k => v0 (ix2 x k)) l * v1 (ix2 0 l)) := by
  have h7 := pay7_apply v0
  unfold k0_pay11 k0_pay8
  generalize k0_pay7 v0 = Q at h7 ⊢
  pointwise [k0_pay9]
  simp only [h7]
  rfl

theorem pay1_apply (x : Fin 256) (l : Fin 2048) :
    k0_pay1 v0 (k0_pay14 v0 v1 v2 v3) (k0_pay15 v0 v1 v2 v3) (k0_pay16 v0 v1 v2 v3) (ix2 x l) =
      dnorm W (fun k => v0 (ix2 x k)) (fun k => v2 (ix2 0 k) * v3 (ix2 x k) * v1 (ix2 0 k)) l := by
  have h6 := pay6_apply v0 x
  have h7 := pay7_apply v0 x
  unfold k0_pay16 k0_pay15 k0_pay14
  generalize k0_pay6 v0 = P at h6 ⊢
  generalize k0_pay7 v0 = Q at h7 ⊢
  pointwise [k0_pay1, k0_pay13, k0_pay10, k0_pay9]
  simp only [h6, h7]
  rfl

end block

theorem pay4_apply (D v : Vec Ideal S1x2048 .f32) (l : Fin 2048) : k0_pay4 D v (ix2 0 l) = v (ix2 0 l) + D (ix2 0 l) := by
  pointwise [k0_pay4]

theorem pay5_apply (D v : Vec Ideal S1x2048 .f32) (l : Fin 2048) : k0_pay5 D v (ix2 0 l) = v (ix2 0 l) + D (ix2 0 l) := by
  pointwise [k0_pay5]

theorem pay2_apply (l : Fin 2048) : k0_pay2 (F := Ideal) (ix2 0 l) = 0 := by
  pointwise [k0_pay2]

theorem pay3_apply (l : Fin 2048) : k0_pay3 (F := Ideal) (ix2 0 l) = 0 := by
  pointwise [k0_pay3]

variable (m : (ℓ : Loc nD τ sig) → Buf (Elt Ideal) ℓ) (c : Dev nD)

theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])

/-- Row `x` of block `t`. -/
abbrev rr (t : Fin cfg0.N) (x : Fin 256) : Fin 4096 := rowOf t.val t.isLt x

theorem b1 (t : Fin cfg0.N) (x : Fin 256) (l : Fin 2048) : (iblk m c 1 t : S256x2048.Idx → EReal) (ix2 x l) = (m (c, main_arg1) : S4096x2048.Idx → EReal) (ix2 (rr t x) l) := by
  unfold rr rowOf
  blk_simp [iblk]
  show V m c main_arg1 _ = V m c main_arg1 _
  generalize V m c main_arg1 = U
  blk_ext [idx1 t]

theorem b4 (t : Fin cfg0.N) (x : Fin 256) (l : Fin 2048) : (iblk m c 4 t : S256x2048.Idx → EReal) (ix2 x l) = (m (c, main_arg4) : S4096x2048.Idx → EReal) (ix2 (rr t x) l) := by
  unfold rr rowOf
  blk_simp [iblk]
  show V m c main_arg4 _ = V m c main_arg4 _
  generalize V m c main_arg4 = U
  blk_ext [idx4 t]

theorem b2 (t : Fin cfg0.N) (l : Fin 2048) : (iblk m c 2 t : S1x2048.Idx → EReal) (ix2 0 l) = (m (c, main_arg2) : S1x2048.Idx → EReal) (ix2 0 l) := by
  blk_simp [iblk]
  show V m c main_arg2 _ = V m c main_arg2 _
  generalize V m c main_arg2 = U
  blk_ext [idx2 t]

theorem b3 (t : Fin cfg0.N) (l : Fin 2048) : (iblk m c 3 t : S1x2048.Idx → EReal) (ix2 0 l) = (m (c, main_arg3) : S1x2048.Idx → EReal) (ix2 0 l) := by
  blk_simp [iblk]
  show V m c main_arg3 _ = V m c main_arg3 _
  generalize V m c main_arg3 = U
  blk_ext [idx3 t]

theorem emb5 (t : Fin cfg0.N) (x : Fin 256) (l : Fin 2048) : ((View.whole main_v0_0).slice (win0_5.rect t)).emb (ix2 x l) = ix2 (rr t x) l := by
  unfold rr rowOf
  blk_ext [idx5 t]

theorem emb6 (t : Fin cfg0.N) (x : Fin 256) (l : Fin 2048) : ((View.whole main_v0_1).slice (win0_6.rect t)).emb (ix2 x l) = ix2 (rr t x) l := by
  unfold rr rowOf
  blk_ext [idx6 t]

theorem emb7 (t : Fin cfg0.N) (l : Fin 2048) : ((View.whole main_v0_2).slice (win0_7.rect t)).emb (ix2 0 l) = ix2 0 l := by
  blk_ext [idx7 t]

theorem emb8 (t : Fin cfg0.N) (l : Fin 2048) : ((View.whole main_v0_3).slice (win0_8.rect t)).emb (ix2 0 l) = ix2 0 l := by
  blk_ext [idx8 t]

theorem in_at (t : Fin cfg0.N) (x : Fin 256) (l : Fin 2048) :
    k0_pay1 (F := Ideal) (iblk m c 1 t) (k0_pay14 (iblk m c 1 t) (iblk m c 2 t) (iblk m c 3 t) (iblk m c 4 t)) (k0_pay15 (iblk m c 1 t) (iblk m c 2 t) (iblk m c 3 t) (iblk m c 4 t))
      (k0_pay16 (iblk m c 1 t) (iblk m c 2 t) (iblk m c 3 t) (iblk m c 4 t)) (ix2 x l) = dy (m (c, main_arg1)) (m (c, main_arg2)) (m (c, main_arg3)) (m (c, main_arg4)) (rr t x) l :=
  (pay1_apply _ _ _ _ x l).trans (congrArg₂ (dnorm W · · l) (funext fun k => b1 m c t x k)
    (funext fun k => congrArg₂ (fun a b : EReal => a * b) (congrArg₂ (fun a b : EReal => a * b) (b3 m c t k) (b4 m c t x k)) (b2 m c t k)))

theorem gain_at (t : Fin cfg0.N) (l : Fin 2048) :
    k0_pay12 (F := Ideal) (iblk m c 1 t) (iblk m c 3 t) (iblk m c 4 t) (ix2 0 l) = ∑ x : Fin 256, dgain (m (c, main_arg1)) (m (c, main_arg3)) (m (c, main_arg4)) (rr t x) l :=
  (pay12_apply _ _ _ l).trans (Finset.sum_congr rfl fun x _ => congrArg₂ (fun (f : Fin 2048 → EReal) a => xhat W f l * a) (funext fun k => b1 m c t x k)
    (congrArg₂ (fun a b : EReal => a * b) (b3 m c t l) (b4 m c t x l)))

theorem gate_at (t : Fin cfg0.N) (l : Fin 2048) :
    k0_pay11 (F := Ideal) (iblk m c 1 t) (iblk m c 2 t) (iblk m c 4 t) (ix2 0 l) = ∑ x : Fin 256, dgate (m (c, main_arg1)) (m (c, main_arg2)) (m (c, main_arg4)) (rr t x) l :=
  (pay11_apply _ _ _ l).trans (Finset.sum_congr rfl fun x _ => congrArg₂ (fun a b : EReal => a * b) (b4 m c t x l)
    (congrArg₂ (fun (f : Fin 2048 → EReal) a => xhat W f l * a) (funext fun k => b1 m c t x k) (b2 m c t l)))

theorem final5 : (dats m 0 c).arrAt 5 (cfgs 0).N = m (c, main_arg4) := by
  refine (dats m 0 c).arrAt_eq_of_covers 5 _ (by decide +kernel) fun t hf y => ?_
  blk_simp
  rw [after0_5]
  obtain ⟨x, l, rfl⟩ : ∃ (x : Fin 256) (l : Fin 2048), y = ix2 x l := ⟨y 0, y 1, by pointwise⟩
  rw [emb5]
  refine Eq.trans ?_ (b4 m c t x l)
  by_cases h0 : t.val % 16 = 0
  · rw [outsAt0_A m c t h0]
    frame_out
  · rw [outsAt0_B m c t h0]
    frame_out

theorem final6 : (dats m 0 c).arrAt 6 (cfgs 0).N = (fun j => dy (m (c, main_arg1)) (m (c, main_arg2)) (m (c, main_arg3)) (m (c, main_arg4)) (j 0) (j 1)) := by
  refine (dats m 0 c).arrAt_eq_of_covers 6 _ (by decide +kernel) fun t hf y => ?_
  blk_simp
  rw [after0_6]
  obtain ⟨x, l, rfl⟩ : ∃ (x : Fin 256) (l : Fin 2048), y = ix2 x l := ⟨y 0, y 1, by pointwise⟩
  rw [emb6]
  refine Eq.trans ?_ (in_at m c t x l)
  by_cases h0 : t.val % 16 = 0
  · rw [outsAt0_A m c t h0]
    frame_out
  · rw [outsAt0_B m c t h0]
    frame_out

theorem gainA (t : Fin cfg0.N) (h0 : t.val % 16 = 0) (l : Fin 2048) :
    (outsAt0 m c t.val t.isLt).2.2.1 (ix2 0 l) = 0 + ∑ x : Fin 256, dgain (m (c, main_arg1)) (m (c, main_arg3)) (m (c, main_arg4)) (rr t x) l := by
  have hg := gain_at m c t l
  rw [outsAt0_A m c t h0]
  frame_out
  generalize k0_pay12 (F := Ideal) _ _ _ = D at hg ⊢
  exact (pay4_apply _ _ l).trans (congrArg₂ (· + ·) (pay2_apply l) hg)

theorem gainB (t : Fin cfg0.N) (h0 : ¬ t.val % 16 = 0) (l : Fin 2048) :
    (outsAt0 m c t.val t.isLt).2.2.1 (ix2 0 l) = (outsAt0 m c (t.val - 1) (Nat.lt_of_le_of_lt (Nat.sub_le _ _) t.isLt)).2.2.1 (ix2 0 l)
      + ∑ x : Fin 256, dgain (m (c, main_arg1)) (m (c, main_arg3)) (m (c, main_arg4)) (rr t x) l := by
  have hg := gain_at m c t l
  rw [outsAt0_B m c t h0]
  frame_out
  generalize k0_pay12 (F := Ideal) _ _ _ = D at hg ⊢
  exact (pay4_apply _ _ l).trans (congrArg₂ (· + ·) rfl hg)

theorem final7 : (dats m 0 c).arrAt 7 (cfgs 0).N = (fun j => ∑ n : Fin 4096, dgain (m (c, main_arg1)) (m (c, main_arg3)) (m (c, main_arg4)) n (j 1)) := by
  refine (dats m 0 c).arrAt_eq_of_covers 7 _ (by decide +kernel) fun t hf y => ?_
  blk_simp
  rw [after0_7]
  obtain ⟨l, rfl⟩ := row_ix (w := 2048) y
  rw [emb7]
  exact run_sum (M := cfg0.N) rfl (fun n h => (outsAt0 m c n h).2.2.1) (dgain (m (c, main_arg1)) (m (c, main_arg3)) (m (c, main_arg4))) (gainA m c) (gainB m c) t ((flush0_7 t).mp hf) l

theorem gateA (t : Fin cfg0.N) (h0 : t.val % 16 = 0) (l : Fin 2048) :
    (outsAt0 m c t.val t.isLt).2.2.2 (ix2 0 l) = 0 + ∑ x : Fin 256, dgate (m (c, main_arg1)) (m (c, main_arg2)) (m (c, main_arg4)) (rr t x) l := by
  have hg := gate_at m c t l
  rw [outsAt0_A m c t h0]
  frame_out
  generalize k0_pay11 (F := Ideal) _ _ _ = D at hg ⊢
  exact (pay5_apply _ _ l).trans (congrArg₂ (· + ·) (pay3_apply l) hg)

theorem gateB (t : Fin cfg0.N) (h0 : ¬ t.val % 16 = 0) (l : Fin 2048) :
    (outsAt0 m c t.val t.isLt).2.2.2 (ix2 0 l) = (outsAt0 m c (t.val - 1) (Nat.lt_of_le_of_lt (Nat.sub_le _ _) t.isLt)).2.2.2 (ix2 0 l)
      + ∑ x : Fin 256, dgate (m (c, main_arg1)) (m (c, main_arg2)) (m (c, main_arg4)) (rr t x) l := by
  have hg := gate_at m c t l
  rw [outsAt0_B m c t h0]
  frame_out
  generalize k0_pay11 (F := Ideal) _ _ _ = D at hg ⊢
  exact (pay5_apply _ _ l).trans (congrArg₂ (· + ·) rfl hg)

theorem final8 : (dats m 0 c).arrAt 8 (cfgs 0).N = (fun j => ∑ n : Fin 4096, dgate (m (c, main_arg1)) (m (c, main_arg2)) (m (c, main_arg4)) n (j 1)) := by
  refine (dats m 0 c).arrAt_eq_of_covers 8 _ (by decide +kernel) fun t hf y => ?_
  blk_simp
  rw [after0_8]
  obtain ⟨l, rfl⟩ := row_ix (w := 2048) y
  rw [emb8]
  exact run_sum (M := cfg0.N) rfl (fun n h => (outsAt0 m c n h).2.2.2) (dgate (m (c, main_arg1)) (m (c, main_arg2)) (m (c, main_arg4))) (gateA m c) (gateB m c) t ((flush0_8 t).mp hf) l

end Cert.KernelPostIdeal.Row

namespace Cert.ReferencePostIdeal.Row

open Cert.ReferencePostIdeal Cert.ReferencePostIdeal.Read Cert.Norm Cert.KernelPostIdeal.Row

variable [Cert.ReferencePostIdeal.Facts]
variable (x1 : FVec Ideal S4096x2048 .f32) (x2 x3 : FVec Ideal S1x2048 .f32) (x4 : FVec Ideal S4096x2048 .f32)

theorem v6_at (n : Fin 4096) (z : Fin 1) : val_main_v6 (F := Ideal) x1 (ix2 n z) = ms W (row x1 n) := by
  pointwise [val_main_v6, val_main_v5, val_main_v4, val_main_v3, val_main_v2, val_main_v1, val_main_v0, val_main_cst, val_main_cst_0, val_main_cst_1]
  rfl

theorem v7_at (n : Fin 4096) (z : Fin 1) : val_main_v7 (F := Ideal) x1 (ix2 n z) = rs W (row x1 n) :=
  congrArg Ideal.rsqrt (v6_at x1 n z)

theorem v42_at (j : S4096x2048.Idx) : val_main_v42 (F := Ideal) x1 x2 x3 x4 j = dy x1 x2 x3 x4 (j 0) (j 1) := by
  obtain ⟨n, l, rfl⟩ : ∃ (n : Fin 4096) (l : Fin 2048), j = ix2 n l := ⟨j 0, j 1, by pointwise⟩
  have h6 := v6_at x1 n
  have h7 := v7_at x1 n
  unfold val_main_v42 val_main_v41 val_main_v40 val_main_v39 val_main_v38 val_main_v37 val_main_v36 val_main_v34 val_main_v33 val_main_v32 val_main_v10 val_main_v8
  generalize val_main_v6 (F := Ideal) x1 = P at h6 ⊢
  generalize val_main_v7 (F := Ideal) x1 = Q at h7 ⊢
  pointwise [val_main_v31, val_main_v30, val_main_v29, val_main_v28, val_main_v27, val_main_v20, val_main_v19, val_main_v18, val_main_v35, val_main_v9, val_main_cst_2, val_main_cst_5, val_main_cst_6, val_main_cst_7]
  simp only [h6, h7]
  rfl

theorem v26_at (j : S1x2048.Idx) : val_main_v26 (F := Ideal) x1 x3 x4 j = ∑ n : Fin 4096, dgain x1 x3 x4 n (j 1) := by
  obtain ⟨l, rfl⟩ := row_ix (w := 2048) j
  have h7 := v7_at x1
  unfold val_main_v26 val_main_v25 val_main_v24 val_main_v12 val_main_v11
  generalize val_main_v7 (F := Ideal) x1 = Q at h7 ⊢
  pointwise [val_main_v20, val_main_v19, val_main_v18, val_main_cst_4]
  simp only [h7]
  rfl

theorem v23_at (j : S1x2048.Idx) : val_main_v23 (F := Ideal) x1 x2 x4 j = ∑ n : Fin 4096, dgate x1 x2 x4 n (j 1) := by
  obtain ⟨l, rfl⟩ := row_ix (w := 2048) j
  have h7 := v7_at x1
  unfold val_main_v23 val_main_v22 val_main_v21 val_main_v14 val_main_v12 val_main_v11
  generalize val_main_v7 (F := Ideal) x1 = Q at h7 ⊢
  pointwise [val_main_v18, val_main_v13, val_main_cst_3]
  simp only [h7]
  rfl

end Cert.ReferencePostIdeal.Row

namespace Cert.Proof.Row

theorem frame_Post : Cert.quiescent_ReferencePostIdeal := by
  intro m g _
  exact (θ_run Cert.ReferencePostIdeal.defs _ _).mono (fun r h => ⟨fun c => (h c).2.2.2.2, sem_eq_zero_of_no_sems (by decide) r.2⟩)
    (Cert.ReferencePostIdeal.Value.run m g)

theorem algebraic_Post : Cert.algebraic_KernelPostIdeal_ReferencePostIdeal := by
  pair_intro
  · run_from Cert.KernelPostIdeal.Value.run_blocks m g
  · refine (θ_run Cert.ReferencePostIdeal.defs _ _).mono (fun r h c => ?_) (Cert.ReferencePostIdeal.Value.run m' g')
    obtain ⟨e0, e1, e2, e3, e4⟩ := hagree c
    refine ⟨(h c).1.trans ?_, ((h c).2.1.trans (Cert.ReferencePostIdeal.Read.val_main_v42_eq _ _)).trans ?_,
      ((h c).2.2.1.trans (Cert.ReferencePostIdeal.Read.val_main_v26_eq _ _ _)).trans ?_, ((h c).2.2.2.1.trans (Cert.ReferencePostIdeal.Read.val_main_v23_eq _ _ _)).trans ?_, (h c).2.2.2.2⟩
    · exact e4.trans (Cert.KernelPostIdeal.Row.final5 m c).symm
    · exact (congrArg₂ (fun f a => f a) (congrArg₂ (fun f a => f a) (congrArg₂ (Cert.ReferencePostIdeal.Read.val_main_v42 (F := Ideal)) e1 e2) e3) e4).trans
        ((funext (Cert.ReferencePostIdeal.Row.v42_at _ _ _ _)).trans (Cert.KernelPostIdeal.Row.final6 m c).symm)
    · exact (congrArg₂ (fun f a => f a) (congrArg₂ (Cert.ReferencePostIdeal.Read.val_main_v26 (F := Ideal)) e1 e3) e4).trans
        ((funext (Cert.ReferencePostIdeal.Row.v26_at _ _ _)).trans (Cert.KernelPostIdeal.Row.final7 m c).symm)
    · exact (congrArg₂ (fun f a => f a) (congrArg₂ (Cert.ReferencePostIdeal.Read.val_main_v23 (F := Ideal)) e1 e2) e4).trans
        ((funext (Cert.ReferencePostIdeal.Row.v23_at _ _ _)).trans (Cert.KernelPostIdeal.Row.final8 m c).symm)

end Cert.Proof.Row

end
-- ==== Proof.Row.Pre.lean ====
module

public import proofs.«01_k».proof.Defs
public import proofs.«01_k».proof.Proof.Math.Norm
public import proofs.«01_k».proof.Proof.Gen.KernelPre.Frame
public import proofs.«01_k».proof.Proof.Gen.KernelPreIdeal.Value
public import proofs.«01_k».proof.Proof.Gen.ReferencePreIdeal.Run
public import proofs.«01_k».proof.Proof.Gen.ReferencePreIdeal.Read
public import Idealize.ShloMosaic.Lib.Pointwise
public import Idealize.ShloMosaic.Lib.Pipeline.ValueKit
public import Idealize.ShloMosaic.Lib.Claim

/-! The gradient of the norm before a branch and of its scale and shift, with the gradient that passes the branch by added. -/

@[expose] public section

set_option maxRecDepth 16384

noncomputable section

open Idealize.ShloMosaic Idealize.ShloMosaic.TcCoe Idealize.SL.Sem

namespace Cert.KernelPreIdeal.Row

open Cert.KernelPreIdeal Cert.KernelPreIdeal.Gen Cert.Norm

/-- The row's width, as the kernel and the reference divide by it. -/
abbrev W : EReal := Ideal.ofBits .f32 0x45000000#32

section spec

variable (y : FVec Ideal S4096x2048 .f32) (gain sc : FVec Ideal S1x2048 .f32) (d e : FVec Ideal S4096x2048 .f32)

/-- A row of the stream, the gradient through the scale and the gain, and the four results. -/
def row (n : Fin 4096) (k : Fin 2048) : EReal := y (ix2 n k)
def thr (n : Fin 4096) (k : Fin 2048) : EReal := d (ix2 n k) * (1 + sc (ix2 0 k)) * gain (ix2 0 k)
def dy (n : Fin 4096) (l : Fin 2048) : EReal := dnorm W (row y n) (thr gain sc d n) l + e (ix2 n l)
def dgain (n : Fin 4096) (l : Fin 2048) : EReal := xhat W (row y n) l * (d (ix2 n l) * (1 + sc (ix2 0 l)))
def dscale (n : Fin 4096) (l : Fin 2048) : EReal := xhat W (row y n) l * gain (ix2 0 l) * d (ix2 n l)

end spec

variable [Cert.KernelPreIdeal.Facts]

section block

variable (v0 v3 v49 : Vec Ideal S256x2048 .f32) (v1 v2 : Vec Ideal S1x2048 .f32)

theorem pay8_apply (x : Fin 256) (z : Fin 1) : k0_pay8 v0 (ix2 x z) = ms W (fun k => v0 (ix2 x k)) := by
  pointwise [k0_pay8]
  rfl

theorem pay9_apply (x : Fin 256) (z : Fin 1) : k0_pay9 v0 (ix2 x z) = rs W (fun k => v0 (ix2 x k)) := congrArg Ideal.rsqrt (pay8_apply v0 x z)

theorem pay12_apply (l : Fin 2048) : k0_pay12 v3 (ix2 0 l) = ∑ x : Fin 256, v3 (ix2 x l) := by
  pointwise [k0_pay12]

theorem pay13_apply (l : Fin 2048) : k0_pay13 v0 v1 v3 (ix2 0 l) = ∑ x : Fin 256, xhat W (fun k => v0 (ix2 x k)) l * v1 (ix2 0 l) * v3 (ix2 x l) := by
  have h9 := pay9_apply v0
  unfold k0_pay13 k0_pay10
  generalize k0_pay9 v0 = Q at h9 ⊢
  pointwise [k0_pay11]
  simp only [h9]
  rfl

theorem pay15_apply (l : Fin 2048) : k0_pay15 v0 v2 v3 (ix2 0 l) = ∑ x : Fin 256, xhat W (fun k => v0 (ix2 x k)) l * (v3 (ix2 x l) * (1 + v2 (ix2 0 l))) := by
  have h9 := pay9_apply v0
  unfold k0_pay15 k0_pay10
  generalize k0_pay9 v0 = Q at h9 ⊢
  pointwise [k0_pay14, k0_pay11]
  simp only [h9]
  rfl

theorem pay1_apply (x : Fin 256) (l : Fin 2048) :
    k0_pay1 v0 (k0_pay17 v0 v1 v2 v3) (k0_pay18 v0 v1 v2 v3) k0_pay19 v49 (ix2 x l) =
      dnorm W (fun k => v0 (ix2 x k)) (fun k => v3 (ix2 x k) * (1 + v2 (ix2 0 k)) * v1 (ix2 0 k)) l + v49 (ix2 x l) := by
  have h8 := pay8_apply v0 x
  have h9 := pay9_apply v0 x
  unfold k0_pay18 k0_pay17
  generalize k0_pay8 v0 = P at h8 ⊢
  generalize k0_pay9 v0 = Q at h9 ⊢
  pointwise [k0_pay1, k0_pay19, k0_pay16, k0_pay14, k0_pay11]
  simp only [h8, h9]
  rfl

end block

theorem pay5_apply (D v : Vec Ideal S1x2048 .f32) (l : Fin 2048) : k0_pay5 D v (ix2 0 l) = v (ix2 0 l) + D (ix2 0 l) := by
  pointwise [k0_pay5]

theorem pay6_apply (D v : Vec Ideal S1x2048 .f32) (l : Fin 2048) : k0_pay6 D v (ix2 0 l) = v (ix2 0 l) + D (ix2 0 l) := by
  pointwise [k0_pay6]

theorem pay7_apply (D v : Vec Ideal S1x2048 .f32) (l : Fin 2048) : k0_pay7 D v (ix2 0 l) = v (ix2 0 l) + D (ix2 0 l) := by
  pointwise [k0_pay7]

theorem pay2_apply (l : Fin 2048) : k0_pay2 (F := Ideal) (ix2 0 l) = 0 := by
  pointwise [k0_pay2]

theorem pay3_apply (l : Fin 2048) : k0_pay3 (F := Ideal) (ix2 0 l) = 0 := by
  pointwise [k0_pay3]

theorem pay4_apply (l : Fin 2048) : k0_pay4 (F := Ideal) (ix2 0 l) = 0 := by
  pointwise [k0_pay4]

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])

/-- Row `x` of block `t`. -/
abbrev rr (t : Fin cfg0.N) (x : Fin 256) : Fin 4096 := rowOf t.val t.isLt x

theorem b0 (t : Fin cfg0.N) (x : Fin 256) (l : Fin 2048) : (iblk m c 0 t : S256x2048.Idx → EReal) (ix2 x l) = (m (c, main_arg0) : S4096x2048.Idx → EReal) (ix2 (rr t x) l) := by
  unfold rr rowOf
  blk_simp [iblk]
  show V m c main_arg0 _ = V m c main_arg0 _
  generalize V m c main_arg0 = U
  blk_ext [idx0 t]

theorem b4 (t : Fin cfg0.N) (x : Fin 256) (l : Fin 2048) : (iblk m c 4 t : S256x2048.Idx → EReal) (ix2 x l) = (m (c, main_arg4) : S4096x2048.Idx → EReal) (ix2 (rr t x) l) := by
  unfold rr rowOf
  blk_simp [iblk]
  show V m c main_arg4 _ = V m c main_arg4 _
  generalize V m c main_arg4 = U
  blk_ext [idx4 t]

theorem b5 (t : Fin cfg0.N) (x : Fin 256) (l : Fin 2048) : (iblk m c 5 t : S256x2048.Idx → EReal) (ix2 x l) = (m (c, main_arg5) : S4096x2048.Idx → EReal) (ix2 (rr t x) l) := by
  unfold rr rowOf
  blk_simp [iblk]
  show V m c main_arg5 _ = V m c main_arg5 _
  generalize V m c main_arg5 = U
  blk_ext [idx5 t]

theorem b1 (t : Fin cfg0.N) (l : Fin 2048) : (iblk m c 1 t : S1x2048.Idx → EReal) (ix2 0 l) = (m (c, main_arg1) : S1x2048.Idx → EReal) (ix2 0 l) := by
  blk_simp [iblk]
  show V m c main_arg1 _ = V m c main_arg1 _
  generalize V m c main_arg1 = U
  blk_ext [idx1 t]

theorem b2 (t : Fin cfg0.N) (l : Fin 2048) : (iblk m c 2 t : S1x2048.Idx → EReal) (ix2 0 l) = (m (c, main_arg2) : S1x2048.Idx → EReal) (ix2 0 l) := by
  blk_simp [iblk]
  show V m c main_arg2 _ = V m c main_arg2 _
  generalize V m c main_arg2 = U
  blk_ext [idx2 t]

theorem emb6 (t : Fin cfg0.N) (x : Fin 256) (l : Fin 2048) : ((View.whole main_v0_0).slice (win0_6.rect t)).emb (ix2 x l) = ix2 (rr t x) l := by
  unfold rr rowOf
  blk_ext [idx6 t]

theorem emb7 (t : Fin cfg0.N) (l : Fin 2048) : ((View.whole main_v0_1).slice (win0_7.rect t)).emb (ix2 0 l) = ix2 0 l := by
  blk_ext [idx7 t]

theorem emb8 (t : Fin cfg0.N) (l : Fin 2048) : ((View.whole main_v0_2).slice (win0_8.rect t)).emb (ix2 0 l) = ix2 0 l := by
  blk_ext [idx8 t]

theorem emb9 (t : Fin cfg0.N) (l : Fin 2048) : ((View.whole main_v0_3).slice (win0_9.rect t)).emb (ix2 0 l) = ix2 0 l := by
  blk_ext [idx9 t]

theorem in_at (t : Fin cfg0.N) (x : Fin 256) (l : Fin 2048) :
    k0_pay1 (F := Ideal) (iblk m c 0 t) (k0_pay17 (iblk m c 0 t) (iblk m c 1 t) (iblk m c 2 t) (iblk m c 4 t)) (k0_pay18 (iblk m c 0 t) (iblk m c 1 t) (iblk m c 2 t) (iblk m c 4 t)) k0_pay19 (iblk m c 5 t) (ix2 x l) =
      dy (m (c, main_arg0)) (m (c, main_arg1)) (m (c, main_arg2)) (m (c, main_arg4)) (m (c, main_arg5)) (rr t x) l :=
  (pay1_apply _ _ _ _ _ x l).trans (congrArg₂ (fun a b : EReal => a + b) (congrArg₂ (dnorm W · · l) (funext fun k => b0 m c t x k)
    (funext fun k => congrArg₂ (fun a b : EReal => a * b) (congrArg₂ (fun a b : EReal => a * (1 + b)) (b4 m c t x k) (b2 m c t k)) (b1 m c t k))) (b5 m c t x l))

theorem gain_at (t : Fin cfg0.N) (l : Fin 2048) : k0_pay15 (F := Ideal) (iblk m c 0 t) (iblk m c 2 t) (iblk m c 4 t) (ix2 0 l) = ∑ x : Fin 256, dgain (m (c, main_arg0)) (m (c, main_arg2)) (m (c, main_arg4)) (rr t x) l :=
  (pay15_apply _ _ _ l).trans (Finset.sum_congr rfl fun x _ => congrArg₂ (fun (f : Fin 2048 → EReal) a => xhat W f l * a) (funext fun k => b0 m c t x k)
    (congrArg₂ (fun a b : EReal => a * (1 + b)) (b4 m c t x l) (b2 m c t l)))

theorem scale_at (t : Fin cfg0.N) (l : Fin 2048) : k0_pay13 (F := Ideal) (iblk m c 0 t) (iblk m c 1 t) (iblk m c 4 t) (ix2 0 l) = ∑ x : Fin 256, dscale (m (c, main_arg0)) (m (c, main_arg1)) (m (c, main_arg4)) (rr t x) l :=
  (pay13_apply _ _ _ l).trans (Finset.sum_congr rfl fun x _ => congrArg₂ (fun a b : EReal => a * b)
    (congrArg₂ (fun (f : Fin 2048 → EReal) a => xhat W f l * a) (funext fun k => b0 m c t x k) (b1 m c t l)) (b4 m c t x l))

theorem shift_at (t : Fin cfg0.N) (l : Fin 2048) : k0_pay12 (F := Ideal) (iblk m c 4 t) (ix2 0 l) = ∑ x : Fin 256, row (m (c, main_arg4)) (rr t x) l :=
  (pay12_apply _ l).trans (Finset.sum_congr rfl fun x _ => b4 m c t x l)

theorem final6 : (dats m 0 c).arrAt 6 (cfgs 0).N = (fun j => dy (m (c, main_arg0)) (m (c, main_arg1)) (m (c, main_arg2)) (m (c, main_arg4)) (m (c, main_arg5)) (j 0) (j 1)) := by
  refine (dats m 0 c).arrAt_eq_of_covers 6 _ (by decide +kernel) fun t hf y => ?_
  blk_simp
  rw [after0_6]
  obtain ⟨x, l, rfl⟩ : ∃ (x : Fin 256) (l : Fin 2048), y = ix2 x l := ⟨y 0, y 1, by pointwise⟩
  rw [emb6]
  refine Eq.trans ?_ (in_at m c t x l)
  by_cases h0 : t.val % 16 = 0
  · rw [outsAt0_A m c t h0]
    frame_out
  · rw [outsAt0_B m c t h0]
    frame_out

theorem gainA (t : Fin cfg0.N) (h0 : t.val % 16 = 0) (l : Fin 2048) :
    (outsAt0 m c t.val t.isLt).2.1 (ix2 0 l) = 0 + ∑ x : Fin 256, dgain (m (c, main_arg0)) (m (c, main_arg2)) (m (c, main_arg4)) (rr t x) l := by
  have hg := gain_at m c t l
  rw [outsAt0_A m c t h0]
  frame_out
  generalize k0_pay15 (F := Ideal) _ _ _ = D at hg ⊢
  exact (pay5_apply _ _ l).trans (congrArg₂ (· + ·) (pay2_apply l) hg)

theorem gainB (t : Fin cfg0.N) (h0 : ¬ t.val % 16 = 0) (l : Fin 2048) :
    (outsAt0 m c t.val t.isLt).2.1 (ix2 0 l) = (outsAt0 m c (t.val - 1) (Nat.lt_of_le_of_lt (Nat.sub_le _ _) t.isLt)).2.1 (ix2 0 l)
      + ∑ x : Fin 256, dgain (m (c, main_arg0)) (m (c, main_arg2)) (m (c, main_arg4)) (rr t x) l := by
  have hg := gain_at m c t l
  rw [outsAt0_B m c t h0]
  frame_out
  generalize k0_pay15 (F := Ideal) _ _ _ = D at hg ⊢
  exact (pay5_apply _ _ l).trans (congrArg₂ (· + ·) rfl hg)

theorem final7 : (dats m 0 c).arrAt 7 (cfgs 0).N = (fun j => ∑ n : Fin 4096, dgain (m (c, main_arg0)) (m (c, main_arg2)) (m (c, main_arg4)) n (j 1)) := by
  refine (dats m 0 c).arrAt_eq_of_covers 7 _ (by decide +kernel) fun t hf y => ?_
  blk_simp
  rw [after0_7]
  obtain ⟨l, rfl⟩ := row_ix (w := 2048) y
  rw [emb7]
  exact run_sum (M := cfg0.N) rfl (fun n h => (outsAt0 m c n h).2.1) (dgain (m (c, main_arg0)) (m (c, main_arg2)) (m (c, main_arg4))) (gainA m c) (gainB m c) t ((flush0_7 t).mp hf) l

theorem scaleA (t : Fin cfg0.N) (h0 : t.val % 16 = 0) (l : Fin 2048) :
    (outsAt0 m c t.val t.isLt).2.2.1 (ix2 0 l) = 0 + ∑ x : Fin 256, dscale (m (c, main_arg0)) (m (c, main_arg1)) (m (c, main_arg4)) (rr t x) l := by
  have hg := scale_at m c t l
  rw [outsAt0_A m c t h0]
  frame_out
  generalize k0_pay13 (F := Ideal) _ _ _ = D at hg ⊢
  exact (pay6_apply _ _ l).trans (congrArg₂ (· + ·) (pay3_apply l) hg)

theorem scaleB (t : Fin cfg0.N) (h0 : ¬ t.val % 16 = 0) (l : Fin 2048) :
    (outsAt0 m c t.val t.isLt).2.2.1 (ix2 0 l) = (outsAt0 m c (t.val - 1) (Nat.lt_of_le_of_lt (Nat.sub_le _ _) t.isLt)).2.2.1 (ix2 0 l)
      + ∑ x : Fin 256, dscale (m (c, main_arg0)) (m (c, main_arg1)) (m (c, main_arg4)) (rr t x) l := by
  have hg := scale_at m c t l
  rw [outsAt0_B m c t h0]
  frame_out
  generalize k0_pay13 (F := Ideal) _ _ _ = D at hg ⊢
  exact (pay6_apply _ _ l).trans (congrArg₂ (· + ·) rfl hg)

theorem final8 : (dats m 0 c).arrAt 8 (cfgs 0).N = (fun j => ∑ n : Fin 4096, dscale (m (c, main_arg0)) (m (c, main_arg1)) (m (c, main_arg4)) n (j 1)) := by
  refine (dats m 0 c).arrAt_eq_of_covers 8 _ (by decide +kernel) fun t hf y => ?_
  blk_simp
  rw [after0_8]
  obtain ⟨l, rfl⟩ := row_ix (w := 2048) y
  rw [emb8]
  exact run_sum (M := cfg0.N) rfl (fun n h => (outsAt0 m c n h).2.2.1) (dscale (m (c, main_arg0)) (m (c, main_arg1)) (m (c, main_arg4))) (scaleA m c) (scaleB m c) t ((flush0_8 t).mp hf) l

theorem shiftA (t : Fin cfg0.N) (h0 : t.val % 16 = 0) (l : Fin 2048) :
    (outsAt0 m c t.val t.isLt).2.2.2 (ix2 0 l) = 0 + ∑ x : Fin 256, row (m (c, main_arg4)) (rr t x) l := by
  have hg := shift_at m c t l
  rw [outsAt0_A m c t h0]
  frame_out
  generalize k0_pay12 (F := Ideal) _ = D at hg ⊢
  exact (pay7_apply _ _ l).trans (congrArg₂ (· + ·) (pay4_apply l) hg)

theorem shiftB (t : Fin cfg0.N) (h0 : ¬ t.val % 16 = 0) (l : Fin 2048) :
    (outsAt0 m c t.val t.isLt).2.2.2 (ix2 0 l) = (outsAt0 m c (t.val - 1) (Nat.lt_of_le_of_lt (Nat.sub_le _ _) t.isLt)).2.2.2 (ix2 0 l)
      + ∑ x : Fin 256, row (m (c, main_arg4)) (rr t x) l := by
  have hg := shift_at m c t l
  rw [outsAt0_B m c t h0]
  frame_out
  generalize k0_pay12 (F := Ideal) _ = D at hg ⊢
  exact (pay7_apply _ _ l).trans (congrArg₂ (· + ·) rfl hg)

theorem final9 : (dats m 0 c).arrAt 9 (cfgs 0).N = (fun j => ∑ n : Fin 4096, row (m (c, main_arg4)) n (j 1)) := by
  refine (dats m 0 c).arrAt_eq_of_covers 9 _ (by decide +kernel) fun t hf y => ?_
  blk_simp
  rw [after0_9]
  obtain ⟨l, rfl⟩ := row_ix (w := 2048) y
  rw [emb9]
  exact run_sum (M := cfg0.N) rfl (fun n h => (outsAt0 m c n h).2.2.2) (row (m (c, main_arg4))) (shiftA m c) (shiftB m c) t ((flush0_9 t).mp hf) l

end Cert.KernelPreIdeal.Row

namespace Cert.ReferencePreIdeal.Row

open Cert.ReferencePreIdeal Cert.ReferencePreIdeal.Read Cert.Norm Cert.KernelPreIdeal.Row

variable [Cert.ReferencePreIdeal.Facts]
variable (x0 : FVec Ideal S4096x2048 .f32) (x1 x2 : FVec Ideal S1x2048 .f32) (x4 x5 : FVec Ideal S4096x2048 .f32)

theorem v6_at (n : Fin 4096) (z : Fin 1) : val_main_v6 (F := Ideal) x0 (ix2 n z) = ms W (row x0 n) := by
  pointwise [val_main_v6, val_main_v5, val_main_v4, val_main_v3, val_main_v2, val_main_v1, val_main_v0, val_main_cst, val_main_cst_0, val_main_cst_1]
  rfl

theorem v7_at (n : Fin 4096) (z : Fin 1) : val_main_v7 (F := Ideal) x0 (ix2 n z) = rs W (row x0 n) :=
  congrArg Ideal.rsqrt (v6_at x0 n z)

theorem v48_at (j : S4096x2048.Idx) : val_main_v48 (F := Ideal) x0 x1 x2 x4 x5 j = dy x0 x1 x2 x4 x5 (j 0) (j 1) := by
  obtain ⟨n, l, rfl⟩ : ∃ (n : Fin 4096) (l : Fin 2048), j = ix2 n l := ⟨j 0, j 1, by pointwise⟩
  have h6 := v6_at x0 n
  have h7 := v7_at x0 n
  unfold val_main_v48 val_main_v47 val_main_v46 val_main_v45 val_main_v44 val_main_v43 val_main_v42 val_main_v41 val_main_v39 val_main_v38 val_main_v37 val_main_v10 val_main_v8
  generalize val_main_v6 (F := Ideal) x0 = P at h6 ⊢
  generalize val_main_v7 (F := Ideal) x0 = Q at h7 ⊢
  pointwise [val_main_v36, val_main_v35, val_main_v34, val_main_v33, val_main_v32, val_main_v28, val_main_v27, val_main_v21, val_main_v16, val_main_v15, val_main_v40, val_main_v9, val_main_cst_2, val_main_cst_3, val_main_cst_7, val_main_cst_8, val_main_cst_9]
  simp only [h6, h7]
  rfl

theorem v31_at (j : S1x2048.Idx) : val_main_v31 (F := Ideal) x0 x2 x4 j = ∑ n : Fin 4096, dgain x0 x2 x4 n (j 1) := by
  obtain ⟨l, rfl⟩ := row_ix (w := 2048) j
  have h7 := v7_at x0
  unfold val_main_v31 val_main_v30 val_main_v29 val_main_v12 val_main_v11
  generalize val_main_v7 (F := Ideal) x0 = Q at h7 ⊢
  pointwise [val_main_v28, val_main_v27, val_main_v21, val_main_v16, val_main_v15, val_main_cst_3, val_main_cst_6]
  simp only [h7]
  rfl

theorem v26_at (j : S1x2048.Idx) : val_main_v26 (F := Ideal) x0 x1 x4 j = ∑ n : Fin 4096, dscale x0 x1 x4 n (j 1) := by
  obtain ⟨l, rfl⟩ := row_ix (w := 2048) j
  have h7 := v7_at x0
  unfold val_main_v26 val_main_v25 val_main_v24 val_main_v14 val_main_v12 val_main_v11
  generalize val_main_v7 (F := Ideal) x0 = Q at h7 ⊢
  pointwise [val_main_v21, val_main_v13, val_main_cst_5]
  simp only [h7]
  rfl

theorem v23_at (j : S1x2048.Idx) : val_main_v23 (F := Ideal) x4 j = ∑ n : Fin 4096, row x4 n (j 1) := by
  obtain ⟨l, rfl⟩ := row_ix (w := 2048) j
  pointwise [val_main_v23, val_main_v22, val_main_cst_4]
  rfl

end Cert.ReferencePreIdeal.Row

namespace Cert.Proof.Row

theorem frame_Pre : Cert.quiescent_ReferencePreIdeal := by
  intro m g _
  exact (θ_run Cert.ReferencePreIdeal.defs _ _).mono (fun r h => ⟨fun c => (h c).2.2.2.2, sem_eq_zero_of_no_sems (by decide) r.2⟩)
    (Cert.ReferencePreIdeal.Value.run m g)

theorem algebraic_Pre : Cert.algebraic_KernelPreIdeal_ReferencePreIdeal := by
  pair_intro
  · run_from Cert.KernelPreIdeal.Value.run_blocks m g
  · refine (θ_run Cert.ReferencePreIdeal.defs _ _).mono (fun r h c => ?_) (Cert.ReferencePreIdeal.Value.run m' g')
    obtain ⟨e0, e1, e2, _, e4, e5⟩ := hagree c
    refine ⟨((h c).1.trans (Cert.ReferencePreIdeal.Read.val_main_v48_eq _ _)).trans ?_, ((h c).2.1.trans (Cert.ReferencePreIdeal.Read.val_main_v31_eq _ _ _)).trans ?_,
      ((h c).2.2.1.trans (Cert.ReferencePreIdeal.Read.val_main_v26_eq _ _ _)).trans ?_, ((h c).2.2.2.1.trans (Cert.ReferencePreIdeal.Read.val_main_v23_eq _)).trans ?_, (h c).2.2.2.2⟩
    · exact (congrArg₂ (fun f a => f a) (congrArg₂ (fun f a => f a) (congrArg₂ (fun f a => f a) (congrArg₂ (Cert.ReferencePreIdeal.Read.val_main_v48 (F := Ideal)) e0 e1) e2) e4) e5).trans
        ((funext (Cert.ReferencePreIdeal.Row.v48_at _ _ _ _ _)).trans (Cert.KernelPreIdeal.Row.final6 m c).symm)
    · exact (congrArg₂ (fun f a => f a) (congrArg₂ (Cert.ReferencePreIdeal.Read.val_main_v31 (F := Ideal)) e0 e2) e4).trans
        ((funext (Cert.ReferencePreIdeal.Row.v31_at _ _ _)).trans (Cert.KernelPreIdeal.Row.final7 m c).symm)
    · exact (congrArg₂ (fun f a => f a) (congrArg₂ (Cert.ReferencePreIdeal.Read.val_main_v26 (F := Ideal)) e0 e1) e4).trans
        ((funext (Cert.ReferencePreIdeal.Row.v26_at _ _ _)).trans (Cert.KernelPreIdeal.Row.final8 m c).symm)
    · exact (congrArg (Cert.ReferencePreIdeal.Read.val_main_v23 (F := Ideal)) e4).trans
        ((funext (Cert.ReferencePreIdeal.Row.v23_at _)).trans (Cert.KernelPreIdeal.Row.final9 m c).symm)

end Cert.Proof.Row

end
-- ==== Proof.Row.Sig.lean ====
module

public import proofs.«01_k».proof.Defs
public import proofs.«01_k».proof.Proof.Gen.KernelSig.Frame
public import proofs.«01_k».proof.Proof.Gen.KernelSigIdeal.Value
public import proofs.«01_k».proof.Proof.Gen.ReferenceSigIdeal.Run
public import proofs.«01_k».proof.Proof.Gen.ReferenceSigIdeal.Read
public import Idealize.ShloMosaic.Lib.Pointwise
public import Idealize.ShloMosaic.Lib.Pipeline.ValueKit
public import Idealize.ShloMosaic.Lib.Claim

/-! The gradient of `s5_glu`: the gated value's and the gate's. -/

@[expose] public section

set_option maxRecDepth 16384

noncomputable section

open Idealize.ShloMosaic Idealize.ShloMosaic.TcCoe Idealize.SL.Sem

namespace Cert.KernelSigIdeal.Row

open Cert.KernelSigIdeal Cert.KernelSigIdeal.Gen Cert.ReferenceSigIdeal.Read

variable [Cert.KernelSigIdeal.Facts] [Cert.ReferenceSigIdeal.Facts]
variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])

theorem n_lt (t : Fin cfg0.N) : t.val < 16 := t.isLt

/-- Row `x` of block `t`. -/
def rr (t : Fin cfg0.N) (x : Fin 256) : Fin 4096 := ⟨t.val * 256 + x.val, by have := n_lt t; omega⟩

theorem b0 (t : Fin cfg0.N) (x : Fin 256) (l : Fin 512) : (iblk m c 0 t : S256x512.Idx → EReal) (ix2 x l) = (m (c, main_arg0) : S4096x512.Idx → EReal) (ix2 (rr t x) l) := by
  unfold rr
  blk_simp [iblk]
  show V m c main_arg0 _ = V m c main_arg0 _
  generalize V m c main_arg0 = W
  blk_ext [idx0 t]

theorem b1 (t : Fin cfg0.N) (x : Fin 256) (l : Fin 512) : (iblk m c 1 t : S256x512.Idx → EReal) (ix2 x l) = (m (c, main_arg1) : S4096x512.Idx → EReal) (ix2 (rr t x) l) := by
  unfold rr
  blk_simp [iblk]
  show V m c main_arg1 _ = V m c main_arg1 _
  generalize V m c main_arg1 = W
  blk_ext [idx1 t]

theorem b2 (t : Fin cfg0.N) (x : Fin 256) (l : Fin 512) : (iblk m c 2 t : S256x512.Idx → EReal) (ix2 x l) = (m (c, main_arg2) : S4096x2048.Idx → EReal) (ix2 (rr t x) ⟨l.val, by omega⟩) := by
  unfold rr
  blk_simp [iblk]
  show V m c main_arg2 _ = V m c main_arg2 _
  generalize V m c main_arg2 = W
  blk_ext [idx2 t]

theorem emb3 (t : Fin cfg0.N) (x : Fin 256) (l : Fin 512) : ((View.whole main_v0_0).slice (win0_3.rect t)).emb (ix2 x l) = ix2 (rr t x) l := by
  unfold rr
  blk_ext [idx3 t]

theorem emb4 (t : Fin cfg0.N) (x : Fin 256) (l : Fin 512) : ((View.whole main_v0_1).slice (win0_4.rect t)).emb (ix2 x l) = ix2 (rr t x) l := by
  unfold rr
  blk_ext [idx4 t]

theorem final3 : (dats m 0 c).arrAt 3 (cfgs 0).N = val_main_v12 (F := Ideal) (m (c, main_arg1)) (m (c, main_arg2)) := by
  refine (dats m 0 c).arrAt_eq_of_covers 3 _ (by decide +kernel) fun t hf y => ?_
  blk_simp
  rw [after0_3]
  obtain ⟨x, r, rfl⟩ : ∃ (x : Fin 256) (r : Fin 512), y = ix2 x r := ⟨y 0, y 1, by pointwise⟩
  have h1 := b1 m c t x r
  have h2 := b2 m c t x r
  unfold out0_3
  frame_out
  generalize (iblk m c 1 t : S256x512.Idx → EReal) = X1 at h1 ⊢
  generalize (iblk m c 2 t : S256x512.Idx → EReal) = X2 at h2 ⊢
  rw [emb3]
  pointwise [k0_pay2, k0_pay1, val_main_v12, val_main_v10, val_main_v5, val_main_v4, val_main_v3, val_main_v2, val_main_v1, val_main_v0, val_main_cst, val_main_cst_0]
  exact congrArg₂ (fun d z : EReal => d * Ideal.logistic z) h2 h1

theorem final4 : (dats m 0 c).arrAt 4 (cfgs 0).N = val_main_v13 (F := Ideal) (m (c, main_arg0)) (m (c, main_arg1)) (m (c, main_arg2)) := by
  refine (dats m 0 c).arrAt_eq_of_covers 4 _ (by decide +kernel) fun t hf y => ?_
  blk_simp
  rw [after0_4]
  obtain ⟨x, r, rfl⟩ : ∃ (x : Fin 256) (r : Fin 512), y = ix2 x r := ⟨y 0, y 1, by pointwise⟩
  have h0 := b0 m c t x r
  have h1 := b1 m c t x r
  have h2 := b2 m c t x r
  unfold out0_4
  frame_out
  generalize (iblk m c 0 t : S256x512.Idx → EReal) = X0 at h0 ⊢
  generalize (iblk m c 1 t : S256x512.Idx → EReal) = X1 at h1 ⊢
  generalize (iblk m c 2 t : S256x512.Idx → EReal) = X2 at h2 ⊢
  rw [emb4]
  pointwise [k0_pay3, k0_pay1, val_main_v13, val_main_v11, val_main_v8, val_main_v7, val_main_v6, val_main_v10, val_main_v5, val_main_v4, val_main_v3, val_main_v2, val_main_v1, val_main_v0, val_main_cst, val_main_cst_0, val_main_cst_1]
  rw [h0, h1, h2]
  rfl

end Cert.KernelSigIdeal.Row

namespace Cert.Proof.Row

theorem frame_Sig : Cert.quiescent_ReferenceSigIdeal := by
  intro m g _
  exact (θ_run Cert.ReferenceSigIdeal.defs _ _).mono (fun r h => ⟨fun c => (h c).2.2, sem_eq_zero_of_no_sems (by decide) r.2⟩)
    (Cert.ReferenceSigIdeal.Value.run m g)

theorem algebraic_Sig : Cert.algebraic_KernelSigIdeal_ReferenceSigIdeal := by
  pair_intro
  · run_from Cert.KernelSigIdeal.Value.run_blocks m g
  · refine (θ_run Cert.ReferenceSigIdeal.defs _ _).mono (fun r h c => ?_) (Cert.ReferenceSigIdeal.Value.run m' g')
    obtain ⟨e0, e1, e2⟩ := hagree c
    refine ⟨((h c).1.trans (Cert.ReferenceSigIdeal.Read.val_main_v12_eq _ _)).trans ?_, ((h c).2.1.trans (Cert.ReferenceSigIdeal.Read.val_main_v13_eq _ _ _)).trans ?_, (h c).2.2⟩
    · exact (congrArg₂ (Cert.ReferenceSigIdeal.Read.val_main_v12 (F := Ideal)) e1 e2).trans (Cert.KernelSigIdeal.Row.final3 m c).symm
    · exact (congrArg₂ (fun f a => f a) (congrArg₂ (Cert.ReferenceSigIdeal.Read.val_main_v13 (F := Ideal)) e0 e1) e2).trans (Cert.KernelSigIdeal.Row.final4 m c).symm

end Cert.Proof.Row

end
-- ==== Proof.Row.Gelu.lean ====
module

public import proofs.«01_k».proof.Defs
public import proofs.«01_k».proof.Proof.Math.Norm
public import proofs.«01_k».proof.Proof.Math.Gated
public import proofs.«01_k».proof.Proof.Gen.KernelGelu.Frame
public import proofs.«01_k».proof.Proof.Gen.KernelGeluIdeal.Value
public import proofs.«01_k».proof.Proof.Gen.ReferenceGeluIdeal.Run
public import proofs.«01_k».proof.Proof.Gen.ReferenceGeluIdeal.Read
public import Idealize.ShloMosaic.Lib.Pointwise
public import Idealize.ShloMosaic.Lib.Pipeline.ValueKit
public import Idealize.ShloMosaic.Lib.Claim

/-! The gradient of the state-space branch's activation, of its input and of the skip's weights. -/

@[expose] public section

set_option maxRecDepth 16384

noncomputable section

open Idealize.ShloMosaic Idealize.ShloMosaic.TcCoe Idealize.SL.Sem

namespace Cert.KernelGeluIdeal.Row

open Cert.KernelGeluIdeal Cert.KernelGeluIdeal.Gen Cert.Norm Cert.Gated

section spec

variable (y : FVec Ideal S4096x512 .f32) (p : FVec Ideal S4096x3456 .f32) (d : FVec Ideal S1x512 .f32) (a b : FVec Ideal S4096x512 .f32)

/-- The skip's input, the gradient before the activation, and its share of the skip's two gradients. -/
def skip (n : Fin 4096) (l : Fin 512) : EReal := p (ix2 n ⟨l.val, by omega⟩)
def dpre (n : Fin 4096) (l : Fin 512) : EReal := dgate (y (ix2 n l) + d (ix2 0 l) * skip p n l) 1 (a (ix2 n l) + b (ix2 n l))
def dskip (n : Fin 4096) (l : Fin 512) : EReal := d (ix2 0 l) * dpre y p d a b n l
def dweight (n : Fin 4096) (l : Fin 512) : EReal := dpre y p d a b n l * skip p n l

end spec

variable [Cert.KernelGeluIdeal.Facts]

section block

variable (v0 v1 v3 v4 : Vec Ideal S256x512 .f32) (v2 : Vec Ideal S1x512 .f32)

theorem pay1_apply (x : Fin 256) (l : Fin 512) : k0_pay1 (k0_pay7 v0 v1 v2) (k0_pay10 v0 v1 v2 v3 v4) (k0_pay11 v0 v1 v2 v3 v4) (ix2 x l) =
    dgate (v0 (ix2 x l) + v2 (ix2 0 l) * v1 (ix2 x l)) 1 (v3 (ix2 x l) + v4 (ix2 x l)) := by
  have h6 : k0_pay6 v0 v1 v2 (ix2 x l) = v0 (ix2 x l) + v2 (ix2 0 l) * v1 (ix2 x l) := by
    pointwise [k0_pay6]
  unfold k0_pay7 k0_pay10 k0_pay11 k0_pay9 k0_pay8
  generalize k0_pay6 v0 v1 v2 = T at h6 ⊢
  pointwise [k0_pay1, k0_pay5]
  rw [h6]
  simp only [dgate, inside, act, th, mul_one]

theorem pay2_apply (P Q R : FVec Ideal S256x512 .f32) (x : Fin 256) (l : Fin 512) : k0_pay2 v2 P Q R (ix2 x l) = v2 (ix2 0 l) * k0_pay1 P Q R (ix2 x l) := by
  pointwise [k0_pay2]

theorem pay4_apply (P Q R : FVec Ideal S256x512 .f32) (v : Vec Ideal S1x512 .f32) (l : Fin 512) :
    k0_pay4 v1 P Q R v (ix2 0 l) = v (ix2 0 l) + ∑ x : Fin 256, k0_pay1 P Q R (ix2 x l) * v1 (ix2 x l) := by
  pointwise [k0_pay4]

theorem pay3_apply (l : Fin 512) : k0_pay3 (F := Ideal) (ix2 0 l) = 0 := by
  pointwise [k0_pay3]

end block

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])

/-- Row `x` of block `t`. -/
abbrev rr (t : Fin cfg0.N) (x : Fin 256) : Fin 4096 := rowOf t.val t.isLt x

theorem b0 (t : Fin cfg0.N) (x : Fin 256) (l : Fin 512) : (iblk m c 0 t : S256x512.Idx → EReal) (ix2 x l) = (m (c, main_arg0) : S4096x512.Idx → EReal) (ix2 (rr t x) l) := by
  unfold rr rowOf
  blk_simp [iblk]
  show V m c main_arg0 _ = V m c main_arg0 _
  generalize V m c main_arg0 = U
  blk_ext [idx0 t]

theorem b3 (t : Fin cfg0.N) (x : Fin 256) (l : Fin 512) : (iblk m c 3 t : S256x512.Idx → EReal) (ix2 x l) = (m (c, main_arg3) : S4096x512.Idx → EReal) (ix2 (rr t x) l) := by
  unfold rr rowOf
  blk_simp [iblk]
  show V m c main_arg3 _ = V m c main_arg3 _
  generalize V m c main_arg3 = U
  blk_ext [idx3 t]

theorem b4 (t : Fin cfg0.N) (x : Fin 256) (l : Fin 512) : (iblk m c 4 t : S256x512.Idx → EReal) (ix2 x l) = (m (c, main_arg4) : S4096x512.Idx → EReal) (ix2 (rr t x) l) := by
  unfold rr rowOf
  blk_simp [iblk]
  show V m c main_arg4 _ = V m c main_arg4 _
  generalize V m c main_arg4 = U
  blk_ext [idx4 t]

theorem b1 (t : Fin cfg0.N) (x : Fin 256) (l : Fin 512) : (X0_1 m c t : S256x512.Idx → EReal) (ix2 x l) = skip (m (c, main_arg1)) (rr t x) l := by
  unfold skip rr rowOf X0_1 Pipeline.Window.fill
  rw [dif_pos (moved0_1 t _)]
  blk_simp [iblk]
  show V m c main_arg1 _ = V m c main_arg1 _
  generalize V m c main_arg1 = U
  blk_ext [idx1 t]

theorem b2 (t : Fin cfg0.N) (l : Fin 512) : (iblk m c 2 t : S1x512.Idx → EReal) (ix2 0 l) = (m (c, main_arg2) : S1x512.Idx → EReal) (ix2 0 l) := by
  blk_simp [iblk]
  show V m c main_arg2 _ = V m c main_arg2 _
  generalize V m c main_arg2 = U
  blk_ext [idx2 t]

theorem emb5 (t : Fin cfg0.N) (x : Fin 256) (l : Fin 512) : ((View.whole main_v0_0).slice (win0_5.rect t)).emb (ix2 x l) = ix2 (rr t x) l := by
  unfold rr rowOf
  blk_ext [idx5 t]

theorem emb6 (t : Fin cfg0.N) (x : Fin 256) (l : Fin 512) : ((View.whole main_v0_1).slice (win0_6.rect t)).emb (ix2 x l) = ix2 (rr t x) l := by
  unfold rr rowOf
  blk_ext [idx6 t]

theorem emb7 (t : Fin cfg0.N) (l : Fin 512) : ((View.whole main_v0_2).slice (win0_7.rect t)).emb (ix2 0 l) = ix2 0 l := by
  blk_ext [idx7 t]

theorem pre_at (t : Fin cfg0.N) (x : Fin 256) (l : Fin 512) :
    k0_pay1 (F := Ideal) (k0_pay7 (iblk m c 0 t) (X0_1 m c t) (iblk m c 2 t)) (k0_pay10 (iblk m c 0 t) (X0_1 m c t) (iblk m c 2 t) (iblk m c 3 t) (iblk m c 4 t)) (k0_pay11 (iblk m c 0 t) (X0_1 m c t) (iblk m c 2 t) (iblk m c 3 t) (iblk m c 4 t)) (ix2 x l) = dpre (m (c, main_arg0)) (m (c, main_arg1)) (m (c, main_arg2)) (m (c, main_arg3)) (m (c, main_arg4)) (rr t x) l :=
  (pay1_apply _ _ _ _ _ x l).trans (congrArg₂ (dgate · 1 ·) (congrArg₂ (fun a b : EReal => a + b) (b0 m c t x l) (congrArg₂ (fun a b : EReal => a * b) (b2 m c t l) (b1 m c t x l)))
    (congrArg₂ (fun a b : EReal => a + b) (b3 m c t x l) (b4 m c t x l)))

theorem skip_at (t : Fin cfg0.N) (x : Fin 256) (l : Fin 512) :
    k0_pay2 (F := Ideal) (iblk m c 2 t) (k0_pay7 (iblk m c 0 t) (X0_1 m c t) (iblk m c 2 t)) (k0_pay10 (iblk m c 0 t) (X0_1 m c t) (iblk m c 2 t) (iblk m c 3 t) (iblk m c 4 t)) (k0_pay11 (iblk m c 0 t) (X0_1 m c t) (iblk m c 2 t) (iblk m c 3 t) (iblk m c 4 t)) (ix2 x l) = dskip (m (c, main_arg0)) (m (c, main_arg1)) (m (c, main_arg2)) (m (c, main_arg3)) (m (c, main_arg4)) (rr t x) l :=
  (pay2_apply _ _ _ _ x l).trans (congrArg₂ (fun a b : EReal => a * b) (b2 m c t l) (pre_at m c t x l))

theorem weight_at (t : Fin cfg0.N) (v : Vec Ideal S1x512 .f32) (l : Fin 512) :
    k0_pay4 (F := Ideal) (X0_1 m c t) (k0_pay7 (iblk m c 0 t) (X0_1 m c t) (iblk m c 2 t)) (k0_pay10 (iblk m c 0 t) (X0_1 m c t) (iblk m c 2 t) (iblk m c 3 t) (iblk m c 4 t)) (k0_pay11 (iblk m c 0 t) (X0_1 m c t) (iblk m c 2 t) (iblk m c 3 t) (iblk m c 4 t)) v (ix2 0 l) = v (ix2 0 l) + ∑ x : Fin 256, dweight (m (c, main_arg0)) (m (c, main_arg1)) (m (c, main_arg2)) (m (c, main_arg3)) (m (c, main_arg4)) (rr t x) l :=
  (pay4_apply _ _ _ _ v l).trans (congrArg (v (ix2 0 l) + ·) (Finset.sum_congr rfl fun x _ => congrArg₂ (fun a b : EReal => a * b) (pre_at m c t x l) (b1 m c t x l)))

theorem final5 : (dats m 0 c).arrAt 5 (cfgs 0).N = (fun j => dpre (m (c, main_arg0)) (m (c, main_arg1)) (m (c, main_arg2)) (m (c, main_arg3)) (m (c, main_arg4)) (j 0) (j 1)) := by
  refine (dats m 0 c).arrAt_eq_of_covers 5 _ (by decide +kernel) fun t hf y => ?_
  blk_simp
  rw [after0_5]
  obtain ⟨x, l, rfl⟩ : ∃ (x : Fin 256) (l : Fin 512), y = ix2 x l := ⟨y 0, y 1, by pointwise⟩
  rw [emb5]
  refine Eq.trans ?_ (pre_at m c t x l)
  by_cases h0 : t.val % 16 = 0
  · rw [outsAt0_A m c t h0]
    frame_out
  · rw [outsAt0_B m c t h0]
    frame_out

theorem final6 : (dats m 0 c).arrAt 6 (cfgs 0).N = (fun j => dskip (m (c, main_arg0)) (m (c, main_arg1)) (m (c, main_arg2)) (m (c, main_arg3)) (m (c, main_arg4)) (j 0) (j 1)) := by
  refine (dats m 0 c).arrAt_eq_of_covers 6 _ (by decide +kernel) fun t hf y => ?_
  blk_simp
  rw [after0_6]
  obtain ⟨x, l, rfl⟩ : ∃ (x : Fin 256) (l : Fin 512), y = ix2 x l := ⟨y 0, y 1, by pointwise⟩
  rw [emb6]
  refine Eq.trans ?_ (skip_at m c t x l)
  by_cases h0 : t.val % 16 = 0
  · rw [outsAt0_A m c t h0]
    frame_out
  · rw [outsAt0_B m c t h0]
    frame_out

theorem weightA (t : Fin cfg0.N) (h0 : t.val % 16 = 0) (l : Fin 512) :
    (outsAt0 m c t.val t.isLt).2.2 (ix2 0 l) = 0 + ∑ x : Fin 256, dweight (m (c, main_arg0)) (m (c, main_arg1)) (m (c, main_arg2)) (m (c, main_arg3)) (m (c, main_arg4)) (rr t x) l := by
  have hg := weight_at m c t
  rw [outsAt0_A m c t h0]
  frame_out
  exact (hg _ l).trans (congrArg (· + _) (pay3_apply l))

theorem weightB (t : Fin cfg0.N) (h0 : ¬ t.val % 16 = 0) (l : Fin 512) :
    (outsAt0 m c t.val t.isLt).2.2 (ix2 0 l) = (outsAt0 m c (t.val - 1) (Nat.lt_of_le_of_lt (Nat.sub_le _ _) t.isLt)).2.2 (ix2 0 l)
      + ∑ x : Fin 256, dweight (m (c, main_arg0)) (m (c, main_arg1)) (m (c, main_arg2)) (m (c, main_arg3)) (m (c, main_arg4)) (rr t x) l := by
  have hg := weight_at m c t
  rw [outsAt0_B m c t h0]
  frame_out
  exact hg _ l

theorem final7 : (dats m 0 c).arrAt 7 (cfgs 0).N = (fun j => ∑ n : Fin 4096, dweight (m (c, main_arg0)) (m (c, main_arg1)) (m (c, main_arg2)) (m (c, main_arg3)) (m (c, main_arg4)) n (j 1)) := by
  refine (dats m 0 c).arrAt_eq_of_covers 7 _ (by decide +kernel) fun t hf y => ?_
  blk_simp
  rw [after0_7]
  obtain ⟨l, rfl⟩ := row_ix (w := 512) y
  rw [emb7]
  exact run_sum (M := cfg0.N) rfl (fun n h => (outsAt0 m c n h).2.2) (dweight (m (c, main_arg0)) (m (c, main_arg1)) (m (c, main_arg2)) (m (c, main_arg3)) (m (c, main_arg4))) (weightA m c) (weightB m c) t ((flush0_7 t).mp hf) l

end Cert.KernelGeluIdeal.Row

namespace Cert.ReferenceGeluIdeal.Row

open Cert.ReferenceGeluIdeal Cert.ReferenceGeluIdeal.Read Cert.Norm Cert.Gated Cert.KernelGeluIdeal.Row

variable [Cert.ReferenceGeluIdeal.Facts]
variable (x0 : FVec Ideal S4096x512 .f32) (x1 : FVec Ideal S4096x3456 .f32) (x2 : FVec Ideal S1x512 .f32) (x3 x4 : FVec Ideal S4096x512 .f32)

theorem v37_at (j : S4096x512.Idx) : val_main_v37 (F := Ideal) x0 x1 x2 x3 x4 j = dpre x0 x1 x2 x3 x4 (j 0) (j 1) := by
  obtain ⟨n, l, rfl⟩ : ∃ (n : Fin 4096) (l : Fin 512), j = ix2 n l := ⟨j 0, j 1, by pointwise⟩
  have h3 : val_main_v3 (F := Ideal) x0 x1 x2 (ix2 n l) = x0 (ix2 n l) + x2 (ix2 0 l) * skip x1 n l := by
    pointwise [val_main_v3, val_main_v2, val_main_v1, val_main_v0]
    rfl
  unfold val_main_v37 val_main_v36 val_main_v35 val_main_v33 val_main_v32 val_main_v30 val_main_v29 val_main_v27 val_main_v26 val_main_v23 val_main_v21 val_main_v19 val_main_v18 val_main_v16 val_main_v14 val_main_v13 val_main_v11 val_main_v10 val_main_v8 val_main_v6 val_main_v5 val_main_v4
  generalize val_main_v3 (F := Ideal) x0 x1 x2 = T at h3 ⊢
  pointwise [val_main_v25, val_main_v34, val_main_v31, val_main_v28, val_main_v22, val_main_v20, val_main_v17, val_main_v15, val_main_v12, val_main_v9, val_main_v7, val_main_cst, val_main_cst_0, val_main_cst_1, val_main_cst_2, val_main_cst_3, val_main_cst_4, val_main_cst_5, val_main_cst_6, val_main_cst_7, val_main_cst_8]
  rw [h3]
  simp only [dpre, dgate, inside, act, th, mul_one, mul_assoc]

theorem v39_at (j : S4096x512.Idx) : val_main_v39 (F := Ideal) x0 x1 x2 x3 x4 j = dskip x0 x1 x2 x3 x4 (j 0) (j 1) := by
  have h := v37_at x0 x1 x2 x3 x4 j
  obtain ⟨n, l, rfl⟩ : ∃ (n : Fin 4096) (l : Fin 512), j = ix2 n l := ⟨j 0, j 1, by pointwise⟩
  unfold val_main_v39
  generalize val_main_v37 (F := Ideal) x0 x1 x2 x3 x4 = T at h ⊢
  pointwise [val_main_v38]
  rw [h]
  rfl

theorem v42_at (j : S1x512.Idx) : val_main_v42 (F := Ideal) x0 x1 x2 x3 x4 j = ∑ n : Fin 4096, dweight x0 x1 x2 x3 x4 n (j 1) := by
  have h := fun n l => v37_at x0 x1 x2 x3 x4 (ix2 n l)
  obtain ⟨l, rfl⟩ := row_ix (w := 512) j
  unfold val_main_v42 val_main_v41 val_main_v40
  generalize val_main_v37 (F := Ideal) x0 x1 x2 x3 x4 = T at h ⊢
  pointwise [val_main_v0, val_main_cst_9]
  simp only [h]
  rfl

end Cert.ReferenceGeluIdeal.Row

namespace Cert.Proof.Row

theorem frame_Gelu : Cert.quiescent_ReferenceGeluIdeal := by
  intro m g _
  exact (θ_run Cert.ReferenceGeluIdeal.defs _ _).mono (fun r h => ⟨fun c => (h c).2.2.2, sem_eq_zero_of_no_sems (by decide) r.2⟩)
    (Cert.ReferenceGeluIdeal.Value.run m g)

theorem algebraic_Gelu : Cert.algebraic_KernelGeluIdeal_ReferenceGeluIdeal := by
  pair_intro
  · run_from Cert.KernelGeluIdeal.Value.run_blocks m g
  · refine (θ_run Cert.ReferenceGeluIdeal.defs _ _).mono (fun r h c => ?_) (Cert.ReferenceGeluIdeal.Value.run m' g')
    obtain ⟨e0, e1, e2, e3, e4⟩ := hagree c
    refine ⟨((h c).1.trans (Cert.ReferenceGeluIdeal.Read.val_main_v37_eq _ _)).trans ?_, ((h c).2.1.trans (Cert.ReferenceGeluIdeal.Read.val_main_v39_eq _ _)).trans ?_,
      ((h c).2.2.1.trans (Cert.ReferenceGeluIdeal.Read.val_main_v42_eq _ _)).trans ?_, (h c).2.2.2⟩
    · exact (congrArg₂ (fun f a => f a) (congrArg₂ (fun f a => f a) (congrArg₂ (fun f a => f a) (congrArg₂ (Cert.ReferenceGeluIdeal.Read.val_main_v37 (F := Ideal)) e0 e1) e2) e3) e4).trans
        ((funext (Cert.ReferenceGeluIdeal.Row.v37_at _ _ _ _ _)).trans (Cert.KernelGeluIdeal.Row.final5 m c).symm)
    · exact (congrArg₂ (fun f a => f a) (congrArg₂ (fun f a => f a) (congrArg₂ (fun f a => f a) (congrArg₂ (Cert.ReferenceGeluIdeal.Read.val_main_v39 (F := Ideal)) e0 e1) e2) e3) e4).trans
        ((funext (Cert.ReferenceGeluIdeal.Row.v39_at _ _ _ _ _)).trans (Cert.KernelGeluIdeal.Row.final6 m c).symm)
    · exact (congrArg₂ (fun f a => f a) (congrArg₂ (fun f a => f a) (congrArg₂ (fun f a => f a) (congrArg₂ (Cert.ReferenceGeluIdeal.Read.val_main_v42 (F := Ideal)) e0 e1) e2) e3) e4).trans
        ((funext (Cert.ReferenceGeluIdeal.Row.v42_at _ _ _ _ _)).trans (Cert.KernelGeluIdeal.Row.final7 m c).symm)

end Cert.Proof.Row

end
-- ==== Proof.Mm.DownDx.lean ====
module

public import proofs.«01_k».proof.Defs
public import proofs.«01_k».proof.Proof.Gen.KernelDownDx.Frame
public import proofs.«01_k».proof.Proof.Gen.KernelDownDxIdeal.Value
public import proofs.«01_k».proof.Proof.Gen.ReferenceDownDxIdeal.Run
public import proofs.«01_k».proof.Proof.Gen.ReferenceDownDxIdeal.Read
public import Idealize.ShloMosaic.Lib.Pipeline.ValueKit
public import Idealize.ShloMosaic.Lib.Pipeline.ReadBack
public import Idealize.ShloMosaic.Lib.Claim

/-! The product DownDx: its 4 × 11 blocks of 1024 × 512 elements, each the sum over 1 block of 2048 contracted elements. -/

@[expose] public section

set_option maxRecDepth 16384

noncomputable section

open Idealize.ShloMosaic Idealize.ShloMosaic.TcCoe Idealize.SL.Sem

namespace Cert.KernelDownDxIdeal.Mm

open Cert.KernelDownDxIdeal Cert.KernelDownDxIdeal.Gen

variable [Cert.KernelDownDxIdeal.Facts] [Cert.ReferenceDownDxIdeal.Facts]
variable (m : (ℓ : Loc nD τ sig) → Buf (Elt Ideal) ℓ)

/-- The block stored is the product of the two blocks. -/
theorem pay (x0 : FVec Ideal S1024x2048 .f32) (x1 : FVec Ideal S512x2048 .bf16) (j : S1024x512.Idx) :
    k0_pay1 x0 x1 j = ∑ k : Fin 2048, x0 (ix2 (j 0) k) * x1 (ix2 (j 1) k) := by pointwise [k0_pay1]

/-- The reference's result at an index. -/
theorem reference_at (x0 : FVec Ideal S5632x2048 .f32) (x1 : FVec Ideal S4096x2048 .f32) (j : S4096x5632.Idx) :
    Cert.ReferenceDownDxIdeal.Read.val_main_v2 (F := Ideal) x0 x1 j = ∑ k : Fin 2048, x1 (ix2 (j 0) k) * x0 (ix2 (j 1) k) := by
  pointwise [Cert.ReferenceDownDxIdeal.Read.val_main_v2]

theorem idx0 : ∀ t : Fin cfg0.N, win0_0.index t = ![t.val / 11, 0] := (by decide +kernel : ∀ t : Fin grid0.N, win0_0.index t = ![t.val / 11, 0])
theorem idx1 : ∀ t : Fin cfg0.N, win0_1.index t = ![t.val % 11, 0] := (by decide +kernel : ∀ t : Fin grid0.N, win0_1.index t = ![t.val % 11, 0])
theorem idx2 : ∀ t : Fin cfg0.N, win0_2.index t = ![t.val / 11, t.val % 11] := (by decide +kernel : ∀ t : Fin grid0.N, win0_2.index t = ![t.val / 11, t.val % 11])

/-- The kernel's result is the reference's. -/
theorem final (c : Dev nD) : (dats m 0 c).arrAt 2 (cfgs 0).N =
    Cert.ReferenceDownDxIdeal.Read.val_main_v2 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelDownDxIdeal.Mm

namespace Cert.Proof.Mm

theorem frame_DownDx : Cert.quiescent_ReferenceDownDxIdeal := by
  intro m g _
  exact (θ_run Cert.ReferenceDownDxIdeal.defs _ _).mono (fun r h => ⟨fun c => (h c).2, sem_eq_zero_of_no_sems (by decide) r.2⟩)
    (Cert.ReferenceDownDxIdeal.Value.run m g)

theorem algebraic_DownDx : Cert.algebraic_KernelDownDxIdeal_ReferenceDownDxIdeal := by
  pair_intro
  · run_from Cert.KernelDownDxIdeal.Value.run_blocks m g
  · run_from Cert.ReferenceDownDxIdeal.Value.run m' g'
    exact (Cert.KernelDownDxIdeal.Mm.final m c).symm

end Cert.Proof.Mm
-- ==== Proof.Mm.DownDw.lean ====
module

public import proofs.«01_k».proof.Defs
public import proofs.«01_k».proof.Proof.Gen.KernelDownDw.Frame
public import proofs.«01_k».proof.Proof.Gen.KernelDownDwIdeal.Value
public import proofs.«01_k».proof.Proof.Gen.ReferenceDownDwIdeal.Run
public import proofs.«01_k».proof.Proof.Gen.ReferenceDownDwIdeal.Read
public import Idealize.ShloMosaic.Lib.Pipeline.ValueKit
public import Idealize.ShloMosaic.Lib.Pipeline.ReadBack
public import Idealize.ShloMosaic.Lib.Claim

/-! The product DownDw: its 11 × 2 blocks of 512 × 1024 elements, each the sum over 2 blocks of 2048 contracted elements. -/

@[expose] public section

set_option maxRecDepth 16384

noncomputable section

open Idealize.ShloMosaic Idealize.ShloMosaic.TcCoe Idealize.SL.Sem

namespace Cert.KernelDownDwIdeal.Mm

open Cert.KernelDownDwIdeal Cert.KernelDownDwIdeal.Gen

variable [Cert.KernelDownDwIdeal.Facts] [Cert.ReferenceDownDwIdeal.Facts]
variable (m : (ℓ : Loc nD τ sig) → Buf (Elt Ideal) ℓ)

/-- The accumulator begins at zero. -/
theorem pay_zero (j : S512x1024.Idx) : k0_pay1 (F := Ideal) j = 0 := by pointwise [k0_pay1]

/-- Each step adds the product of the two blocks. -/
theorem pay_add (acc : FVec Ideal S512x1024 .f32) (x0 : FVec Ideal S2048x512 .bf16) (x1 : FVec Ideal S2048x1024 .f32) (j : S512x1024.Idx) :
    k0_pay2 acc x0 x1 j = acc j + ∑ k : Fin 2048, x0 (ix2 k (j 0)) * x1 (ix2 k (j 1)) := by pointwise [k0_pay2]

theorem pay_out (x : FVec Ideal S512x1024 .f32) (j : S512x1024.Idx) : k0_pay3 (F := Ideal) x j = x j := by pointwise [k0_pay3]

/-- The reference's result at an index. -/
theorem reference_at (x0 : FVec Ideal S4096x5632 .f32) (x1 : FVec Ideal S4096x2048 .f32) (j : S5632x2048.Idx) :
    Cert.ReferenceDownDwIdeal.Read.val_main_v4 (F := Ideal) x0 x1 j = ∑ k : Fin 4096, x1 (ix2 k (j 1)) * x0 (ix2 k (j 0)) := by
  pointwise [Cert.ReferenceDownDwIdeal.Read.val_main_v4, Cert.ReferenceDownDwIdeal.Read.val_main_v3, Cert.ReferenceDownDwIdeal.Read.val_main_v2]

theorem idx0 : ∀ t : Fin cfg0.N, win0_0.index t = ![t.val % 2, t.val / 4] := (by decide +kernel : ∀ t : Fin grid0.N, win0_0.index t = ![t.val % 2, t.val / 4])
theorem idx1 : ∀ t : Fin cfg0.N, win0_1.index t = ![t.val % 2, t.val / 2 % 2] := (by decide +kernel : ∀ t : Fin grid0.N, win0_1.index t = ![t.val % 2, t.val / 2 % 2])
theorem idx2 : ∀ t : Fin cfg0.N, win0_2.index t = ![t.val / 4, t.val / 2 % 2] := (by decide +kernel : ∀ t : Fin grid0.N, win0_2.index t = ![t.val / 4, t.val / 2 % 2])

/-- At a block's last point the accumulator is what is stored. -/
theorem last (c : Dev nD) (t : Fin cfg0.N) (h0 : ¬t.val % 2 = 0) (h1 : t.val % 2 = 1) (j : S512x1024.Idx) :
    (outsAt0 m c t.val t.isLt).1 j = (outsAt0 m c t.val t.isLt).2 j := by
  rw [outsAt0_B m c t h0 h1]
  frame_out
  rw [pay_out]

/-- The kernel's result is the reference's. -/
theorem final (c : Dev nD) : (dats m 0 c).arrAt 2 (cfgs 0).N =
    Cert.ReferenceDownDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 2 (fun _ => 0) _
    (fun t h j => by rw [outsAt0_A m c t h (by omega)]; frame_out; rw [pay_add, pay_zero])
    (fun t h j => by rw [outsAt0_B m c t h (by omega)]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelDownDwIdeal.Mm

namespace Cert.Proof.Mm

theorem frame_DownDw : Cert.quiescent_ReferenceDownDwIdeal := by
  intro m g _
  exact (θ_run Cert.ReferenceDownDwIdeal.defs _ _).mono (fun r h => ⟨fun c => (h c).2, sem_eq_zero_of_no_sems (by decide) r.2⟩)
    (Cert.ReferenceDownDwIdeal.Value.run m g)

theorem algebraic_DownDw : Cert.algebraic_KernelDownDwIdeal_ReferenceDownDwIdeal := by
  pair_intro
  · run_from Cert.KernelDownDwIdeal.Value.run_blocks m g
  · run_from Cert.ReferenceDownDwIdeal.Value.run m' g'
    rw [Cert.ReferenceDownDwIdeal.Read.val_main_v4_eq]
    exact (Cert.KernelDownDwIdeal.Mm.final m c).symm

end Cert.Proof.Mm
-- ==== Proof.Mm.UpDx.lean ====
module

public import proofs.«01_k».proof.Defs
public import proofs.«01_k».proof.Proof.Gen.KernelUpDx.Frame
public import proofs.«01_k».proof.Proof.Gen.KernelUpDxIdeal.Value
public import proofs.«01_k».proof.Proof.Gen.ReferenceUpDxIdeal.Run
public import proofs.«01_k».proof.Proof.Gen.ReferenceUpDxIdeal.Read
public import Idealize.ShloMosaic.Lib.Pipeline.ValueKit
public import Idealize.ShloMosaic.Lib.Pipeline.ReadBack
public import Idealize.ShloMosaic.Lib.Claim

/-! The product UpDx: its 4 × 2 blocks of 1024 × 1024 elements, each the sum over 11 blocks of 1024 contracted elements. -/

@[expose] public section

set_option maxRecDepth 16384

noncomputable section

open Idealize.ShloMosaic Idealize.ShloMosaic.TcCoe Idealize.SL.Sem

namespace Cert.KernelUpDxIdeal.Mm

open Cert.KernelUpDxIdeal Cert.KernelUpDxIdeal.Gen

variable [Cert.KernelUpDxIdeal.Facts] [Cert.ReferenceUpDxIdeal.Facts]
variable (m : (ℓ : Loc nD τ sig) → Buf (Elt Ideal) ℓ)

/-- The accumulator begins at zero. -/
theorem pay_zero (j : S1024x1024.Idx) : k0_pay1 (F := Ideal) j = 0 := by pointwise [k0_pay1]

/-- Each step adds the product of the two blocks. -/
theorem pay_add (acc : FVec Ideal S1024x1024 .f32) (x0 : FVec Ideal S1024x1024 .f32) (x1 : FVec Ideal S1024x1024 .bf16) (j : S1024x1024.Idx) :
    k0_pay2 acc x0 x1 j = acc j + ∑ k : Fin 1024, x0 (ix2 (j 0) k) * x1 (ix2 (j 1) k) := by pointwise [k0_pay2]

/-- The reference's result at an index. -/
theorem reference_at (x0 : FVec Ideal S2048x11264 .f32) (x1 : FVec Ideal S4096x11264 .f32) (j : S4096x2048.Idx) :
    Cert.ReferenceUpDxIdeal.Read.val_main_v2 (F := Ideal) x0 x1 j = ∑ k : Fin 11264, x1 (ix2 (j 0) k) * x0 (ix2 (j 1) k) := by
  pointwise [Cert.ReferenceUpDxIdeal.Read.val_main_v2]

theorem idx0 : ∀ t : Fin cfg0.N, win0_0.index t = ![t.val / 22, t.val % 11] := (by decide +kernel : ∀ t : Fin grid0.N, win0_0.index t = ![t.val / 22, t.val % 11])
theorem idx1 : ∀ t : Fin cfg0.N, win0_1.index t = ![t.val / 11 % 2, t.val % 11] := (by decide +kernel : ∀ t : Fin grid0.N, win0_1.index t = ![t.val / 11 % 2, t.val % 11])
theorem idx2 : ∀ t : Fin cfg0.N, win0_2.index t = ![t.val / 22, t.val / 11 % 2] := (by decide +kernel : ∀ t : Fin grid0.N, win0_2.index t = ![t.val / 22, t.val / 11 % 2])

/-- At a block's last point the accumulator is what is stored. -/
theorem last (c : Dev nD) (t : Fin cfg0.N) (h0 : ¬t.val % 11 = 0) (h1 : t.val % 11 = 10) (j : S1024x1024.Idx) :
    (outsAt0 m c t.val t.isLt).1 j = (outsAt0 m c t.val t.isLt).2 j := by
  rw [outsAt0_C m c t h0 h1]
  frame_out

/-- The kernel's result is the reference's. -/
theorem final (c : Dev nD) : (dats m 0 c).arrAt 2 (cfgs 0).N =
    Cert.ReferenceUpDxIdeal.Read.val_main_v2 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 11 (fun _ => 0) _
    (fun t h j => by rw [outsAt0_A m c t h (by omega)]; frame_out; rw [pay_add, pay_zero])
    (fun t h j => by
      by_cases h1 : t.val % 11 = 10
      · rw [outsAt0_C m c t h h1]; frame_out; simp only [read_unread_whole]; rw [pay_add]
      · rw [outsAt0_B m c t h h1]; frame_out; simp only [read_unread_whole]; rw [pay_add])
    t h1 _, zero_add, reference_at]
  refine Fin.sum_mul_add_congr fun s k hl => ?_
  refine congrArg₂ (· * ·) ?_ ?_
  · blk_ext [iblk, V, idx2 t, idx0 ⟨_, Pipeline.run_point_lt_of_flush t h1 s⟩]
  · blk_ext [iblk, V, idx2 t, idx1 ⟨_, Pipeline.run_point_lt_of_flush t h1 s⟩]

end Cert.KernelUpDxIdeal.Mm

namespace Cert.Proof.Mm

theorem frame_UpDx : Cert.quiescent_ReferenceUpDxIdeal := by
  intro m g _
  exact (θ_run Cert.ReferenceUpDxIdeal.defs _ _).mono (fun r h => ⟨fun c => (h c).2, sem_eq_zero_of_no_sems (by decide) r.2⟩)
    (Cert.ReferenceUpDxIdeal.Value.run m g)

theorem algebraic_UpDx : Cert.algebraic_KernelUpDxIdeal_ReferenceUpDxIdeal := by
  pair_intro
  · run_from Cert.KernelUpDxIdeal.Value.run_blocks m g
  · run_from Cert.ReferenceUpDxIdeal.Value.run m' g'
    exact (Cert.KernelUpDxIdeal.Mm.final m c).symm

end Cert.Proof.Mm
-- ==== Proof.Mm.UpDw.lean ====
module

public import proofs.«01_k».proof.Defs
public import proofs.«01_k».proof.Proof.Gen.KernelUpDw.Frame
public import proofs.«01_k».proof.Proof.Gen.KernelUpDwIdeal.Value
public import proofs.«01_k».proof.Proof.Gen.ReferenceUpDwIdeal.Run
public import proofs.«01_k».proof.Proof.Gen.ReferenceUpDwIdeal.Read
public import Idealize.ShloMosaic.Lib.Pipeline.ValueKit
public import Idealize.ShloMosaic.Lib.Pipeline.ReadBack
public import Idealize.ShloMosaic.Lib.Claim

/-! The product UpDw: its 2 × 11 blocks of 1024 × 1024 elements, each the sum over 4 blocks of 1024 contracted elements. -/

@[expose] public section

set_option maxRecDepth 16384

noncomputable section

open Idealize.ShloMosaic Idealize.ShloMosaic.TcCoe Idealize.SL.Sem

namespace Cert.KernelUpDwIdeal.Mm

open Cert.KernelUpDwIdeal Cert.KernelUpDwIdeal.Gen

variable [Cert.KernelUpDwIdeal.Facts] [Cert.ReferenceUpDwIdeal.Facts]
variable (m : (ℓ : Loc nD τ sig) → Buf (Elt Ideal) ℓ)

/-- The accumulator begins at zero. -/
theorem pay_zero (j : S1024x1024.Idx) : k0_pay1 (F := Ideal) j = 0 := by pointwise [k0_pay1]

/-- Each step adds the product of the two blocks. -/
theorem pay_add (acc : FVec Ideal S1024x1024 .f32) (x0 : FVec Ideal S1024x1024 .bf16) (x1 : FVec Ideal S1024x1024 .f32) (j : S1024x1024.Idx) :
    k0_pay2 acc x0 x1 j = acc j + ∑ k : Fin 1024, x0 (ix2 k (j 0)) * x1 (ix2 k (j 1)) := by pointwise [k0_pay2]

theorem pay_out (x : FVec Ideal S1024x1024 .f32) (j : S1024x1024.Idx) : k0_pay3 (F := Ideal) x j = x j := by pointwise [k0_pay3]

/-- The reference's result at an index. -/
theorem reference_at (x0 : FVec Ideal S4096x2048 .f32) (x1 : FVec Ideal S4096x11264 .f32) (j : S2048x11264.Idx) :
    Cert.ReferenceUpDwIdeal.Read.val_main_v4 (F := Ideal) x0 x1 j = ∑ k : Fin 4096, x1 (ix2 k (j 1)) * x0 (ix2 k (j 0)) := by
  pointwise [Cert.ReferenceUpDwIdeal.Read.val_main_v4, Cert.ReferenceUpDwIdeal.Read.val_main_v3, Cert.ReferenceUpDwIdeal.Read.val_main_v2]

theorem idx0 : ∀ t : Fin cfg0.N, win0_0.index t = ![t.val % 4, t.val / 44] := (by decide +kernel : ∀ t : Fin grid0.N, win0_0.index t = ![t.val % 4, t.val / 44])
theorem idx1 : ∀ t : Fin cfg0.N, win0_1.index t = ![t.val % 4, t.val / 4 % 11] := (by decide +kernel : ∀ t : Fin grid0.N, win0_1.index t = ![t.val % 4, t.val / 4 % 11])
theorem idx2 : ∀ t : Fin cfg0.N, win0_2.index t = ![t.val / 44, t.val / 4 % 11] := (by decide +kernel : ∀ t : Fin grid0.N, win0_2.index t = ![t.val / 44, t.val / 4 % 11])

/-- At a block's last point the accumulator is what is stored. -/
theorem last (c : Dev nD) (t : Fin cfg0.N) (h0 : ¬t.val % 4 = 0) (h1 : t.val % 4 = 3) (j : S1024x1024.Idx) :
    (outsAt0 m c t.val t.isLt).1 j = (outsAt0 m c t.val t.isLt).2 j := by
  rw [outsAt0_C m c t h0 h1]
  frame_out
  rw [pay_out]

/-- The kernel's result is the reference's. -/
theorem final (c : Dev nD) : (dats m 0 c).arrAt 2 (cfgs 0).N =
    Cert.ReferenceUpDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 4 (fun _ => 0) _
    (fun t h j => by rw [outsAt0_A m c t h (by omega)]; frame_out; rw [pay_add, pay_zero])
    (fun t h j => by
      by_cases h1 : t.val % 4 = 3
      · rw [outsAt0_C m c t h h1]; frame_out; simp only [read_unread_whole]; rw [pay_add]
      · rw [outsAt0_B m c t h h1]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelUpDwIdeal.Mm

namespace Cert.Proof.Mm

theorem frame_UpDw : Cert.quiescent_ReferenceUpDwIdeal := by
  intro m g _
  exact (θ_run Cert.ReferenceUpDwIdeal.defs _ _).mono (fun r h => ⟨fun c => (h c).2, sem_eq_zero_of_no_sems (by decide) r.2⟩)
    (Cert.ReferenceUpDwIdeal.Value.run m g)

theorem algebraic_UpDw : Cert.algebraic_KernelUpDwIdeal_ReferenceUpDwIdeal := by
  pair_intro
  · run_from Cert.KernelUpDwIdeal.Value.run_blocks m g
  · run_from Cert.ReferenceUpDwIdeal.Value.run m' g'
    rw [Cert.ReferenceUpDwIdeal.Read.val_main_v4_eq]
    exact (Cert.KernelUpDwIdeal.Mm.final m c).symm

end Cert.Proof.Mm
-- ==== Proof.Mm.OutDx.lean ====
module

public import proofs.«01_k».proof.Defs
public import proofs.«01_k».proof.Proof.Gen.KernelOutDx.Frame
public import proofs.«01_k».proof.Proof.Gen.KernelOutDxIdeal.Value
public import proofs.«01_k».proof.Proof.Gen.ReferenceOutDxIdeal.Run
public import proofs.«01_k».proof.Proof.Gen.ReferenceOutDxIdeal.Read
public import Idealize.ShloMosaic.Lib.Pipeline.ValueKit
public import Idealize.ShloMosaic.Lib.Pipeline.ReadBack
public import Idealize.ShloMosaic.Lib.Claim

/-! The product OutDx: its 4 × 2 blocks of 1024 × 1024 elements, each the sum over 2 blocks of 1024 contracted elements. -/

@[expose] public section

set_option maxRecDepth 16384

noncomputable section

open Idealize.ShloMosaic Idealize.ShloMosaic.TcCoe Idealize.SL.Sem

namespace Cert.KernelOutDxIdeal.Mm

open Cert.KernelOutDxIdeal Cert.KernelOutDxIdeal.Gen

variable [Cert.KernelOutDxIdeal.Facts] [Cert.ReferenceOutDxIdeal.Facts]
variable (m : (ℓ : Loc nD τ sig) → Buf (Elt Ideal) ℓ)

/-- The accumulator begins at zero. -/
theorem pay_zero (j : S1024x1024.Idx) : k0_pay1 (F := Ideal) j = 0 := by pointwise [k0_pay1]

/-- Each step adds the product of the two blocks. -/
theorem pay_add (acc : FVec Ideal S1024x1024 .f32) (x0 : FVec Ideal S1024x1024 .f32) (x1 : FVec Ideal S1024x1024 .bf16) (j : S1024x1024.Idx) :
    k0_pay2 acc x0 x1 j = acc j + ∑ k : Fin 1024, x0 (ix2 (j 0) k) * x1 (ix2 (j 1) k) := by pointwise [k0_pay2]

/-- The reference's result at an index. -/
theorem reference_at (x0 : FVec Ideal S2048x2048 .f32) (x1 : FVec Ideal S4096x2048 .f32) (j : S4096x2048.Idx) :
    Cert.ReferenceOutDxIdeal.Read.val_main_v2 (F := Ideal) x0 x1 j = ∑ k : Fin 2048, x1 (ix2 (j 0) k) * x0 (ix2 (j 1) k) := by
  pointwise [Cert.ReferenceOutDxIdeal.Read.val_main_v2]

theorem idx0 : ∀ t : Fin cfg0.N, win0_0.index t = ![t.val / 4, t.val % 2] := (by decide +kernel : ∀ t : Fin grid0.N, win0_0.index t = ![t.val / 4, t.val % 2])
theorem idx1 : ∀ t : Fin cfg0.N, win0_1.index t = ![t.val / 2 % 2, t.val % 2] := (by decide +kernel : ∀ t : Fin grid0.N, win0_1.index t = ![t.val / 2 % 2, t.val % 2])
theorem idx2 : ∀ t : Fin cfg0.N, win0_2.index t = ![t.val / 4, t.val / 2 % 2] := (by decide +kernel : ∀ t : Fin grid0.N, win0_2.index t = ![t.val / 4, t.val / 2 % 2])

/-- At a block's last point the accumulator is what is stored. -/
theorem last (c : Dev nD) (t : Fin cfg0.N) (h0 : ¬t.val % 2 = 0) (h1 : t.val % 2 = 1) (j : S1024x1024.Idx) :
    (outsAt0 m c t.val t.isLt).1 j = (outsAt0 m c t.val t.isLt).2 j := by
  rw [outsAt0_B m c t h0 h1]
  frame_out

/-- The kernel's result is the reference's. -/
theorem final (c : Dev nD) : (dats m 0 c).arrAt 2 (cfgs 0).N =
    Cert.ReferenceOutDxIdeal.Read.val_main_v2 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 2 (fun _ => 0) _
    (fun t h j => by rw [outsAt0_A m c t h (by omega)]; frame_out; rw [pay_add, pay_zero])
    (fun t h j => by rw [outsAt0_B m c t h (by omega)]; frame_out; simp only [read_unread_whole]; rw [pay_add])
    t h1 _, zero_add, reference_at]
  refine Fin.sum_mul_add_congr fun s k hl => ?_
  refine congrArg₂ (· * ·) ?_ ?_
  · blk_ext [iblk, V, idx2 t, idx0 ⟨_, Pipeline.run_point_lt_of_flush t h1 s⟩]
  · blk_ext [iblk, V, idx2 t, idx1 ⟨_, Pipeline.run_point_lt_of_flush t h1 s⟩]

end Cert.KernelOutDxIdeal.Mm

namespace Cert.Proof.Mm

theorem frame_OutDx : Cert.quiescent_ReferenceOutDxIdeal := by
  intro m g _
  exact (θ_run Cert.ReferenceOutDxIdeal.defs _ _).mono (fun r h => ⟨fun c => (h c).2, sem_eq_zero_of_no_sems (by decide) r.2⟩)
    (Cert.ReferenceOutDxIdeal.Value.run m g)

theorem algebraic_OutDx : Cert.algebraic_KernelOutDxIdeal_ReferenceOutDxIdeal := by
  pair_intro
  · run_from Cert.KernelOutDxIdeal.Value.run_blocks m g
  · run_from Cert.ReferenceOutDxIdeal.Value.run m' g'
    exact (Cert.KernelOutDxIdeal.Mm.final m c).symm

end Cert.Proof.Mm
-- ==== Proof.Mm.OutDw.lean ====
module

public import proofs.«01_k».proof.Defs
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.Gen.ReferenceOutDwIdeal.Read
public import Idealize.ShloMosaic.Lib.Pipeline.ValueKit
public import Idealize.ShloMosaic.Lib.Pipeline.ReadBack
public import Idealize.ShloMosaic.Lib.Claim

/-! The product OutDw: its 2 × 2 blocks of 1024 × 1024 elements, each the sum over 4 blocks of 1024 contracted elements. -/

@[expose] public section

set_option maxRecDepth 16384

noncomputable section

open Idealize.ShloMosaic Idealize.ShloMosaic.TcCoe Idealize.SL.Sem

namespace Cert.KernelOutDwIdeal.Mm

open Cert.KernelOutDwIdeal Cert.KernelOutDwIdeal.Gen

variable [Cert.KernelOutDwIdeal.Facts] [Cert.ReferenceOutDwIdeal.Facts]
variable (m : (ℓ : Loc nD τ sig) → Buf (Elt Ideal) ℓ)

/-- The accumulator begins at zero. -/
theorem pay_zero (j : S1024x1024.Idx) : k0_pay1 (F := Ideal) j = 0 := by pointwise [k0_pay1]

/-- Each step adds the product of the two blocks. -/
theorem pay_add (acc : FVec Ideal S1024x1024 .f32) (x0 : FVec Ideal S1024x1024 .bf16) (x1 : FVec Ideal S1024x1024 .f32) (j : S1024x1024.Idx) :
    k0_pay2 acc x0 x1 j = acc j + ∑ k : Fin 1024, x0 (ix2 k (j 0)) * x1 (ix2 k (j 1)) := by pointwise [k0_pay2]

theorem pay_out (x : FVec Ideal S1024x1024 .f32) (j : S1024x1024.Idx) : k0_pay3 (F := Ideal) x j = x j := by pointwise [k0_pay3]

/-- The reference's result at an index. -/
theorem reference_at (x0 : FVec Ideal S4096x2048 .f32) (x1 : FVec Ideal S4096x2048 .f32) (j : S2048x2048.Idx) :
    Cert.ReferenceOutDwIdeal.Read.val_main_v4 (F := Ideal) x0 x1 j = ∑ k : Fin 4096, x1 (ix2 k (j 1)) * x0 (ix2 k (j 0)) := by
  pointwise [Cert.ReferenceOutDwIdeal.Read.val_main_v4, Cert.ReferenceOutDwIdeal.Read.val_main_v3, Cert.ReferenceOutDwIdeal.Read.val_main_v2]

theorem idx0 : ∀ t : Fin cfg0.N, win0_0.index t = ![t.val % 4, t.val / 8] := (by decide +kernel : ∀ t : Fin grid0.N, win0_0.index t = ![t.val % 4, t.val / 8])
theorem idx1 : ∀ t : Fin cfg0.N, win0_1.index t = ![t.val % 4, t.val / 4 % 2] := (by decide +kernel : ∀ t : Fin grid0.N, win0_1.index t = ![t.val % 4, t.val / 4 % 2])
theorem idx2 : ∀ t : Fin cfg0.N, win0_2.index t = ![t.val / 8, t.val / 4 % 2] := (by decide +kernel : ∀ t : Fin grid0.N, win0_2.index t = ![t.val / 8, t.val / 4 % 2])

/-- At a block's last point the accumulator is what is stored. -/
theorem last (c : Dev nD) (t : Fin cfg0.N) (h0 : ¬t.val % 4 = 0) (h1 : t.val % 4 = 3) (j : S1024x1024.Idx) :
    (outsAt0 m c t.val t.isLt).1 j = (outsAt0 m c t.val t.isLt).2 j := by
  rw [outsAt0_C m c t h0 h1]
  frame_out
  rw [pay_out]

/-- The kernel's result is the reference's. -/
theorem final (c : Dev nD) : (dats m 0 c).arrAt 2 (cfgs 0).N =
    Cert.ReferenceOutDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 4 (fun _ => 0) _
    (fun t h j => by rw [outsAt0_A m c t h (by omega)]; frame_out; rw [pay_add, pay_zero])
    (fun t h j => by
      by_cases h1 : t.val % 4 = 3
      · rw [outsAt0_C m c t h h1]; frame_out; simp only [read_unread_whole]; rw [pay_add]
      · rw [outsAt0_B m c t h h1]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelOutDwIdeal.Mm

namespace Cert.Proof.Mm

theorem frame_OutDw : Cert.quiescent_ReferenceOutDwIdeal := by
  intro m g _
  exact (θ_run Cert.ReferenceOutDwIdeal.defs _ _).mono (fun r h => ⟨fun c => (h c).2, sem_eq_zero_of_no_sems (by decide) r.2⟩)
    (Cert.ReferenceOutDwIdeal.Value.run m g)

theorem algebraic_OutDw : Cert.algebraic_KernelOutDwIdeal_ReferenceOutDwIdeal := by
  pair_intro
  · run_from Cert.KernelOutDwIdeal.Value.run_blocks m g
  · run_from Cert.ReferenceOutDwIdeal.Value.run m' g'
    rw [Cert.ReferenceOutDwIdeal.Read.val_main_v4_eq]
    exact (Cert.KernelOutDwIdeal.Mm.final m c).symm

end Cert.Proof.Mm
-- ==== Proof.Mm.InDx.lean ====
module

public import proofs.«01_k».proof.Defs
public import proofs.«01_k».proof.Proof.Gen.KernelInDx.Frame
public import proofs.«01_k».proof.Proof.Gen.KernelInDxIdeal.Value
public import proofs.«01_k».proof.Proof.Gen.ReferenceInDxIdeal.Run
public import proofs.«01_k».proof.Proof.Gen.ReferenceInDxIdeal.Read
public import Idealize.ShloMosaic.Lib.Pipeline.ValueKit
public import Idealize.ShloMosaic.Lib.Pipeline.ReadBack
public import Idealize.ShloMosaic.Lib.Claim

/-! The product InDx: its 4 × 2 blocks of 1024 × 1024 elements, each the sum over 3 blocks of 1152 contracted elements. -/

@[expose] public section

set_option maxRecDepth 16384

noncomputable section

open Idealize.ShloMosaic Idealize.ShloMosaic.TcCoe Idealize.SL.Sem

namespace Cert.KernelInDxIdeal.Mm

open Cert.KernelInDxIdeal Cert.KernelInDxIdeal.Gen

variable [Cert.KernelInDxIdeal.Facts] [Cert.ReferenceInDxIdeal.Facts]
variable (m : (ℓ : Loc nD τ sig) → Buf (Elt Ideal) ℓ)

/-- The accumulator begins at zero. -/
theorem pay_zero (j : S1024x1024.Idx) : k0_pay1 (F := Ideal) j = 0 := by pointwise [k0_pay1]

/-- Each step adds the product of the two blocks. -/
theorem pay_add (acc : FVec Ideal S1024x1024 .f32) (x0 : FVec Ideal S1024x1152 .bf16) (x1 : FVec Ideal S1024x1152 .bf16) (j : S1024x1024.Idx) :
    k0_pay2 acc x0 x1 j = acc j + ∑ k : Fin 1152, x0 (ix2 (j 0) k) * x1 (ix2 (j 1) k) := by pointwise [k0_pay2]

/-- The reference's result at an index. -/
theorem reference_at (x0 : FVec Ideal S2048x3456 .f32) (x1 : FVec Ideal S4096x3456 .f32) (j : S4096x2048.Idx) :
    Cert.ReferenceInDxIdeal.Read.val_main_v2 (F := Ideal) x0 x1 j = ∑ k : Fin 3456, x1 (ix2 (j 0) k) * x0 (ix2 (j 1) k) := by
  pointwise [Cert.ReferenceInDxIdeal.Read.val_main_v2]

theorem idx0 : ∀ t : Fin cfg0.N, win0_0.index t = ![t.val / 6, t.val % 3] := (by decide +kernel : ∀ t : Fin grid0.N, win0_0.index t = ![t.val / 6, t.val % 3])
theorem idx1 : ∀ t : Fin cfg0.N, win0_1.index t = ![t.val / 3 % 2, t.val % 3] := (by decide +kernel : ∀ t : Fin grid0.N, win0_1.index t = ![t.val / 3 % 2, t.val % 3])
theorem idx2 : ∀ t : Fin cfg0.N, win0_2.index t = ![t.val / 6, t.val / 3 % 2] := (by decide +kernel : ∀ t : Fin grid0.N, win0_2.index t = ![t.val / 6, t.val / 3 % 2])

/-- At a block's last point the accumulator is what is stored. -/
theorem last (c : Dev nD) (t : Fin cfg0.N) (h0 : ¬t.val % 3 = 0) (h1 : t.val % 3 = 2) (j : S1024x1024.Idx) :
    (outsAt0 m c t.val t.isLt).1 j = (outsAt0 m c t.val t.isLt).2 j := by
  rw [outsAt0_C m c t h0 h1]
  frame_out

/-- The kernel's result is the reference's. -/
theorem final (c : Dev nD) : (dats m 0 c).arrAt 2 (cfgs 0).N =
    Cert.ReferenceInDxIdeal.Read.val_main_v2 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 3 (fun _ => 0) _
    (fun t h j => by rw [outsAt0_A m c t h (by omega)]; frame_out; rw [pay_add, pay_zero])
    (fun t h j => by
      by_cases h1 : t.val % 3 = 2
      · rw [outsAt0_C m c t h h1]; frame_out; simp only [read_unread_whole]; rw [pay_add]
      · rw [outsAt0_B m c t h h1]; frame_out; simp only [read_unread_whole]; rw [pay_add])
    t h1 _, zero_add, reference_at]
  refine Fin.sum_mul_add_congr fun s k hl => ?_
  refine congrArg₂ (· * ·) ?_ ?_
  · blk_ext [iblk, V, idx2 t, idx0 ⟨_, Pipeline.run_point_lt_of_flush t h1 s⟩]
  · blk_ext [iblk, V, idx2 t, idx1 ⟨_, Pipeline.run_point_lt_of_flush t h1 s⟩]

end Cert.KernelInDxIdeal.Mm

namespace Cert.Proof.Mm

theorem frame_InDx : Cert.quiescent_ReferenceInDxIdeal := by
  intro m g _
  exact (θ_run Cert.ReferenceInDxIdeal.defs _ _).mono (fun r h => ⟨fun c => (h c).2, sem_eq_zero_of_no_sems (by decide) r.2⟩)
    (Cert.ReferenceInDxIdeal.Value.run m g)

theorem algebraic_InDx : Cert.algebraic_KernelInDxIdeal_ReferenceInDxIdeal := by
  pair_intro
  · run_from Cert.KernelInDxIdeal.Value.run_blocks m g
  · run_from Cert.ReferenceInDxIdeal.Value.run m' g'
    exact (Cert.KernelInDxIdeal.Mm.final m c).symm

end Cert.Proof.Mm
-- ==== Proof.Mm.InDw.lean ====
module

public import proofs.«01_k».proof.Defs
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.Gen.ReferenceInDwIdeal.Read
public import Idealize.ShloMosaic.Lib.Pipeline.ValueKit
public import Idealize.ShloMosaic.Lib.Pipeline.ReadBack
public import Idealize.ShloMosaic.Lib.Claim

/-! The product InDw: its 2 × 9 blocks of 1024 × 384 elements, each the sum over 2 blocks of 2048 contracted elements. -/

@[expose] public section

set_option maxRecDepth 16384

noncomputable section

open Idealize.ShloMosaic Idealize.ShloMosaic.TcCoe Idealize.SL.Sem

namespace Cert.KernelInDwIdeal.Mm

open Cert.KernelInDwIdeal Cert.KernelInDwIdeal.Gen

variable [Cert.KernelInDwIdeal.Facts] [Cert.ReferenceInDwIdeal.Facts]
variable (m : (ℓ : Loc nD τ sig) → Buf (Elt Ideal) ℓ)

/-- The accumulator begins at zero. -/
theorem pay_zero (j : S1024x384.Idx) : k0_pay1 (F := Ideal) j = 0 := by pointwise [k0_pay1]

/-- Each step adds the product of the two blocks. -/
theorem pay_add (acc : FVec Ideal S1024x384 .f32) (x0 : FVec Ideal S2048x1024 .bf16) (x1 : FVec Ideal S2048x384 .bf16) (j : S1024x384.Idx) :
    k0_pay2 acc x0 x1 j = acc j + ∑ k : Fin 2048, x0 (ix2 k (j 0)) * x1 (ix2 k (j 1)) := by pointwise [k0_pay2]

theorem pay_out (x : FVec Ideal S1024x384 .f32) (j : S1024x384.Idx) : k0_pay3 (F := Ideal) x j = x j := by pointwise [k0_pay3]

/-- The reference's result at an index. -/
theorem reference_at (x0 : FVec Ideal S4096x2048 .f32) (x1 : FVec Ideal S4096x3456 .f32) (j : S2048x3456.Idx) :
    Cert.ReferenceInDwIdeal.Read.val_main_v4 (F := Ideal) x0 x1 j = ∑ k : Fin 4096, x1 (ix2 k (j 1)) * x0 (ix2 k (j 0)) := by
  pointwise [Cert.ReferenceInDwIdeal.Read.val_main_v4, Cert.ReferenceInDwIdeal.Read.val_main_v3, Cert.ReferenceInDwIdeal.Read.val_main_v2]

theorem idx0 : ∀ t : Fin cfg0.N, win0_0.index t = ![t.val % 2, t.val / 18] := (by decide +kernel : ∀ t : Fin grid0.N, win0_0.index t = ![t.val % 2, t.val / 18])
theorem idx1 : ∀ t : Fin cfg0.N, win0_1.index t = ![t.val % 2, t.val / 2 % 9] := (by decide +kernel : ∀ t : Fin grid0.N, win0_1.index t = ![t.val % 2, t.val / 2 % 9])
theorem idx2 : ∀ t : Fin cfg0.N, win0_2.index t = ![t.val / 18, t.val / 2 % 9] := (by decide +kernel : ∀ t : Fin grid0.N, win0_2.index t = ![t.val / 18, t.val / 2 % 9])

/-- At a block's last point the accumulator is what is stored. -/
theorem last (c : Dev nD) (t : Fin cfg0.N) (h0 : ¬t.val % 2 = 0) (h1 : t.val % 2 = 1) (j : S1024x384.Idx) :
    (outsAt0 m c t.val t.isLt).1 j = (outsAt0 m c t.val t.isLt).2 j := by
  rw [outsAt0_B m c t h0 h1]
  frame_out
  rw [pay_out]

/-- The kernel's result is the reference's. -/
theorem final (c : Dev nD) : (dats m 0 c).arrAt 2 (cfgs 0).N =
    Cert.ReferenceInDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 2 (fun _ => 0) _
    (fun t h j => by rw [outsAt0_A m c t h (by omega)]; frame_out; rw [pay_add, pay_zero])
    (fun t h j => by rw [outsAt0_B m c t h (by omega)]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelInDwIdeal.Mm

namespace Cert.Proof.Mm

theorem frame_InDw : Cert.quiescent_ReferenceInDwIdeal := by
  intro m g _
  exact (θ_run Cert.ReferenceInDwIdeal.defs _ _).mono (fun r h => ⟨fun c => (h c).2, sem_eq_zero_of_no_sems (by decide) r.2⟩)
    (Cert.ReferenceInDwIdeal.Value.run m g)

theorem algebraic_InDw : Cert.algebraic_KernelInDwIdeal_ReferenceInDwIdeal := by
  pair_intro
  · run_from Cert.KernelInDwIdeal.Value.run_blocks m g
  · run_from Cert.ReferenceInDwIdeal.Value.run m' g'
    rw [Cert.ReferenceInDwIdeal.Read.val_main_v4_eq]
    exact (Cert.KernelInDwIdeal.Mm.final m c).symm

end Cert.Proof.Mm
-- ==== Proof.Mm.GluDx.lean ====
module

public import proofs.«01_k».proof.Defs
public import proofs.«01_k».proof.Proof.Gen.KernelGluDx.Frame
public import proofs.«01_k».proof.Proof.Gen.KernelGluDxIdeal.Value
public import proofs.«01_k».proof.Proof.Gen.ReferenceGluDxIdeal.Run
public import proofs.«01_k».proof.Proof.Gen.ReferenceGluDxIdeal.Read
public import Idealize.ShloMosaic.Lib.Pipeline.ValueKit
public import Idealize.ShloMosaic.Lib.Pipeline.ReadBack
public import Idealize.ShloMosaic.Lib.Claim

/-! The product GluDx: its 4 × 1 blocks of 1024 × 512 elements, each the sum over 1 block of 512 contracted elements. -/

@[expose] public section

set_option maxRecDepth 16384

noncomputable section

open Idealize.ShloMosaic Idealize.ShloMosaic.TcCoe Idealize.SL.Sem

namespace Cert.KernelGluDxIdeal.Mm

open Cert.KernelGluDxIdeal Cert.KernelGluDxIdeal.Gen

variable [Cert.KernelGluDxIdeal.Facts] [Cert.ReferenceGluDxIdeal.Facts]
variable (m : (ℓ : Loc nD τ sig) → Buf (Elt Ideal) ℓ)

/-- The block stored is the product of the two blocks. -/
theorem pay (x0 : FVec Ideal S1024x512 .f32) (x1 : FVec Ideal S512x512 .bf16) (j : S1024x512.Idx) :
    k0_pay1 x0 x1 j = ∑ k : Fin 512, x0 (ix2 (j 0) k) * x1 (ix2 (j 1) k) := by pointwise [k0_pay1]

/-- The reference's result at an index. -/
theorem reference_at (x0 : FVec Ideal S512x512 .f32) (x1 : FVec Ideal S4096x512 .f32) (j : S4096x512.Idx) :
    Cert.ReferenceGluDxIdeal.Read.val_main_v2 (F := Ideal) x0 x1 j = ∑ k : Fin 512, x1 (ix2 (j 0) k) * x0 (ix2 (j 1) k) := by
  pointwise [Cert.ReferenceGluDxIdeal.Read.val_main_v2]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- The kernel's result is the reference's. -/
theorem final (c : Dev nD) : (dats m 0 c).arrAt 2 (cfgs 0).N =
    Cert.ReferenceGluDxIdeal.Read.val_main_v2 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelGluDxIdeal.Mm

namespace Cert.Proof.Mm

theorem frame_GluDx : Cert.quiescent_ReferenceGluDxIdeal := by
  intro m g _
  exact (θ_run Cert.ReferenceGluDxIdeal.defs _ _).mono (fun r h => ⟨fun c => (h c).2, sem_eq_zero_of_no_sems (by decide) r.2⟩)
    (Cert.ReferenceGluDxIdeal.Value.run m g)

theorem algebraic_GluDx : Cert.algebraic_KernelGluDxIdeal_ReferenceGluDxIdeal := by
  pair_intro
  · run_from Cert.KernelGluDxIdeal.Value.run_blocks m g
  · run_from Cert.ReferenceGluDxIdeal.Value.run m' g'
    exact (Cert.KernelGluDxIdeal.Mm.final m c).symm

end Cert.Proof.Mm
-- ==== Proof.Mm.GluDw.lean ====
module

public import proofs.«01_k».proof.Defs
public import proofs.«01_k».proof.Proof.Gen.KernelGluDw.Frame
public import proofs.«01_k».proof.Proof.Gen.KernelGluDwIdeal.Value
public import proofs.«01_k».proof.Proof.Gen.ReferenceGluDwIdeal.Run
public import proofs.«01_k».proof.Proof.Gen.ReferenceGluDwIdeal.Read
public import Idealize.ShloMosaic.Lib.Pipeline.ValueKit
public import Idealize.ShloMosaic.Lib.Pipeline.ReadBack
public import Idealize.ShloMosaic.Lib.Claim

/-! The product GluDw: its 1 × 1 blocks of 512 × 512 elements, each the sum over 2 blocks of 2048 contracted elements. -/

@[expose] public section

set_option maxRecDepth 16384

noncomputable section

open Idealize.ShloMosaic Idealize.ShloMosaic.TcCoe Idealize.SL.Sem

namespace Cert.KernelGluDwIdeal.Mm

open Cert.KernelGluDwIdeal Cert.KernelGluDwIdeal.Gen

variable [Cert.KernelGluDwIdeal.Facts] [Cert.ReferenceGluDwIdeal.Facts]
variable (m : (ℓ : Loc nD τ sig) → Buf (Elt Ideal) ℓ)

/-- The accumulator begins at zero. -/
theorem pay_zero (j : S512x512.Idx) : k0_pay1 (F := Ideal) j = 0 := by pointwise [k0_pay1]

/-- Each step adds the product of the two blocks. -/
theorem pay_add (acc : FVec Ideal S512x512 .f32) (x0 : FVec Ideal S2048x512 .f32) (x1 : FVec Ideal S2048x512 .f32) (j : S512x512.Idx) :
    k0_pay2 acc x0 x1 j = acc j + ∑ k : Fin 2048, x0 (ix2 k (j 0)) * x1 (ix2 k (j 1)) := by pointwise [k0_pay2]

theorem pay_out (x : FVec Ideal S512x512 .f32) (j : S512x512.Idx) : k0_pay3 (F := Ideal) x j = x j := by pointwise [k0_pay3]

/-- The reference's result at an index. -/
theorem reference_at (x0 : FVec Ideal S4096x512 .f32) (x1 : FVec Ideal S4096x512 .f32) (j : S512x512.Idx) :
    Cert.ReferenceGluDwIdeal.Read.val_main_v4 (F := Ideal) x0 x1 j = ∑ k : Fin 4096, x1 (ix2 k (j 1)) * x0 (ix2 k (j 0)) := by
  pointwise [Cert.ReferenceGluDwIdeal.Read.val_main_v4, Cert.ReferenceGluDwIdeal.Read.val_main_v3, Cert.ReferenceGluDwIdeal.Read.val_main_v2]

theorem idx0 : ∀ t : Fin cfg0.N, win0_0.index t = ![t.val % 2, 0] := (by decide +kernel : ∀ t : Fin grid0.N, win0_0.index t = ![t.val % 2, 0])
theorem idx1 : ∀ t : Fin cfg0.N, win0_1.index t = ![t.val % 2, 0] := (by decide +kernel : ∀ t : Fin grid0.N, win0_1.index t = ![t.val % 2, 0])
theorem idx2 : ∀ t : Fin cfg0.N, win0_2.index t = ![0, 0] := (by decide +kernel : ∀ t : Fin grid0.N, win0_2.index t = ![0, 0])

/-- At a block's last point the accumulator is what is stored. -/
theorem last (c : Dev nD) (t : Fin cfg0.N) (h0 : ¬t.val % 2 = 0) (h1 : t.val % 2 = 1) (j : S512x512.Idx) :
    (outsAt0 m c t.val t.isLt).1 j = (outsAt0 m c t.val t.isLt).2 j := by
  rw [outsAt0_B m c t h0 h1]
  frame_out
  rw [pay_out]

/-- The kernel's result is the reference's. -/
theorem final (c : Dev nD) : (dats m 0 c).arrAt 2 (cfgs 0).N =
    Cert.ReferenceGluDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 2 (fun _ => 0) _
    (fun t h j => by rw [outsAt0_A m c t h (by omega)]; frame_out; rw [pay_add, pay_zero])
    (fun t h j => by rw [outsAt0_B m c t h (by omega)]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelGluDwIdeal.Mm

namespace Cert.Proof.Mm

theorem frame_GluDw : Cert.quiescent_ReferenceGluDwIdeal := by
  intro m g _
  exact (θ_run Cert.ReferenceGluDwIdeal.defs _ _).mono (fun r h => ⟨fun c => (h c).2, sem_eq_zero_of_no_sems (by decide) r.2⟩)
    (Cert.ReferenceGluDwIdeal.Value.run m g)

theorem algebraic_GluDw : Cert.algebraic_KernelGluDwIdeal_ReferenceGluDwIdeal := by
  pair_intro
  · run_from Cert.KernelGluDwIdeal.Value.run_blocks m g
  · run_from Cert.ReferenceGluDwIdeal.Value.run m' g'
    rw [Cert.ReferenceGluDwIdeal.Read.val_main_v4_eq]
    exact (Cert.KernelGluDwIdeal.Mm.final m c).symm

end Cert.Proof.Mm
-- ==== Proof.Mm.UqDx.lean ====
module

public import proofs.«01_k».proof.Defs
public import proofs.«01_k».proof.Proof.Gen.KernelUqDx.Frame
public import proofs.«01_k».proof.Proof.Gen.KernelUqDxIdeal.Value
public import proofs.«01_k».proof.Proof.Gen.ReferenceUqDxIdeal.Run
public import proofs.«01_k».proof.Proof.Gen.ReferenceUqDxIdeal.Read
public import Idealize.ShloMosaic.Lib.Pipeline.ValueKit
public import Idealize.ShloMosaic.Lib.Pipeline.ReadBack
public import Idealize.ShloMosaic.Lib.Claim

/-! The product UqDx: its 4 × 1 blocks of 1024 × 512 elements, each the sum over 1 block of 2048 contracted elements. -/

@[expose] public section

set_option maxRecDepth 16384

noncomputable section

open Idealize.ShloMosaic Idealize.ShloMosaic.TcCoe Idealize.SL.Sem

namespace Cert.KernelUqDxIdeal.Mm

open Cert.KernelUqDxIdeal Cert.KernelUqDxIdeal.Gen

variable [Cert.KernelUqDxIdeal.Facts] [Cert.ReferenceUqDxIdeal.Facts]
variable (m : (ℓ : Loc nD τ sig) → Buf (Elt Ideal) ℓ)

/-- The block stored is the product of the two blocks. -/
theorem pay (x0 : FVec Ideal S1024x2048 .f32) (x1 : FVec Ideal S512x2048 .bf16) (j : S1024x512.Idx) :
    k0_pay1 x0 x1 j = ∑ k : Fin 2048, x0 (ix2 (j 0) k) * x1 (ix2 (j 1) k) := by pointwise [k0_pay1]

/-- The reference's result at an index. -/
theorem reference_at (x0 : FVec Ideal S512x2048 .f32) (x1 : FVec Ideal S4096x2048 .f32) (j : S4096x512.Idx) :
    Cert.ReferenceUqDxIdeal.Read.val_main_v2 (F := Ideal) x0 x1 j = ∑ k : Fin 2048, x1 (ix2 (j 0) k) * x0 (ix2 (j 1) k) := by
  pointwise [Cert.ReferenceUqDxIdeal.Read.val_main_v2]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- The kernel's result is the reference's. -/
theorem final (c : Dev nD) : (dats m 0 c).arrAt 2 (cfgs 0).N =
    Cert.ReferenceUqDxIdeal.Read.val_main_v2 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelUqDxIdeal.Mm

namespace Cert.Proof.Mm

theorem frame_UqDx : Cert.quiescent_ReferenceUqDxIdeal := by
  intro m g _
  exact (θ_run Cert.ReferenceUqDxIdeal.defs _ _).mono (fun r h => ⟨fun c => (h c).2, sem_eq_zero_of_no_sems (by decide) r.2⟩)
    (Cert.ReferenceUqDxIdeal.Value.run m g)

theorem algebraic_UqDx : Cert.algebraic_KernelUqDxIdeal_ReferenceUqDxIdeal := by
  pair_intro
  · run_from Cert.KernelUqDxIdeal.Value.run_blocks m g
  · run_from Cert.ReferenceUqDxIdeal.Value.run m' g'
    exact (Cert.KernelUqDxIdeal.Mm.final m c).symm

end Cert.Proof.Mm
-- ==== Proof.Mm.UqDw.lean ====
module

public import proofs.«01_k».proof.Defs
public import proofs.«01_k».proof.Proof.Gen.KernelUqDw.Frame
public import proofs.«01_k».proof.Proof.Gen.KernelUqDwIdeal.Value
public import proofs.«01_k».proof.Proof.Gen.ReferenceUqDwIdeal.Run
public import proofs.«01_k».proof.Proof.Gen.ReferenceUqDwIdeal.Read
public import Idealize.ShloMosaic.Lib.Pipeline.ValueKit
public import Idealize.ShloMosaic.Lib.Pipeline.ReadBack
public import Idealize.ShloMosaic.Lib.Claim

/-! The product UqDw: its 1 × 2 blocks of 512 × 1024 elements, each the sum over 2 blocks of 2048 contracted elements. -/

@[expose] public section

set_option maxRecDepth 16384

noncomputable section

open Idealize.ShloMosaic Idealize.ShloMosaic.TcCoe Idealize.SL.Sem

namespace Cert.KernelUqDwIdeal.Mm

open Cert.KernelUqDwIdeal Cert.KernelUqDwIdeal.Gen

variable [Cert.KernelUqDwIdeal.Facts] [Cert.ReferenceUqDwIdeal.Facts]
variable (m : (ℓ : Loc nD τ sig) → Buf (Elt Ideal) ℓ)

/-- The accumulator begins at zero. -/
theorem pay_zero (j : S512x1024.Idx) : k0_pay1 (F := Ideal) j = 0 := by pointwise [k0_pay1]

/-- Each step adds the product of the two blocks. -/
theorem pay_add (acc : FVec Ideal S512x1024 .f32) (x0 : FVec Ideal S2048x512 .bf16) (x1 : FVec Ideal S2048x1024 .f32) (j : S512x1024.Idx) :
    k0_pay2 acc x0 x1 j = acc j + ∑ k : Fin 2048, x0 (ix2 k (j 0)) * x1 (ix2 k (j 1)) := by pointwise [k0_pay2]

theorem pay_out (x : FVec Ideal S512x1024 .f32) (j : S512x1024.Idx) : k0_pay3 (F := Ideal) x j = x j := by pointwise [k0_pay3]

/-- The reference's result at an index. -/
theorem reference_at (x0 : FVec Ideal S4096x512 .f32) (x1 : FVec Ideal S4096x2048 .f32) (j : S512x2048.Idx) :
    Cert.ReferenceUqDwIdeal.Read.val_main_v4 (F := Ideal) x0 x1 j = ∑ k : Fin 4096, x1 (ix2 k (j 1)) * x0 (ix2 k (j 0)) := by
  pointwise [Cert.ReferenceUqDwIdeal.Read.val_main_v4, Cert.ReferenceUqDwIdeal.Read.val_main_v3, Cert.ReferenceUqDwIdeal.Read.val_main_v2]

theorem idx0 : ∀ t : Fin cfg0.N, win0_0.index t = ![t.val % 2, 0] := (by decide +kernel : ∀ t : Fin grid0.N, win0_0.index t = ![t.val % 2, 0])
theorem idx1 : ∀ t : Fin cfg0.N, win0_1.index t = ![t.val % 2, t.val / 2 % 2] := (by decide +kernel : ∀ t : Fin grid0.N, win0_1.index t = ![t.val % 2, t.val / 2 % 2])
theorem idx2 : ∀ t : Fin cfg0.N, win0_2.index t = ![0, t.val / 2 % 2] := (by decide +kernel : ∀ t : Fin grid0.N, win0_2.index t = ![0, t.val / 2 % 2])

/-- At a block's last point the accumulator is what is stored. -/
theorem last (c : Dev nD) (t : Fin cfg0.N) (h0 : ¬t.val % 2 = 0) (h1 : t.val % 2 = 1) (j : S512x1024.Idx) :
    (outsAt0 m c t.val t.isLt).1 j = (outsAt0 m c t.val t.isLt).2 j := by
  rw [outsAt0_B m c t h0 h1]
  frame_out
  rw [pay_out]

/-- The kernel's result is the reference's. -/
theorem final (c : Dev nD) : (dats m 0 c).arrAt 2 (cfgs 0).N =
    Cert.ReferenceUqDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 2 (fun _ => 0) _
    (fun t h j => by rw [outsAt0_A m c t h (by omega)]; frame_out; rw [pay_add, pay_zero])
    (fun t h j => by rw [outsAt0_B m c t h (by omega)]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelUqDwIdeal.Mm

namespace Cert.Proof.Mm

theorem frame_UqDw : Cert.quiescent_ReferenceUqDwIdeal := by
  intro m g _
  exact (θ_run Cert.ReferenceUqDwIdeal.defs _ _).mono (fun r h => ⟨fun c => (h c).2, sem_eq_zero_of_no_sems (by decide) r.2⟩)
    (Cert.ReferenceUqDwIdeal.Value.run m g)

theorem algebraic_UqDw : Cert.algebraic_KernelUqDwIdeal_ReferenceUqDwIdeal := by
  pair_intro
  · run_from Cert.KernelUqDwIdeal.Value.run_blocks m g
  · run_from Cert.ReferenceUqDwIdeal.Value.run m' g'
    rw [Cert.ReferenceUqDwIdeal.Read.val_main_v4_eq]
    exact (Cert.KernelUqDwIdeal.Mm.final m c).symm

end Cert.Proof.Mm
-- ==== Proof.Mm.UkvDx.lean ====
module

public import proofs.«01_k».proof.Defs
public import proofs.«01_k».proof.Proof.Gen.KernelUkvDx.Frame
public import proofs.«01_k».proof.Proof.Gen.KernelUkvDxIdeal.Value
public import proofs.«01_k».proof.Proof.Gen.ReferenceUkvDxIdeal.Run
public import proofs.«01_k».proof.Proof.Gen.ReferenceUkvDxIdeal.Read
public import Idealize.ShloMosaic.Lib.Pipeline.ValueKit
public import Idealize.ShloMosaic.Lib.Pipeline.ReadBack
public import Idealize.ShloMosaic.Lib.Claim

/-! The product UkvDx: its 4 × 1 blocks of 1024 × 256 elements, each the sum over 1 block of 2048 contracted elements. -/

@[expose] public section

set_option maxRecDepth 16384

noncomputable section

open Idealize.ShloMosaic Idealize.ShloMosaic.TcCoe Idealize.SL.Sem

namespace Cert.KernelUkvDxIdeal.Mm

open Cert.KernelUkvDxIdeal Cert.KernelUkvDxIdeal.Gen

variable [Cert.KernelUkvDxIdeal.Facts] [Cert.ReferenceUkvDxIdeal.Facts]
variable (m : (ℓ : Loc nD τ sig) → Buf (Elt Ideal) ℓ)

/-- The block stored is the product of the two blocks. -/
theorem pay (x0 : FVec Ideal S1024x2048 .f32) (x1 : FVec Ideal S256x2048 .bf16) (j : S1024x256.Idx) :
    k0_pay1 x0 x1 j = ∑ k : Fin 2048, x0 (ix2 (j 0) k) * x1 (ix2 (j 1) k) := by pointwise [k0_pay1]

/-- The reference's result at an index. -/
theorem reference_at (x0 : FVec Ideal S256x2048 .f32) (x1 : FVec Ideal S4096x2048 .f32) (j : S4096x256.Idx) :
    Cert.ReferenceUkvDxIdeal.Read.val_main_v2 (F := Ideal) x0 x1 j = ∑ k : Fin 2048, x1 (ix2 (j 0) k) * x0 (ix2 (j 1) k) := by
  pointwise [Cert.ReferenceUkvDxIdeal.Read.val_main_v2]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- The kernel's result is the reference's. -/
theorem final (c : Dev nD) : (dats m 0 c).arrAt 2 (cfgs 0).N =
    Cert.ReferenceUkvDxIdeal.Read.val_main_v2 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelUkvDxIdeal.Mm

namespace Cert.Proof.Mm

theorem frame_UkvDx : Cert.quiescent_ReferenceUkvDxIdeal := by
  intro m g _
  exact (θ_run Cert.ReferenceUkvDxIdeal.defs _ _).mono (fun r h => ⟨fun c => (h c).2, sem_eq_zero_of_no_sems (by decide) r.2⟩)
    (Cert.ReferenceUkvDxIdeal.Value.run m g)

theorem algebraic_UkvDx : Cert.algebraic_KernelUkvDxIdeal_ReferenceUkvDxIdeal := by
  pair_intro
  · run_from Cert.KernelUkvDxIdeal.Value.run_blocks m g
  · run_from Cert.ReferenceUkvDxIdeal.Value.run m' g'
    exact (Cert.KernelUkvDxIdeal.Mm.final m c).symm

end Cert.Proof.Mm
-- ==== Proof.Mm.UkvDw.lean ====
module

public import proofs.«01_k».proof.Defs
public import proofs.«01_k».proof.Proof.Gen.KernelUkvDw.Frame
public import proofs.«01_k».proof.Proof.Gen.KernelUkvDwIdeal.Value
public import proofs.«01_k».proof.Proof.Gen.ReferenceUkvDwIdeal.Run
public import proofs.«01_k».proof.Proof.Gen.ReferenceUkvDwIdeal.Read
public import Idealize.ShloMosaic.Lib.Pipeline.ValueKit
public import Idealize.ShloMosaic.Lib.Pipeline.ReadBack
public import Idealize.ShloMosaic.Lib.Claim

/-! The product UkvDw: its 1 × 2 blocks of 256 × 1024 elements, each the sum over 2 blocks of 2048 contracted elements. -/

@[expose] public section

set_option maxRecDepth 16384

noncomputable section

open Idealize.ShloMosaic Idealize.ShloMosaic.TcCoe Idealize.SL.Sem

namespace Cert.KernelUkvDwIdeal.Mm

open Cert.KernelUkvDwIdeal Cert.KernelUkvDwIdeal.Gen

variable [Cert.KernelUkvDwIdeal.Facts] [Cert.ReferenceUkvDwIdeal.Facts]
variable (m : (ℓ : Loc nD τ sig) → Buf (Elt Ideal) ℓ)

/-- The accumulator begins at zero. -/
theorem pay_zero (j : S256x1024.Idx) : k0_pay1 (F := Ideal) j = 0 := by pointwise [k0_pay1]

/-- Each step adds the product of the two blocks. -/
theorem pay_add (acc : FVec Ideal S256x1024 .f32) (x0 : FVec Ideal S2048x256 .bf16) (x1 : FVec Ideal S2048x1024 .f32) (j : S256x1024.Idx) :
    k0_pay2 acc x0 x1 j = acc j + ∑ k : Fin 2048, x0 (ix2 k (j 0)) * x1 (ix2 k (j 1)) := by pointwise [k0_pay2]

theorem pay_out (x : FVec Ideal S256x1024 .f32) (j : S256x1024.Idx) : k0_pay3 (F := Ideal) x j = x j := by pointwise [k0_pay3]

/-- The reference's result at an index. -/
theorem reference_at (x0 : FVec Ideal S4096x256 .f32) (x1 : FVec Ideal S4096x2048 .f32) (j : S256x2048.Idx) :
    Cert.ReferenceUkvDwIdeal.Read.val_main_v4 (F := Ideal) x0 x1 j = ∑ k : Fin 4096, x1 (ix2 k (j 1)) * x0 (ix2 k (j 0)) := by
  pointwise [Cert.ReferenceUkvDwIdeal.Read.val_main_v4, Cert.ReferenceUkvDwIdeal.Read.val_main_v3, Cert.ReferenceUkvDwIdeal.Read.val_main_v2]

theorem idx0 : ∀ t : Fin cfg0.N, win0_0.index t = ![t.val % 2, 0] := (by decide +kernel : ∀ t : Fin grid0.N, win0_0.index t = ![t.val % 2, 0])
theorem idx1 : ∀ t : Fin cfg0.N, win0_1.index t = ![t.val % 2, t.val / 2 % 2] := (by decide +kernel : ∀ t : Fin grid0.N, win0_1.index t = ![t.val % 2, t.val / 2 % 2])
theorem idx2 : ∀ t : Fin cfg0.N, win0_2.index t = ![0, t.val / 2 % 2] := (by decide +kernel : ∀ t : Fin grid0.N, win0_2.index t = ![0, t.val / 2 % 2])

/-- At a block's last point the accumulator is what is stored. -/
theorem last (c : Dev nD) (t : Fin cfg0.N) (h0 : ¬t.val % 2 = 0) (h1 : t.val % 2 = 1) (j : S256x1024.Idx) :
    (outsAt0 m c t.val t.isLt).1 j = (outsAt0 m c t.val t.isLt).2 j := by
  rw [outsAt0_B m c t h0 h1]
  frame_out
  rw [pay_out]

/-- The kernel's result is the reference's. -/
theorem final (c : Dev nD) : (dats m 0 c).arrAt 2 (cfgs 0).N =
    Cert.ReferenceUkvDwIdeal.Read.val_main_v4 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 2 (fun _ => 0) _
    (fun t h j => by rw [outsAt0_A m c t h (by omega)]; frame_out; rw [pay_add, pay_zero])
    (fun t h j => by rw [outsAt0_B m c t h (by omega)]; frame_out; simp only [read_unread_whole]; rw [pay_add])
    t h1 _, zero_add, reference_at]
  refine Fin.sum_mul_add_congr fun s k hl => ?_
  rw [mul_comm]
  refine congrArg₂ (· * ·) ?_ ?_
  · blk_ext [iblk, V, idx2 t, idx1 ⟨_, Pipeline.run_point_lt_of_flush t h1 s⟩]
  · blk_ext [iblk, V, idx2 t, idx0 ⟨_, Pipeline.run_point_lt_of_flush t h1 s⟩]

end Cert.KernelUkvDwIdeal.Mm

namespace Cert.Proof.Mm

theorem frame_UkvDw : Cert.quiescent_ReferenceUkvDwIdeal := by
  intro m g _
  exact (θ_run Cert.ReferenceUkvDwIdeal.defs _ _).mono (fun r h => ⟨fun c => (h c).2, sem_eq_zero_of_no_sems (by decide) r.2⟩)
    (Cert.ReferenceUkvDwIdeal.Value.run m g)

theorem algebraic_UkvDw : Cert.algebraic_KernelUkvDwIdeal_ReferenceUkvDwIdeal := by
  pair_intro
  · run_from Cert.KernelUkvDwIdeal.Value.run_blocks m g
  · run_from Cert.ReferenceUkvDwIdeal.Value.run m' g'
    rw [Cert.ReferenceUkvDwIdeal.Read.val_main_v4_eq]
    exact (Cert.KernelUkvDwIdeal.Mm.final m c).symm

end Cert.Proof.Mm
-- ==== Proof.Mm.AdaDw.lean ====
module

public import proofs.«01_k».proof.Defs
public import proofs.«01_k».proof.Proof.Gen.KernelAdaDw.Frame
public import proofs.«01_k».proof.Proof.Gen.KernelAdaDwIdeal.Value
public import proofs.«01_k».proof.Proof.Gen.ReferenceAdaDwIdeal.Run
public import proofs.«01_k».proof.Proof.Gen.ReferenceAdaDwIdeal.Read
public import Idealize.ShloMosaic.Lib.Pipeline.ValueKit
public import Idealize.ShloMosaic.Lib.Pipeline.ReadBack
public import Idealize.ShloMosaic.Lib.Claim

/-! The product AdaDw: its 2 × 2 blocks of 1024 × 768 elements, each the sum over 1 block of 8 contracted elements. -/

@[expose] public section

set_option maxRecDepth 16384

noncomputable section

open Idealize.ShloMosaic Idealize.ShloMosaic.TcCoe Idealize.SL.Sem

namespace Cert.KernelAdaDwIdeal.Mm

open Cert.KernelAdaDwIdeal Cert.KernelAdaDwIdeal.Gen

variable [Cert.KernelAdaDwIdeal.Facts] [Cert.ReferenceAdaDwIdeal.Facts]
variable (m : (ℓ : Loc nD τ sig) → Buf (Elt Ideal) ℓ)

/-- The block stored is the product of the two blocks. -/
theorem pay (x0 : FVec Ideal S8x1024 .f32) (x1 : FVec Ideal S8x768 .f32) (j : S1024x768.Idx) :
    k0_pay1 x0 x1 j = ∑ k : Fin 8, x0 (ix2 k (j 0)) * x1 (ix2 k (j 1)) := by pointwise [k0_pay1]

/-- The reference's result at an index. -/
theorem reference_at (x0 : FVec Ideal S8x2048 .f32) (x1 : FVec Ideal S8x1536 .f32) (j : S2048x1536.Idx) :
    Cert.ReferenceAdaDwIdeal.Read.val_main_v3 (F := Ideal) x0 x1 j = ∑ k : Fin 8, x1 (ix2 k (j 1)) * x0 (ix2 k (j 0)) := by
  pointwise [Cert.ReferenceAdaDwIdeal.Read.val_main_v3, Cert.ReferenceAdaDwIdeal.Read.val_main_v2]

theorem idx0 : ∀ t : Fin cfg0.N, win0_0.index t = ![0, t.val / 2] := (by decide +kernel : ∀ t : Fin grid0.N, win0_0.index t = ![0, t.val / 2])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

/-- The kernel's result is the reference's. -/
theorem final (c : Dev nD) : (dats m 0 c).arrAt 2 (cfgs 0).N =
    Cert.ReferenceAdaDwIdeal.Read.val_main_v3 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  rw [mul_comm]
  refine congrArg₂ (· * ·) ?_ ?_
  · blk_ext [iblk, V, idx2 t, idx1 t]
  · blk_ext [iblk, V, idx2 t, idx0 t]

end Cert.KernelAdaDwIdeal.Mm

namespace Cert.Proof.Mm

theorem frame_AdaDw : Cert.quiescent_ReferenceAdaDwIdeal := by
  intro m g _
  exact (θ_run Cert.ReferenceAdaDwIdeal.defs _ _).mono (fun r h => ⟨fun c => (h c).2, sem_eq_zero_of_no_sems (by decide) r.2⟩)
    (Cert.ReferenceAdaDwIdeal.Value.run m g)

theorem algebraic_AdaDw : Cert.algebraic_KernelAdaDwIdeal_ReferenceAdaDwIdeal := by
  pair_intro
  · run_from Cert.KernelAdaDwIdeal.Value.run_blocks m g
  · run_from Cert.ReferenceAdaDwIdeal.Value.run m' g'
    rw [Cert.ReferenceAdaDwIdeal.Read.val_main_v3_eq]
    exact (Cert.KernelAdaDwIdeal.Mm.final m c).symm

end Cert.Proof.Mm
-- ==== Proof.Mm.In.lean ====
module

public import proofs.«01_k».proof.Defs
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pipeline.ValueKit
public import Idealize.ShloMosaic.Lib.Pipeline.ReadBack
public import Idealize.ShloMosaic.Lib.Claim

/-! The product In: its 4 × 9 blocks of 1024 × 384 elements, each the sum over 1 block of 2048 contracted elements. -/

@[expose] public section

set_option maxRecDepth 16384

noncomputable section

open Idealize.ShloMosaic Idealize.ShloMosaic.TcCoe Idealize.SL.Sem

namespace Cert.KernelInIdeal.Mm

open Cert.KernelInIdeal Cert.KernelInIdeal.Gen

variable [Cert.KernelInIdeal.Facts] [Cert.ReferenceInIdeal.Facts]
variable (m : (ℓ : Loc nD τ sig) → Buf (Elt Ideal) ℓ)

/-- The block stored is the product of the two blocks. -/
theorem pay (x0 : FVec Ideal S1024x2048 .bf16) (x1 : FVec Ideal S2048x384 .bf16) (j : S1024x384.Idx) :
    (k0_pay1 (F := Ideal) x0 x1 j : EReal) = ∑ k : Fin 2048, x0 (ix2 (j 0) k) * x1 (ix2 k (j 1)) := by pointwise [k0_pay1]

/-- The reference's result at an index. -/
theorem reference_at (x0 : FVec Ideal S4096x2048 .f32) (x1 : FVec Ideal S2048x3456 .f32) (j : S4096x3456.Idx) :
    Cert.ReferenceInIdeal.Read.val_main_v0 (F := Ideal) x0 x1 j = ∑ k : Fin 2048, x0 (ix2 (j 0) k) * x1 (ix2 k (j 1)) := by
  pointwise [Cert.ReferenceInIdeal.Read.val_main_v0]

theorem idx0 : ∀ t : Fin cfg0.N, win0_0.index t = ![t.val / 9, 0] := (by decide +kernel : ∀ t : Fin grid0.N, win0_0.index t = ![t.val / 9, 0])
theorem idx1 : ∀ t : Fin cfg0.N, win0_1.index t = ![0, t.val % 9] := (by decide +kernel : ∀ t : Fin grid0.N, win0_1.index t = ![0, t.val % 9])
theorem idx2 : ∀ t : Fin cfg0.N, win0_2.index t = ![t.val / 9, t.val % 9] := (by decide +kernel : ∀ t : Fin grid0.N, win0_2.index t = ![t.val / 9, t.val % 9])

/-- The kernel's result is the reference's. -/
theorem final (c : Dev nD) : (dats m 0 c).arrAt 2 (cfgs 0).N =
    Cert.ReferenceInIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelInIdeal.Mm

namespace Cert.Proof.Mm

theorem frame_In : Cert.quiescent_ReferenceInIdeal := by
  intro m g _
  exact (θ_run Cert.ReferenceInIdeal.defs _ _).mono (fun r h => ⟨fun c => (h c).2, sem_eq_zero_of_no_sems (by decide) r.2⟩)
    (Cert.ReferenceInIdeal.Value.run m g)

theorem algebraic_In : Cert.algebraic_KernelInIdeal_ReferenceInIdeal := by
  pair_intro
  · run_from Cert.KernelInIdeal.Value.run_blocks m g
  · run_from Cert.ReferenceInIdeal.Value.run m' g'
    exact (Cert.KernelInIdeal.Mm.final m c).symm

end Cert.Proof.Mm
-- ==== Proof.Mm.Glu.lean ====
module

public import proofs.«01_k».proof.Defs
public import proofs.«01_k».proof.Proof.Gen.KernelGlu.Frame
public import proofs.«01_k».proof.Proof.Gen.KernelGluIdeal.Value
public import proofs.«01_k».proof.Proof.Gen.ReferenceGluIdeal.Run
public import proofs.«01_k».proof.Proof.Gen.ReferenceGluIdeal.Read
public import Idealize.ShloMosaic.Lib.Pipeline.ValueKit
public import Idealize.ShloMosaic.Lib.Pipeline.ReadBack
public import Idealize.ShloMosaic.Lib.Claim

/-! The product Glu: its 4 × 1 blocks of 1024 × 512 elements, each the sum over 1 block of 512 contracted elements. -/

@[expose] public section

set_option maxRecDepth 16384

noncomputable section

open Idealize.ShloMosaic Idealize.ShloMosaic.TcCoe Idealize.SL.Sem

namespace Cert.KernelGluIdeal.Mm

open Cert.KernelGluIdeal Cert.KernelGluIdeal.Gen

variable [Cert.KernelGluIdeal.Facts] [Cert.ReferenceGluIdeal.Facts]
variable (m : (ℓ : Loc nD τ sig) → Buf (Elt Ideal) ℓ)

/-- The block stored is the product of the two blocks. -/
theorem pay (x0 : FVec Ideal S1024x512 .f32) (x1 : FVec Ideal S512x512 .bf16) (j : S1024x512.Idx) :
    k0_pay1 x0 x1 j = ∑ k : Fin 512, x0 (ix2 (j 0) k) * x1 (ix2 k (j 1)) := by pointwise [k0_pay1]

/-- The reference's result at an index. -/
theorem reference_at (x0 : FVec Ideal S4096x512 .f32) (x1 : FVec Ideal S512x512 .f32) (j : S4096x512.Idx) :
    Cert.ReferenceGluIdeal.Read.val_main_v0 (F := Ideal) x0 x1 j = ∑ k : Fin 512, x0 (ix2 (j 0) k) * x1 (ix2 k (j 1)) := by
  pointwise [Cert.ReferenceGluIdeal.Read.val_main_v0]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- The kernel's result is the reference's. -/
theorem final (c : Dev nD) : (dats m 0 c).arrAt 2 (cfgs 0).N =
    Cert.ReferenceGluIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelGluIdeal.Mm

namespace Cert.Proof.Mm

theorem frame_Glu : Cert.quiescent_ReferenceGluIdeal := by
  intro m g _
  exact (θ_run Cert.ReferenceGluIdeal.defs _ _).mono (fun r h => ⟨fun c => (h c).2, sem_eq_zero_of_no_sems (by decide) r.2⟩)
    (Cert.ReferenceGluIdeal.Value.run m g)

theorem algebraic_Glu : Cert.algebraic_KernelGluIdeal_ReferenceGluIdeal := by
  pair_intro
  · run_from Cert.KernelGluIdeal.Value.run_blocks m g
  · run_from Cert.ReferenceGluIdeal.Value.run m' g'
    exact (Cert.KernelGluIdeal.Mm.final m c).symm

end Cert.Proof.Mm
-- ==== Proof.Mm.Uq.lean ====
module

public import proofs.«01_k».proof.Defs
public import proofs.«01_k».proof.Proof.Gen.KernelUq.Frame
public import proofs.«01_k».proof.Proof.Gen.KernelUqIdeal.Value
public import proofs.«01_k».proof.Proof.Gen.ReferenceUqIdeal.Run
public import proofs.«01_k».proof.Proof.Gen.ReferenceUqIdeal.Read
public import Idealize.ShloMosaic.Lib.Pipeline.ValueKit
public import Idealize.ShloMosaic.Lib.Pipeline.ReadBack
public import Idealize.ShloMosaic.Lib.Claim

/-! The product Uq: its 4 × 2 blocks of 1024 × 1024 elements, each the sum over 1 block of 512 contracted elements. -/

@[expose] public section

set_option maxRecDepth 16384

noncomputable section

open Idealize.ShloMosaic Idealize.ShloMosaic.TcCoe Idealize.SL.Sem

namespace Cert.KernelUqIdeal.Mm

open Cert.KernelUqIdeal Cert.KernelUqIdeal.Gen

variable [Cert.KernelUqIdeal.Facts] [Cert.ReferenceUqIdeal.Facts]
variable (m : (ℓ : Loc nD τ sig) → Buf (Elt Ideal) ℓ)

/-- The block stored is the product of the two blocks. -/
theorem pay (x0 : FVec Ideal S1024x512 .bf16) (x1 : FVec Ideal S512x1024 .bf16) (j : S1024x1024.Idx) :
    (k0_pay1 (F := Ideal) x0 x1 j : EReal) = ∑ k : Fin 512, x0 (ix2 (j 0) k) * x1 (ix2 k (j 1)) := by pointwise [k0_pay1]

/-- The reference's result at an index. -/
theorem reference_at (x0 : FVec Ideal S4096x512 .f32) (x1 : FVec Ideal S512x2048 .f32) (j : S4096x2048.Idx) :
    Cert.ReferenceUqIdeal.Read.val_main_v0 (F := Ideal) x0 x1 j = ∑ k : Fin 512, x0 (ix2 (j 0) k) * x1 (ix2 k (j 1)) := by
  pointwise [Cert.ReferenceUqIdeal.Read.val_main_v0]

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

/-- The kernel's result is the reference's. -/
theorem final (c : Dev nD) : (dats m 0 c).arrAt 2 (cfgs 0).N =
    Cert.ReferenceUqIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelUqIdeal.Mm

namespace Cert.Proof.Mm

theorem frame_Uq : Cert.quiescent_ReferenceUqIdeal := by
  intro m g _
  exact (θ_run Cert.ReferenceUqIdeal.defs _ _).mono (fun r h => ⟨fun c => (h c).2, sem_eq_zero_of_no_sems (by decide) r.2⟩)
    (Cert.ReferenceUqIdeal.Value.run m g)

theorem algebraic_Uq : Cert.algebraic_KernelUqIdeal_ReferenceUqIdeal := by
  pair_intro
  · run_from Cert.KernelUqIdeal.Value.run_blocks m g
  · run_from Cert.ReferenceUqIdeal.Value.run m' g'
    exact (Cert.KernelUqIdeal.Mm.final m c).symm

end Cert.Proof.Mm
-- ==== Proof.Mm.Ukv.lean ====
module

public import proofs.«01_k».proof.Defs
public import proofs.«01_k».proof.Proof.Gen.KernelUkv.Frame
public import proofs.«01_k».proof.Proof.Gen.KernelUkvIdeal.Value
public import proofs.«01_k».proof.Proof.Gen.ReferenceUkvIdeal.Run
public import proofs.«01_k».proof.Proof.Gen.ReferenceUkvIdeal.Read
public import Idealize.ShloMosaic.Lib.Pipeline.ValueKit
public import Idealize.ShloMosaic.Lib.Pipeline.ReadBack
public import Idealize.ShloMosaic.Lib.Claim

/-! The product Ukv: its 4 × 2 blocks of 1024 × 1024 elements, each the sum over 1 block of 256 contracted elements. -/

@[expose] public section

set_option maxRecDepth 16384

noncomputable section

open Idealize.ShloMosaic Idealize.ShloMosaic.TcCoe Idealize.SL.Sem

namespace Cert.KernelUkvIdeal.Mm

open Cert.KernelUkvIdeal Cert.KernelUkvIdeal.Gen

variable [Cert.KernelUkvIdeal.Facts] [Cert.ReferenceUkvIdeal.Facts]
variable (m : (ℓ : Loc nD τ sig) → Buf (Elt Ideal) ℓ)

/-- The block stored is the product of the two blocks. -/
theorem pay (x0 : FVec Ideal S1024x256 .bf16) (x1 : FVec Ideal S256x1024 .bf16) (j : S1024x1024.Idx) :
    (k0_pay1 (F := Ideal) x0 x1 j : EReal) = ∑ k : Fin 256, x0 (ix2 (j 0) k) * x1 (ix2 k (j 1)) := by pointwise [k0_pay1]

/-- The reference's result at an index. -/
theorem reference_at (x0 : FVec Ideal S4096x256 .f32) (x1 : FVec Ideal S256x2048 .f32) (j : S4096x2048.Idx) :
    Cert.ReferenceUkvIdeal.Read.val_main_v0 (F := Ideal) x0 x1 j = ∑ k : Fin 256, x0 (ix2 (j 0) k) * x1 (ix2 k (j 1)) := by
  pointwise [Cert.ReferenceUkvIdeal.Read.val_main_v0]

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

/-- The kernel's result is the reference's. -/
theorem final (c : Dev nD) : (dats m 0 c).arrAt 2 (cfgs 0).N =
    Cert.ReferenceUkvIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelUkvIdeal.Mm

namespace Cert.Proof.Mm

theorem frame_Ukv : Cert.quiescent_ReferenceUkvIdeal := by
  intro m g _
  exact (θ_run Cert.ReferenceUkvIdeal.defs _ _).mono (fun r h => ⟨fun c => (h c).2, sem_eq_zero_of_no_sems (by decide) r.2⟩)
    (Cert.ReferenceUkvIdeal.Value.run m g)

theorem algebraic_Ukv : Cert.algebraic_KernelUkvIdeal_ReferenceUkvIdeal := by
  pair_intro
  · run_from Cert.KernelUkvIdeal.Value.run_blocks m g
  · run_from Cert.ReferenceUkvIdeal.Value.run m' g'
    exact (Cert.KernelUkvIdeal.Mm.final m c).symm

end Cert.Proof.Mm
-- ==== Proof.Mm.Out.lean ====
module

public import proofs.«01_k».proof.Defs
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pipeline.ValueKit
public import Idealize.ShloMosaic.Lib.Pipeline.ReadBack
public import Idealize.ShloMosaic.Lib.Claim

/-! The product Out: its 4 × 2 blocks of 1024 × 1024 elements, each the sum over 1 block of 2048 contracted elements. -/

@[expose] public section

set_option maxRecDepth 16384

noncomputable section

open Idealize.ShloMosaic Idealize.ShloMosaic.TcCoe Idealize.SL.Sem

namespace Cert.KernelOutIdeal.Mm

open Cert.KernelOutIdeal Cert.KernelOutIdeal.Gen

variable [Cert.KernelOutIdeal.Facts] [Cert.ReferenceOutIdeal.Facts]
variable (m : (ℓ : Loc nD τ sig) → Buf (Elt Ideal) ℓ)

/-- The block stored is the product of the two blocks. -/
theorem pay (x0 : FVec Ideal S1024x2048 .bf16) (x1 : FVec Ideal S2048x1024 .bf16) (j : S1024x1024.Idx) :
    (k0_pay1 (F := Ideal) x0 x1 j : EReal) = ∑ k : Fin 2048, x0 (ix2 (j 0) k) * x1 (ix2 k (j 1)) := by pointwise [k0_pay1]

/-- The reference's result at an index. -/
theorem reference_at (x0 : FVec Ideal S4096x2048 .f32) (x1 : FVec Ideal S2048x2048 .f32) (j : S4096x2048.Idx) :
    Cert.ReferenceOutIdeal.Read.val_main_v0 (F := Ideal) x0 x1 j = ∑ k : Fin 2048, x0 (ix2 (j 0) k) * x1 (ix2 k (j 1)) := by
  pointwise [Cert.ReferenceOutIdeal.Read.val_main_v0]

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])

/-- The kernel's result is the reference's. -/
theorem final (c : Dev nD) : (dats m 0 c).arrAt 2 (cfgs 0).N =
    Cert.ReferenceOutIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelOutIdeal.Mm

namespace Cert.Proof.Mm

theorem frame_Out : Cert.quiescent_ReferenceOutIdeal := by
  intro m g _
  exact (θ_run Cert.ReferenceOutIdeal.defs _ _).mono (fun r h => ⟨fun c => (h c).2, sem_eq_zero_of_no_sems (by decide) r.2⟩)
    (Cert.ReferenceOutIdeal.Value.run m g)

theorem algebraic_Out : Cert.algebraic_KernelOutIdeal_ReferenceOutIdeal := by
  pair_intro
  · run_from Cert.KernelOutIdeal.Value.run_blocks m g
  · run_from Cert.ReferenceOutIdeal.Value.run m' g'
    exact (Cert.KernelOutIdeal.Mm.final m c).symm

end Cert.Proof.Mm
-- ==== Proof.Mm.Up.lean ====
module

public import proofs.«01_k».proof.Defs
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import Idealize.ShloMosaic.Lib.Pipeline.ValueKit
public import Idealize.ShloMosaic.Lib.Pipeline.ReadBack
public import Idealize.ShloMosaic.Lib.Claim

/-! The product Up: its 4 × 11 blocks of 1024 × 1024 elements, each the sum over 1 block of 2048 contracted elements. -/

@[expose] public section

set_option maxRecDepth 16384

noncomputable section

open Idealize.ShloMosaic Idealize.ShloMosaic.TcCoe Idealize.SL.Sem

namespace Cert.KernelUpIdeal.Mm

open Cert.KernelUpIdeal Cert.KernelUpIdeal.Gen

variable [Cert.KernelUpIdeal.Facts] [Cert.ReferenceUpIdeal.Facts]
variable (m : (ℓ : Loc nD τ sig) → Buf (Elt Ideal) ℓ)

/-- The block stored is the product of the two blocks. -/
theorem pay (x0 : FVec Ideal S1024x2048 .bf16) (x1 : FVec Ideal S2048x1024 .bf16) (j : S1024x1024.Idx) :
    (k0_pay1 (F := Ideal) x0 x1 j : EReal) = ∑ k : Fin 2048, x0 (ix2 (j 0) k) * x1 (ix2 k (j 1)) := by pointwise [k0_pay1]

/-- The reference's result at an index. -/
theorem reference_at (x0 : FVec Ideal S4096x2048 .f32) (x1 : FVec Ideal S2048x11264 .f32) (j : S4096x11264.Idx) :
    Cert.ReferenceUpIdeal.Read.val_main_v0 (F := Ideal) x0 x1 j = ∑ k : Fin 2048, x0 (ix2 (j 0) k) * x1 (ix2 k (j 1)) := by
  pointwise [Cert.ReferenceUpIdeal.Read.val_main_v0]

theorem idx0 : ∀ t : Fin cfg0.N, win0_0.index t = ![t.val / 11, 0] := (by decide +kernel : ∀ t : Fin grid0.N, win0_0.index t = ![t.val / 11, 0])
theorem idx1 : ∀ t : Fin cfg0.N, win0_1.index t = ![0, t.val % 11] := (by decide +kernel : ∀ t : Fin grid0.N, win0_1.index t = ![0, t.val % 11])
theorem idx2 : ∀ t : Fin cfg0.N, win0_2.index t = ![t.val / 11, t.val % 11] := (by decide +kernel : ∀ t : Fin grid0.N, win0_2.index t = ![t.val / 11, t.val % 11])

/-- The kernel's result is the reference's. -/
theorem final (c : Dev nD) : (dats m 0 c).arrAt 2 (cfgs 0).N =
    Cert.ReferenceUpIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelUpIdeal.Mm

namespace Cert.Proof.Mm

theorem frame_Up : Cert.quiescent_ReferenceUpIdeal := by
  intro m g _
  exact (θ_run Cert.ReferenceUpIdeal.defs _ _).mono (fun r h => ⟨fun c => (h c).2, sem_eq_zero_of_no_sems (by decide) r.2⟩)
    (Cert.ReferenceUpIdeal.Value.run m g)

theorem algebraic_Up : Cert.algebraic_KernelUpIdeal_ReferenceUpIdeal := by
  pair_intro
  · run_from Cert.KernelUpIdeal.Value.run_blocks m g
  · run_from Cert.ReferenceUpIdeal.Value.run m' g'
    exact (Cert.KernelUpIdeal.Mm.final m c).symm

end Cert.Proof.Mm
-- ==== Proof.Mm.Down.lean ====
module

public import proofs.«01_k».proof.Defs
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.ReferenceDownIdeal.Read
public import Idealize.ShloMosaic.Lib.Pipeline.ValueKit
public import Idealize.ShloMosaic.Lib.Pipeline.ReadBack
public import Idealize.ShloMosaic.Lib.Claim

/-! The product Down: its 4 × 2 blocks of 1024 × 1024 elements, each the sum over 4 blocks of 1408 contracted elements. -/

@[expose] public section

set_option maxRecDepth 16384

noncomputable section

open Idealize.ShloMosaic Idealize.ShloMosaic.TcCoe Idealize.SL.Sem

namespace Cert.KernelDownIdeal.Mm

open Cert.KernelDownIdeal Cert.KernelDownIdeal.Gen

variable [Cert.KernelDownIdeal.Facts] [Cert.ReferenceDownIdeal.Facts]
variable (m : (ℓ : Loc nD τ sig) → Buf (Elt Ideal) ℓ)

/-- The accumulator begins at zero. -/
theorem pay_zero (j : S1024x1024.Idx) : k0_pay1 (F := Ideal) j = 0 := by pointwise [k0_pay1]

/-- Each step adds the product of the two blocks. -/
theorem pay_add (acc : FVec Ideal S1024x1024 .f32) (x0 : FVec Ideal S1024x1408 .bf16) (x1 : FVec Ideal S1408x1024 .bf16) (j : S1024x1024.Idx) :
    k0_pay2 acc x0 x1 j = acc j + ∑ k : Fin 1408, x0 (ix2 (j 0) k) * x1 (ix2 k (j 1)) := by pointwise [k0_pay2]

/-- The reference's result at an index. -/
theorem reference_at (x0 : FVec Ideal S4096x5632 .f32) (x1 : FVec Ideal S5632x2048 .f32) (j : S4096x2048.Idx) :
    Cert.ReferenceDownIdeal.Read.val_main_v0 (F := Ideal) x0 x1 j = ∑ k : Fin 5632, x0 (ix2 (j 0) k) * x1 (ix2 k (j 1)) := by
  pointwise [Cert.ReferenceDownIdeal.Read.val_main_v0]

theorem idx0 : ∀ t : Fin cfg0.N, win0_0.index t = ![t.val / 8, t.val % 4] := (by decide +kernel : ∀ t : Fin grid0.N, win0_0.index t = ![t.val / 8, t.val % 4])
theorem idx1 : ∀ t : Fin cfg0.N, win0_1.index t = ![t.val % 4, t.val / 4 % 2] := (by decide +kernel : ∀ t : Fin grid0.N, win0_1.index t = ![t.val % 4, t.val / 4 % 2])
theorem idx2 : ∀ t : Fin cfg0.N, win0_2.index t = ![t.val / 8, t.val / 4 % 2] := (by decide +kernel : ∀ t : Fin grid0.N, win0_2.index t = ![t.val / 8, t.val / 4 % 2])

/-- At a block's last point the accumulator is what is stored. -/
theorem last (c : Dev nD) (t : Fin cfg0.N) (h0 : ¬t.val % 4 = 0) (h1 : t.val % 4 = 3) (j : S1024x1024.Idx) :
    (outsAt0 m c t.val t.isLt).1 j = (outsAt0 m c t.val t.isLt).2 j := by
  rw [outsAt0_C m c t h0 h1]
  frame_out

/-- The kernel's result is the reference's. -/
theorem final (c : Dev nD) : (dats m 0 c).arrAt 2 (cfgs 0).N =
    Cert.ReferenceDownIdeal.Read.val_main_v0 (F := Ideal) (m (c, main_arg0)) (m (c, main_arg1)) := by
  refine (dats m 0 c).arrAt_eq_of_covers 2 _ (by decide +kernel) fun t hf y => ?_
  blk_simp
  have h1 := (flush0_2 t).mp hf
  rw [after0_2, last m c t (by omega) h1, Pipeline.eq_sum_fin_of_reset_step_apply_of_flush (fun n h => (outsAt0 m c n h).2) 4 (fun _ => 0) _
    (fun t h j => by rw [outsAt0_A m c t h (by omega)]; frame_out; rw [pay_add, pay_zero])
    (fun t h j => by
      by_cases h1 : t.val % 4 = 3
      · rw [outsAt0_C m c t h h1]; frame_out; simp only [read_unread_whole]; rw [pay_add]
      · rw [outsAt0_B m c t h h1]; frame_out; simp only [read_unread_whole]; rw [pay_add])
    t h1 _, zero_add, reference_at]
  refine Fin.sum_mul_add_congr fun s k hl => ?_
  refine congrArg₂ (· * ·) ?_ ?_
  · blk_ext [iblk, V, idx2 t, idx0 ⟨_, Pipeline.run_point_lt_of_flush t h1 s⟩]
  · blk_ext [iblk, V, idx2 t, idx1 ⟨_, Pipeline.run_point_lt_of_flush t h1 s⟩]

end Cert.KernelDownIdeal.Mm

namespace Cert.Proof.Mm

theorem frame_Down : Cert.quiescent_ReferenceDownIdeal := by
  intro m g _
  exact (θ_run Cert.ReferenceDownIdeal.defs _ _).mono (fun r h => ⟨fun c => (h c).2, sem_eq_zero_of_no_sems (by decide) r.2⟩)
    (Cert.ReferenceDownIdeal.Value.run m g)

theorem algebraic_Down : Cert.algebraic_KernelDownIdeal_ReferenceDownIdeal := by
  pair_intro
  · run_from Cert.KernelDownIdeal.Value.run_blocks m g
  · run_from Cert.ReferenceDownIdeal.Value.run m' g'
    exact (Cert.KernelDownIdeal.Mm.final m c).symm

end Cert.Proof.Mm
-- ==== Proof.Mm.Ada.lean ====
module

public import proofs.«01_k».proof.Defs
public import proofs.«01_k».proof.Proof.Gen.KernelAda.Frame
public import proofs.«01_k».proof.Proof.Gen.KernelAdaIdeal.Value
public import proofs.«01_k».proof.Proof.Gen.ReferenceAdaIdeal.Run
public import proofs.«01_k».proof.Proof.Gen.ReferenceAdaIdeal.Read
public import Idealize.ShloMosaic.Lib.Pipeline.ValueKit
public import Idealize.ShloMosaic.Lib.Pipeline.ReadBack
public import Idealize.ShloMosaic.Lib.Claim

/-! The product Ada: its 1 × 2 blocks of 8 × 768 elements, each the sum over 1 block of 2048 contracted elements. -/

@[expose] public section

set_option maxRecDepth 16384

noncomputable section

open Idealize.ShloMosaic Idealize.ShloMosaic.TcCoe Idealize.SL.Sem

namespace Cert.KernelAdaIdeal.Mm

open Cert.KernelAdaIdeal Cert.KernelAdaIdeal.Gen

variable [Cert.KernelAdaIdeal.Facts] [Cert.ReferenceAdaIdeal.Facts]
variable (m : (ℓ : Loc nD τ sig) → Buf (Elt Ideal) ℓ)

/-- The block stored is the product of the two blocks. -/
theorem pay (x0 : FVec Ideal S8x2048 .f32) (x1 : FVec Ideal S2048x768 .f32) (j : S8x768.Idx) :
    k0_pay1 x0 x1 j = ∑ k : Fin 2048, x0 (ix2 (j 0) k) * x1 (ix2 k (j 1)) := by pointwise [k0_pay1]

/-- The reference's result at an index. -/
theorem reference_at (x0 : FVec Ideal S8x2048 .f32) (x1 : FVec Ideal S2048x1536 .f32) (j : S8x1536.Idx) :
    Cert.ReferenceAdaIdeal.Read.val_main_v0 (F := Ideal) x0 x1 j = ∑ k : Fin 2048, x0 (ix2 (j 0) k) * x1 (ix2 k (j 1)) := by
  pointwise [Cert.ReferenceAdaIdeal.Read.val_main_v0]

theorem idx0 : ∀ t : Fin cfg0.N, win0_0.index t = ![0, 0] := (by decide +kernel : ∀ t : Fin grid0.N, win0_0.index t = ![0, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![0, t.val % 2] := (by decide +kernel : ∀ t : Fin grid0.N, win0_2.index t = ![0, t.val % 2])

/-- The kernel's result is the reference's. -/
theorem final (c : Dev nD) : (dats m 0 c).arrAt 2 (cfgs 0).N =
    Cert.ReferenceAdaIdeal.Read.val_main_v0 (F := Ideal) (m (c, main_arg0)) (m (c, main_arg1)) := by
  refine (dats m 0 c).arrAt_eq_of_covers 2 _ (by decide +kernel) fun t hf y => ?_
  blk_simp
  rw [after0_2]
  frame_out
  rw [pay, reference_at]
  refine Fin.sum_fin_congr fun k => ?_
  refine congrArg₂ (· * ·) ?_ ?_
  · blk_ext [iblk, V, idx2 t, idx0 t]
  · blk_ext [iblk, V, idx2 t, idx1 t]

end Cert.KernelAdaIdeal.Mm

namespace Cert.Proof.Mm

theorem frame_Ada : Cert.quiescent_ReferenceAdaIdeal := by
  intro m g _
  exact (θ_run Cert.ReferenceAdaIdeal.defs _ _).mono (fun r h => ⟨fun c => (h c).2, sem_eq_zero_of_no_sems (by decide) r.2⟩)
    (Cert.ReferenceAdaIdeal.Value.run m g)

theorem algebraic_Ada : Cert.algebraic_KernelAdaIdeal_ReferenceAdaIdeal := by
  pair_intro
  · run_from Cert.KernelAdaIdeal.Value.run_blocks m g
  · run_from Cert.ReferenceAdaIdeal.Value.run m' g'
    exact (Cert.KernelAdaIdeal.Mm.final m c).symm

end Cert.Proof.Mm
-- ==== Proof.lean ====
module

public import proofs.«01_k».proof.Defs
public import proofs.«01_k».proof.Proof.Dq.Claims
public import proofs.«01_k».proof.Proof.Dkv.Claims
public import proofs.«01_k».proof.Proof.Fwd.Claims
public import proofs.«01_k».proof.Proof.Conv.Claims
public import proofs.«01_k».proof.Proof.Gate.Claims
public import proofs.«01_k».proof.Proof.Row.Qn
public import proofs.«01_k».proof.Proof.Row.Kvn
public import proofs.«01_k».proof.Proof.Row.Post
public import proofs.«01_k».proof.Proof.Row.Pre
public import proofs.«01_k».proof.Proof.Row.Sig
public import proofs.«01_k».proof.Proof.Row.Gelu
public import proofs.«01_k».proof.Proof.Mm.DownDx
public import proofs.«01_k».proof.Proof.Mm.DownDw
public import proofs.«01_k».proof.Proof.Mm.UpDx
public import proofs.«01_k».proof.Proof.Mm.UpDw
public import proofs.«01_k».proof.Proof.Mm.OutDx
public import proofs.«01_k».proof.Proof.Mm.OutDw
public import proofs.«01_k».proof.Proof.Mm.InDx
public import proofs.«01_k».proof.Proof.Mm.InDw
public import proofs.«01_k».proof.Proof.Mm.GluDx
public import proofs.«01_k».proof.Proof.Mm.GluDw
public import proofs.«01_k».proof.Proof.Mm.UqDx
public import proofs.«01_k».proof.Proof.Mm.UqDw
public import proofs.«01_k».proof.Proof.Mm.UkvDx
public import proofs.«01_k».proof.Proof.Mm.UkvDw
public import proofs.«01_k».proof.Proof.Mm.AdaDw
public import proofs.«01_k».proof.Proof.Mm.In
public import proofs.«01_k».proof.Proof.Mm.Glu
public import proofs.«01_k».proof.Proof.Mm.Uq
public import proofs.«01_k».proof.Proof.Mm.Ukv
public import proofs.«01_k».proof.Proof.Mm.Out
public import proofs.«01_k».proof.Proof.Mm.Up
public import proofs.«01_k».proof.Proof.Mm.Down
public import proofs.«01_k».proof.Proof.Mm.Ada

@[expose] public section

noncomputable section

namespace Cert.Proof

open Idealize.ShloMosaic Idealize.SL.Sem

theorem claim : Cert.Claim := ⟨Cert.KernelDq.Gen.facts,
  Cert.KernelDqIdeal.Gen.facts,
  Cert.ReferenceDqIdeal.Gen.facts,
  Cert.KernelDkv.Gen.facts,
  Cert.KernelDkvIdeal.Gen.facts,
  Cert.ReferenceDkvIdeal.Gen.facts,
  Cert.KernelDownDx.Gen.facts,
  Cert.KernelDownDxIdeal.Gen.facts,
  Cert.ReferenceDownDxIdeal.Gen.facts,
  Cert.KernelDownDw.Gen.facts,
  Cert.KernelDownDwIdeal.Gen.facts,
  Cert.ReferenceDownDwIdeal.Gen.facts,
  Cert.KernelUpDx.Gen.facts,
  Cert.KernelUpDxIdeal.Gen.facts,
  Cert.ReferenceUpDxIdeal.Gen.facts,
  Cert.KernelUpDw.Gen.facts,
  Cert.KernelUpDwIdeal.Gen.facts,
  Cert.ReferenceUpDwIdeal.Gen.facts,
  Cert.KernelOutDx.Gen.facts,
  Cert.KernelOutDxIdeal.Gen.facts,
  Cert.ReferenceOutDxIdeal.Gen.facts,
  Cert.KernelOutDw.Gen.facts,
  Cert.KernelOutDwIdeal.Gen.facts,
  Cert.ReferenceOutDwIdeal.Gen.facts,
  Cert.KernelInDx.Gen.facts,
  Cert.KernelInDxIdeal.Gen.facts,
  Cert.ReferenceInDxIdeal.Gen.facts,
  Cert.KernelInDw.Gen.facts,
  Cert.KernelInDwIdeal.Gen.facts,
  Cert.ReferenceInDwIdeal.Gen.facts,
  Cert.KernelGluDx.Gen.facts,
  Cert.KernelGluDxIdeal.Gen.facts,
  Cert.ReferenceGluDxIdeal.Gen.facts,
  Cert.KernelGluDw.Gen.facts,
  Cert.KernelGluDwIdeal.Gen.facts,
  Cert.ReferenceGluDwIdeal.Gen.facts,
  Cert.KernelUqDx.Gen.facts,
  Cert.KernelUqDxIdeal.Gen.facts,
  Cert.ReferenceUqDxIdeal.Gen.facts,
  Cert.KernelUqDw.Gen.facts,
  Cert.KernelUqDwIdeal.Gen.facts,
  Cert.ReferenceUqDwIdeal.Gen.facts,
  Cert.KernelUkvDx.Gen.facts,
  Cert.KernelUkvDxIdeal.Gen.facts,
  Cert.ReferenceUkvDxIdeal.Gen.facts,
  Cert.KernelUkvDw.Gen.facts,
  Cert.KernelUkvDwIdeal.Gen.facts,
  Cert.ReferenceUkvDwIdeal.Gen.facts,
  Cert.KernelAdaDw.Gen.facts,
  Cert.KernelAdaDwIdeal.Gen.facts,
  Cert.ReferenceAdaDwIdeal.Gen.facts,
  Cert.KernelIn.Gen.facts,
  Cert.KernelInIdeal.Gen.facts,
  Cert.ReferenceInIdeal.Gen.facts,
  Cert.KernelGlu.Gen.facts,
  Cert.KernelGluIdeal.Gen.facts,
  Cert.ReferenceGluIdeal.Gen.facts,
  Cert.KernelUq.Gen.facts,
  Cert.KernelUqIdeal.Gen.facts,
  Cert.ReferenceUqIdeal.Gen.facts,
  Cert.KernelUkv.Gen.facts,
  Cert.KernelUkvIdeal.Gen.facts,
  Cert.ReferenceUkvIdeal.Gen.facts,
  Cert.KernelOut.Gen.facts,
  Cert.KernelOutIdeal.Gen.facts,
  Cert.ReferenceOutIdeal.Gen.facts,
  Cert.KernelUp.Gen.facts,
  Cert.KernelUpIdeal.Gen.facts,
  Cert.ReferenceUpIdeal.Gen.facts,
  Cert.KernelDown.Gen.facts,
  Cert.KernelDownIdeal.Gen.facts,
  Cert.ReferenceDownIdeal.Gen.facts,
  Cert.KernelAda.Gen.facts,
  Cert.KernelAdaIdeal.Gen.facts,
  Cert.ReferenceAdaIdeal.Gen.facts,
  Cert.KernelConv.Gen.facts,
  Cert.KernelConvIdeal.Gen.facts,
  Cert.ReferenceConvIdeal.Gen.facts,
  Cert.KernelGate.Gen.facts,
  Cert.KernelGateIdeal.Gen.facts,
  Cert.ReferenceGateIdeal.Gen.facts,
  Cert.KernelQn.Gen.facts,
  Cert.KernelQnIdeal.Gen.facts,
  Cert.ReferenceQnIdeal.Gen.facts,
  Cert.KernelKvn.Gen.facts,
  Cert.KernelKvnIdeal.Gen.facts,
  Cert.ReferenceKvnIdeal.Gen.facts,
  Cert.KernelPost.Gen.facts,
  Cert.KernelPostIdeal.Gen.facts,
  Cert.ReferencePostIdeal.Gen.facts,
  Cert.KernelPre.Gen.facts,
  Cert.KernelPreIdeal.Gen.facts,
  Cert.ReferencePreIdeal.Gen.facts,
  Cert.KernelSig.Gen.facts,
  Cert.KernelSigIdeal.Gen.facts,
  Cert.ReferenceSigIdeal.Gen.facts,
  Cert.KernelGelu.Gen.facts,
  Cert.KernelGeluIdeal.Gen.facts,
  Cert.ReferenceGeluIdeal.Gen.facts,
  Cert.KernelFwd.Gen.facts,
  Cert.KernelFwdIdeal.Gen.facts,
  Cert.ReferenceFwdIdeal.Gen.facts,
  Cert.Pre_finite.facts,
  Cert.Pre_finite_fwd.facts,
  fun m g _ => Cert.KernelDq.Gen.frame m g,
  fun m g _ => Cert.KernelDqIdeal.Gen.frame m g,
  fun m g _ => Cert.KernelDqIdeal.Gen.frame m g,
  Dq.frame_reference,
  @Dq.frame_reference_pre Cert.Pre_finite.facts,
  fun m g _ => Cert.KernelDkv.Gen.frame m g,
  fun m g _ => Cert.KernelDkvIdeal.Gen.frame m g,
  fun m g _ => Cert.KernelDkvIdeal.Gen.frame m g,
  Dkv.frame_reference,
  @Dkv.frame_reference_pre Cert.Pre_finite.facts,
  fun m g _ => Cert.KernelDownDx.Gen.frame m g,
  fun m g _ => Cert.KernelDownDxIdeal.Gen.frame m g,
  Mm.frame_DownDx,
  fun m g _ => Cert.KernelDownDw.Gen.frame m g,
  fun m g _ => Cert.KernelDownDwIdeal.Gen.frame m g,
  Mm.frame_DownDw,
  fun m g _ => Cert.KernelUpDx.Gen.frame m g,
  fun m g _ => Cert.KernelUpDxIdeal.Gen.frame m g,
  Mm.frame_UpDx,
  fun m g _ => Cert.KernelUpDw.Gen.frame m g,
  fun m g _ => Cert.KernelUpDwIdeal.Gen.frame m g,
  Mm.frame_UpDw,
  fun m g _ => Cert.KernelOutDx.Gen.frame m g,
  fun m g _ => Cert.KernelOutDxIdeal.Gen.frame m g,
  Mm.frame_OutDx,
  fun m g _ => Cert.KernelOutDw.Gen.frame m g,
  fun m g _ => Cert.KernelOutDwIdeal.Gen.frame m g,
  Mm.frame_OutDw,
  fun m g _ => Cert.KernelInDx.Gen.frame m g,
  fun m g _ => Cert.KernelInDxIdeal.Gen.frame m g,
  Mm.frame_InDx,
  fun m g _ => Cert.KernelInDw.Gen.frame m g,
  fun m g _ => Cert.KernelInDwIdeal.Gen.frame m g,
  Mm.frame_InDw,
  fun m g _ => Cert.KernelGluDx.Gen.frame m g,
  fun m g _ => Cert.KernelGluDxIdeal.Gen.frame m g,
  Mm.frame_GluDx,
  fun m g _ => Cert.KernelGluDw.Gen.frame m g,
  fun m g _ => Cert.KernelGluDwIdeal.Gen.frame m g,
  Mm.frame_GluDw,
  fun m g _ => Cert.KernelUqDx.Gen.frame m g,
  fun m g _ => Cert.KernelUqDxIdeal.Gen.frame m g,
  Mm.frame_UqDx,
  fun m g _ => Cert.KernelUqDw.Gen.frame m g,
  fun m g _ => Cert.KernelUqDwIdeal.Gen.frame m g,
  Mm.frame_UqDw,
  fun m g _ => Cert.KernelUkvDx.Gen.frame m g,
  fun m g _ => Cert.KernelUkvDxIdeal.Gen.frame m g,
  Mm.frame_UkvDx,
  fun m g _ => Cert.KernelUkvDw.Gen.frame m g,
  fun m g _ => Cert.KernelUkvDwIdeal.Gen.frame m g,
  Mm.frame_UkvDw,
  fun m g _ => Cert.KernelAdaDw.Gen.frame m g,
  fun m g _ => Cert.KernelAdaDwIdeal.Gen.frame m g,
  Mm.frame_AdaDw,
  fun m g _ => Cert.KernelIn.Gen.frame m g,
  fun m g _ => Cert.KernelInIdeal.Gen.frame m g,
  Mm.frame_In,
  fun m g _ => Cert.KernelGlu.Gen.frame m g,
  fun m g _ => Cert.KernelGluIdeal.Gen.frame m g,
  Mm.frame_Glu,
  fun m g _ => Cert.KernelUq.Gen.frame m g,
  fun m g _ => Cert.KernelUqIdeal.Gen.frame m g,
  Mm.frame_Uq,
  fun m g _ => Cert.KernelUkv.Gen.frame m g,
  fun m g _ => Cert.KernelUkvIdeal.Gen.frame m g,
  Mm.frame_Ukv,
  fun m g _ => Cert.KernelOut.Gen.frame m g,
  fun m g _ => Cert.KernelOutIdeal.Gen.frame m g,
  Mm.frame_Out,
  fun m g _ => Cert.KernelUp.Gen.frame m g,
  fun m g _ => Cert.KernelUpIdeal.Gen.frame m g,
  Mm.frame_Up,
  fun m g _ => Cert.KernelDown.Gen.frame m g,
  fun m g _ => Cert.KernelDownIdeal.Gen.frame m g,
  Mm.frame_Down,
  fun m g _ => Cert.KernelAda.Gen.frame m g,
  fun m g _ => Cert.KernelAdaIdeal.Gen.frame m g,
  Mm.frame_Ada,
  fun m g _ => Cert.KernelConv.Gen.frame m g,
  fun m g _ => Cert.KernelConvIdeal.Gen.frame m g,
  Conv.frame_reference,
  fun m g _ => Cert.KernelGate.Gen.frame m g,
  fun m g _ => Cert.KernelGateIdeal.Gen.frame m g,
  Gate.frame_reference,
  fun m g _ => Cert.KernelQn.Gen.frame m g,
  fun m g _ => Cert.KernelQnIdeal.Gen.frame m g,
  Row.frame_Qn,
  fun m g _ => Cert.KernelKvn.Gen.frame m g,
  fun m g _ => Cert.KernelKvnIdeal.Gen.frame m g,
  Row.frame_Kvn,
  fun m g _ => Cert.KernelPost.Gen.frame m g,
  fun m g _ => Cert.KernelPostIdeal.Gen.frame m g,
  Row.frame_Post,
  fun m g _ => Cert.KernelPre.Gen.frame m g,
  fun m g _ => Cert.KernelPreIdeal.Gen.frame m g,
  Row.frame_Pre,
  fun m g _ => Cert.KernelSig.Gen.frame m g,
  fun m g _ => Cert.KernelSigIdeal.Gen.frame m g,
  Row.frame_Sig,
  fun m g _ => Cert.KernelGelu.Gen.frame m g,
  fun m g _ => Cert.KernelGeluIdeal.Gen.frame m g,
  Row.frame_Gelu,
  fun m g _ => Cert.KernelFwd.Gen.frame m g,
  fun m g _ => Cert.KernelFwdIdeal.Gen.frame m g,
  fun m g _ => Cert.KernelFwdIdeal.Gen.frame m g,
  Fwd.frame_reference,
  @Fwd.frame_reference_pre Cert.Pre_finite_fwd.facts,
  trivial,
  @Dq.algebraic Cert.Pre_finite.facts,
  trivial,
  @Dkv.algebraic Cert.Pre_finite.facts,
  trivial,
  Mm.algebraic_DownDx,
  trivial,
  Mm.algebraic_DownDw,
  trivial,
  Mm.algebraic_UpDx,
  trivial,
  Mm.algebraic_UpDw,
  trivial,
  Mm.algebraic_OutDx,
  trivial,
  Mm.algebraic_OutDw,
  trivial,
  Mm.algebraic_InDx,
  trivial,
  Mm.algebraic_InDw,
  trivial,
  Mm.algebraic_GluDx,
  trivial,
  Mm.algebraic_GluDw,
  trivial,
  Mm.algebraic_UqDx,
  trivial,
  Mm.algebraic_UqDw,
  trivial,
  Mm.algebraic_UkvDx,
  trivial,
  Mm.algebraic_UkvDw,
  trivial,
  Mm.algebraic_AdaDw,
  trivial,
  Mm.algebraic_In,
  trivial,
  Mm.algebraic_Glu,
  trivial,
  Mm.algebraic_Uq,
  trivial,
  Mm.algebraic_Ukv,
  trivial,
  Mm.algebraic_Out,
  trivial,
  Mm.algebraic_Up,
  trivial,
  Mm.algebraic_Down,
  trivial,
  Mm.algebraic_Ada,
  trivial,
  Conv.algebraic,
  trivial,
  Gate.algebraic,
  trivial,
  Row.algebraic_Qn,
  trivial,
  Row.algebraic_Kvn,
  trivial,
  Row.algebraic_Post,
  trivial,
  Row.algebraic_Pre,
  trivial,
  Row.algebraic_Sig,
  trivial,
  Row.algebraic_Gelu,
  Fwd.preserves,
  @Fwd.algebraic Cert.Pre_finite_fwd.facts⟩

end Cert.Proof

end
